-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Parts (m : (ℓ : Loc Cert.Parts.nD Cert.Parts.τ Cert.Parts.sig) → Buf (Elt Bits) ℓ) : Prop :=
  True

def Pre_PartsIdeal (m : (ℓ : Loc Cert.PartsIdeal.nD Cert.PartsIdeal.τ Cert.PartsIdeal.sig) → Buf (Elt Ideal) ℓ) : Prop :=
  True

def Pre_PartsReferenceIdeal (m : (ℓ : Loc Cert.PartsReferenceIdeal.nD Cert.PartsReferenceIdeal.τ Cert.PartsReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_Parts [hParts : Cert.Parts.Facts] : Prop :=
  ∀ (m : (ℓ : Loc Cert.Parts.nD Cert.Parts.τ Cert.Parts.sig) → Buf (Elt Bits) ℓ) (g : Dev Cert.Parts.nD → PrngReg), Pre_Parts m →
    θ_run (Cert.Parts.defs (F := Bits)) (onTc (τ := Cert.Parts.τ) (Cert.Parts.main (F := Bits))) ⟨m, fun _ => 0, g⟩ (fun r => (∀ c : Dev Cert.Parts.nD,
      r.2.mem ((c.tc : Thread Cert.Parts.nD Cert.Parts.τ).loc Cert.Parts.main_arg0) = m ((c.tc : Thread Cert.Parts.nD Cert.Parts.τ).loc Cert.Parts.main_arg0)
      ∧ r.2.mem ((c.tc : Thread Cert.Parts.nD Cert.Parts.τ).loc Cert.Parts.main_arg1) = m ((c.tc : Thread Cert.Parts.nD Cert.Parts.τ).loc Cert.Parts.main_arg1)
      ∧ r.2.mem ((c.tc : Thread Cert.Parts.nD Cert.Parts.τ).loc Cert.Parts.main_arg2) = m ((c.tc : Thread Cert.Parts.nD Cert.Parts.τ).loc Cert.Parts.main_arg2)
      ∧ r.2.mem ((c.tc : Thread Cert.Parts.nD Cert.Parts.τ).loc Cert.Parts.main_arg3) = m ((c.tc : Thread Cert.Parts.nD Cert.Parts.τ).loc Cert.Parts.main_arg3)
      ∧ r.2.mem ((c.tc : Thread Cert.Parts.nD Cert.Parts.τ).loc Cert.Parts.main_arg4) = m ((c.tc : Thread Cert.Parts.nD Cert.Parts.τ).loc Cert.Parts.main_arg4))
      ∧ r.2.sem = fun _ => 0)

def quiescent_PartsIdeal [hPartsIdeal : Cert.PartsIdeal.Facts] : Prop :=
  ∀ (m : (ℓ : Loc Cert.PartsIdeal.nD Cert.PartsIdeal.τ Cert.PartsIdeal.sig) → Buf (Elt Ideal) ℓ) (g : Dev Cert.PartsIdeal.nD → PrngReg), Pre_PartsIdeal m →
    θ_run (Cert.PartsIdeal.defs (F := Ideal)) (onTc (τ := Cert.PartsIdeal.τ) (Cert.PartsIdeal.main (F := Ideal))) ⟨m, fun _ => 0, g⟩ (fun r => (∀ c : Dev Cert.PartsIdeal.nD,
      r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
      ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1)
      ∧ r.2.mem ((c.tc : Thread Cert.PartsIdeal.nD Cert.PartsIdeal.τ).loc Cert.PartsIdeal.main_arg2) = m ((c.tc : Thread Cert.PartsIdeal.nD Cert.PartsIdeal.τ).loc Cert.PartsIdeal.main_arg2)
      ∧ r.2.mem ((c.tc : Thread Cert.PartsIdeal.nD Cert.PartsIdeal.τ).loc Cert.PartsIdeal.main_arg3) = m ((c.tc : Thread Cert.PartsIdeal.nD Cert.PartsIdeal.τ).loc Cert.PartsIdeal.main_arg3)
      ∧ r.2.mem ((c.tc : Thread Cert.PartsIdeal.nD Cert.PartsIdeal.τ).loc Cert.PartsIdeal.main_arg4) = m ((c.tc : Thread Cert.PartsIdeal.nD Cert.PartsIdeal.τ).loc Cert.PartsIdeal.main_arg4))
      ∧ r.2.sem = fun _ => 0)

def quiescent_PartsReferenceIdeal [hPartsReferenceIdeal : Cert.PartsReferenceIdeal.Facts] : Prop :=
  ∀ (m : (ℓ : Loc Cert.PartsReferenceIdeal.nD Cert.PartsReferenceIdeal.τ Cert.PartsReferenceIdeal.sig) → Buf (Elt Ideal) ℓ) (g : Dev Cert.PartsReferenceIdeal.nD → PrngReg), Pre_PartsReferenceIdeal m →
    θ_run (Cert.PartsReferenceIdeal.defs (F := Ideal)) (onTc (τ := Cert.PartsReferenceIdeal.τ) (Cert.PartsReferenceIdeal.main (F := Ideal))) ⟨m, fun _ => 0, g⟩ (fun r => (∀ c : Dev Cert.PartsReferenceIdeal.nD,
      r.2.mem ((c.tc : Thread Cert.PartsReferenceIdeal.nD Cert.PartsReferenceIdeal.τ).loc Cert.PartsReferenceIdeal.main_arg0) = m ((c.tc : Thread Cert.PartsReferenceIdeal.nD Cert.PartsReferenceIdeal.τ).loc Cert.PartsReferenceIdeal.main_arg0)
      ∧ r.2.mem ((c.tc : Thread Cert.PartsReferenceIdeal.nD Cert.PartsReferenceIdeal.τ).loc Cert.PartsReferenceIdeal.main_arg1) = m ((c.tc : Thread Cert.PartsReferenceIdeal.nD Cert.PartsReferenceIdeal.τ).loc Cert.PartsReferenceIdeal.main_arg1)
      ∧ r.2.mem ((c.tc : Thread Cert.PartsReferenceIdeal.nD Cert.PartsReferenceIdeal.τ).loc Cert.PartsReferenceIdeal.main_arg2) = m ((c.tc : Thread Cert.PartsReferenceIdeal.nD Cert.PartsReferenceIdeal.τ).loc Cert.PartsReferenceIdeal.main_arg2)
      ∧ r.2.mem ((c.tc : Thread Cert.PartsReferenceIdeal.nD Cert.PartsReferenceIdeal.τ).loc Cert.PartsReferenceIdeal.main_arg3) = m ((c.tc : Thread Cert.PartsReferenceIdeal.nD Cert.PartsReferenceIdeal.τ).loc Cert.PartsReferenceIdeal.main_arg3)
      ∧ r.2.mem ((c.tc : Thread Cert.PartsReferenceIdeal.nD Cert.PartsReferenceIdeal.τ).loc Cert.PartsReferenceIdeal.main_arg4) = m ((c.tc : Thread Cert.PartsReferenceIdeal.nD Cert.PartsReferenceIdeal.τ).loc Cert.PartsReferenceIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)) →
    ∃ (v0 : (c : Dev Cert.PromptIdeal.nD) → Buf (Elt Ideal) ((c.tc : Thread Cert.PromptIdeal.nD Cert.PromptIdeal.τ).loc Cert.PromptIdeal.main_v2)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v2) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v17) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v2)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v2) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v17) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3))

def preserves_Mla_MlaIdeal : Prop :=
  True

def algebraic_MlaIdeal_MlaReferenceIdeal_pre_mla_finite [hMlaIdeal : Cert.MlaIdeal.Facts] [hMlaReferenceIdeal : Cert.MlaReferenceIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_mla_finite m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)
      ∧ m' ((c.tc : Thread Cert.MlaReferenceIdeal.nD Cert.MlaReferenceIdeal.τ).loc Cert.MlaReferenceIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v29)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v29) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v24) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_v16) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v18) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v10)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v23) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_Parts_PartsIdeal : Prop :=
  True

def algebraic_PartsIdeal_PartsReferenceIdeal [hPartsIdeal : Cert.PartsIdeal.Facts] [hPartsReferenceIdeal : Cert.PartsReferenceIdeal.Facts] : Prop :=
  ∀ (m : (ℓ : Loc Cert.PartsIdeal.nD Cert.PartsIdeal.τ Cert.PartsIdeal.sig) → Buf (Elt Ideal) ℓ) (g : Dev Cert.PartsIdeal.nD → PrngReg)
    (m' : (ℓ : Loc Cert.PartsReferenceIdeal.nD Cert.PartsReferenceIdeal.τ Cert.PartsReferenceIdeal.sig) → Buf (Elt Ideal) ℓ) (g' : Dev Cert.PartsReferenceIdeal.nD → PrngReg), Pre_PartsIdeal m →
    (∀ c : Dev Cert.PartsIdeal.nD,
      m' ((c.tc : Thread Cert.PartsReferenceIdeal.nD Cert.PartsReferenceIdeal.τ).loc Cert.PartsReferenceIdeal.main_arg0) = m ((c.tc : Thread Cert.PartsIdeal.nD Cert.PartsIdeal.τ).loc Cert.PartsIdeal.main_arg0)
      ∧ m' ((c.tc : Thread Cert.PartsReferenceIdeal.nD Cert.PartsReferenceIdeal.τ).loc Cert.PartsReferenceIdeal.main_arg1) = m ((c.tc : Thread Cert.PartsIdeal.nD Cert.PartsIdeal.τ).loc Cert.PartsIdeal.main_arg1)
      ∧ m' ((c.tc : Thread Cert.PartsReferenceIdeal.nD Cert.PartsReferenceIdeal.τ).loc Cert.PartsReferenceIdeal.main_arg2) = m ((c.tc : Thread Cert.PartsIdeal.nD Cert.PartsIdeal.τ).loc Cert.PartsIdeal.main_arg2)
      ∧ m' ((c.tc : Thread Cert.PartsReferenceIdeal.nD Cert.PartsReferenceIdeal.τ).loc Cert.PartsReferenceIdeal.main_arg3) = m ((c.tc : Thread Cert.PartsIdeal.nD Cert.PartsIdeal.τ).loc Cert.PartsIdeal.main_arg3)
      ∧ m' ((c.tc : Thread Cert.PartsReferenceIdeal.nD Cert.PartsReferenceIdeal.τ).loc Cert.PartsReferenceIdeal.main_arg4) = m ((c.tc : Thread Cert.PartsIdeal.nD Cert.PartsIdeal.τ).loc Cert.PartsIdeal.main_arg4)) →
    ∃ (v0 : (c : Dev Cert.PartsIdeal.nD) → Buf (Elt Ideal) ((c.tc : Thread Cert.PartsIdeal.nD Cert.PartsIdeal.τ).loc Cert.PartsIdeal.main_v2_0)) (v1 : (c : Dev Cert.PartsIdeal.nD) → Buf (Elt Ideal) ((c.tc : Thread Cert.PartsIdeal.nD Cert.PartsIdeal.τ).loc Cert.PartsIdeal.main_v2_1)),
      θ_run (Cert.PartsIdeal.defs (F := Ideal)) (onTc (τ := Cert.PartsIdeal.τ) (Cert.PartsIdeal.main (F := Ideal))) ⟨m, fun _ => 0, g⟩ (fun r => ∀ c : Dev Cert.PartsIdeal.nD,
          r.2.mem ((c.tc : Thread Cert.PartsIdeal.nD Cert.PartsIdeal.τ).loc Cert.PartsIdeal.main_v2_0) = v0 c
          ∧ r.2.mem ((c.tc : Thread Cert.PartsIdeal.nD Cert.PartsIdeal.τ).loc Cert.PartsIdeal.main_v2_1) = v1 c
          ∧ r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
          ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1)
          ∧ r.2.mem ((c.tc : Thread Cert.PartsIdeal.nD Cert.PartsIdeal.τ).loc Cert.PartsIdeal.main_arg2) = m ((c.tc : Thread Cert.PartsIdeal.nD Cert.PartsIdeal.τ).loc Cert.PartsIdeal.main_arg2)
          ∧ r.2.mem ((c.tc : Thread Cert.PartsIdeal.nD Cert.PartsIdeal.τ).loc Cert.PartsIdeal.main_arg3) = m ((c.tc : Thread Cert.PartsIdeal.nD Cert.PartsIdeal.τ).loc Cert.PartsIdeal.main_arg3)
          ∧ r.2.mem ((c.tc : Thread Cert.PartsIdeal.nD Cert.PartsIdeal.τ).loc Cert.PartsIdeal.main_arg4) = m ((c.tc : Thread Cert.PartsIdeal.nD Cert.PartsIdeal.τ).loc Cert.PartsIdeal.main_arg4))
      ∧ θ_run (Cert.PartsReferenceIdeal.defs (F := Ideal)) (onTc (τ := Cert.PartsReferenceIdeal.τ) (Cert.PartsReferenceIdeal.main (F := Ideal))) ⟨m', fun _ => 0, g'⟩ (fun r => ∀ c : Dev Cert.PartsReferenceIdeal.nD,
          r.2.mem ((c.tc : Thread Cert.PartsReferenceIdeal.nD Cert.PartsReferenceIdeal.τ).loc Cert.PartsReferenceIdeal.main_v5) = v0 c
          ∧ r.2.mem ((c.tc : Thread Cert.PartsReferenceIdeal.nD Cert.PartsReferenceIdeal.τ).loc Cert.PartsReferenceIdeal.main_v19) = v1 c
          ∧ r.2.mem ((c.tc : Thread Cert.PartsReferenceIdeal.nD Cert.PartsReferenceIdeal.τ).loc Cert.PartsReferenceIdeal.main_arg0) = m' ((c.tc : Thread Cert.PartsReferenceIdeal.nD Cert.PartsReferenceIdeal.τ).loc Cert.PartsReferenceIdeal.main_arg0)
          ∧ r.2.mem ((c.tc : Thread Cert.PartsReferenceIdeal.nD Cert.PartsReferenceIdeal.τ).loc Cert.PartsReferenceIdeal.main_arg1) = m' ((c.tc : Thread Cert.PartsReferenceIdeal.nD Cert.PartsReferenceIdeal.τ).loc Cert.PartsReferenceIdeal.main_arg1)
          ∧ r.2.mem ((c.tc : Thread Cert.PartsReferenceIdeal.nD Cert.PartsReferenceIdeal.τ).loc Cert.PartsReferenceIdeal.main_arg2) = m' ((c.tc : Thread Cert.PartsReferenceIdeal.nD Cert.PartsReferenceIdeal.τ).loc Cert.PartsReferenceIdeal.main_arg2)
          ∧ r.2.mem ((c.tc : Thread Cert.PartsReferenceIdeal.nD Cert.PartsReferenceIdeal.τ).loc Cert.PartsReferenceIdeal.main_arg3) = m' ((c.tc : Thread Cert.PartsReferenceIdeal.nD Cert.PartsReferenceIdeal.τ).loc Cert.PartsReferenceIdeal.main_arg3)
          ∧ r.2.mem ((c.tc : Thread Cert.PartsReferenceIdeal.nD Cert.PartsReferenceIdeal.τ).loc Cert.PartsReferenceIdeal.main_arg4) = m' ((c.tc : Thread Cert.PartsReferenceIdeal.nD Cert.PartsReferenceIdeal.τ).loc Cert.PartsReferenceIdeal.main_arg4))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v8_0)) (v1 : (c : Dev Cert.KvIdeal.nD) → Buf (Elt Ideal) ((c.tc : Thread Cert.KvIdeal.nD Cert.KvIdeal.τ).loc Cert.KvIdeal.main_v8_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v8_0) = v0 c
          ∧ r.2.mem ((c.tc : Thread Cert.KvIdeal.nD Cert.KvIdeal.τ).loc Cert.KvIdeal.main_v8_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v13) = v0 c
          ∧ r.2.mem ((c.tc : Thread Cert.KvReferenceIdeal.nD Cert.KvReferenceIdeal.τ).loc Cert.KvReferenceIdeal.main_v15) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts) (hMla : Cert.Mla.Facts) (hMlaIdeal : Cert.MlaIdeal.Facts) (hMlaReferenceIdeal : Cert.MlaReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hQkv : Cert.Qkv.Facts) (hQkvIdeal : Cert.QkvIdeal.Facts) (hQkvReferenceIdeal : Cert.QkvReferenceIdeal.Facts) (hParts : Cert.Parts.Facts) (hPartsIdeal : Cert.PartsIdeal.Facts) (hPartsReferenceIdeal : Cert.PartsReferenceIdeal.Facts) (hKv : Cert.Kv.Facts) (hKvIdeal : Cert.KvIdeal.Facts) (hKvReferenceIdeal : Cert.KvReferenceIdeal.Facts) (hPre_finite : Cert.Pre_finite.Facts) (hPre_mla_finite : Cert.Pre_mla_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Parts (hParts := hParts)
    ∧ quiescent_PartsIdeal (hPartsIdeal := hPartsIdeal)
    ∧ quiescent_PartsReferenceIdeal (hPartsReferenceIdeal := hPartsReferenceIdeal)
    ∧ quiescent_Kv (hKv := hKv)
    ∧ quiescent_KvIdeal (hKvIdeal := hKvIdeal)
    ∧ quiescent_KvReferenceIdeal (hKvReferenceIdeal := hKvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Prompt_PromptIdeal
    ∧ algebraic_PromptIdeal_PromptReferenceIdeal (hPromptIdeal := hPromptIdeal) (hPromptReferenceIdeal := hPromptReferenceIdeal)
    ∧ preserves_Sample_SampleIdeal
    ∧ algebraic_SampleIdeal_SampleReferenceIdeal (hSampleIdeal := hSampleIdeal) (hSampleReferenceIdeal := hSampleReferenceIdeal)
    ∧ preserves_Mla_MlaIdeal
    ∧ algebraic_MlaIdeal_MlaReferenceIdeal_pre_mla_finite (hMlaIdeal := hMlaIdeal) (hMlaReferenceIdeal := hMlaReferenceIdeal) (hPre_mla_finite := hPre_mla_finite)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Qkv_QkvIdeal
    ∧ algebraic_QkvIdeal_QkvReferenceIdeal (hQkvIdeal := hQkvIdeal) (hQkvReferenceIdeal := hQkvReferenceIdeal)
    ∧ preserves_Parts_PartsIdeal
    ∧ algebraic_PartsIdeal_PartsReferenceIdeal (hPartsIdeal := hPartsIdeal) (hPartsReferenceIdeal := hPartsReferenceIdeal)
    ∧ preserves_Kv_KvIdeal
    ∧ algebraic_KvIdeal_KvReferenceIdeal (hKvIdeal := hKvIdeal) (hKvReferenceIdeal := hKvReferenceIdeal)
-- ==== Pre_finite.lean ====
abbrev S3x16384x6144 : Shape := ⟨3, ![3, 16384, 6144]⟩
abbrev S1x16x15x31 : Shape := ⟨4, ![1, 16, 15, 31]⟩
abbrev S3x16384x4096 : Shape := ⟨3, ![3, 16384, 4096]⟩
abbrev S_ : Shape := ⟨0, ![]⟩

class Facts : Prop where
  slices_S3x16384x6144_S3x16384x4096_0_0_0 : S3x16384x6144.Slices ![0, 0, 0] S3x16384x4096
  bcast_S_S3x16384x4096 : S_.BroadcastsInDim S3x16384x4096 (![] : Fin 0 → Fin S3x16384x4096.rank)
  reducesTo_S3x16384x4096_S_d0_1_2 : S3x16384x4096.ReducesTo [0, 1, 2] S_
  h_S_ : 0 < S_.numel
  bcast_S_S1x16x15x31 : S_.BroadcastsInDim S1x16x15x31 (![] : Fin 0 → Fin S1x16x15x31.rank)
  reducesTo_S1x16x15x31_S_d0_1_2_3 : S1x16x15x31.ReducesTo [0, 1, 2, 3] S_

variable [Facts]

def fn {F : FTy → Type} [FloatOps F] (main_arg0 : FVec F S3x16384x6144 .f32) (main_arg1 : FVec F S1x16x15x31 .f32) : IVec S_ 1 :=
  let main_v0 : FVec F S3x16384x4096 .f32 := (extractStridedSlice S3x16384x4096 ![0, 0, 0] · slices_S3x16384x6144_S3x16384x4096_0_0_0) main_arg0
  let main_v1 : FVec F S3x16384x4096 .f32 := Host.absf main_v0
  let main_cst : FVec F S_ .f32 := constant S_ .f32 0x7F800000#32
  let main_v2 : FVec F S3x16384x4096 .f32 := broadcastInDim S3x16384x4096 ![] bcast_S_S3x16384x4096 main_cst
  let main_v3 : IVec S3x16384x4096 1 := cmpf .olt main_v1 main_v2
  let main_c : IVec S_ 1 := constantI S_ 1 1#1
  let main_v4 : IVec S_ 1 := (fun x v => Host.reduce IntOp.andi x v reducesTo_S3x16384x4096_S_d0_1_2 h_S_) main_v3 main_c
  let main_v5 : FVec F S1x16x15x31 .f32 := Host.absf main_arg1
  let main_cst_0 : FVec F S_ .f32 := constant S_ .f32 0x7F800000#32
  let main_v6 : FVec F S1x16x15x31 .f32 := broadcastInDim S1x16x15x31 ![] bcast_S_S1x16x15x31 main_cst_0
  let main_v7 : IVec S1x16x15x31 1 := cmpf .olt main_v5 main_v6
  let main_c_1 : IVec S_ 1 := constantI S_ 1 1#1
  let main_v8 : IVec S_ 1 := (fun x v => Host.reduce IntOp.andi x v reducesTo_S1x16x15x31_S_d0_1_2_3 h_S_) main_v7 main_c_1
  let main_v9 : IVec S_ 1 := andi main_v4 main_v8
  main_v9
-- ==== Pre_mla_finite.lean ====
abbrev S3x16384x16x128 : Shape := ⟨4, ![3, 16384, 16, 128]⟩
abbrev S3x16384x16x64 : Shape := ⟨4, ![3, 16384, 16, 64]⟩
abbrev S3x16384x64 : Shape := ⟨3, ![3, 16384, 64]⟩
abbrev S_ : Shape := ⟨0, ![]⟩

class Facts : Prop where
  bcast_S_S3x16384x16x128 : S_.BroadcastsInDim S3x16384x16x128 (![] : Fin 0 → Fin S3x16384x16x128.rank)
  reducesTo_S3x16384x16x128_S_d0_1_2_3 : S3x16384x16x128.ReducesTo [0, 1, 2, 3] S_
  h_S_ : 0 < S_.numel
  bcast_S_S3x16384x16x64 : S_.BroadcastsInDim S3x16384x16x64 (![] : Fin 0 → Fin S3x16384x16x64.rank)
  reducesTo_S3x16384x16x64_S_d0_1_2_3 : S3x16384x16x64.ReducesTo [0, 1, 2, 3] S_
  bcast_S_S3x16384x64 : S_.BroadcastsInDim S3x16384x64 (![] : Fin 0 → Fin S3x16384x64.rank)
  reducesTo_S3x16384x64_S_d0_1_2 : S3x16384x64.ReducesTo [0, 1, 2] S_

variable [Facts]

def fn_part1 {F : FTy → Type} [FloatOps F] (main_v13 : IVec S_ 1) (main_v16 : IVec S3x16384x64 1) : IVec S_ 1 :=
  let main_c_5 : IVec S_ 1 := constantI S_ 1 1#1
  let main_v17 : IVec S_ 1 := (fun x v => Host.reduce IntOp.andi x v reducesTo_S3x16384x64_S_d0_1_2 h_S_) main_v16 main_c_5
  let main_v18 : IVec S_ 1 := andi main_v13 main_v17
  main_v18

def fn {F : FTy → Type} [FloatOps F] (main_arg0 : FVec F S3x16384x16x128 .f32) (main_arg1 : FVec F S3x16384x16x64 .f32) (main_arg2 : FVec F S3x16384x16x128 .f32) (main_arg3 : FVec F S3x16384x64 .f32) (main_arg4 : FVec F S3x16384x16x128 .f32) : IVec S_ 1 :=
  let main_v0 : FVec F S3x16384x16x128 .f32 := Host.absf main_arg0
  let main_cst : FVec F S_ .f32 := constant S_ .f32 0x7F800000#32
  let main_v1 : FVec F S3x16384x16x128 .f32 := broadcastInDim S3x16384x16x128 ![] bcast_S_S3x16384x16x128 main_cst
  let main_v2 : IVec S3x16384x16x128 1 := cmpf .olt main_v0 main_v1
  let main_c : IVec S_ 1 := constantI S_ 1 1#1
  let main_v3 : IVec S_ 1 := (fun x v => Host.reduce IntOp.andi x v reducesTo_S3x16384x16x128_S_d0_1_2_3 h_S_) main_v2 main_c
  let main_v4 : FVec F S3x16384x16x64 .f32 := Host.absf main_arg1
  let main_cst_0 : FVec F S_ .f32 := constant S_ .f32 0x7F800000#32
  let main_v5 : FVec F S3x16384x16x64 .f32 := broadcastInDim S3x16384x16x64 ![] bcast_S_S3x16384x16x64 main_cst_0
  let main_v6 : IVec S3x16384x16x64 1 := cmpf .olt main_v4 main_v5
  let main_c_1 : IVec S_ 1 := constantI S_ 1 1#1
  let main_v7 : IVec S_ 1 := (fun x v => Host.reduce IntOp.andi x v reducesTo_S3x16384x16x64_S_d0_1_2_3 h_S_) main_v6 main_c_1
  let main_v8 : IVec S_ 1 := andi main_v3 main_v7
  let main_v9 : FVec F S3x16384x16x128 .f32 := Host.absf main_arg2
  let main_cst_2 : FVec F S_ .f32 := constant S_ .f32 0x7F800000#32
  let main_v10 : FVec F S3x16384x16x128 .f32 := broadcastInDim S3x16384x16x128 ![] bcast_S_S3x16384x16x128 main_cst_2
  let main_v11 : IVec S3x16384x16x128 1 := cmpf .olt main_v9 main_v10
  let main_c_3 : IVec S_ 1 := constantI S_ 1 1#1
  let main_v12 : IVec S_ 1 := (fun x v => Host.reduce IntOp.andi x v reducesTo_S3x16384x16x128_S_d0_1_2_3 h_S_) main_v11 main_c_3
  let main_v13 : IVec S_ 1 := andi main_v8 main_v12
  let main_v14 : FVec F S3x16384x64 .f32 := Host.absf main_arg3
  let main_cst_4 : FVec F S_ .f32 := constant S_ .f32 0x7F800000#32
  let main_v15 : FVec F S3x16384x64 .f32 := broadcastInDim S3x16384x64 ![] bcast_S_S3x16384x64 main_cst_4
  let main_v16 : IVec S3x16384x64 1 := cmpf .olt main_v14 main_v15
  fn_part1 (F := F) main_v13 main_v16
-- ==== Kernel.lean ====
abbrev S3x16384x6144 : Shape := ⟨3, ![3, 16384, 6144]⟩
abbrev S1x16x15x31 : Shape := ⟨4, ![1, 16, 15, 31]⟩
abbrev S_ : Shape := ⟨0, ![]⟩
abbrev S2048 : Shape := ⟨1, ![2048]⟩
abbrev S4096 : Shape := ⟨1, ![4096]⟩
abbrev S6144 : Shape := ⟨1, ![6144]⟩
abbrev S1x1x6144 : Shape := ⟨3, ![1, 1, 6144]⟩
abbrev S49152x48x128 : Shape := ⟨3, ![49152, 48, 128]⟩
abbrev S48x49152x128 : Shape := ⟨3, ![48, 49152, 128]⟩
abbrev S16x15x31 : Shape := ⟨3, ![16, 15, 31]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S4 : Shape := ⟨1, ![4]⟩
abbrev S12 : Shape := ⟨1, ![12]⟩
abbrev S1x12 : Shape := ⟨2, ![1, 12]⟩
abbrev S4x1 : Shape := ⟨2, ![4, 1]⟩
abbrev S4x12 : Shape := ⟨2, ![4, 12]⟩
abbrev S4x12x1 : Shape := ⟨3, ![4, 12, 1]⟩
abbrev S16x4x12x64x64 : Shape := ⟨5, ![16, 4, 12, 64, 64]⟩
abbrev S4x12x1x1 : Shape := ⟨4, ![4, 12, 1, 1]⟩
abbrev S1x1x64x64 : Shape := ⟨4, ![1, 1, 64, 64]⟩
abbrev S4x12x64x64 : Shape := ⟨4, ![4, 12, 64, 64]⟩
abbrev S1x4x12x64x64 : Shape := ⟨5, ![1, 4, 12, 64, 64]⟩
abbrev S16x4x64x12x64 : Shape := ⟨5, ![16, 4, 64, 12, 64]⟩
abbrev S16x256x768 : Shape := ⟨3, ![16, 256, 768]⟩
abbrev S1x16x256x768 : Shape := ⟨4, ![1, 16, 256, 768]⟩
abbrev S3x16x256x768 : Shape := ⟨4, ![3, 16, 256, 768]⟩
abbrev S16x49152x128 : Shape := ⟨3, ![16, 49152, 128]⟩
abbrev S1x4096x128 : Shape := ⟨3, ![1, 4096, 128]⟩
abbrev S1x4608x128 : Shape := ⟨3, ![1, 4608, 128]⟩
abbrev S3x1x256x768 : Shape := ⟨4, ![3, 1, 256, 768]⟩
abbrev S1x768x128 : Shape := ⟨3, ![1, 768, 128]⟩
abbrev S768x128 : Shape := ⟨2, ![768, 128]⟩
abbrev S1x256x128 : Shape := ⟨3, ![1, 256, 128]⟩
abbrev S256x128 : Shape := ⟨2, ![256, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 307
  | .vmem => 10
  | .smem => 0
  | _ => 0

abbrev hbmTy0_0 (i : Nat) : BufTy := match i % 128 with
  | 0 => ⟨S3x16384x6144, .f32⟩
  | 1 => ⟨S1x16x15x31, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S2048, .f32⟩
  | 10 => ⟨S_, .f32⟩
  | 11 => ⟨S4096, .f32⟩
  | 12 => ⟨S6144, .f32⟩
  | 13 => ⟨S1x1x6144, .f32⟩
  | 14 => ⟨S3x16384x6144, .f32⟩
  | 15 => ⟨S3x16384x6144, .f32⟩
  | 16 => ⟨S49152x48x128, .f32⟩
  | 17 => ⟨S48x49152x128, .f32⟩
  | 18 => ⟨S48x49152x128, .bf16⟩
  | 19 => ⟨S16x15x31, .f32⟩
  | 20 => ⟨S64, .i32⟩
  | 21 => ⟨S_, .i32⟩
  | 22 => ⟨S64, .i32⟩
  | 23 => ⟨S64, .i32⟩
  | 24 => ⟨S_, .i32⟩
  | 25 => ⟨S_, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S1x64, .i32⟩
  | 33 => ⟨S64x1, .i32⟩
  | 34 => ⟨S64x64, .i32⟩
  | 35 => ⟨S64x64, .i32⟩
  | 36 => ⟨S64x64, .i1⟩
  | 37 => ⟨S1x64, .i32⟩
  | 38 => ⟨S64x1, .i32⟩
  | 39 => ⟨S_, .i32⟩
  | 40 => ⟨S64x1, .i32⟩
  | 41 => ⟨S64x1, .i32⟩
  | 42 => ⟨S64x64, .i32⟩
  | 43 => ⟨S64x64, .i32⟩
  | 44 => ⟨S64x64, .i1⟩
  | 45 => ⟨S64x64, .i1⟩
  | 46 => ⟨S1x64, .i32⟩
  | 47 => ⟨S64x1, .i32⟩
  | 48 => ⟨S64x64, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S_, .i32⟩
  | 56 => ⟨S_, .i32⟩
  | 57 => ⟨S64x64, .i32⟩
  | 58 => ⟨S64x64, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i1⟩
  | 65 => ⟨S_, .i32⟩
  | 66 => ⟨S64x64, .i32⟩
  | 67 => ⟨S64x64, .i32⟩
  | 68 => ⟨S64x64, .i32⟩
  | 69 => ⟨S64x64x1, .i32⟩
  | 70 => ⟨S16x15x64x64, .f32⟩
  | 71 => ⟨S4, .i32⟩
  | 72 => ⟨S_, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S_, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S12, .i32⟩
  | 87 => ⟨S_, .i32⟩
  | 88 => ⟨S12, .i32⟩
  | 89 => ⟨S12, .i32⟩
  | 90 => ⟨S1x12, .i32⟩
  | 91 => ⟨S4x1, .i32⟩
  | 92 => ⟨S4x12, .i32⟩
  | 93 => ⟨S4x12, .i32⟩
  | 94 => ⟨S4x12, .i1⟩
  | 95 => ⟨S1x12, .i32⟩
  | 96 => ⟨S4x1, .i32⟩
  | 97 => ⟨S_, .i32⟩
  | 98 => ⟨S4x1, .i32⟩
  | 99 => ⟨S4x1, .i32⟩
  | 100 => ⟨S4x12, .i32⟩
  | 101 => ⟨S4x12, .i32⟩
  | 102 => ⟨S4x12, .i1⟩
  | 103 => ⟨S4x12, .i1⟩
  | 104 => ⟨S1x12, .i32⟩
  | 105 => ⟨S4x1, .i32⟩
  | 106 => ⟨S4x12, .i32⟩
  | 107 => ⟨S4x12, .i32⟩
  | 108 => ⟨S4x12, .i32⟩
  | 109 => ⟨S_, .i32⟩
  | 110 => ⟨S4x12, .i32⟩
  | 111 => ⟨S4x12, .i32⟩
  | 112 => ⟨S_, .i32⟩
  | 113 => ⟨S_, .i32⟩
  | 114 => ⟨S_, .i32⟩
  | 115 => ⟨S4x12, .i32⟩
  | 116 => ⟨S4x12, .i32⟩
  | 117 => ⟨S_, .i32⟩
  | 118 => ⟨S4x12, .i32⟩
  | 119 => ⟨S4x12, .i32⟩
  | 120 => ⟨S_, .i32⟩
  | 121 => ⟨S4x12, .i32⟩
  | 122 => ⟨S4x12, .i1⟩
  | 123 => ⟨S_, .i32⟩
  | 124 => ⟨S4x12, .i32⟩
  | 125 => ⟨S4x12, .i32⟩
  | 126 => ⟨S4x12, .i32⟩
  | 127 => ⟨S4x12x1, .i32⟩
  | _ => ⟨S3x16384x6144, .f32⟩

abbrev hbmTy0_1 (i : Nat) : BufTy := match i % 128 with
  | 0 => ⟨S16x4x12x64x64, .f32⟩
  | 1 => ⟨S4x12x1x1, .i1⟩
  | 2 => ⟨S1x1x64x64, .i1⟩
  | 3 => ⟨S4x12x64x64, .i1⟩
  | 4 => ⟨S4x12x64x64, .i1⟩
  | 5 => ⟨S4x12x64x64, .i1⟩
  | 6 => ⟨S1x4x12x64x64, .i1⟩
  | 7 => ⟨S_, .f32⟩
  | 8 => ⟨S_, .f32⟩
  | 9 => ⟨S_, .f32⟩
  | 10 => ⟨S_, .f32⟩
  | 11 => ⟨S16x4x12x64x64, .f32⟩
  | 12 => ⟨S16x4x12x64x64, .f32⟩
  | 13 => ⟨S_, .f32⟩
  | 14 => ⟨S_, .f32⟩
  | 15 => ⟨S16x4x12x64x64, .i1⟩
  | 16 => ⟨S16x4x12x64x64, .f32⟩
  | 17 => ⟨S16x4x12x64x64, .f32⟩
  | 18 => ⟨S16x4x64x12x64, .f32⟩
  | 19 => ⟨S16x256x768, .f32⟩
  | 20 => ⟨S4, .i32⟩
  | 21 => ⟨S_, .i32⟩
  | 22 => ⟨S4, .i32⟩
  | 23 => ⟨S4, .i32⟩
  | 24 => ⟨S_, .i32⟩
  | 25 => ⟨S4, .i32⟩
  | 26 => ⟨S4, .i32⟩
  | 27 => ⟨S_, .i32⟩
  | 28 => ⟨S_, .i32⟩
  | 29 => ⟨S_, .i32⟩
  | 30 => ⟨S4, .i32⟩
  | 31 => ⟨S4, .i32⟩
  | 32 => ⟨S_, .i32⟩
  | 33 => ⟨S4, .i32⟩
  | 34 => ⟨S4, .i32⟩
  | 35 => ⟨S12, .i32⟩
  | 36 => ⟨S_, .i32⟩
  | 37 => ⟨S12, .i32⟩
  | 38 => ⟨S12, .i32⟩
  | 39 => ⟨S1x12, .i32⟩
  | 40 => ⟨S4x1, .i32⟩
  | 41 => ⟨S4x12, .i32⟩
  | 42 => ⟨S4x12, .i32⟩
  | 43 => ⟨S4x12, .i1⟩
  | 44 => ⟨S1x12, .i32⟩
  | 45 => ⟨S4x1, .i32⟩
  | 46 => ⟨S_, .i32⟩
  | 47 => ⟨S4x1, .i32⟩
  | 48 => ⟨S4x1, .i32⟩
  | 49 => ⟨S4x12, .i32⟩
  | 50 => ⟨S4x12, .i32⟩
  | 51 => ⟨S4x12, .i1⟩
  | 52 => ⟨S4x12, .i1⟩
  | 53 => ⟨S1x12, .i32⟩
  | 54 => ⟨S4x1, .i32⟩
  | 55 => ⟨S4x12, .i32⟩
  | 56 => ⟨S4x12, .i32⟩
  | 57 => ⟨S4x12, .i32⟩
  | 58 => ⟨S_, .i32⟩
  | 59 => ⟨S4x12, .i32⟩
  | 60 => ⟨S4x12, .i32⟩
  | 61 => ⟨S_, .i32⟩
  | 62 => ⟨S_, .i32⟩
  | 63 => ⟨S_, .i32⟩
  | 64 => ⟨S4x12, .i32⟩
  | 65 => ⟨S4x12, .i32⟩
  | 66 => ⟨S_, .i32⟩
  | 67 => ⟨S4x12, .i32⟩
  | 68 => ⟨S4x12, .i32⟩
  | 69 => ⟨S_, .i32⟩
  | 70 => ⟨S4x12, .i32⟩
  | 71 => ⟨S4x12, .i1⟩
  | 72 => ⟨S_, .i32⟩
  | 73 => ⟨S4x12, .i32⟩
  | 74 => ⟨S4x12, .i32⟩
  | 75 => ⟨S4x12, .i32⟩
  | 76 => ⟨S4x12x1, .i32⟩
  | 77 => ⟨S16x4x12x64x64, .f32⟩
  | 78 => ⟨S4x12x1x1, .i1⟩
  | 79 => ⟨S1x1x64x64, .i1⟩
  | 80 => ⟨S4x12x64x64, .i1⟩
  | 81 => ⟨S4x12x64x64, .i1⟩
  | 82 => ⟨S4x12x64x64, .i1⟩
  | 83 => ⟨S1x4x12x64x64, .i1⟩
  | 84 => ⟨S_, .f32⟩
  | 85 => ⟨S_, .f32⟩
  | 86 => ⟨S_, .f32⟩
  | 87 => ⟨S_, .f32⟩
  | 88 => ⟨S16x4x12x64x64, .f32⟩
  | 89 => ⟨S16x4x12x64x64, .f32⟩
  | 90 => ⟨S_, .f32⟩
  | 91 => ⟨S_, .f32⟩
  | 92 => ⟨S16x4x12x64x64, .i1⟩
  | 93 => ⟨S16x4x12x64x64, .f32⟩
  | 94 => ⟨S16x4x12x64x64, .f32⟩
  | 95 => ⟨S16x4x64x12x64, .f32⟩
  | 96 => ⟨S16x256x768, .f32⟩
  | 97 => ⟨S4, .i32⟩
  | 98 => ⟨S_, .i32⟩
  | 99 => ⟨S4, .i32⟩
  | 100 => ⟨S4, .i32⟩
  | 101 => ⟨S_, .i32⟩
  | 102 => ⟨S4, .i32⟩
  | 103 => ⟨S4, .i32⟩
  | 104 => ⟨S_, .i32⟩
  | 105 => ⟨S_, .i32⟩
  | 106 => ⟨S_, .i32⟩
  | 107 => ⟨S4, .i32⟩
  | 108 => ⟨S4, .i32⟩
  | 109 => ⟨S_, .i32⟩
  | 110 => ⟨S4, .i32⟩
  | 111 => ⟨S4, .i32⟩
  | 112 => ⟨S12, .i32⟩
  | 113 => ⟨S_, .i32⟩
  | 114 => ⟨S12, .i32⟩
  | 115 => ⟨S12, .i32⟩
  | 116 => ⟨S1x12, .i32⟩
  | 117 => ⟨S4x1, .i32⟩
  | 118 => ⟨S4x12, .i32⟩
  | 119 => ⟨S4x12, .i32⟩
  | 120 => ⟨S4x12, .i1⟩
  | 121 => ⟨S1x12, .i32⟩
  | 122 => ⟨S4x1, .i32⟩
  | 123 => ⟨S_, .i32⟩
  | 124 => ⟨S4x1, .i32⟩
  | 125 => ⟨S4x1, .i32⟩
  | 126 => ⟨S4x12, .i32⟩
  | 127 => ⟨S4x12, .i32⟩
  | _ => ⟨S3x16384x6144, .f32⟩

abbrev hbmTy0_2 (i : Nat) : BufTy := match i % 128 with
  | 0 => ⟨S4x12, .i1⟩
  | 1 => ⟨S4x12, .i1⟩
  | 2 => ⟨S1x12, .i32⟩
  | 3 => ⟨S4x1, .i32⟩
  | 4 => ⟨S4x12, .i32⟩
  | 5 => ⟨S4x12, .i32⟩
  | 6 => ⟨S4x12, .i32⟩
  | 7 => ⟨S_, .i32⟩
  | 8 => ⟨S4x12, .i32⟩
  | 9 => ⟨S4x12, .i32⟩
  | 10 => ⟨S_, .i32⟩
  | 11 => ⟨S_, .i32⟩
  | 12 => ⟨S_, .i32⟩
  | 13 => ⟨S4x12, .i32⟩
  | 14 => ⟨S4x12, .i32⟩
  | 15 => ⟨S_, .i32⟩
  | 16 => ⟨S4x12, .i32⟩
  | 17 => ⟨S4x12, .i32⟩
  | 18 => ⟨S_, .i32⟩
  | 19 => ⟨S4x12, .i32⟩
  | 20 => ⟨S4x12, .i1⟩
  | 21 => ⟨S_, .i32⟩
  | 22 => ⟨S4x12, .i32⟩
  | 23 => ⟨S4x12, .i32⟩
  | 24 => ⟨S4x12, .i32⟩
  | 25 => ⟨S4x12x1, .i32⟩
  | 26 => ⟨S16x4x12x64x64, .f32⟩
  | 27 => ⟨S4x12x1x1, .i1⟩
  | 28 => ⟨S1x1x64x64, .i1⟩
  | 29 => ⟨S4x12x64x64, .i1⟩
  | 30 => ⟨S4x12x64x64, .i1⟩
  | 31 => ⟨S4x12x64x64, .i1⟩
  | 32 => ⟨S1x4x12x64x64, .i1⟩
  | 33 => ⟨S_, .f32⟩
  | 34 => ⟨S_, .f32⟩
  | 35 => ⟨S_, .f32⟩
  | 36 => ⟨S_, .f32⟩
  | 37 => ⟨S16x4x12x64x64, .f32⟩
  | 38 => ⟨S16x4x12x64x64, .f32⟩
  | 39 => ⟨S_, .f32⟩
  | 40 => ⟨S_, .f32⟩
  | 41 => ⟨S16x4x12x64x64, .i1⟩
  | 42 => ⟨S16x4x12x64x64, .f32⟩
  | 43 => ⟨S16x4x12x64x64, .f32⟩
  | 44 => ⟨S16x4x64x12x64, .f32⟩
  | 45 => ⟨S16x256x768, .f32⟩
  | 46 => ⟨S1x16x256x768, .f32⟩
  | 47 => ⟨S1x16x256x768, .f32⟩
  | 48 => ⟨S1x16x256x768, .f32⟩
  | 49 => ⟨S3x16x256x768, .f32⟩
  | 50 => ⟨S16x49152x128, .bf16⟩
  | _ => ⟨S3x16384x6144, .f32⟩

abbrev hbmTy (i : Nat) : BufTy := match i / 128 with
  | 0 => hbmTy0_0 i
  | 1 => hbmTy0_1 i
  | 2 => hbmTy0_2 i
  | _ => ⟨S3x16384x6144, .f32⟩

abbrev bufTy : (tb : Table) → Fin (tcTables nBuf tb) → BufTy
  | .hbm, ⟨i, _⟩ => hbmTy i
  | .local _ .vmem, ⟨0, _⟩ => ⟨S1x4096x128, .bf16⟩
  | .local _ .vmem, ⟨1, _⟩ => ⟨S1x4096x128, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x4608x128, .bf16⟩
  | .local _ .vmem, ⟨5, _⟩ => ⟨S1x4608x128, .bf16⟩
  | .local _ .vmem, ⟨6, _⟩ => ⟨S3x1x256x768, .f32⟩
  | .local _ .vmem, ⟨7, _⟩ => ⟨S3x1x256x768, .f32⟩
  | .local _ .vmem, ⟨8, _⟩ => ⟨S1x4096x128, .bf16⟩
  | .local _ .vmem, ⟨9, _⟩ => ⟨S1x4096x128, .bf16⟩
  | _, _ => ⟨S3x16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_c_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_c_14 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v51 : Ref sig .tc := ⟨.hbm, 85, rfl⟩
abbrev main_v52 : Ref sig .tc := ⟨.hbm, 86, rfl⟩
abbrev main_c_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_17 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_c_19 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v75 : Ref sig .tc := ⟨.hbm, 119, rfl⟩
abbrev main_c_20 : Ref sig .tc := ⟨.hbm, 120, rfl⟩
abbrev main_v76 : Ref sig .tc := ⟨.hbm, 121, rfl⟩
abbrev main_v77 : Ref sig .tc := ⟨.hbm, 122, rfl⟩
abbrev main_c_21 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_22 : Ref sig .tc := ⟨.hbm, 135, rfl⟩
abbrev main_v89 : Ref sig .tc := ⟨.hbm, 136, rfl⟩
abbrev main_cst_23 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_24 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_c_25 : Ref sig .tc := ⟨.hbm, 149, rfl⟩
abbrev main_v97 : Ref sig .tc := ⟨.hbm, 150, rfl⟩
abbrev main_v98 : Ref sig .tc := ⟨.hbm, 151, rfl⟩
abbrev main_c_26 : Ref sig .tc := ⟨.hbm, 152, rfl⟩
abbrev main_v99 : Ref sig .tc := ⟨.hbm, 153, rfl⟩
abbrev main_v100 : Ref sig .tc := ⟨.hbm, 154, rfl⟩
abbrev main_c_27 : Ref sig .tc := ⟨.hbm, 155, rfl⟩
abbrev main_c_28 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_v101 : Ref sig .tc := ⟨.hbm, 162, rfl⟩
abbrev main_v102 : Ref sig .tc := ⟨.hbm, 163, rfl⟩
abbrev main_c_29 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_30 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_c_31 : Ref sig .tc := ⟨.hbm, 186, rfl⟩
abbrev main_v123 : Ref sig .tc := ⟨.hbm, 187, rfl⟩
abbrev main_v124 : Ref sig .tc := ⟨.hbm, 188, rfl⟩
abbrev main_c_32 : Ref sig .tc := ⟨.hbm, 189, rfl⟩
abbrev main_c_33 : Ref sig .tc := ⟨.hbm, 190, rfl⟩
abbrev main_call6_v0 : Ref sig .tc := ⟨.hbm, 191, rfl⟩
abbrev main_call6_v1 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_v125 : Ref sig .tc := ⟨.hbm, 196, rfl⟩
abbrev main_c_34 : Ref sig .tc := ⟨.hbm, 197, rfl⟩
abbrev main_v126 : Ref sig .tc := ⟨.hbm, 198, rfl⟩
abbrev main_v127 : Ref sig .tc := ⟨.hbm, 199, rfl⟩
abbrev main_c_35 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_cst_36 : Ref sig .tc := ⟨.hbm, 212, rfl⟩
abbrev main_v139 : Ref sig .tc := ⟨.hbm, 213, rfl⟩
abbrev main_cst_37 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_cst_38 : Ref sig .tc := ⟨.hbm, 218, rfl⟩
abbrev main_call7_v0 : Ref sig .tc := ⟨.hbm, 219, rfl⟩
abbrev main_call7_v1 : Ref sig .tc := ⟨.hbm, 220, rfl⟩
abbrev main_call7_v2 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_c_39 : Ref sig .tc := ⟨.hbm, 226, rfl⟩
abbrev main_v147 : Ref sig .tc := ⟨.hbm, 227, rfl⟩
abbrev main_v148 : Ref sig .tc := ⟨.hbm, 228, rfl⟩
abbrev main_c_40 : Ref sig .tc := ⟨.hbm, 229, rfl⟩
abbrev main_v149 : Ref sig .tc := ⟨.hbm, 230, rfl⟩
abbrev main_v150 : Ref sig .tc := ⟨.hbm, 231, rfl⟩
abbrev main_c_41 : Ref sig .tc := ⟨.hbm, 232, rfl⟩
abbrev main_c_42 : Ref sig .tc := ⟨.hbm, 233, rfl⟩
abbrev main_call8_v0 : Ref sig .tc := ⟨.hbm, 234, rfl⟩
abbrev main_call8_v1 : Ref sig .tc := ⟨.hbm, 235, rfl⟩
abbrev main_call8_v2 : Ref sig .tc := ⟨.hbm, 236, rfl⟩
abbrev main_call8_v3 : Ref sig .tc := ⟨.hbm, 237, rfl⟩
abbrev main_call8_v4 : Ref sig .tc := ⟨.hbm, 238, rfl⟩
abbrev main_v151 : Ref sig .tc := ⟨.hbm, 239, rfl⟩
abbrev main_v152 : Ref sig .tc := ⟨.hbm, 240, rfl⟩
abbrev main_c_43 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_c_44 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_c_45 : Ref sig .tc := ⟨.hbm, 263, rfl⟩
abbrev main_v173 : Ref sig .tc := ⟨.hbm, 264, rfl⟩
abbrev main_v174 : Ref sig .tc := ⟨.hbm, 265, rfl⟩
abbrev main_c_46 : Ref sig .tc := ⟨.hbm, 266, rfl⟩
abbrev main_c_47 : Ref sig .tc := ⟨.hbm, 267, rfl⟩
abbrev main_call9_v0 : Ref sig .tc := ⟨.hbm, 268, rfl⟩
abbrev main_call9_v1 : Ref sig .tc := ⟨.hbm, 269, rfl⟩
abbrev main_call9_v2 : Ref sig .tc := ⟨.hbm, 270, rfl⟩
abbrev main_call9_v3 : Ref sig .tc := ⟨.hbm, 271, rfl⟩
abbrev main_call9_v4 : Ref sig .tc := ⟨.hbm, 272, rfl⟩
abbrev main_v175 : Ref sig .tc := ⟨.hbm, 273, rfl⟩
abbrev main_c_48 : Ref sig .tc := ⟨.hbm, 274, rfl⟩
abbrev main_v176 : Ref sig .tc := ⟨.hbm, 275, rfl⟩
abbrev main_v177 : Ref sig .tc := ⟨.hbm, 276, rfl⟩
abbrev main_c_49 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_cst_50 : Ref sig .tc := ⟨.hbm, 289, rfl⟩
abbrev main_v189 : Ref sig .tc := ⟨.hbm, 290, rfl⟩
abbrev main_cst_51 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_cst_52 : Ref sig .tc := ⟨.hbm, 295, rfl⟩
abbrev main_call10_v0 : Ref sig .tc := ⟨.hbm, 296, rfl⟩
abbrev main_call10_v1 : Ref sig .tc := ⟨.hbm, 297, rfl⟩
abbrev main_call10_v2 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 3, 4], ![false, false, false]⟩

def k0_mult1 (i : grid0.Coords) : BitVec 32 :=
  let c61_i32 : BitVec 32 := 61#32
  let c0_i32_3 : BitVec 32 := 0#32
  let c16_i32_0 : BitVec 32 := 16#32
  let arg2 : BitVec 32 := BitVec.ofNat 32 (i 2).val
  let v4 : BitVec 32 := Scalar.muli c16_i32_0 arg2
  let c0_i32_1 : BitVec 32 := 0#32
  let v5 : BitVec 32 := Scalar.addi v4 c0_i32_1
  let c1_i32_2 : BitVec 32 := 1#32
  let v6 : BitVec 32 := Scalar.subi v5 c1_i32_2
  let v7 : BitVec 32 := Scalar.maxsi c0_i32_3 v6
  let v8 : BitVec 32 := Scalar.minsi c61_i32 v7
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v9 : BitVec 32 := Scalar.subi v8 v3
  let c256_i32 : BitVec 32 := 256#32
  let v10 : BitVec 32 := Scalar.muli v9 c256_i32
  v10
def k0_off1 (i : grid0.Coords) (c0_i32_1 : BitVec 32) : Fin 3 → Nat :=
  let c0 : Index := 0#32
  let c61_i32 : BitVec 32 := 61#32
  let c0_i32_3 : BitVec 32 := 0#32
  let c16_i32_0 : BitVec 32 := 16#32
  let arg2 : BitVec 32 := BitVec.ofNat 32 (i 2).val
  let v4 : BitVec 32 := Scalar.muli c16_i32_0 arg2
  let v5 : BitVec 32 := Scalar.addi v4 c0_i32_1
  let c1_i32_2 : BitVec 32 := 1#32
  let v6 : BitVec 32 := Scalar.subi v5 c1_i32_2
  let v7 : BitVec 32 := Scalar.maxsi c0_i32_3 v6
  let v8 : BitVec 32 := Scalar.minsi c61_i32 v7
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v9 : BitVec 32 := Scalar.subi v8 v3
  let c256_i32 : BitVec 32 := 256#32
  let v10 : BitVec 32 := Scalar.muli v9 c256_i32
  let v11 : BitVec 32 := v10
  let v12 : Index := Scalar.indexCast v11
  let c0_4 : Index := 0#32
  ![0, v12.toNat, 0]
def k0_off2 (i : grid0.Coords) (c0_i32_1 : BitVec 32) : Fin 4 → Nat :=
  let c16_i32_0 : BitVec 32 := 16#32
  let arg2 : BitVec 32 := BitVec.ofNat 32 (i 2).val
  let v4 : BitVec 32 := Scalar.muli c16_i32_0 arg2
  let v5 : BitVec 32 := Scalar.addi v4 c0_i32_1
  let c0_i32_7 : BitVec 32 := 0#32
  let v18 : BitVec 1 := Scalar.cmpi .eq v5 c0_i32_7
  let c0_i32_9 : BitVec 32 := 0#32
  let c63_i32 : BitVec 32 := 63#32
  let v19 : BitVec 1 := Scalar.cmpi .eq v5 c63_i32
  let c2_i32 : BitVec 32 := 2#32
  let c1_i32_8 : BitVec 32 := 1#32
  let v20 : BitVec 32 := Scalar.select v19 c2_i32 c1_i32_8
  let v21 : BitVec 32 := Scalar.select v18 c0_i32_9 v20
  let v25 : Index := Scalar.indexCast v21
  let c0_13 : Index := 0#32
  let c0_14 : Index := 0#32
  let c0_15 : Index := 0#32
  ![v25.toNat, 0, 0, 0]
def k0_mult2 (i : grid0.Coords) : BitVec 32 :=
  let c61_i32_26 : BitVec 32 := 61#32
  let c0_i32_25 : BitVec 32 := 0#32
  let c16_i32_22 : BitVec 32 := 16#32
  let arg2 : BitVec 32 := BitVec.ofNat 32 (i 2).val
  let v44 : BitVec 32 := Scalar.muli c16_i32_22 arg2
  let c1_i32_23 : BitVec 32 := 1#32
  let v45 : BitVec 32 := Scalar.addi v44 c1_i32_23
  let c1_i32_24 : BitVec 32 := 1#32
  let v46 : BitVec 32 := Scalar.subi v45 c1_i32_24
  let v47 : BitVec 32 := Scalar.maxsi c0_i32_25 v46
  let v48 : BitVec 32 := Scalar.minsi c61_i32_26 v47
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v49 : BitVec 32 := Scalar.subi v48 v3
  let c256_i32_27 : BitVec 32 := 256#32
  let v50 : BitVec 32 := Scalar.muli v49 c256_i32_27
  v50
def k0_mult3 (i : grid0.Coords) : BitVec 32 :=
  let c61_i32_53 : BitVec 32 := 61#32
  let c0_i32_52 : BitVec 32 := 0#32
  let c16_i32_49 : BitVec 32 := 16#32
  let arg2 : BitVec 32 := BitVec.ofNat 32 (i 2).val
  let v84 : BitVec 32 := Scalar.muli c16_i32_49 arg2
  let c2_i32_50 : BitVec 32 := 2#32
  let v85 : BitVec 32 := Scalar.addi v84 c2_i32_50
  let c1_i32_51 : BitVec 32 := 1#32
  let v86 : BitVec 32 := Scalar.subi v85 c1_i32_51
  let v87 : BitVec 32 := Scalar.maxsi c0_i32_52 v86
  let v88 : BitVec 32 := Scalar.minsi c61_i32_53 v87
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v89 : BitVec 32 := Scalar.subi v88 v3
  let c256_i32_54 : BitVec 32 := 256#32
  let v90 : BitVec 32 := Scalar.muli v89 c256_i32_54
  v90
def k0_mult4 (i : grid0.Coords) : BitVec 32 :=
  let c61_i32_79 : BitVec 32 := 61#32
  let c0_i32_78 : BitVec 32 := 0#32
  let c16_i32_76 : BitVec 32 := 16#32
  let arg2 : BitVec 32 := BitVec.ofNat 32 (i 2).val
  let v124 : BitVec 32 := Scalar.muli c16_i32_76 arg2
  let c3_i32 : BitVec 32 := 3#32
  let v125 : BitVec 32 := Scalar.addi v124 c3_i32
  let c1_i32_77 : BitVec 32 := 1#32
  let v126 : BitVec 32 := Scalar.subi v125 c1_i32_77
  let v127 : BitVec 32 := Scalar.maxsi c0_i32_78 v126
  let v128 : BitVec 32 := Scalar.minsi c61_i32_79 v127
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v129 : BitVec 32 := Scalar.subi v128 v3
  let c256_i32_80 : BitVec 32 := 256#32
  let v130 : BitVec 32 := Scalar.muli v129 c256_i32_80
  v130
def k0_mult5 (i : grid0.Coords) : BitVec 32 :=
  let c61_i32_105 : BitVec 32 := 61#32
  let c0_i32_104 : BitVec 32 := 0#32
  let c16_i32_102 : BitVec 32 := 16#32
  let arg2 : BitVec 32 := BitVec.ofNat 32 (i 2).val
  let v164 : BitVec 32 := Scalar.muli c16_i32_102 arg2
  let c4_i32 : BitVec 32 := 4#32
  let v165 : BitVec 32 := Scalar.addi v164 c4_i32
  let c1_i32_103 : BitVec 32 := 1#32
  let v166 : BitVec 32 := Scalar.subi v165 c1_i32_103
  let v167 : BitVec 32 := Scalar.maxsi c0_i32_104 v166
  let v168 : BitVec 32 := Scalar.minsi c61_i32_105 v167
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v169 : BitVec 32 := Scalar.subi v168 v3
  let c256_i32_106 : BitVec 32 := 256#32
  let v170 : BitVec 32 := Scalar.muli v169 c256_i32_106
  v170
def k0_mult6 (i : grid0.Coords) : BitVec 32 :=
  let c61_i32_131 : BitVec 32 := 61#32
  let c0_i32_130 : BitVec 32 := 0#32
  let c16_i32_128 : BitVec 32 := 16#32
  let arg2 : BitVec 32 := BitVec.ofNat 32 (i 2).val
  let v204 : BitVec 32 := Scalar.muli c16_i32_128 arg2
  let c5_i32 : BitVec 32 := 5#32
  let v205 : BitVec 32 := Scalar.addi v204 c5_i32
  let c1_i32_129 : BitVec 32 := 1#32
  let v206 : BitVec 32 := Scalar.subi v205 c1_i32_129
  let v207 : BitVec 32 := Scalar.maxsi c0_i32_130 v206
  let v208 : BitVec 32 := Scalar.minsi c61_i32_131 v207
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v209 : BitVec 32 := Scalar.subi v208 v3
  let c256_i32_132 : BitVec 32 := 256#32
  let v210 : BitVec 32 := Scalar.muli v209 c256_i32_132
  v210
def k0_mult7 (i : grid0.Coords) : BitVec 32 :=
  let c61_i32_157 : BitVec 32 := 61#32
  let c0_i32_156 : BitVec 32 := 0#32
  let c16_i32_154 : BitVec 32 := 16#32
  let arg2 : BitVec 32 := BitVec.ofNat 32 (i 2).val
  let v244 : BitVec 32 := Scalar.muli c16_i32_154 arg2
  let c6_i32 : BitVec 32 := 6#32
  let v245 : BitVec 32 := Scalar.addi v244 c6_i32
  let c1_i32_155 : BitVec 32 := 1#32
  let v246 : BitVec 32 := Scalar.subi v245 c1_i32_155
  let v247 : BitVec 32 := Scalar.maxsi c0_i32_156 v246
  let v248 : BitVec 32 := Scalar.minsi c61_i32_157 v247
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v249 : BitVec 32 := Scalar.subi v248 v3
  let c256_i32_158 : BitVec 32 := 256#32
  let v250 : BitVec 32 := Scalar.muli v249 c256_i32_158
  v250
def k0_mult8 (i : grid0.Coords) : BitVec 32 :=
  let c61_i32_183 : BitVec 32 := 61#32
  let c0_i32_182 : BitVec 32 := 0#32
  let c16_i32_180 : BitVec 32 := 16#32
  let arg2 : BitVec 32 := BitVec.ofNat 32 (i 2).val
  let v284 : BitVec 32 := Scalar.muli c16_i32_180 arg2
  let c7_i32 : BitVec 32 := 7#32
  let v285 : BitVec 32 := Scalar.addi v284 c7_i32
  let c1_i32_181 : BitVec 32 := 1#32
  let v286 : BitVec 32 := Scalar.subi v285 c1_i32_181
  let v287 : BitVec 32 := Scalar.maxsi c0_i32_182 v286
  let v288 : BitVec 32 := Scalar.minsi c61_i32_183 v287
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v289 : BitVec 32 := Scalar.subi v288 v3
  let c256_i32_184 : BitVec 32 := 256#32
  let v290 : BitVec 32 := Scalar.muli v289 c256_i32_184
  v290
def k0_mult9 (i : grid0.Coords) : BitVec 32 :=
  let c61_i32_209 : BitVec 32 := 61#32
  let c0_i32_208 : BitVec 32 := 0#32
  let c16_i32_206 : BitVec 32 := 16#32
  let arg2 : BitVec 32 := BitVec.ofNat 32 (i 2).val
  let v324 : BitVec 32 := Scalar.muli c16_i32_206 arg2
  let c8_i32 : BitVec 32 := 8#32
  let v325 : BitVec 32 := Scalar.addi v324 c8_i32
  let c1_i32_207 : BitVec 32 := 1#32
  let v326 : BitVec 32 := Scalar.subi v325 c1_i32_207
  let v327 : BitVec 32 := Scalar.maxsi c0_i32_208 v326
  let v328 : BitVec 32 := Scalar.minsi c61_i32_209 v327
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v329 : BitVec 32 := Scalar.subi v328 v3
  let c256_i32_210 : BitVec 32 := 256#32
  let v330 : BitVec 32 := Scalar.muli v329 c256_i32_210
  v330
def k0_mult10 (i : grid0.Coords) : BitVec 32 :=
  let c61_i32_235 : BitVec 32 := 61#32
  let c0_i32_234 : BitVec 32 := 0#32
  let c16_i32_232 : BitVec 32 := 16#32
  let arg2 : BitVec 32 := BitVec.ofNat 32 (i 2).val
  let v364 : BitVec 32 := Scalar.muli c16_i32_232 arg2
  let c9_i32 : BitVec 32 := 9#32
  let v365 : BitVec 32 := Scalar.addi v364 c9_i32
  let c1_i32_233 : BitVec 32 := 1#32
  let v366 : BitVec 32 := Scalar.subi v365 c1_i32_233
  let v367 : BitVec 32 := Scalar.maxsi c0_i32_234 v366
  let v368 : BitVec 32 := Scalar.minsi c61_i32_235 v367
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v369 : BitVec 32 := Scalar.subi v368 v3
  let c256_i32_236 : BitVec 32 := 256#32
  let v370 : BitVec 32 := Scalar.muli v369 c256_i32_236
  v370
def k0_mult11 (i : grid0.Coords) : BitVec 32 :=
  let c61_i32_261 : BitVec 32 := 61#32
  let c0_i32_260 : BitVec 32 := 0#32
  let c16_i32_258 : BitVec 32 := 16#32
  let arg2 : BitVec 32 := BitVec.ofNat 32 (i 2).val
  let v404 : BitVec 32 := Scalar.muli c16_i32_258 arg2
  let c10_i32 : BitVec 32 := 10#32
  let v405 : BitVec 32 := Scalar.addi v404 c10_i32
  let c1_i32_259 : BitVec 32 := 1#32
  let v406 : BitVec 32 := Scalar.subi v405 c1_i32_259
  let v407 : BitVec 32 := Scalar.maxsi c0_i32_260 v406
  let v408 : BitVec 32 := Scalar.minsi c61_i32_261 v407
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v409 : BitVec 32 := Scalar.subi v408 v3
  let c256_i32_262 : BitVec 32 := 256#32
  let v410 : BitVec 32 := Scalar.muli v409 c256_i32_262
  v410
def k0_mult12 (i : grid0.Coords) : BitVec 32 :=
  let c61_i32_287 : BitVec 32 := 61#32
  let c0_i32_286 : BitVec 32 := 0#32
  let c16_i32_284 : BitVec 32 := 16#32
  let arg2 : BitVec 32 := BitVec.ofNat 32 (i 2).val
  let v444 : BitVec 32 := Scalar.muli c16_i32_284 arg2
  let c11_i32 : BitVec 32 := 11#32
  let v445 : BitVec 32 := Scalar.addi v444 c11_i32
  let c1_i32_285 : BitVec 32 := 1#32
  let v446 : BitVec 32 := Scalar.subi v445 c1_i32_285
  let v447 : BitVec 32 := Scalar.maxsi c0_i32_286 v446
  let v448 : BitVec 32 := Scalar.minsi c61_i32_287 v447
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v449 : BitVec 32 := Scalar.subi v448 v3
  let c256_i32_288 : BitVec 32 := 256#32
  let v450 : BitVec 32 := Scalar.muli v449 c256_i32_288
  v450
def k0_mult13 (i : grid0.Coords) : BitVec 32 :=
  let c61_i32_313 : BitVec 32 := 61#32
  let c0_i32_312 : BitVec 32 := 0#32
  let c16_i32_310 : BitVec 32 := 16#32
  let arg2 : BitVec 32 := BitVec.ofNat 32 (i 2).val
  let v484 : BitVec 32 := Scalar.muli c16_i32_310 arg2
  let c12_i32 : BitVec 32 := 12#32
  let v485 : BitVec 32 := Scalar.addi v484 c12_i32
  let c1_i32_311 : BitVec 32 := 1#32
  let v486 : BitVec 32 := Scalar.subi v485 c1_i32_311
  let v487 : BitVec 32 := Scalar.maxsi c0_i32_312 v486
  let v488 : BitVec 32 := Scalar.minsi c61_i32_313 v487
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v489 : BitVec 32 := Scalar.subi v488 v3
  let c256_i32_314 : BitVec 32 := 256#32
  let v490 : BitVec 32 := Scalar.muli v489 c256_i32_314
  v490
def k0_mult14 (i : grid0.Coords) : BitVec 32 :=
  let c61_i32_339 : BitVec 32 := 61#32
  let c0_i32_338 : BitVec 32 := 0#32
  let c16_i32_336 : BitVec 32 := 16#32
  let arg2 : BitVec 32 := BitVec.ofNat 32 (i 2).val
  let v524 : BitVec 32 := Scalar.muli c16_i32_336 arg2
  let c13_i32 : BitVec 32 := 13#32
  let v525 : BitVec 32 := Scalar.addi v524 c13_i32
  let c1_i32_337 : BitVec 32 := 1#32
  let v526 : BitVec 32 := Scalar.subi v525 c1_i32_337
  let v527 : BitVec 32 := Scalar.maxsi c0_i32_338 v526
  let v528 : BitVec 32 := Scalar.minsi c61_i32_339 v527
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v529 : BitVec 32 := Scalar.subi v528 v3
  let c256_i32_340 : BitVec 32 := 256#32
  let v530 : BitVec 32 := Scalar.muli v529 c256_i32_340
  v530
def k0_mult15 (i : grid0.Coords) : BitVec 32 :=
  let c61_i32_365 : BitVec 32 := 61#32
  let c0_i32_364 : BitVec 32 := 0#32
  let c16_i32_362 : BitVec 32 := 16#32
  let arg2 : BitVec 32 := BitVec.ofNat 32 (i 2).val
  let v564 : BitVec 32 := Scalar.muli c16_i32_362 arg2
  let c14_i32 : BitVec 32 := 14#32
  let v565 : BitVec 32 := Scalar.addi v564 c14_i32
  let c1_i32_363 : BitVec 32 := 1#32
  let v566 : BitVec 32 := Scalar.subi v565 c1_i32_363
  let v567 : BitVec 32 := Scalar.maxsi c0_i32_364 v566
  let v568 : BitVec 32 := Scalar.minsi c61_i32_365 v567
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v569 : BitVec 32 := Scalar.subi v568 v3
  let c256_i32_366 : BitVec 32 := 256#32
  let v570 : BitVec 32 := Scalar.muli v569 c256_i32_366
  v570
def k0_mult16 (i : grid0.Coords) : BitVec 32 :=
  let c61_i32_391 : BitVec 32 := 61#32
  let c0_i32_390 : BitVec 32 := 0#32
  let c16_i32_388 : BitVec 32 := 16#32
  let arg2 : BitVec 32 := BitVec.ofNat 32 (i 2).val
  let v604 : BitVec 32 := Scalar.muli c16_i32_388 arg2
  let c15_i32 : BitVec 32 := 15#32
  let v605 : BitVec 32 := Scalar.addi v604 c15_i32
  let c1_i32_389 : BitVec 32 := 1#32
  let v606 : BitVec 32 := Scalar.subi v605 c1_i32_389
  let v607 : BitVec 32 := Scalar.maxsi c0_i32_390 v606
  let v608 : BitVec 32 := Scalar.minsi c61_i32_391 v607
  let c46_i32 : BitVec 32 := 46#32
  let c0_i32 : BitVec 32 := 0#32
  let c16_i32 : BitVec 32 := 16#32
  let v0 : BitVec 32 := Scalar.muli c16_i32 arg2
  let c1_i32 : BitVec 32 := 1#32
  let v1 : BitVec 32 := Scalar.subi v0 c1_i32
  let v2 : BitVec 32 := Scalar.maxsi c0_i32 v1
  let v3 : BitVec 32 := Scalar.minsi c46_i32 v2
  let v609 : BitVec 32 := Scalar.subi v608 v3
  let c256_i32_392 : BitVec 32 := 256#32
  let v610 : BitVec 32 := Scalar.muli v609 c256_i32_392
  v610
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c64_i32 : BitVec 32 := 64#32
  let v1 : BitVec 32 := Scalar.muli arg1 c64_i32
  let c16_i32_0 : BitVec 32 := 16#32
  let v2 : BitVec 32 := Scalar.muli c16_i32_0 arg2
  let c1_i32 : BitVec 32 := 1#32
  let v3 : BitVec 32 := Scalar.subi v2 c1_i32
  let c0_i32 : BitVec 32 := 0#32
  let c46_i32 : BitVec 32 := 46#32
  let v4 : BitVec 32 := Scalar.maxsi c0_i32 v3
  let v5 : BitVec 32 := Scalar.minsi c46_i32 v4
  let v6 : BitVec 32 := Scalar.addi v1 v5
  let c256_i32 : BitVec 32 := 256#32
  let v7 : BitVec 32 := Scalar.muli v6 c256_i32
  let c0_i32_1 : BitVec 32 := 0#32
  let c0_i32_2 : BitVec 32 := 0#32
  ![v0.toNat, v7.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c64_i32 : BitVec 32 := 64#32
  let v1 : BitVec 32 := Scalar.muli arg1 c64_i32
  let c16_i32 : BitVec 32 := 16#32
  let v2 : BitVec 32 := Scalar.muli c16_i32 arg2
  let c1_i32 : BitVec 32 := 1#32
  let v3 : BitVec 32 := Scalar.subi v2 c1_i32
  let c0_i32 : BitVec 32 := 0#32
  let c46_i32 : BitVec 32 := 46#32
  let v4 : BitVec 32 := Scalar.maxsi c0_i32 v3
  let v5 : BitVec 32 := Scalar.minsi c46_i32 v4
  let v6 : BitVec 32 := Scalar.addi v1 v5
  let c256_i32 : BitVec 32 := 256#32
  let v7 : BitVec 32 := Scalar.muli v6 c256_i32
  let c0_i32_0 : BitVec 32 := 0#32
  let c0_i32_1 : BitVec 32 := 0#32
  ![v0.toNat, v7.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S3x16384x6144 : Shape := ⟨3, ![3, 16384, 6144]⟩
abbrev S1x16x15x31 : Shape := ⟨4, ![1, 16, 15, 31]⟩
abbrev S3x256x64x3x16x128 : Shape := ⟨6, ![3, 256, 64, 3, 16, 128]⟩
abbrev S3x256x64x1x16x128 : Shape := ⟨6, ![3, 256, 64, 1, 16, 128]⟩
abbrev S3x256x64x16x128 : Shape := ⟨5, ![3, 256, 64, 16, 128]⟩
abbrev S_ : Shape := ⟨0, ![]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S3x256x8x64x16x128 : Shape := ⟨6, ![3, 256, 8, 64, 16, 128]⟩
abbrev S64x16x1 : Shape := ⟨3, ![64, 16, 1]⟩
abbrev S3x256x8x64x16x16x128 : Shape := ⟨7, ![3, 256, 8, 64, 16, 16, 128]⟩
abbrev S16x15x31 : Shape := ⟨3, ![16, 15, 31]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x8x16x1 : Shape := ⟨5, ![256, 64, 8, 16, 1]⟩
abbrev S256x64x8x16x2 : Shape := ⟨5, ![256, 64, 8, 16, 2]⟩
abbrev S16x256x64x8x16 : Shape := ⟨5, ![16, 256, 64, 8, 16]⟩
abbrev S3x16x256x64x8x16 : Shape := ⟨6, ![3, 16, 256, 64, 8, 16]⟩
abbrev S1x16x256x64x8x16 : Shape := ⟨6, ![1, 16, 256, 64, 8, 16]⟩
abbrev S3x16x256x64x128 : Shape := ⟨5, ![3, 16, 256, 64, 128]⟩
abbrev S3x16x256x64 : Shape := ⟨4, ![3, 16, 256, 64]⟩
abbrev S3x16x256x64x1 : Shape := ⟨5, ![3, 16, 256, 64, 1]⟩
abbrev S49152x16x128 : Shape := ⟨3, ![49152, 16, 128]⟩
abbrev S16x49152x128 : Shape := ⟨3, ![16, 49152, 128]⟩

abbrev nBuf : Space → Nat
  | .hbm => 144
  | .vmem => 0
  | .smem => 0
  | _ => 0

abbrev hbmTy0_0 (i : Nat) : BufTy := match i % 128 with
  | 0 => ⟨S3x16384x6144, .f32⟩
  | 1 => ⟨S1x16x15x31, .f32⟩
  | 2 => ⟨S3x256x64x3x16x128, .f32⟩
  | 3 => ⟨S3x256x64x1x16x128, .f32⟩
  | 4 => ⟨S3x256x64x16x128, .f32⟩
  | 5 => ⟨S_, .f32⟩
  | 6 => ⟨S_, .f32⟩
  | 7 => ⟨S3x256x64x16x128, .f32⟩
  | 8 => ⟨S3x256x64x16x128, .f32⟩
  | 9 => ⟨S3x256x64x1x16x128, .f32⟩
  | 10 => ⟨S3x256x64x16x128, .f32⟩
  | 11 => ⟨S3x256x64x1x16x128, .f32⟩
  | 12 => ⟨S3x256x64x16x128, .f32⟩
  | 13 => ⟨S64, .i32⟩
  | 14 => ⟨S_, .i32⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64x1, .i32⟩
  | 26 => ⟨S16, .i32⟩
  | 27 => ⟨S1x16, .i32⟩
  | 28 => ⟨S64x16, .i32⟩
  | 29 => ⟨S64x16, .i32⟩
  | 30 => ⟨S64x16, .i32⟩
  | 31 => ⟨S64x1, .i32⟩
  | 32 => ⟨S64x16, .i32⟩
  | 33 => ⟨S64x16, .i32⟩
  | 34 => ⟨S_, .i32⟩
  | 35 => ⟨S64x16, .i32⟩
  | 36 => ⟨S64x16, .i32⟩
  | 37 => ⟨S256, .i32⟩
  | 38 => ⟨S_, .i32⟩
  | 39 => ⟨S256, .i32⟩
  | 40 => ⟨S256, .i32⟩
  | 41 => ⟨S_, .i32⟩
  | 42 => ⟨S_, .i32⟩
  | 43 => ⟨S_, .i32⟩
  | 44 => ⟨S256, .i32⟩
  | 45 => ⟨S256, .i32⟩
  | 46 => ⟨S_, .i32⟩
  | 47 => ⟨S256, .i32⟩
  | 48 => ⟨S256, .i32⟩
  | 49 => ⟨S256x1, .i32⟩
  | 50 => ⟨S8, .i32⟩
  | 51 => ⟨S1x8, .i32⟩
  | 52 => ⟨S256x8, .i32⟩
  | 53 => ⟨S256x8, .i32⟩
  | 54 => ⟨S256x8, .i32⟩
  | 55 => ⟨S256x1, .i32⟩
  | 56 => ⟨S256x8, .i32⟩
  | 57 => ⟨S256x8, .i32⟩
  | 58 => ⟨S_, .i32⟩
  | 59 => ⟨S256x8, .i32⟩
  | 60 => ⟨S256x8, .i32⟩
  | 61 => ⟨S_, .i32⟩
  | 62 => ⟨S256x8, .i32⟩
  | 63 => ⟨S256x8, .i1⟩
  | 64 => ⟨S_, .i32⟩
  | 65 => ⟨S256x8, .i32⟩
  | 66 => ⟨S256x8, .i32⟩
  | 67 => ⟨S256x8, .i32⟩
  | 68 => ⟨S256x8x1, .i32⟩
  | 69 => ⟨S3x256x8x64x16x128, .f32⟩
  | 70 => ⟨S_, .i32⟩
  | 71 => ⟨S64x16, .i32⟩
  | 72 => ⟨S64x16, .i1⟩
  | 73 => ⟨S_, .i32⟩
  | 74 => ⟨S64x16, .i32⟩
  | 75 => ⟨S64x16, .i32⟩
  | 76 => ⟨S64x16, .i32⟩
  | 77 => ⟨S64x16x1, .i32⟩
  | 78 => ⟨S3x256x8x64x16x16x128, .f32⟩
  | 79 => ⟨S_, .i32⟩
  | 80 => ⟨S256x8, .i32⟩
  | 81 => ⟨S256x8, .i1⟩
  | 82 => ⟨S_, .i32⟩
  | 83 => ⟨S256x8, .i32⟩
  | 84 => ⟨S256x8, .i32⟩
  | 85 => ⟨S256x8, .i32⟩
  | 86 => ⟨S256x8x1, .i32⟩
  | 87 => ⟨S3x256x8x64x16x128, .f32⟩
  | 88 => ⟨S_, .i32⟩
  | 89 => ⟨S64x16, .i32⟩
  | 90 => ⟨S64x16, .i1⟩
  | 91 => ⟨S_, .i32⟩
  | 92 => ⟨S64x16, .i32⟩
  | 93 => ⟨S64x16, .i32⟩
  | 94 => ⟨S64x16, .i32⟩
  | 95 => ⟨S64x16x1, .i32⟩
  | 96 => ⟨S3x256x8x64x16x16x128, .f32⟩
  | 97 => ⟨S16x15x31, .f32⟩
  | 98 => ⟨S256x1x8x1, .i32⟩
  | 99 => ⟨S1x64x1x16, .i32⟩
  | 100 => ⟨S_, .i32⟩
  | 101 => ⟨S256x1x8x1, .i32⟩
  | 102 => ⟨S256x1x8x1, .i1⟩
  | 103 => ⟨S_, .i32⟩
  | 104 => ⟨S256x1x8x1, .i32⟩
  | 105 => ⟨S256x1x8x1, .i32⟩
  | 106 => ⟨S256x1x8x1, .i32⟩
  | 107 => ⟨S_, .i32⟩
  | 108 => ⟨S1x64x1x16, .i32⟩
  | 109 => ⟨S1x64x1x16, .i1⟩
  | 110 => ⟨S_, .i32⟩
  | 111 => ⟨S1x64x1x16, .i32⟩
  | 112 => ⟨S1x64x1x16, .i32⟩
  | 113 => ⟨S1x64x1x16, .i32⟩
  | 114 => ⟨S256x64x8x16, .i32⟩
  | 115 => ⟨S256x64x8x16, .i32⟩
  | 116 => ⟨S256x64x8x16x1, .i32⟩
  | 117 => ⟨S256x64x8x16x1, .i32⟩
  | 118 => ⟨S256x64x8x16x2, .i32⟩
  | 119 => ⟨S16x256x64x8x16, .f32⟩
  | 120 => ⟨S3x16x256x64x8x16, .f32⟩
  | 121 => ⟨S1x16x256x64x8x16, .f32⟩
  | 122 => ⟨S3x16x256x64x8x16, .f32⟩
  | 123 => ⟨S3x16x256x64x8x16, .f32⟩
  | 124 => ⟨S3x16x256x64x128, .f32⟩
  | 125 => ⟨S_, .f32⟩
  | 126 => ⟨S3x16x256x64, .f32⟩
  | 127 => ⟨S_, .f32⟩
  | _ => ⟨S3x16384x6144, .f32⟩

abbrev hbmTy0_1 (i : Nat) : BufTy := match i % 128 with
  | 0 => ⟨S3x16x256x64, .f32⟩
  | 1 => ⟨S3x16x256x64, .f32⟩
  | 2 => ⟨S3x16x256x64x1, .f32⟩
  | 3 => ⟨S3x16x256x64x128, .f32⟩
  | 4 => ⟨S3x16x256x64x128, .f32⟩
  | 5 => ⟨S3x16x256x64x128, .f32⟩
  | 6 => ⟨S_, .f32⟩
  | 7 => ⟨S3x16x256x64, .f32⟩
  | 8 => ⟨S3x16x256x64x1, .f32⟩
  | 9 => ⟨S3x16x256x64x128, .f32⟩
  | 10 => ⟨S3x16x256x64x128, .f32⟩
  | 11 => ⟨S3x16x256x64x8x16, .f32⟩
  | 12 => ⟨S3x256x64x16x128, .f32⟩
  | 13 => ⟨S49152x16x128, .f32⟩
  | 14 => ⟨S16x49152x128, .f32⟩
  | 15 => ⟨S16x49152x128, .bf16⟩
  | _ => ⟨S3x16384x6144, .f32⟩

abbrev hbmTy (i : Nat) : BufTy := match i / 128 with
  | 0 => hbmTy0_0 i
  | 1 => hbmTy0_1 i
  | _ => ⟨S3x16384x6144, .f32⟩

abbrev bufTy : (tb : Table) → Fin (tcTables nBuf tb) → BufTy
  | .hbm, ⟨i, _⟩ => hbmTy i
  | _, _ => ⟨S3x16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_c_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]
-- ==== Up.lean ====
abbrev S49152x2048 : Shape := ⟨2, ![49152, 2048]⟩
abbrev S2048x5632 : Shape := ⟨2, ![2048, 5632]⟩
abbrev S49152x5632 : Shape := ⟨2, ![49152, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S49152x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S49152x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S49152x2048 : Shape := ⟨2, ![49152, 2048]⟩
abbrev S2048x5632 : Shape := ⟨2, ![2048, 5632]⟩
abbrev S49152x5632 : Shape := ⟨2, ![49152, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S49152x2048, .bf16⟩
  | .hbm, ⟨1, _⟩ => ⟨S2048x5632, .f32⟩
  | .hbm, ⟨2, _⟩ => ⟨S2048x5632, .f32⟩
  | .hbm, ⟨3, _⟩ => ⟨S49152x2048, .f32⟩
  | .hbm, ⟨4, _⟩ => ⟨S49152x5632, .f32⟩
  | .hbm, ⟨5, _⟩ => ⟨S49152x5632, .f32⟩
  | .hbm, ⟨6, _⟩ => ⟨S49152x5632, .f32⟩
  | .hbm, ⟨7, _⟩ => ⟨S_, .f32⟩
  | .hbm, ⟨8, _⟩ => ⟨S49152x5632, .f32⟩
  | .hbm, ⟨9, _⟩ => ⟨S49152x5632, .f32⟩
  | .hbm, ⟨10, _⟩ => ⟨S_, .f32⟩
  | .hbm, ⟨11, _⟩ => ⟨S49152x5632, .f32⟩
  | .hbm, ⟨12, _⟩ => ⟨S49152x5632, .f32⟩
  | .hbm, ⟨13, _⟩ => ⟨S49152x5632, .f32⟩
  | .hbm, ⟨14, _⟩ => ⟨S49152x5632, .f32⟩
  | .hbm, ⟨15, _⟩ => ⟨S49152x5632, .f32⟩
  | .hbm, ⟨16, _⟩ => ⟨S49152x5632, .bf16⟩
  | _, _ => ⟨S49152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Prompt.lean ====
abbrev S49152x5632 : Shape := ⟨2, ![49152, 5632]⟩
abbrev S5632x2048 : Shape := ⟨2, ![5632, 2048]⟩
abbrev S49152x2048 : Shape := ⟨2, ![49152, 2048]⟩
abbrev S2048 : Shape := ⟨1, ![2048]⟩
abbrev S1x2048 : Shape := ⟨2, ![1, 2048]⟩
abbrev S16384x2048 : Shape := ⟨2, ![16384, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S49152x5632, .bf16⟩
  | .hbm, ⟨1, _⟩ => ⟨S5632x2048, .f32⟩
  | .hbm, ⟨2, _⟩ => ⟨S49152x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S49152x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PromptReferenceIdeal.lean ====
abbrev S49152x5632 : Shape := ⟨2, ![49152, 5632]⟩
abbrev S5632x2048 : Shape := ⟨2, ![5632, 2048]⟩
abbrev S49152x2048 : Shape := ⟨2, ![49152, 2048]⟩
abbrev S2048 : Shape := ⟨1, ![2048]⟩
abbrev S16384x5632 : Shape := ⟨2, ![16384, 5632]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S49152x5632, .bf16⟩
  | .hbm, ⟨1, _⟩ => ⟨S5632x2048, .f32⟩
  | .hbm, ⟨2, _⟩ => ⟨S49152x2048, .f32⟩
  | .hbm, ⟨3, _⟩ => ⟨S2048, .f32⟩
  | .hbm, ⟨4, _⟩ => ⟨S16384x5632, .bf16⟩
  | .hbm, ⟨5, _⟩ => ⟨S16384x2048, .f32⟩
  | .hbm, ⟨6, _⟩ => ⟨S16384x5632, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | _, _ => ⟨S49152x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Sample.lean ====
abbrev S49152x5632 : Shape := ⟨2, ![49152, 5632]⟩
abbrev S5632x2048 : Shape := ⟨2, ![5632, 2048]⟩
abbrev S49152x2048 : Shape := ⟨2, ![49152, 2048]⟩
abbrev S2048 : Shape := ⟨1, ![2048]⟩
abbrev S1x2048 : Shape := ⟨2, ![1, 2048]⟩
abbrev S32768x2048 : Shape := ⟨2, ![32768, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S49152x5632, .bf16⟩
  | .hbm, ⟨1, _⟩ => ⟨S5632x2048, .f32⟩
  | .hbm, ⟨2, _⟩ => ⟨S49152x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S32768x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S49152x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SampleReferenceIdeal.lean ====
abbrev S49152x5632 : Shape := ⟨2, ![49152, 5632]⟩
abbrev S5632x2048 : Shape := ⟨2, ![5632, 2048]⟩
abbrev S49152x2048 : Shape := ⟨2, ![49152, 2048]⟩
abbrev S2048 : Shape := ⟨1, ![2048]⟩
abbrev S32768x5632 : Shape := ⟨2, ![32768, 5632]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S49152x5632, .bf16⟩
  | .hbm, ⟨1, _⟩ => ⟨S5632x2048, .f32⟩
  | .hbm, ⟨2, _⟩ => ⟨S49152x2048, .f32⟩
  | .hbm, ⟨3, _⟩ => ⟨S2048, .f32⟩
  | .hbm, ⟨4, _⟩ => ⟨S32768x5632, .bf16⟩
  | .hbm, ⟨5, _⟩ => ⟨S32768x2048, .f32⟩
  | .hbm, ⟨6, _⟩ => ⟨S32768x5632, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | _, _ => ⟨S49152x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Mla.lean ====
abbrev S3x16384x16x128 : Shape := ⟨4, ![3, 16384, 16, 128]⟩
abbrev S3x16384x16x64 : Shape := ⟨4, ![3, 16384, 16, 64]⟩
abbrev S3x16384x64 : Shape := ⟨3, ![3, 16384, 64]⟩
abbrev S_ : Shape := ⟨0, ![]⟩
abbrev S49152x16x64 : Shape := ⟨3, ![49152, 16, 64]⟩
abbrev S49152x16x128 : Shape := ⟨3, ![49152, 16, 128]⟩
abbrev S49152x16x256 : Shape := ⟨3, ![49152, 16, 256]⟩
abbrev S49152x1x64 : Shape := ⟨3, ![49152, 1, 64]⟩
abbrev S16x49152x256 : Shape := ⟨3, ![16, 49152, 256]⟩
abbrev S16x16x49152 : Shape := ⟨3, ![16, 16, 49152]⟩
abbrev S16x128x49152 : Shape := ⟨3, ![16, 128, 49152]⟩
abbrev S16x144x49152 : Shape := ⟨3, ![16, 144, 49152]⟩
abbrev S16x49152x128 : Shape := ⟨3, ![16, 49152, 128]⟩
abbrev S1x2048x256 : Shape := ⟨3, ![1, 2048, 256]⟩
abbrev S1x16384x256 : Shape := ⟨3, ![1, 16384, 256]⟩
abbrev S1x144x16384 : Shape := ⟨3, ![1, 144, 16384]⟩
abbrev S1x2048x128 : Shape := ⟨3, ![1, 2048, 128]⟩
abbrev S1x2048 : Shape := ⟨2, ![1, 2048]⟩
abbrev S144x2048 : Shape := ⟨2, ![144, 2048]⟩
abbrev S1024x2048 : Shape := ⟨2, ![1024, 2048]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩
abbrev S144x256 : Shape := ⟨2, ![144, 256]⟩
abbrev S1x144x1024 : Shape := ⟨3, ![1, 144, 1024]⟩
abbrev S144x1024 : Shape := ⟨2, ![144, 1024]⟩
abbrev S128x2048 : Shape := ⟨2, ![128, 2048]⟩
abbrev S2048x128 : Shape := ⟨2, ![2048, 128]⟩

abbrev nBuf : Space → Nat
  | .hbm => 44
  | .vmem => 14
  | .smem => 0
  | _ => 0

abbrev bufTy : (tb : Table) → Fin (tcTables nBuf tb) → BufTy
  | .hbm, ⟨0, _⟩ => ⟨S3x16384x16x128, .f32⟩
  | .hbm, ⟨1, _⟩ => ⟨S3x16384x16x64, .f32⟩
  | .hbm, ⟨2, _⟩ => ⟨S3x16384x16x128, .f32⟩
  | .hbm, ⟨3, _⟩ => ⟨S3x16384x64, .f32⟩
  | .hbm, ⟨4, _⟩ => ⟨S3x16384x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S49152x16x64, .f32⟩
  | .hbm, ⟨14, _⟩ => ⟨S49152x16x128, .f32⟩
  | .hbm, ⟨15, _⟩ => ⟨S49152x16x128, .f32⟩
  | .hbm, ⟨16, _⟩ => ⟨S49152x16x128, .f32⟩
  | .hbm, ⟨17, _⟩ => ⟨S49152x16x64, .f32⟩
  | .hbm, ⟨18, _⟩ => ⟨S49152x16x64, .f32⟩
  | .hbm, ⟨19, _⟩ => ⟨S49152x16x64, .f32⟩
  | .hbm, ⟨20, _⟩ => ⟨S49152x16x256, .f32⟩
  | .hbm, ⟨21, _⟩ => ⟨S49152x1x64, .f32⟩
  | .hbm, ⟨22, _⟩ => ⟨S49152x16x64, .f32⟩
  | .hbm, ⟨23, _⟩ => ⟨S49152x16x128, .f32⟩
  | .hbm, ⟨24, _⟩ => ⟨S49152x16x256, .f32⟩
  | .hbm, ⟨25, _⟩ => ⟨S16x49152x256, .f32⟩
  | .hbm, ⟨26, _⟩ => ⟨S16x49152x256, .bf16⟩
  | .hbm, ⟨27, _⟩ => ⟨S16x49152x256, .f32⟩
  | .hbm, ⟨28, _⟩ => ⟨S16x49152x256, .bf16⟩
  | .hbm, ⟨29, _⟩ => ⟨S16x16x49152, .i32⟩
  | .hbm, ⟨30, _⟩ => ⟨S_, .i32⟩
  | .hbm, ⟨31, _⟩ => ⟨S16x16x49152, .i32⟩
  | .hbm, ⟨32, _⟩ => ⟨S16x16x49152, .i1⟩
  | .hbm, ⟨33, _⟩ => ⟨S_, .f32⟩
  | .hbm, ⟨34, _⟩ => ⟨S_, .f32⟩
  | .hbm, ⟨35, _⟩ => ⟨S16x16x49152, .f32⟩
  | .hbm, ⟨36, _⟩ => ⟨S16x16x49152, .f32⟩
  | .hbm, ⟨37, _⟩ => ⟨S16x16x49152, .f32⟩
  | .hbm, ⟨38, _⟩ => ⟨S49152x16x128, .f32⟩
  | .hbm, ⟨39, _⟩ => ⟨S16x128x49152, .f32⟩
  | .hbm, ⟨40, _⟩ => ⟨S16x16x49152, .f32⟩
  | .hbm, ⟨41, _⟩ => ⟨S16x144x49152, .f32⟩
  | .hbm, ⟨42, _⟩ => ⟨S16x144x49152, .bf16⟩
  | .hbm, ⟨43, _⟩ => ⟨S16x49152x128, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x144x16384, .bf16⟩
  | .local _ .vmem, ⟨5, _⟩ => ⟨S1x144x16384, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048, .f32⟩
  | .local _ .vmem, ⟨9, _⟩ => ⟨S144x2048, .f32⟩
  | .local _ .vmem, ⟨10, _⟩ => ⟨S1024x2048, .f32⟩
  | .local _ .vmem, ⟨11, _⟩ => ⟨S1024x2048, .f32⟩
  | .local _ .vmem, ⟨12, _⟩ => ⟨S1x2048, .f32⟩
  | .local _ .vmem, ⟨13, _⟩ => ⟨S1x2048, .f32⟩
  | _, _ => ⟨S3x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 16, 8], ![false, false, false]⟩

def k0_mult1 : BitVec 32 :=
  let c0_i32 : BitVec 32 := 0#32
  c0_i32
def k0_mult2 : BitVec 32 :=
  let c0_i32_12 : BitVec 32 := 0#32
  c0_i32_12
def k0_mult3 : BitVec 32 :=
  let c0_i32_23 : BitVec 32 := 0#32
  c0_i32_23
def k0_mult4 : BitVec 32 :=
  let c0_i32_34 : BitVec 32 := 0#32
  c0_i32_34
def k0_mult5 : BitVec 32 :=
  let c0_i32_45 : BitVec 32 := 0#32
  c0_i32_45
def k0_mult6 : BitVec 32 :=
  let c0_i32_56 : BitVec 32 := 0#32
  c0_i32_56
def k0_mult7 : BitVec 32 :=
  let c0_i32_67 : BitVec 32 := 0#32
  c0_i32_67
def k0_mult8 : BitVec 32 :=
  let c0_i32_78 : BitVec 32 := 0#32
  c0_i32_78
@[reducible] def k0_t1_loop : Scf.Loop 32 :=
  let c0_i32_93 : BitVec 32 := 0#32
  let c2_i32 : BitVec 32 := 2#32
  let v128 : BitVec 32 := Scalar.addi c0_i32_93 c2_i32
  let c1_i32 : BitVec 32 := 1#32
  ⟨c0_i32_93, v128, c1_i32⟩
def k0_mult9 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_905 : BitVec 32 := 1#32
  let v1314 : BitVec 32 := Scalar.addi v1300 c1_i32_905
  let c1024_i32 : BitVec 32 := 1024#32
  let v1315 : BitVec 32 := Scalar.muli v1314 c1024_i32
  v1315
def k0_off1 (k0_t1 : Fin k0_t1_loop.trips) (c0_i32_896 : BitVec 32) : Fin 3 → Nat :=
  let c0_906 : Index := 0#32
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let v1300 : BitVec 32 := Scalar.addi v1299 c0_i32_896
  let c1_i32_905 : BitVec 32 := 1#32
  let v1314 : BitVec 32 := Scalar.addi v1300 c1_i32_905
  let c1024_i32 : BitVec 32 := 1024#32
  let v1315 : BitVec 32 := Scalar.muli v1314 c1024_i32
  let v1316 : BitVec 32 := v1315
  let v1317 : Index := Scalar.indexCast v1316
  let c0_907 : Index := 0#32
  ![0, v1317.toNat, 0]
def k0_mult10 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_917 : BitVec 32 := 1024#32
  let v1331 : BitVec 32 := Scalar.muli v1300 c1024_i32_917
  v1331
def k0_off2 (k0_t1 : Fin k0_t1_loop.trips) (c0_i32_896 : BitVec 32) : Fin 3 → Nat :=
  let c0_920 : Index := 0#32
  let c0_921 : Index := 0#32
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let v1300 : BitVec 32 := Scalar.addi v1299 c0_i32_896
  let c1024_i32_917 : BitVec 32 := 1024#32
  let v1331 : BitVec 32 := Scalar.muli v1300 c1024_i32_917
  let v1332 : BitVec 32 := v1331
  let v1336 : Index := Scalar.indexCast v1332
  ![0, 0, v1336.toNat]
def k0_mult11 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_933 : BitVec 32 := 1#32
  let v1357 : BitVec 32 := Scalar.addi v1300 c1_i32_933
  let c1024_i32_934 : BitVec 32 := 1024#32
  let v1358 : BitVec 32 := Scalar.muli v1357 c1024_i32_934
  v1358
def k0_mult12 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_946 : BitVec 32 := 1024#32
  let v1374 : BitVec 32 := Scalar.muli v1300 c1024_i32_946
  v1374
def k0_mult13 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_962 : BitVec 32 := 1#32
  let v1400 : BitVec 32 := Scalar.addi v1300 c1_i32_962
  let c1024_i32_963 : BitVec 32 := 1024#32
  let v1401 : BitVec 32 := Scalar.muli v1400 c1024_i32_963
  v1401
def k0_mult14 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_975 : BitVec 32 := 1024#32
  let v1417 : BitVec 32 := Scalar.muli v1300 c1024_i32_975
  v1417
def k0_mult15 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_991 : BitVec 32 := 1#32
  let v1443 : BitVec 32 := Scalar.addi v1300 c1_i32_991
  let c1024_i32_992 : BitVec 32 := 1024#32
  let v1444 : BitVec 32 := Scalar.muli v1443 c1024_i32_992
  v1444
def k0_mult16 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_1004 : BitVec 32 := 1024#32
  let v1460 : BitVec 32 := Scalar.muli v1300 c1024_i32_1004
  v1460
def k0_mult17 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_1020 : BitVec 32 := 1#32
  let v1486 : BitVec 32 := Scalar.addi v1300 c1_i32_1020
  let c1024_i32_1021 : BitVec 32 := 1024#32
  let v1487 : BitVec 32 := Scalar.muli v1486 c1024_i32_1021
  v1487
def k0_mult18 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_1033 : BitVec 32 := 1024#32
  let v1503 : BitVec 32 := Scalar.muli v1300 c1024_i32_1033
  v1503
def k0_mult19 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_1049 : BitVec 32 := 1#32
  let v1529 : BitVec 32 := Scalar.addi v1300 c1_i32_1049
  let c1024_i32_1050 : BitVec 32 := 1024#32
  let v1530 : BitVec 32 := Scalar.muli v1529 c1024_i32_1050
  v1530
def k0_mult20 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_1062 : BitVec 32 := 1024#32
  let v1546 : BitVec 32 := Scalar.muli v1300 c1024_i32_1062
  v1546
def k0_mult21 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_1078 : BitVec 32 := 1#32
  let v1572 : BitVec 32 := Scalar.addi v1300 c1_i32_1078
  let c1024_i32_1079 : BitVec 32 := 1024#32
  let v1573 : BitVec 32 := Scalar.muli v1572 c1024_i32_1079
  v1573
def k0_mult22 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_1091 : BitVec 32 := 1024#32
  let v1589 : BitVec 32 := Scalar.muli v1300 c1024_i32_1091
  v1589
def k0_mult23 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1_i32_1107 : BitVec 32 := 1#32
  let v1615 : BitVec 32 := Scalar.addi v1300 c1_i32_1107
  let c1024_i32_1108 : BitVec 32 := 1024#32
  let v1616 : BitVec 32 := Scalar.muli v1615 c1024_i32_1108
  v1616
def k0_mult24 (k0_t1 : Fin k0_t1_loop.trips) : BitVec 32 :=
  let c6_i32 : BitVec 32 := 6#32
  let c0_i32_93 : BitVec 32 := 0#32
  let c1_i32 : BitVec 32 := 1#32
  let arg13 : BitVec 32 := Scf.iv c0_i32_93 c1_i32 k0_t1
  let v1299 : BitVec 32 := Scalar.muli c6_i32 arg13
  let c0_i32_896 : BitVec 32 := 0#32
  let v1300 : BitVec 32 := Scalar.addi v1299 c0_i32_896
  let c1024_i32_1120 : BitVec 32 := 1024#32
  let v1632 : BitVec 32 := Scalar.muli v1300 c1024_i32_1120
  v1632
def k0_mult25 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1138 : BitVec 32 := 1#32
  let v1660 : BitVec 32 := Scalar.addi v1646 c1_i32_1138
  let c1024_i32_1139 : BitVec 32 := 1024#32
  let v1661 : BitVec 32 := Scalar.muli v1660 c1024_i32_1139
  v1661
def k0_mult26 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1151 : BitVec 32 := 1024#32
  let v1677 : BitVec 32 := Scalar.muli v1646 c1024_i32_1151
  v1677
def k0_mult27 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1167 : BitVec 32 := 1#32
  let v1703 : BitVec 32 := Scalar.addi v1646 c1_i32_1167
  let c1024_i32_1168 : BitVec 32 := 1024#32
  let v1704 : BitVec 32 := Scalar.muli v1703 c1024_i32_1168
  v1704
def k0_mult28 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1180 : BitVec 32 := 1024#32
  let v1720 : BitVec 32 := Scalar.muli v1646 c1024_i32_1180
  v1720
def k0_mult29 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1196 : BitVec 32 := 1#32
  let v1746 : BitVec 32 := Scalar.addi v1646 c1_i32_1196
  let c1024_i32_1197 : BitVec 32 := 1024#32
  let v1747 : BitVec 32 := Scalar.muli v1746 c1024_i32_1197
  v1747
def k0_mult30 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1209 : BitVec 32 := 1024#32
  let v1763 : BitVec 32 := Scalar.muli v1646 c1024_i32_1209
  v1763
def k0_mult31 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1225 : BitVec 32 := 1#32
  let v1789 : BitVec 32 := Scalar.addi v1646 c1_i32_1225
  let c1024_i32_1226 : BitVec 32 := 1024#32
  let v1790 : BitVec 32 := Scalar.muli v1789 c1024_i32_1226
  v1790
def k0_mult32 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1238 : BitVec 32 := 1024#32
  let v1806 : BitVec 32 := Scalar.muli v1646 c1024_i32_1238
  v1806
def k0_mult33 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1254 : BitVec 32 := 1#32
  let v1832 : BitVec 32 := Scalar.addi v1646 c1_i32_1254
  let c1024_i32_1255 : BitVec 32 := 1024#32
  let v1833 : BitVec 32 := Scalar.muli v1832 c1024_i32_1255
  v1833
def k0_mult34 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1267 : BitVec 32 := 1024#32
  let v1849 : BitVec 32 := Scalar.muli v1646 c1024_i32_1267
  v1849
def k0_mult35 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1283 : BitVec 32 := 1#32
  let v1875 : BitVec 32 := Scalar.addi v1646 c1_i32_1283
  let c1024_i32_1284 : BitVec 32 := 1024#32
  let v1876 : BitVec 32 := Scalar.muli v1875 c1024_i32_1284
  v1876
def k0_mult36 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1296 : BitVec 32 := 1024#32
  let v1892 : BitVec 32 := Scalar.muli v1646 c1024_i32_1296
  v1892
def k0_mult37 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1312 : BitVec 32 := 1#32
  let v1918 : BitVec 32 := Scalar.addi v1646 c1_i32_1312
  let c1024_i32_1313 : BitVec 32 := 1024#32
  let v1919 : BitVec 32 := Scalar.muli v1918 c1024_i32_1313
  v1919
def k0_mult38 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1325 : BitVec 32 := 1024#32
  let v1935 : BitVec 32 := Scalar.muli v1646 c1024_i32_1325
  v1935
def k0_mult39 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1_i32_1341 : BitVec 32 := 1#32
  let v1961 : BitVec 32 := Scalar.addi v1646 c1_i32_1341
  let c1024_i32_1342 : BitVec 32 := 1024#32
  let v1962 : BitVec 32 := Scalar.muli v1961 c1024_i32_1342
  v1962
def k0_mult40 (k0_t1 : Fin k0_t1_loop.trips) : BitVec 32 :=
  let c6_i32_1128 : BitVec 32 := 6#32
  let c0_i32_93 : BitVec 32 := 0#32
  let c1_i32 : BitVec 32 := 1#32
  let arg13 : BitVec 32 := Scf.iv c0_i32_93 c1_i32 k0_t1
  let v1645 : BitVec 32 := Scalar.muli c6_i32_1128 arg13
  let c1_i32_1129 : BitVec 32 := 1#32
  let v1646 : BitVec 32 := Scalar.addi v1645 c1_i32_1129
  let c1024_i32_1354 : BitVec 32 := 1024#32
  let v1978 : BitVec 32 := Scalar.muli v1646 c1024_i32_1354
  v1978
def k0_mult41 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1372 : BitVec 32 := 1#32
  let v2006 : BitVec 32 := Scalar.addi v1992 c1_i32_1372
  let c1024_i32_1373 : BitVec 32 := 1024#32
  let v2007 : BitVec 32 := Scalar.muli v2006 c1024_i32_1373
  v2007
def k0_mult42 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1385 : BitVec 32 := 1024#32
  let v2023 : BitVec 32 := Scalar.muli v1992 c1024_i32_1385
  v2023
def k0_mult43 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1401 : BitVec 32 := 1#32
  let v2049 : BitVec 32 := Scalar.addi v1992 c1_i32_1401
  let c1024_i32_1402 : BitVec 32 := 1024#32
  let v2050 : BitVec 32 := Scalar.muli v2049 c1024_i32_1402
  v2050
def k0_mult44 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1414 : BitVec 32 := 1024#32
  let v2066 : BitVec 32 := Scalar.muli v1992 c1024_i32_1414
  v2066
def k0_mult45 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1430 : BitVec 32 := 1#32
  let v2092 : BitVec 32 := Scalar.addi v1992 c1_i32_1430
  let c1024_i32_1431 : BitVec 32 := 1024#32
  let v2093 : BitVec 32 := Scalar.muli v2092 c1024_i32_1431
  v2093
def k0_mult46 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1443 : BitVec 32 := 1024#32
  let v2109 : BitVec 32 := Scalar.muli v1992 c1024_i32_1443
  v2109
def k0_mult47 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1459 : BitVec 32 := 1#32
  let v2135 : BitVec 32 := Scalar.addi v1992 c1_i32_1459
  let c1024_i32_1460 : BitVec 32 := 1024#32
  let v2136 : BitVec 32 := Scalar.muli v2135 c1024_i32_1460
  v2136
def k0_mult48 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1472 : BitVec 32 := 1024#32
  let v2152 : BitVec 32 := Scalar.muli v1992 c1024_i32_1472
  v2152
def k0_mult49 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1488 : BitVec 32 := 1#32
  let v2178 : BitVec 32 := Scalar.addi v1992 c1_i32_1488
  let c1024_i32_1489 : BitVec 32 := 1024#32
  let v2179 : BitVec 32 := Scalar.muli v2178 c1024_i32_1489
  v2179
def k0_mult50 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1501 : BitVec 32 := 1024#32
  let v2195 : BitVec 32 := Scalar.muli v1992 c1024_i32_1501
  v2195
def k0_mult51 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1517 : BitVec 32 := 1#32
  let v2221 : BitVec 32 := Scalar.addi v1992 c1_i32_1517
  let c1024_i32_1518 : BitVec 32 := 1024#32
  let v2222 : BitVec 32 := Scalar.muli v2221 c1024_i32_1518
  v2222
def k0_mult52 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1530 : BitVec 32 := 1024#32
  let v2238 : BitVec 32 := Scalar.muli v1992 c1024_i32_1530
  v2238
def k0_mult53 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1546 : BitVec 32 := 1#32
  let v2264 : BitVec 32 := Scalar.addi v1992 c1_i32_1546
  let c1024_i32_1547 : BitVec 32 := 1024#32
  let v2265 : BitVec 32 := Scalar.muli v2264 c1024_i32_1547
  v2265
def k0_mult54 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1559 : BitVec 32 := 1024#32
  let v2281 : BitVec 32 := Scalar.muli v1992 c1024_i32_1559
  v2281
def k0_mult55 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1_i32_1575 : BitVec 32 := 1#32
  let v2307 : BitVec 32 := Scalar.addi v1992 c1_i32_1575
  let c1024_i32_1576 : BitVec 32 := 1024#32
  let v2308 : BitVec 32 := Scalar.muli v2307 c1024_i32_1576
  v2308
def k0_mult56 (k0_t1 : Fin k0_t1_loop.trips) : BitVec 32 :=
  let c6_i32_1362 : BitVec 32 := 6#32
  let c0_i32_93 : BitVec 32 := 0#32
  let c1_i32 : BitVec 32 := 1#32
  let arg13 : BitVec 32 := Scf.iv c0_i32_93 c1_i32 k0_t1
  let v1991 : BitVec 32 := Scalar.muli c6_i32_1362 arg13
  let c2_i32_1363 : BitVec 32 := 2#32
  let v1992 : BitVec 32 := Scalar.addi v1991 c2_i32_1363
  let c1024_i32_1588 : BitVec 32 := 1024#32
  let v2324 : BitVec 32 := Scalar.muli v1992 c1024_i32_1588
  v2324
def k0_mult57 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1605 : BitVec 32 := 1#32
  let v2352 : BitVec 32 := Scalar.addi v2338 c1_i32_1605
  let c1024_i32_1606 : BitVec 32 := 1024#32
  let v2353 : BitVec 32 := Scalar.muli v2352 c1024_i32_1606
  v2353
def k0_mult58 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1618 : BitVec 32 := 1024#32
  let v2369 : BitVec 32 := Scalar.muli v2338 c1024_i32_1618
  v2369
def k0_mult59 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1634 : BitVec 32 := 1#32
  let v2395 : BitVec 32 := Scalar.addi v2338 c1_i32_1634
  let c1024_i32_1635 : BitVec 32 := 1024#32
  let v2396 : BitVec 32 := Scalar.muli v2395 c1024_i32_1635
  v2396
def k0_mult60 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1647 : BitVec 32 := 1024#32
  let v2412 : BitVec 32 := Scalar.muli v2338 c1024_i32_1647
  v2412
def k0_mult61 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1663 : BitVec 32 := 1#32
  let v2438 : BitVec 32 := Scalar.addi v2338 c1_i32_1663
  let c1024_i32_1664 : BitVec 32 := 1024#32
  let v2439 : BitVec 32 := Scalar.muli v2438 c1024_i32_1664
  v2439
def k0_mult62 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1676 : BitVec 32 := 1024#32
  let v2455 : BitVec 32 := Scalar.muli v2338 c1024_i32_1676
  v2455
def k0_mult63 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1692 : BitVec 32 := 1#32
  let v2481 : BitVec 32 := Scalar.addi v2338 c1_i32_1692
  let c1024_i32_1693 : BitVec 32 := 1024#32
  let v2482 : BitVec 32 := Scalar.muli v2481 c1024_i32_1693
  v2482
def k0_mult64 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1705 : BitVec 32 := 1024#32
  let v2498 : BitVec 32 := Scalar.muli v2338 c1024_i32_1705
  v2498
def k0_mult65 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1721 : BitVec 32 := 1#32
  let v2524 : BitVec 32 := Scalar.addi v2338 c1_i32_1721
  let c1024_i32_1722 : BitVec 32 := 1024#32
  let v2525 : BitVec 32 := Scalar.muli v2524 c1024_i32_1722
  v2525
def k0_mult66 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1734 : BitVec 32 := 1024#32
  let v2541 : BitVec 32 := Scalar.muli v2338 c1024_i32_1734
  v2541
def k0_mult67 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1750 : BitVec 32 := 1#32
  let v2567 : BitVec 32 := Scalar.addi v2338 c1_i32_1750
  let c1024_i32_1751 : BitVec 32 := 1024#32
  let v2568 : BitVec 32 := Scalar.muli v2567 c1024_i32_1751
  v2568
def k0_mult68 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1763 : BitVec 32 := 1024#32
  let v2584 : BitVec 32 := Scalar.muli v2338 c1024_i32_1763
  v2584
def k0_mult69 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1779 : BitVec 32 := 1#32
  let v2610 : BitVec 32 := Scalar.addi v2338 c1_i32_1779
  let c1024_i32_1780 : BitVec 32 := 1024#32
  let v2611 : BitVec 32 := Scalar.muli v2610 c1024_i32_1780
  v2611
def k0_mult70 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1792 : BitVec 32 := 1024#32
  let v2627 : BitVec 32 := Scalar.muli v2338 c1024_i32_1792
  v2627
def k0_mult71 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1_i32_1808 : BitVec 32 := 1#32
  let v2653 : BitVec 32 := Scalar.addi v2338 c1_i32_1808
  let c1024_i32_1809 : BitVec 32 := 1024#32
  let v2654 : BitVec 32 := Scalar.muli v2653 c1024_i32_1809
  v2654
def k0_mult72 (k0_t1 : Fin k0_t1_loop.trips) : BitVec 32 :=
  let c6_i32_1596 : BitVec 32 := 6#32
  let c0_i32_93 : BitVec 32 := 0#32
  let c1_i32 : BitVec 32 := 1#32
  let arg13 : BitVec 32 := Scf.iv c0_i32_93 c1_i32 k0_t1
  let v2337 : BitVec 32 := Scalar.muli c6_i32_1596 arg13
  let c3_i32 : BitVec 32 := 3#32
  let v2338 : BitVec 32 := Scalar.addi v2337 c3_i32
  let c1024_i32_1821 : BitVec 32 := 1024#32
  let v2670 : BitVec 32 := Scalar.muli v2338 c1024_i32_1821
  v2670
def k0_mult73 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_1838 : BitVec 32 := 1#32
  let v2698 : BitVec 32 := Scalar.addi v2684 c1_i32_1838
  let c1024_i32_1839 : BitVec 32 := 1024#32
  let v2699 : BitVec 32 := Scalar.muli v2698 c1024_i32_1839
  v2699
def k0_mult74 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_1851 : BitVec 32 := 1024#32
  let v2715 : BitVec 32 := Scalar.muli v2684 c1024_i32_1851
  v2715
def k0_mult75 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_1867 : BitVec 32 := 1#32
  let v2741 : BitVec 32 := Scalar.addi v2684 c1_i32_1867
  let c1024_i32_1868 : BitVec 32 := 1024#32
  let v2742 : BitVec 32 := Scalar.muli v2741 c1024_i32_1868
  v2742
def k0_mult76 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_1880 : BitVec 32 := 1024#32
  let v2758 : BitVec 32 := Scalar.muli v2684 c1024_i32_1880
  v2758
def k0_mult77 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_1896 : BitVec 32 := 1#32
  let v2784 : BitVec 32 := Scalar.addi v2684 c1_i32_1896
  let c1024_i32_1897 : BitVec 32 := 1024#32
  let v2785 : BitVec 32 := Scalar.muli v2784 c1024_i32_1897
  v2785
def k0_mult78 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_1909 : BitVec 32 := 1024#32
  let v2801 : BitVec 32 := Scalar.muli v2684 c1024_i32_1909
  v2801
def k0_mult79 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_1925 : BitVec 32 := 1#32
  let v2827 : BitVec 32 := Scalar.addi v2684 c1_i32_1925
  let c1024_i32_1926 : BitVec 32 := 1024#32
  let v2828 : BitVec 32 := Scalar.muli v2827 c1024_i32_1926
  v2828
def k0_mult80 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_1938 : BitVec 32 := 1024#32
  let v2844 : BitVec 32 := Scalar.muli v2684 c1024_i32_1938
  v2844
def k0_mult81 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_1954 : BitVec 32 := 1#32
  let v2870 : BitVec 32 := Scalar.addi v2684 c1_i32_1954
  let c1024_i32_1955 : BitVec 32 := 1024#32
  let v2871 : BitVec 32 := Scalar.muli v2870 c1024_i32_1955
  v2871
def k0_mult82 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_1967 : BitVec 32 := 1024#32
  let v2887 : BitVec 32 := Scalar.muli v2684 c1024_i32_1967
  v2887
def k0_mult83 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_1983 : BitVec 32 := 1#32
  let v2913 : BitVec 32 := Scalar.addi v2684 c1_i32_1983
  let c1024_i32_1984 : BitVec 32 := 1024#32
  let v2914 : BitVec 32 := Scalar.muli v2913 c1024_i32_1984
  v2914
def k0_mult84 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_1996 : BitVec 32 := 1024#32
  let v2930 : BitVec 32 := Scalar.muli v2684 c1024_i32_1996
  v2930
def k0_mult85 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_2012 : BitVec 32 := 1#32
  let v2956 : BitVec 32 := Scalar.addi v2684 c1_i32_2012
  let c1024_i32_2013 : BitVec 32 := 1024#32
  let v2957 : BitVec 32 := Scalar.muli v2956 c1024_i32_2013
  v2957
def k0_mult86 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_2025 : BitVec 32 := 1024#32
  let v2973 : BitVec 32 := Scalar.muli v2684 c1024_i32_2025
  v2973
def k0_mult87 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1_i32_2041 : BitVec 32 := 1#32
  let v2999 : BitVec 32 := Scalar.addi v2684 c1_i32_2041
  let c1024_i32_2042 : BitVec 32 := 1024#32
  let v3000 : BitVec 32 := Scalar.muli v2999 c1024_i32_2042
  v3000
def k0_mult88 (k0_t1 : Fin k0_t1_loop.trips) : BitVec 32 :=
  let c6_i32_1829 : BitVec 32 := 6#32
  let c0_i32_93 : BitVec 32 := 0#32
  let c1_i32 : BitVec 32 := 1#32
  let arg13 : BitVec 32 := Scf.iv c0_i32_93 c1_i32 k0_t1
  let v2683 : BitVec 32 := Scalar.muli c6_i32_1829 arg13
  let c4_i32 : BitVec 32 := 4#32
  let v2684 : BitVec 32 := Scalar.addi v2683 c4_i32
  let c1024_i32_2054 : BitVec 32 := 1024#32
  let v3016 : BitVec 32 := Scalar.muli v2684 c1024_i32_2054
  v3016
def k0_mult89 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2071 : BitVec 32 := 1#32
  let v3044 : BitVec 32 := Scalar.addi v3030 c1_i32_2071
  let c1024_i32_2072 : BitVec 32 := 1024#32
  let v3045 : BitVec 32 := Scalar.muli v3044 c1024_i32_2072
  v3045
def k0_mult90 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2084 : BitVec 32 := 1024#32
  let v3061 : BitVec 32 := Scalar.muli v3030 c1024_i32_2084
  v3061
def k0_mult91 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2100 : BitVec 32 := 1#32
  let v3087 : BitVec 32 := Scalar.addi v3030 c1_i32_2100
  let c1024_i32_2101 : BitVec 32 := 1024#32
  let v3088 : BitVec 32 := Scalar.muli v3087 c1024_i32_2101
  v3088
def k0_mult92 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2113 : BitVec 32 := 1024#32
  let v3104 : BitVec 32 := Scalar.muli v3030 c1024_i32_2113
  v3104
def k0_mult93 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2129 : BitVec 32 := 1#32
  let v3130 : BitVec 32 := Scalar.addi v3030 c1_i32_2129
  let c1024_i32_2130 : BitVec 32 := 1024#32
  let v3131 : BitVec 32 := Scalar.muli v3130 c1024_i32_2130
  v3131
def k0_mult94 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2142 : BitVec 32 := 1024#32
  let v3147 : BitVec 32 := Scalar.muli v3030 c1024_i32_2142
  v3147
def k0_mult95 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2158 : BitVec 32 := 1#32
  let v3173 : BitVec 32 := Scalar.addi v3030 c1_i32_2158
  let c1024_i32_2159 : BitVec 32 := 1024#32
  let v3174 : BitVec 32 := Scalar.muli v3173 c1024_i32_2159
  v3174
def k0_mult96 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2171 : BitVec 32 := 1024#32
  let v3190 : BitVec 32 := Scalar.muli v3030 c1024_i32_2171
  v3190
def k0_mult97 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2187 : BitVec 32 := 1#32
  let v3216 : BitVec 32 := Scalar.addi v3030 c1_i32_2187
  let c1024_i32_2188 : BitVec 32 := 1024#32
  let v3217 : BitVec 32 := Scalar.muli v3216 c1024_i32_2188
  v3217
def k0_mult98 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2200 : BitVec 32 := 1024#32
  let v3233 : BitVec 32 := Scalar.muli v3030 c1024_i32_2200
  v3233
def k0_mult99 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2216 : BitVec 32 := 1#32
  let v3259 : BitVec 32 := Scalar.addi v3030 c1_i32_2216
  let c1024_i32_2217 : BitVec 32 := 1024#32
  let v3260 : BitVec 32 := Scalar.muli v3259 c1024_i32_2217
  v3260
def k0_mult100 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2229 : BitVec 32 := 1024#32
  let v3276 : BitVec 32 := Scalar.muli v3030 c1024_i32_2229
  v3276
def k0_mult101 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2245 : BitVec 32 := 1#32
  let v3302 : BitVec 32 := Scalar.addi v3030 c1_i32_2245
  let c1024_i32_2246 : BitVec 32 := 1024#32
  let v3303 : BitVec 32 := Scalar.muli v3302 c1024_i32_2246
  v3303
def k0_mult102 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2258 : BitVec 32 := 1024#32
  let v3319 : BitVec 32 := Scalar.muli v3030 c1024_i32_2258
  v3319
def k0_mult103 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1_i32_2274 : BitVec 32 := 1#32
  let v3345 : BitVec 32 := Scalar.addi v3030 c1_i32_2274
  let c1024_i32_2275 : BitVec 32 := 1024#32
  let v3346 : BitVec 32 := Scalar.muli v3345 c1024_i32_2275
  v3346
def k0_mult104 (k0_t1 : Fin k0_t1_loop.trips) : BitVec 32 :=
  let c6_i32_2062 : BitVec 32 := 6#32
  let c0_i32_93 : BitVec 32 := 0#32
  let c1_i32 : BitVec 32 := 1#32
  let arg13 : BitVec 32 := Scf.iv c0_i32_93 c1_i32 k0_t1
  let v3029 : BitVec 32 := Scalar.muli c6_i32_2062 arg13
  let c5_i32 : BitVec 32 := 5#32
  let v3030 : BitVec 32 := Scalar.addi v3029 c5_i32
  let c1024_i32_2287 : BitVec 32 := 1024#32
  let v3362 : BitVec 32 := Scalar.muli v3030 c1024_i32_2287
  v3362
def k0_mult105 : BitVec 32 :=
  let c13312_i32 : BitVec 32 := 13312#32
  c13312_i32
def k0_mult106 : BitVec 32 :=
  let c12288_i32 : BitVec 32 := 12288#32
  c12288_i32
def k0_mult107 : BitVec 32 :=
  let c13312_i32_129 : BitVec 32 := 13312#32
  c13312_i32_129
def k0_mult108 : BitVec 32 :=
  let c12288_i32_141 : BitVec 32 := 12288#32
  c12288_i32_141
def k0_mult109 : BitVec 32 :=
  let c13312_i32_157 : BitVec 32 := 13312#32
  c13312_i32_157
def k0_mult110 : BitVec 32 :=
  let c12288_i32_169 : BitVec 32 := 12288#32
  c12288_i32_169
def k0_mult111 : BitVec 32 :=
  let c13312_i32_185 : BitVec 32 := 13312#32
  c13312_i32_185
def k0_mult112 : BitVec 32 :=
  let c12288_i32_197 : BitVec 32 := 12288#32
  c12288_i32_197
def k0_mult113 : BitVec 32 :=
  let c13312_i32_213 : BitVec 32 := 13312#32
  c13312_i32_213
def k0_mult114 : BitVec 32 :=
  let c12288_i32_225 : BitVec 32 := 12288#32
  c12288_i32_225
def k0_mult115 : BitVec 32 :=
  let c13312_i32_241 : BitVec 32 := 13312#32
  c13312_i32_241
def k0_mult116 : BitVec 32 :=
  let c12288_i32_253 : BitVec 32 := 12288#32
  c12288_i32_253
def k0_mult117 : BitVec 32 :=
  let c13312_i32_269 : BitVec 32 := 13312#32
  c13312_i32_269
def k0_mult118 : BitVec 32 :=
  let c12288_i32_281 : BitVec 32 := 12288#32
  c12288_i32_281
def k0_mult119 : BitVec 32 :=
  let c13312_i32_297 : BitVec 32 := 13312#32
  c13312_i32_297
def k0_mult120 : BitVec 32 :=
  let c12288_i32_309 : BitVec 32 := 12288#32
  c12288_i32_309
def k0_mult121 : BitVec 32 :=
  let c14336_i32 : BitVec 32 := 14336#32
  c14336_i32
def k0_mult122 : BitVec 32 :=
  let c13312_i32_336 : BitVec 32 := 13312#32
  c13312_i32_336
def k0_mult123 : BitVec 32 :=
  let c14336_i32_352 : BitVec 32 := 14336#32
  c14336_i32_352
def k0_mult124 : BitVec 32 :=
  let c13312_i32_364 : BitVec 32 := 13312#32
  c13312_i32_364
def k0_mult125 : BitVec 32 :=
  let c14336_i32_380 : BitVec 32 := 14336#32
  c14336_i32_380
def k0_mult126 : BitVec 32 :=
  let c13312_i32_392 : BitVec 32 := 13312#32
  c13312_i32_392
def k0_mult127 : BitVec 32 :=
  let c14336_i32_408 : BitVec 32 := 14336#32
  c14336_i32_408
def k0_mult128 : BitVec 32 :=
  let c13312_i32_420 : BitVec 32 := 13312#32
  c13312_i32_420
def k0_mult129 : BitVec 32 :=
  let c14336_i32_436 : BitVec 32 := 14336#32
  c14336_i32_436
def k0_mult130 : BitVec 32 :=
  let c13312_i32_448 : BitVec 32 := 13312#32
  c13312_i32_448
def k0_mult131 : BitVec 32 :=
  let c14336_i32_464 : BitVec 32 := 14336#32
  c14336_i32_464
def k0_mult132 : BitVec 32 :=
  let c13312_i32_476 : BitVec 32 := 13312#32
  c13312_i32_476
def k0_mult133 : BitVec 32 :=
  let c14336_i32_492 : BitVec 32 := 14336#32
  c14336_i32_492
def k0_mult134 : BitVec 32 :=
  let c13312_i32_504 : BitVec 32 := 13312#32
  c13312_i32_504
def k0_mult135 : BitVec 32 :=
  let c14336_i32_520 : BitVec 32 := 14336#32
  c14336_i32_520
def k0_mult136 : BitVec 32 :=
  let c13312_i32_532 : BitVec 32 := 13312#32
  c13312_i32_532
def k0_mult137 : BitVec 32 :=
  let c15360_i32 : BitVec 32 := 15360#32
  c15360_i32
def k0_mult138 : BitVec 32 :=
  let c14336_i32_559 : BitVec 32 := 14336#32
  c14336_i32_559
def k0_mult139 : BitVec 32 :=
  let c15360_i32_575 : BitVec 32 := 15360#32
  c15360_i32_575
def k0_mult140 : BitVec 32 :=
  let c14336_i32_587 : BitVec 32 := 14336#32
  c14336_i32_587
def k0_mult141 : BitVec 32 :=
  let c15360_i32_603 : BitVec 32 := 15360#32
  c15360_i32_603
def k0_mult142 : BitVec 32 :=
  let c14336_i32_615 : BitVec 32 := 14336#32
  c14336_i32_615
def k0_mult143 : BitVec 32 :=
  let c15360_i32_631 : BitVec 32 := 15360#32
  c15360_i32_631
def k0_mult144 : BitVec 32 :=
  let c14336_i32_643 : BitVec 32 := 14336#32
  c14336_i32_643
def k0_mult145 : BitVec 32 :=
  let c15360_i32_659 : BitVec 32 := 15360#32
  c15360_i32_659
def k0_mult146 : BitVec 32 :=
  let c14336_i32_671 : BitVec 32 := 14336#32
  c14336_i32_671
def k0_mult147 : BitVec 32 :=
  let c15360_i32_687 : BitVec 32 := 15360#32
  c15360_i32_687
def k0_mult148 : BitVec 32 :=
  let c14336_i32_699 : BitVec 32 := 14336#32
  c14336_i32_699
def k0_mult149 : BitVec 32 :=
  let c15360_i32_715 : BitVec 32 := 15360#32
  c15360_i32_715
def k0_mult150 : BitVec 32 :=
  let c14336_i32_727 : BitVec 32 := 14336#32
  c14336_i32_727
def k0_mult151 : BitVec 32 :=
  let c15360_i32_743 : BitVec 32 := 15360#32
  c15360_i32_743
def k0_mult152 : BitVec 32 :=
  let c14336_i32_755 : BitVec 32 := 14336#32
  c14336_i32_755
def k0_mult153 : BitVec 32 :=
  let c15360_i32_771 : BitVec 32 := 15360#32
  c15360_i32_771
def k0_mult154 : BitVec 32 :=
  let c15360_i32_787 : BitVec 32 := 15360#32
  c15360_i32_787
def k0_mult155 : BitVec 32 :=
  let c15360_i32_803 : BitVec 32 := 15360#32
  c15360_i32_803
def k0_mult156 : BitVec 32 :=
  let c15360_i32_819 : BitVec 32 := 15360#32
  c15360_i32_819
def k0_mult157 : BitVec 32 :=
  let c15360_i32_835 : BitVec 32 := 15360#32
  c15360_i32_835
def k0_mult158 : BitVec 32 :=
  let c15360_i32_851 : BitVec 32 := 15360#32
  c15360_i32_851
def k0_mult159 : BitVec 32 :=
  let c15360_i32_867 : BitVec 32 := 15360#32
  c15360_i32_867
def k0_mult160 : BitVec 32 :=
  let c15360_i32_883 : BitVec 32 := 15360#32
  c15360_i32_883
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaReferenceIdeal.lean ====
abbrev S3x16384x16x128 : Shape := ⟨4, ![3, 16384, 16, 128]⟩
abbrev S3x16384x16x64 : Shape := ⟨4, ![3, 16384, 16, 64]⟩
abbrev S3x16384x64 : Shape := ⟨3, ![3, 16384, 64]⟩
abbrev S_ : Shape := ⟨0, ![]⟩
abbrev S3x16x16384x16384 : Shape := ⟨4, ![3, 16, 16384, 16384]⟩
abbrev S3x16384x16384x16 : Shape := ⟨4, ![3, 16384, 16384, 16]⟩
abbrev S3x16x16384 : Shape := ⟨3, ![3, 16, 16384]⟩
abbrev S3x16x16384x1 : Shape := ⟨4, ![3, 16, 16384, 1]⟩
abbrev S3x16x128x16384 : Shape := ⟨4, ![3, 16, 128, 16384]⟩
abbrev S49152x16x128 : Shape := ⟨3, ![49152, 16, 128]⟩
abbrev S16x49152x128 : Shape := ⟨3, ![16, 49152, 128]⟩

abbrev nBuf : Space → Nat
  | .hbm => 34
  | .vmem => 0
  | .smem => 0
  | _ => 0

abbrev bufTy : (tb : Table) → Fin (tcTables nBuf tb) → BufTy
  | .hbm, ⟨0, _⟩ => ⟨S3x16384x16x128, .f32⟩
  | .hbm, ⟨1, _⟩ => ⟨S3x16384x16x64, .f32⟩
  | .hbm, ⟨2, _⟩ => ⟨S3x16384x16x128, .f32⟩
  | .hbm, ⟨3, _⟩ => ⟨S3x16384x64, .f32⟩
  | .hbm, ⟨4, _⟩ => ⟨S3x16384x16x128, .f32⟩
  | .hbm, ⟨5, _⟩ => ⟨S_, .f32⟩
  | .hbm, ⟨6, _⟩ => ⟨S_, .f32⟩
  | .hbm, ⟨7, _⟩ => ⟨S3x16384x16x128, .f32⟩
  | .hbm, ⟨8, _⟩ => ⟨S3x16384x16x128, .f32⟩
  | .hbm, ⟨9, _⟩ => ⟨S3x16x16384x16384, .f32⟩
  | .hbm, ⟨10, _⟩ => ⟨S3x16384x16x64, .f32⟩
  | .hbm, ⟨11, _⟩ => ⟨S3x16384x16x64, .f32⟩
  | .hbm, ⟨12, _⟩ => ⟨S3x16384x16384x16, .f32⟩
  | .hbm, ⟨13, _⟩ => ⟨S3x16x16384x16384, .f32⟩
  | .hbm, ⟨14, _⟩ => ⟨S3x16x16384x16384, .f32⟩
  | .hbm, ⟨15, _⟩ => ⟨S_, .f32⟩
  | .hbm, ⟨16, _⟩ => ⟨S3x16x16384, .f32⟩
  | .hbm, ⟨17, _⟩ => ⟨S_, .f32⟩
  | .hbm, ⟨18, _⟩ => ⟨S3x16x16384, .f32⟩
  | .hbm, ⟨19, _⟩ => ⟨S3x16x16384, .f32⟩
  | .hbm, ⟨20, _⟩ => ⟨S3x16x16384x1, .f32⟩
  | .hbm, ⟨21, _⟩ => ⟨S3x16x16384x16384, .f32⟩
  | .hbm, ⟨22, _⟩ => ⟨S3x16x16384x16384, .f32⟩
  | .hbm, ⟨23, _⟩ => ⟨S3x16x16384x16384, .f32⟩
  | .hbm, ⟨24, _⟩ => ⟨S_, .f32⟩
  | .hbm, ⟨25, _⟩ => ⟨S3x16x16384, .f32⟩
  | .hbm, ⟨26, _⟩ => ⟨S3x16x16384x1, .f32⟩
  | .hbm, ⟨27, _⟩ => ⟨S3x16x16384x16384, .f32⟩
  | .hbm, ⟨28, _⟩ => ⟨S3x16x16384x16384, .f32⟩
  | .hbm, ⟨29, _⟩ => ⟨S3x16x128x16384, .f32⟩
  | .hbm, ⟨30, _⟩ => ⟨S3x16384x16x128, .f32⟩
  | .hbm, ⟨31, _⟩ => ⟨S49152x16x128, .f32⟩
  | .hbm, ⟨32, _⟩ => ⟨S16x49152x128, .f32⟩
  | .hbm, ⟨33, _⟩ => ⟨S16x49152x128, .bf16⟩
  | _, _ => ⟨S3x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Down.lean ====
abbrev S49152x5632 : Shape := ⟨2, ![49152, 5632]⟩
abbrev S5632x2048 : Shape := ⟨2, ![5632, 2048]⟩
abbrev S49152x2048 : Shape := ⟨2, ![49152, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S49152x5632, .bf16⟩
  | .hbm, ⟨1, _⟩ => ⟨S5632x2048, .f32⟩
  | .hbm, ⟨2, _⟩ => ⟨S49152x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S49152x2048, .f32⟩
  | .hbm, ⟨7, _⟩ => ⟨S49152x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S49152x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S49152x5632 : Shape := ⟨2, ![49152, 5632]⟩
abbrev S5632x2048 : Shape := ⟨2, ![5632, 2048]⟩
abbrev S49152x2048 : Shape := ⟨2, ![49152, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S49152x5632, .bf16⟩
  | .hbm, ⟨1, _⟩ => ⟨S5632x2048, .f32⟩
  | .hbm, ⟨2, _⟩ => ⟨S49152x2048, .f32⟩
  | .hbm, ⟨3, _⟩ => ⟨S2048, .f32⟩
  | .hbm, ⟨4, _⟩ => ⟨S49152x5632, .f32⟩
  | .hbm, ⟨5, _⟩ => ⟨S49152x2048, .f32⟩
  | .hbm, ⟨6, _⟩ => ⟨S49152x2048, .f32⟩
  | .hbm, ⟨7, _⟩ => ⟨S49152x2048, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x2048, .f32⟩
  | .hbm, ⟨19, _⟩ => ⟨S49152x2048, .f32⟩
  | .hbm, ⟨20, _⟩ => ⟨S1x2048, .f32⟩
  | .hbm, ⟨21, _⟩ => ⟨S49152x2048, .f32⟩
  | .hbm, ⟨22, _⟩ => ⟨S49152x2048, .f32⟩
  | .hbm, ⟨23, _⟩ => ⟨S49152x2048, .bf16⟩
  | _, _ => ⟨S49152x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Out.lean ====
abbrev S16x49152x128 : Shape := ⟨3, ![16, 49152, 128]⟩
abbrev S2048x2048 : Shape := ⟨2, ![2048, 2048]⟩
abbrev S49152x2048 : Shape := ⟨2, ![49152, 2048]⟩
abbrev S2048 : Shape := ⟨1, ![2048]⟩
abbrev S1x2048 : Shape := ⟨2, ![1, 2048]⟩
abbrev S16x512x128 : Shape := ⟨3, ![16, 512, 128]⟩
abbrev S512x2048 : Shape := ⟨2, ![512, 2048]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x49152x128, .bf16⟩
  | .hbm, ⟨1, _⟩ => ⟨S2048x2048, .f32⟩
  | .hbm, ⟨2, _⟩ => ⟨S49152x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S49152x2048, .f32⟩
  | .hbm, ⟨7, _⟩ => ⟨S49152x2048, .bf16⟩
  | .local _ .vmem, ⟨0, _⟩ => ⟨S16x512x128, .bf16⟩
  | .local _ .vmem, ⟨1, _⟩ => ⟨S16x512x128, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16x49152x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S16x49152x128 : Shape := ⟨3, ![16, 49152, 128]⟩
abbrev S2048x2048 : Shape := ⟨2, ![2048, 2048]⟩
abbrev S49152x2048 : Shape := ⟨2, ![49152, 2048]⟩
abbrev S2048 : Shape := ⟨1, ![2048]⟩
abbrev S49152x16x128 : Shape := ⟨3, ![49152, 16, 128]⟩
abbrev S_ : Shape := ⟨0, ![]⟩
abbrev S49152 : Shape := ⟨1, ![49152]⟩
abbrev S49152x1 : Shape := ⟨2, ![49152, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16x49152x128, .bf16⟩
  | .hbm, ⟨1, _⟩ => ⟨S2048x2048, .f32⟩
  | .hbm, ⟨2, _⟩ => ⟨S49152x2048, .f32⟩
  | .hbm, ⟨3, _⟩ => ⟨S2048, .f32⟩
  | .hbm, ⟨4, _⟩ => ⟨S16x49152x128, .f32⟩
  | .hbm, ⟨5, _⟩ => ⟨S49152x16x128, .f32⟩
  | .hbm, ⟨6, _⟩ => ⟨S49152x2048, .f32⟩
  | .hbm, ⟨7, _⟩ => ⟨S49152x2048, .f32⟩
  | .hbm, ⟨8, _⟩ => ⟨S49152x2048, .f32⟩
  | .hbm, ⟨9, _⟩ => ⟨S49152x2048, .f32⟩
  | .hbm, ⟨10, _⟩ => ⟨S_, .f32⟩
  | .hbm, ⟨11, _⟩ => ⟨S49152, .f32⟩
  | .hbm, ⟨12, _⟩ => ⟨S49152x1, .f32⟩
  | .hbm, ⟨13, _⟩ => ⟨S_, .f32⟩
  | .hbm, ⟨14, _⟩ => ⟨S49152x1, .f32⟩
  | .hbm, ⟨15, _⟩ => ⟨S49152x1, .f32⟩
  | .hbm, ⟨16, _⟩ => ⟨S_, .f32⟩
  | .hbm, ⟨17, _⟩ => ⟨S49152x1, .f32⟩
  | .hbm, ⟨18, _⟩ => ⟨S49152x1, .f32⟩
  | .hbm, ⟨19, _⟩ => ⟨S49152x1, .f32⟩
  | .hbm, ⟨20, _⟩ => ⟨S49152x2048, .f32⟩
  | .hbm, ⟨21, _⟩ => ⟨S49152x2048, .f32⟩
  | .hbm, ⟨22, _⟩ => ⟨S1x2048, .f32⟩
  | .hbm, ⟨23, _⟩ => ⟨S49152x2048, .f32⟩
  | .hbm, ⟨24, _⟩ => ⟨S49152x2048, .f32⟩
  | .hbm, ⟨25, _⟩ => ⟨S49152x2048, .bf16⟩
  | _, _ => ⟨S16x49152x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Qkv.lean ====
abbrev S49152x2048 : Shape := ⟨2, ![49152, 2048]⟩
abbrev S2048x6144 : Shape := ⟨2, ![2048, 6144]⟩
abbrev S6144 : Shape := ⟨1, ![6144]⟩
abbrev S_ : Shape := ⟨0, ![]⟩
abbrev S2048 : Shape := ⟨1, ![2048]⟩
abbrev S4096 : Shape := ⟨1, ![4096]⟩
abbrev S1x6144 : Shape := ⟨2, ![1, 6144]⟩
abbrev S48x49152x128 : Shape := ⟨3, ![48, 49152, 128]⟩
abbrev S1024x2048 : Shape := ⟨2, ![1024, 2048]⟩
abbrev S2048x1024 : Shape := ⟨2, ![2048, 1024]⟩
abbrev S1x1024 : Shape := ⟨2, ![1, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 18
  | .vmem => 10
  | .smem => 0
  | _ => 0

abbrev bufTy : (tb : Table) → Fin (tcTables nBuf tb) → BufTy
  | .hbm, ⟨0, _⟩ => ⟨S49152x2048, .bf16⟩
  | .hbm, ⟨1, _⟩ => ⟨S2048x6144, .f32⟩
  | .hbm, ⟨2, _⟩ => ⟨S6144, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S4096, .f32⟩
  | .hbm, ⟨13, _⟩ => ⟨S6144, .f32⟩
  | .hbm, ⟨14, _⟩ => ⟨S2048x6144, .bf16⟩
  | .hbm, ⟨15, _⟩ => ⟨S1x6144, .f32⟩
  | .hbm, ⟨16, _⟩ => ⟨S1x6144, .f32⟩
  | .hbm, ⟨17, _⟩ => ⟨S48x49152x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x1024x128, .bf16⟩
  | .local _ .vmem, ⟨9, _⟩ => ⟨S8x1024x128, .bf16⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S49152x2048 : Shape := ⟨2, ![49152, 2048]⟩
abbrev S2048x6144 : Shape := ⟨2, ![2048, 6144]⟩
abbrev S6144 : Shape := ⟨1, ![6144]⟩
abbrev S49152x6144 : Shape := ⟨2, ![49152, 6144]⟩
abbrev S1x6144 : Shape := ⟨2, ![1, 6144]⟩
abbrev S49152x3x16x128 : Shape := ⟨4, ![49152, 3, 16, 128]⟩
abbrev S_ : Shape := ⟨0, ![]⟩
abbrev S49152x1x16x128 : Shape := ⟨4, ![49152, 1, 16, 128]⟩
abbrev S49152x16x128 : Shape := ⟨3, ![49152, 16, 128]⟩
abbrev S1x49152x16x128 : Shape := ⟨4, ![1, 49152, 16, 128]⟩
abbrev S3x49152x16x128 : Shape := ⟨4, ![3, 49152, 16, 128]⟩
abbrev S3x16x49152x128 : Shape := ⟨4, ![3, 16, 49152, 128]⟩
abbrev S48x49152x128 : Shape := ⟨3, ![48, 49152, 128]⟩

abbrev nBuf : Space → Nat
  | .hbm => 29
  | .vmem => 0
  | .smem => 0
  | _ => 0

abbrev bufTy : (tb : Table) → Fin (tcTables nBuf tb) → BufTy
  | .hbm, ⟨0, _⟩ => ⟨S49152x2048, .bf16⟩
  | .hbm, ⟨1, _⟩ => ⟨S2048x6144, .f32⟩
  | .hbm, ⟨2, _⟩ => ⟨S6144, .f32⟩
  | .hbm, ⟨3, _⟩ => ⟨S49152x2048, .f32⟩
  | .hbm, ⟨4, _⟩ => ⟨S49152x6144, .f32⟩
  | .hbm, ⟨5, _⟩ => ⟨S1x6144, .f32⟩
  | .hbm, ⟨6, _⟩ => ⟨S49152x6144, .f32⟩
  | .hbm, ⟨7, _⟩ => ⟨S49152x6144, .f32⟩
  | .hbm, ⟨8, _⟩ => ⟨S49152x3x16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S49152x1x16x128, .f32⟩
  | .hbm, ⟨15, _⟩ => ⟨S49152x16x128, .f32⟩
  | .hbm, ⟨16, _⟩ => ⟨S49152x16x128, .f32⟩
  | .hbm, ⟨17, _⟩ => ⟨S49152x16x128, .f32⟩
  | .hbm, ⟨18, _⟩ => ⟨S49152x1x16x128, .f32⟩
  | .hbm, ⟨19, _⟩ => ⟨S49152x16x128, .f32⟩
  | .hbm, ⟨20, _⟩ => ⟨S49152x1x16x128, .f32⟩
  | .hbm, ⟨21, _⟩ => ⟨S49152x16x128, .f32⟩
  | .hbm, ⟨22, _⟩ => ⟨S1x49152x16x128, .f32⟩
  | .hbm, ⟨23, _⟩ => ⟨S1x49152x16x128, .f32⟩
  | .hbm, ⟨24, _⟩ => ⟨S1x49152x16x128, .f32⟩
  | .hbm, ⟨25, _⟩ => ⟨S3x49152x16x128, .f32⟩
  | .hbm, ⟨26, _⟩ => ⟨S3x16x49152x128, .f32⟩
  | .hbm, ⟨27, _⟩ => ⟨S48x49152x128, .f32⟩
  | .hbm, ⟨28, _⟩ => ⟨S48x49152x128, .bf16⟩
  | _, _ => ⟨S49152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Parts.lean ====
abbrev S16x49152x128 : Shape := ⟨3, ![16, 49152, 128]⟩
abbrev S2048x2048 : Shape := ⟨2, ![2048, 2048]⟩
abbrev S16384x2048 : Shape := ⟨2, ![16384, 2048]⟩
abbrev S32768x2048 : Shape := ⟨2, ![32768, 2048]⟩
abbrev S2048 : Shape := ⟨1, ![2048]⟩
abbrev S1x2048 : Shape := ⟨2, ![1, 2048]⟩
abbrev S49152x2048 : Shape := ⟨2, ![49152, 2048]⟩
abbrev S16x512x128 : Shape := ⟨3, ![16, 512, 128]⟩
abbrev S512x2048 : Shape := ⟨2, ![512, 2048]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16x49152x128, .bf16⟩
  | .hbm, ⟨1, _⟩ => ⟨S2048x2048, .f32⟩
  | .hbm, ⟨2, _⟩ => ⟨S16384x2048, .f32⟩
  | .hbm, ⟨3, _⟩ => ⟨S32768x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S49152x2048, .f32⟩
  | .hbm, ⟨8, _⟩ => ⟨S49152x2048, .bf16⟩
  | .local _ .vmem, ⟨0, _⟩ => ⟨S16x512x128, .bf16⟩
  | .local _ .vmem, ⟨1, _⟩ => ⟨S16x512x128, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16x49152x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PartsReferenceIdeal.lean ====
abbrev S16x49152x128 : Shape := ⟨3, ![16, 49152, 128]⟩
abbrev S2048x2048 : Shape := ⟨2, ![2048, 2048]⟩
abbrev S16384x2048 : Shape := ⟨2, ![16384, 2048]⟩
abbrev S32768x2048 : Shape := ⟨2, ![32768, 2048]⟩
abbrev S2048 : Shape := ⟨1, ![2048]⟩
abbrev S49152x2048 : Shape := ⟨2, ![49152, 2048]⟩
abbrev S49152x16x128 : Shape := ⟨3, ![49152, 16, 128]⟩
abbrev S_ : Shape := ⟨0, ![]⟩
abbrev S49152 : Shape := ⟨1, ![49152]⟩
abbrev S49152x1 : Shape := ⟨2, ![49152, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16x49152x128, .bf16⟩
  | .hbm, ⟨1, _⟩ => ⟨S2048x2048, .f32⟩
  | .hbm, ⟨2, _⟩ => ⟨S16384x2048, .f32⟩
  | .hbm, ⟨3, _⟩ => ⟨S32768x2048, .f32⟩
  | .hbm, ⟨4, _⟩ => ⟨S2048, .f32⟩
  | .hbm, ⟨5, _⟩ => ⟨S49152x2048, .f32⟩
  | .hbm, ⟨6, _⟩ => ⟨S16x49152x128, .f32⟩
  | .hbm, ⟨7, _⟩ => ⟨S49152x16x128, .f32⟩
  | .hbm, ⟨8, _⟩ => ⟨S49152x2048, .f32⟩
  | .hbm, ⟨9, _⟩ => ⟨S49152x2048, .f32⟩
  | .hbm, ⟨10, _⟩ => ⟨S49152x2048, .f32⟩
  | .hbm, ⟨11, _⟩ => ⟨S49152x2048, .f32⟩
  | .hbm, ⟨12, _⟩ => ⟨S_, .f32⟩
  | .hbm, ⟨13, _⟩ => ⟨S49152, .f32⟩
  | .hbm, ⟨14, _⟩ => ⟨S49152x1, .f32⟩
  | .hbm, ⟨15, _⟩ => ⟨S_, .f32⟩
  | .hbm, ⟨16, _⟩ => ⟨S49152x1, .f32⟩
  | .hbm, ⟨17, _⟩ => ⟨S49152x1, .f32⟩
  | .hbm, ⟨18, _⟩ => ⟨S_, .f32⟩
  | .hbm, ⟨19, _⟩ => ⟨S49152x1, .f32⟩
  | .hbm, ⟨20, _⟩ => ⟨S49152x1, .f32⟩
  | .hbm, ⟨21, _⟩ => ⟨S49152x1, .f32⟩
  | .hbm, ⟨22, _⟩ => ⟨S49152x2048, .f32⟩
  | .hbm, ⟨23, _⟩ => ⟨S49152x2048, .f32⟩
  | .hbm, ⟨24, _⟩ => ⟨S1x2048, .f32⟩
  | .hbm, ⟨25, _⟩ => ⟨S49152x2048, .f32⟩
  | .hbm, ⟨26, _⟩ => ⟨S49152x2048, .f32⟩
  | .hbm, ⟨27, _⟩ => ⟨S49152x2048, .bf16⟩
  | _, _ => ⟨S16x49152x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kv.lean ====
abbrev S49152x512 : Shape := ⟨2, ![49152, 512]⟩
abbrev S49152x128 : Shape := ⟨2, ![49152, 128]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S2048x512 : Shape := ⟨2, ![2048, 512]⟩
abbrev S16x49152x256 : Shape := ⟨3, ![16, 49152, 256]⟩
abbrev S16x144x49152 : Shape := ⟨3, ![16, 144, 49152]⟩
abbrev S512x512 : Shape := ⟨2, ![512, 512]⟩
abbrev S512x128 : Shape := ⟨2, ![512, 128]⟩
abbrev S16x512x256 : Shape := ⟨3, ![16, 512, 256]⟩
abbrev S16x144x512 : Shape := ⟨3, ![16, 144, 512]⟩
abbrev S16x512 : Shape := ⟨2, ![16, 512]⟩
abbrev S1x512x128 : Shape := ⟨3, ![1, 512, 128]⟩
abbrev S128x512 : Shape := ⟨2, ![128, 512]⟩
abbrev S1x128x512 : Shape := ⟨3, ![1, 128, 512]⟩
abbrev S1x16x512 : Shape := ⟨3, ![1, 16, 512]⟩

abbrev nBuf : Space → Nat
  | .hbm => 13
  | .vmem => 10
  | .smem => 0
  | _ => 0

abbrev bufTy : (tb : Table) → Fin (tcTables nBuf tb) → BufTy
  | .hbm, ⟨0, _⟩ => ⟨S49152x512, .bf16⟩
  | .hbm, ⟨1, _⟩ => ⟨S49152x128, .bf16⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x2048, .bf16⟩
  | .hbm, ⟨7, _⟩ => ⟨S512x16x128, .f32⟩
  | .hbm, ⟨8, _⟩ => ⟨S512x2048, .f32⟩
  | .hbm, ⟨9, _⟩ => ⟨S2048x512, .f32⟩
  | .hbm, ⟨10, _⟩ => ⟨S2048x512, .bf16⟩
  | .hbm, ⟨11, _⟩ => ⟨S16x49152x256, .bf16⟩
  | .hbm, ⟨12, _⟩ => ⟨S16x144x49152, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x2048, .bf16⟩
  | .local _ .vmem, ⟨5, _⟩ => ⟨S2048x512, .bf16⟩
  | .local _ .vmem, ⟨6, _⟩ => ⟨S16x512x256, .bf16⟩
  | .local _ .vmem, ⟨7, _⟩ => ⟨S16x512x256, .bf16⟩
  | .local _ .vmem, ⟨8, _⟩ => ⟨S16x144x512, .bf16⟩
  | .local _ .vmem, ⟨9, _⟩ => ⟨S16x144x512, .bf16⟩
  | _, _ => ⟨S49152x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![96, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x144x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvReferenceIdeal.lean ====
abbrev S49152x512 : Shape := ⟨2, ![49152, 512]⟩
abbrev S49152x128 : Shape := ⟨2, ![49152, 128]⟩
abbrev S512x4096 : Shape := ⟨2, ![512, 4096]⟩
abbrev S49152x4096 : Shape := ⟨2, ![49152, 4096]⟩
abbrev S49152x16x256 : Shape := ⟨3, ![49152, 16, 256]⟩
abbrev S49152x1x128 : Shape := ⟨3, ![49152, 1, 128]⟩
abbrev S49152x16x128 : Shape := ⟨3, ![49152, 16, 128]⟩
abbrev S16x49152x256 : Shape := ⟨3, ![16, 49152, 256]⟩
abbrev S16x128x49152 : Shape := ⟨3, ![16, 128, 49152]⟩
abbrev S_ : Shape := ⟨0, ![]⟩
abbrev S16x1x49152 : Shape := ⟨3, ![16, 1, 49152]⟩
abbrev S16x15x49152 : Shape := ⟨3, ![16, 15, 49152]⟩
abbrev S16x144x49152 : Shape := ⟨3, ![16, 144, 49152]⟩

abbrev nBuf : Space → Nat
  | .hbm => 21
  | .vmem => 0
  | .smem => 0
  | _ => 0

abbrev bufTy : (tb : Table) → Fin (tcTables nBuf tb) → BufTy
  | .hbm, ⟨0, _⟩ => ⟨S49152x512, .bf16⟩
  | .hbm, ⟨1, _⟩ => ⟨S49152x128, .bf16⟩
  | .hbm, ⟨2, _⟩ => ⟨S512x4096, .f32⟩
  | .hbm, ⟨3, _⟩ => ⟨S49152x512, .f32⟩
  | .hbm, ⟨4, _⟩ => ⟨S49152x4096, .f32⟩
  | .hbm, ⟨5, _⟩ => ⟨S49152x16x256, .f32⟩
  | .hbm, ⟨6, _⟩ => ⟨S49152x128, .f32⟩
  | .hbm, ⟨7, _⟩ => ⟨S49152x1x128, .f32⟩
  | .hbm, ⟨8, _⟩ => ⟨S49152x16x128, .f32⟩
  | .hbm, ⟨9, _⟩ => ⟨S49152x16x128, .f32⟩
  | .hbm, ⟨10, _⟩ => ⟨S49152x16x256, .f32⟩
  | .hbm, ⟨11, _⟩ => ⟨S16x49152x256, .f32⟩
  | .hbm, ⟨12, _⟩ => ⟨S49152x16x128, .f32⟩
  | .hbm, ⟨13, _⟩ => ⟨S16x128x49152, .f32⟩
  | .hbm, ⟨14, _⟩ => ⟨S_, .f32⟩
  | .hbm, ⟨15, _⟩ => ⟨S16x1x49152, .f32⟩
  | .hbm, ⟨16, _⟩ => ⟨S_, .f32⟩
  | .hbm, ⟨17, _⟩ => ⟨S16x15x49152, .f32⟩
  | .hbm, ⟨18, _⟩ => ⟨S16x49152x256, .bf16⟩
  | .hbm, ⟨19, _⟩ => ⟨S16x144x49152, .f32⟩
  | .hbm, ⟨20, _⟩ => ⟨S16x144x49152, .bf16⟩
  | _, _ => ⟨S49152x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Na.Softmax.lean ====
/-
  A softmax over a few keys, computed on a longer list of keys in which every other key is masked with minus infinity,
  with powers of two in place of powers of e and the division done once after the sum (Mathlib only, over the extended
  reals that the ideal instance computes in).
-/
module

public import Idealize.ShloMosaic.PureOps.Ideal

@[expose] public section

namespace Cert.Na

open Idealize.ShloMosaic

/-- A finite sum of reals, taken in the extended reals, is the real sum. -/
theorem coe_sum {ι : Type*} (s : Finset ι) (e : ι → ℝ) : ∑ i ∈ s, (e i : EReal) = ((∑ i ∈ s, e i : ℝ) : EReal) := by
  classical
  induction s using Finset.induction_on with
  | empty => simp
  | insert a s ha ih => rw [Finset.sum_insert ha, Finset.sum_insert ha, ih, EReal.coe_add]

/-- A nonnegative real factor goes into a finite sum of extended reals. -/
theorem sum_mul_coe {ι : Type*} (s : Finset ι) (y : ι → EReal) {c : ℝ} (hc : 0 ≤ c) :
    (∑ i ∈ s, y i) * (c : EReal) = ∑ i ∈ s, y i * (c : EReal) := by
  classical
  induction s using Finset.induction_on with
  | empty => simp
  | insert a s ha ih =>
    rw [Finset.sum_insert ha, Finset.sum_insert ha, ← ih, mul_comm, mul_comm (y a), mul_comm (∑ i ∈ s, y i)]
    exact EReal.left_distrib_of_nonneg_of_ne_top (by exact_mod_cast hc) (EReal.coe_ne_top _) _ _

/-- The running maximum from minus infinity is the finite supremum. -/
theorem fold_max_eq_sup {ι : Type*} (s : Finset ι) (y : ι → EReal) : s.fold max ⊥ y = s.sup y := rfl

/-- The supremum of finitely many reals (at least one) is one of them. -/
theorem exists_sup_coe {ι : Type*} [Fintype ι] [Nonempty ι] (x : ι → ℝ) :
    ∃ i₀, (Finset.univ.sup fun i => (x i : EReal)) = (x i₀ : EReal) ∧ ∀ i, x i ≤ x i₀ := by
  obtain ⟨i₀, -, h⟩ := Finset.exists_max_image (Finset.univ : Finset ι) x Finset.univ_nonempty
  refine ⟨i₀, le_antisymm (Finset.sup_le fun i _ => ?_) (Finset.le_sup (f := fun i => (x i : EReal)) (Finset.mem_univ i₀)), fun i => h i (Finset.mem_univ i)⟩
  exact_mod_cast h i (Finset.mem_univ i)

/-- A power of two whose exponent is a logarithm's multiple is a power of e. -/
theorem two_rpow_eq_exp {L : ℝ} (hL : L * Real.log 2 = 1) (t : ℝ) : Real.rpow 2 (L * t) = Real.exp t := by
  show (2 : ℝ) ^ (L * t) = _
  rw [Real.rpow_def_of_pos (by norm_num)]
  congr 1
  calc Real.log 2 * (L * t) = (L * Real.log 2) * t := by ring
    _ = t := by rw [hL, one_mul]

/-- THE MASKED SOFTMAX. Keys `f i` carry the scores `L · x i` with `L = 1 / log 2`, every other key the score minus infinity, and
    the values `v` are any extended reals. The sum of `2 ^ (score - max) · value` over all keys, divided by the sum of the powers,
    is the softmax of `x` against the values of the keys `f i`. -/
theorem masked_softmax {ι κ : Type*} [Fintype ι] [Nonempty ι] [Fintype κ] (f : ι → κ) (hf : Function.Injective f)
    {L : ℝ} (hL : L * Real.log 2 = 1) (x : ι → ℝ) (S : κ → EReal) (hS : ∀ i, S (f i) = ((L * x i : ℝ) : EReal))
    (hS' : ∀ j, (∀ i, f i ≠ j) → S j = ⊥) (v : κ → EReal) :
    Ideal.div (∑ j, Ideal.exp2 (S j - Finset.univ.sup S) * v j) (∑ j, Ideal.exp2 (S j - Finset.univ.sup S))
      = ∑ i, Ideal.div (Ideal.exp ((x i : EReal) - Finset.univ.sup fun i => (x i : EReal)))
          (∑ i', Ideal.exp ((x i' : EReal) - Finset.univ.sup fun i => (x i : EReal))) * v (f i) := by
  classical
  have hlog : 0 < Real.log 2 := Real.log_pos (by norm_num)
  have hLpos : 0 < L := by
    by_contra h
    have : L * Real.log 2 ≤ 0 := mul_nonpos_of_nonpos_of_nonneg (not_lt.mp h) hlog.le
    linarith
  obtain ⟨i₀, hsup, hmax⟩ := exists_sup_coe x
  have hM : Finset.univ.sup S = ((L * x i₀ : ℝ) : EReal) := by
    refine le_antisymm (Finset.sup_le fun j _ => ?_) (by rw [← hS i₀]; exact Finset.le_sup (Finset.mem_univ _))
    by_cases hj : ∃ i, f i = j
    · obtain ⟨i, rfl⟩ := hj
      rw [hS i]
      exact_mod_cast mul_le_mul_of_nonneg_left (hmax i) hLpos.le
    · rw [hS' j fun i hi => hj ⟨i, hi⟩]
      exact bot_le
  rw [hM, hsup]
  set e : ι → ℝ := fun i => Real.exp (x i - x i₀) with he
  have hpow : ∀ i, Ideal.exp2 (S (f i) - ((L * x i₀ : ℝ) : EReal)) = (e i : EReal) := by
    intro i
    rw [hS i, ← EReal.coe_sub, Ideal.exp2_coe, ← mul_sub, two_rpow_eq_exp hL]
  have hpow' : ∀ j, (∀ i, f i ≠ j) → Ideal.exp2 (S j - ((L * x i₀ : ℝ) : EReal)) = 0 := by
    intro j hj
    rw [hS' j hj, EReal.bot_sub, Ideal.exp2_bot]
  have hexp : ∀ i, Ideal.exp ((x i : EReal) - (x i₀ : EReal)) = (e i : EReal) := by
    intro i
    rw [← EReal.coe_sub, Ideal.exp_coe]
  have hred : ∀ g : κ → EReal, (∀ j, (∀ i, f i ≠ j) → g j = 0) → ∑ j, g j = ∑ i, g (f i) := by
    intro g hg
    rw [← Finset.sum_image (s := (Finset.univ : Finset ι)) (g := f) (f := g) (fun a _ b _ h => hf h)]
    refine (Finset.sum_subset (Finset.subset_univ _) fun j _ hj => hg j fun i hi => hj ?_).symm
    exact Finset.mem_image.mpr ⟨i, Finset.mem_univ i, hi⟩
  rw [hred (fun j => Ideal.exp2 (S j - ((L * x i₀ : ℝ) : EReal)) * v j) (fun j hj => by
      show _ * _ = _
      rw [hpow' j hj, zero_mul]),
    hred (fun j => Ideal.exp2 (S j - ((L * x i₀ : ℝ) : EReal))) hpow']
  simp only [hpow, hexp]
  rw [coe_sum]
  have hpos : 0 < ∑ i, e i := Finset.sum_pos (fun i _ => Real.exp_pos _) Finset.univ_nonempty
  rw [Ideal.div_coe hpos.ne', sum_mul_coe _ _ (by positivity)]
  refine Finset.sum_congr rfl fun i _ => ?_
  rw [Ideal.div_coe hpos.ne']
  ac_rfl

end Cert.Na
-- ==== Proof.Na.Unit.lean ====
/-
  One unit of the kernel's body (four query rows of 64 columns against twelve key rows): what it stores, read at an
  index over the extended reals.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Na

open Cert.KernelIdeal Cert.KernelIdeal.Gen Idealize.ShloMosaic Idealize.ShloMosaic.TcCoe Idealize.SL.Sem

variable {F : FTy → Type} [FloatOps F]

/-- What a unit stores, from its 256 queries, its 768 keys and values and its bias block. -/
def unitOut (q : Vec F S1x256x128 .bf16) (k v : Vec F S1x768x128 .bf16) (b : Vec F S1x1x256x768 .f32) : FVec F S1x256x128 .bf16 :=
  k0_pay1 (k0_pay42 k) (k0_pay43 v) q b

/-- The score of query `i` against key `j`: the product of their rows plus the bias. -/
def unitScore (q : Vec Ideal S1x256x128 .bf16) (k : Vec Ideal S1x768x128 .bf16) (b : Vec Ideal S1x1x256x768 .f32) (i : Fin 256)
    (j : Fin 768) : EReal :=
  (∑ e : Fin 128, (q (ix3 0 i e) : EReal) * k (ix3 0 j e)) + b (ix4 0 0 i j)

theorem ofBits_neg_inf : Ideal.ofBits .f32 0xFF800000#32 = ⊥ := by
  simp [Ideal.ofBits, Ideal.ieee]

/-- The stored value at query `i` and lane `d`. -/
theorem unitOut_apply (q : Vec Ideal S1x256x128 .bf16) (k v : Vec Ideal S1x768x128 .bf16) (b : Vec Ideal S1x1x256x768 .f32)
    (i : Fin 256) (d : Fin 128) :
    (unitOut q k v b (ix3 0 i d) : EReal)
      = Ideal.div (∑ j : Fin 768, Ideal.exp2 (unitScore q k b i j - Finset.univ.sup (unitScore q k b i)) * v (ix3 0 j d))
          (∑ j : Fin 768, Ideal.exp2 (unitScore q k b i j - Finset.univ.sup (unitScore q k b i))) := by
  unfold unitOut
  pointwise [k0_pay1, k0_pay42, k0_pay43]
  rw [ofBits_neg_inf]
  rfl

/-- Unit `u`'s 256 query rows lie inside the block. -/
theorem qrows_inb (u : Fin 16) (a : Fin 3) : (![0, 256 * u.val, 0] : Fin 3 → ℕ) a + S1x256x128.size a ≤ S1x4096x128.size a := by
  revert a
  revert u
  decide

/-- What unit `u` of a grid point stores, from the point's four blocks. -/
def unitAt (i : grid0.Coords) (x0 : Vec F S1x4096x128 .bf16) (x1 : Vec F S1x4608x128 .bf16) (x2 : Vec F S1x4608x128 .bf16)
    (x3 : Vec F S3x1x256x768 .f32) (u : Fin 16) : FVec F S1x256x128 .bf16 :=
  unitOut (View.ld x0 (Rect.unit (s := S1x4096x128) ![0, 256 * u.val, 0] S1x256x128.size (qrows_inb u)))
    (View.ld x1 (Rect.unit (s := S1x4608x128) (k0_off1 i (BitVec.ofNat 32 u.val)) S1x768x128.size (k0_off1_inb i u)))
    (View.ld x2 (Rect.unit (s := S1x4608x128) (k0_off1 i (BitVec.ofNat 32 u.val)) S1x768x128.size (k0_off1_inb i u)))
    (View.ld x3 (Rect.unit (s := S3x1x256x768) (k0_off2 i (BitVec.ofNat 32 u.val)) S1x1x256x768.size (k0_off2_inb i u)))

/-- Row `256 u + r` of the block that a grid point leaves is row `r` of what its unit `u` stores. -/
theorem out_apply (c : Dev nD) (i : grid0.Coords) (arg3 : Memref sig .tc .vmem S1x4096x128 .bf16) (harg3 : arg3.IsWhole) (arg4 : Memref sig .tc .vmem S1x4608x128 .bf16) (harg4 : arg4.IsWhole) (arg5 : Memref sig .tc .vmem S1x4608x128 .bf16) (harg5 : arg5.IsWhole) (arg6 : Memref sig .tc .vmem S3x1x256x768 .f32) (harg6 : arg6.IsWhole) (arg7 : Memref sig .tc .vmem S1x4096x128 .bf16) (harg7 : arg7.IsWhole)
    (x0 : Vec F S1x4096x128 .bf16) (x1 : Vec F S1x4608x128 .bf16) (x2 : Vec F S1x4608x128 .bf16) (x3 : Vec F S3x1x256x768 .f32)
    (u : Fin 16) (r : Fin 256) (d : Fin 128) :
    out0_A_4 c i arg3 harg3 arg4 harg4 arg5 harg5 arg6 harg6 arg7 harg7 x0 x1 x2 x3 (ix3 0 ⟨256 * u.val + r.val, by omega⟩ d)
      = unitAt i x0 x1 x2 x3 u (ix3 0 r d) := by
  generalize hy : (ix3 (0 : Fin 1) (⟨256 * u.val + r.val, by omega⟩ : Fin 4096) d : S1x4096x128.Idx) = y
  have y1 : (y 1 : ℕ) = 256 * u.val + r.val := by rw [← hy]; rfl
  have y2 : (y 2 : ℕ) = d.val := by rw [← hy]; rfl
  frame_out
  have key : ∀ (n : Fin 16) (x : S1x256x128.Idx), (y 1 : ℕ) = 256 * n.val + (x 1 : ℕ) → (y 2 : ℕ) = (x 2 : ℕ) →
      unitAt i x0 x1 x2 x3 n x = unitAt i x0 x1 x2 x3 u (ix3 0 r d) := by
    intro n x h1 h2
    have hx : (x 1 : ℕ) < 256 := (x 1).isLt
    have hr := r.isLt
    have e : n = u := Fin.ext (by omega)
    subst e
    congr 1
    rw [eq_ix3 x]
    have a0 : x 0 = (0 : Fin 1) := Fin.ext (by have : (x 0 : ℕ) < 1 := (x 0).isLt; show (x 0 : ℕ) = 0; omega)
    have a1 : x 1 = r := Fin.ext (by omega)
    have a2 : x 2 = d := Fin.ext (by omega)
    rw [a0, a1, a2]
  canon_tiles x h
  · exact key 15 x (by show _ = 3840 + _; omega) (by omega)
  · exact key 14 x (by show _ = 3584 + _; omega) (by omega)
  · exact key 13 x (by show _ = 3328 + _; omega) (by omega)
  · exact key 12 x (by show _ = 3072 + _; omega) (by omega)
  · exact key 11 x (by show _ = 2816 + _; omega) (by omega)
  · exact key 10 x (by show _ = 2560 + _; omega) (by omega)
  · exact key 9 x (by show _ = 2304 + _; omega) (by omega)
  · exact key 8 x (by show _ = 2048 + _; omega) (by omega)
  · exact key 7 x (by show _ = 1792 + _; omega) (by omega)
  · exact key 6 x (by show _ = 1536 + _; omega) (by omega)
  · exact key 5 x (by show _ = 1280 + _; omega) (by omega)
  · exact key 4 x (by show _ = 1024 + _; omega) (by omega)
  · exact key 3 x (by show _ = 768 + _; omega) (by omega)
  · exact key 2 x (by show _ = 512 + _; omega) (by omega)
  · exact key 1 x (by show _ = 256 + _; omega) (by omega)
  · exact key 0 x (by show _ = 0 + _; omega) (by omega)

end Cert.Na
-- ==== Proof.Na.Gathers.lean ====
module

public import proofs.«01_k».proof.Proof.Na.Unit
public import Idealize.ShloMosaic.Lib.StableHlo.ReadAt

/-!
The two gathers of the host code that builds the bias table, each read at one index: the result element is an element of
the operand, at a start index that is read as a signed number and clamped to the operand.
-/

@[expose] public section

set_option maxRecDepth 16384

noncomputable section

namespace Cert.Na

open Cert.KernelIdeal Cert.KernelIdeal.Gen Idealize.ShloMosaic Idealize.ShloMosaic.TcCoe

/-- The gather of the relative columns: column `idx (i, j)` of the relative position bias. -/
theorem gather_cols {α : Type} (x : S16x15x31.Idx → α) (idx : IVec S64x64x1 32) (h : Fin 16) (r : Fin 15) (i j : Fin 64) :
    Host.gather gather_S16x15x31_S64x64x1_S16x15x64x64_01_2_n_n_2_2_16151 x idx (ix4 h r i j)
      = x (ix3 h r ⟨min (idx (ix3 i j 0)).toInt.toNat 30, by omega⟩) := by
  unfold Host.gather
  congr 1
  funext a
  match a with
  | ⟨0, _⟩ => exact Fin.ext (Nat.zero_add _)
  | ⟨1, _⟩ => exact Fin.ext (Nat.zero_add _)
  | ⟨2, _⟩ =>
    refine Fin.ext ?_
    show min (idx _).toInt.toNat 30 + 0 + 0 = min (idx _).toInt.toNat 30
    have e : GatherDims.siIdx gather_S16x15x31_S64x64x1_S16x15x64x64_01_2_n_n_2_2_16151 (ix4 h r i j) ⟨0, by decide⟩
        = ix3 i j 0 := by
      funext b
      match b with
      | ⟨0, _⟩ => rfl
      | ⟨1, _⟩ => rfl
      | ⟨2, _⟩ => rfl
    exact congrArg (fun y => min (idx y).toInt.toNat 30) e

/-- The gather of the relative rows: row `idx (i, j)` of the columns' table. -/
theorem gather_rows {α : Type} (x : S16x15x64x64.Idx → α) (idx : IVec S4x12x1 32) (h : Fin 16) (i : Fin 4) (j : Fin 12)
    (p q : Fin 64) :
    Host.gather gather_S16x15x64x64_S4x12x1_S16x4x12x64x64_034_1_n_n_1_2_1616464 x idx (ix5 h i j p q)
      = x (ix4 h ⟨min (idx (ix3 i j 0)).toInt.toNat 14, by omega⟩ p q) := by
  unfold Host.gather
  congr 1
  funext a
  match a with
  | ⟨0, _⟩ => exact Fin.ext (Nat.zero_add _)
  | ⟨1, _⟩ =>
    refine Fin.ext ?_
    show min (idx _).toInt.toNat 14 + 0 + 0 = min (idx _).toInt.toNat 14
    have e : GatherDims.siIdx gather_S16x15x64x64_S4x12x1_S16x4x12x64x64_034_1_n_n_1_2_1616464 (ix5 h i j p q)
        ⟨0, by decide⟩ = ix3 i j 0 := by
      funext b
      match b with
      | ⟨0, _⟩ => rfl
      | ⟨1, _⟩ => rfl
      | ⟨2, _⟩ => rfl
    exact congrArg (fun y => min (idx y).toInt.toNat 14) e
  | ⟨2, _⟩ => exact Fin.ext (Nat.zero_add _)
  | ⟨3, _⟩ => exact Fin.ext (Nat.zero_add _)

end Cert.Na
-- ==== Proof.Na.Prep.lean ====
module

public import proofs.«01_k».proof.Proof.Na.Gathers
public import Idealize.ShloMosaic.Lib.StableHlo.ReadAt

/-!
What the host code hands to the kernel, read at one index: the scaled queries, keys and values by head, and the bias
table of the three kinds of query block.
-/

@[expose] public section

set_option maxRecDepth 16384

noncomputable section

namespace Cert.Na

open Cert.KernelIdeal Cert.KernelIdeal.Gen Idealize.ShloMosaic Idealize.ShloMosaic.TcCoe Idealize.SL.Sem

/-- The first grid row of the three kinds of query block: the first block, an inner one, the last one. -/
def rowBase (k : Fin 3) : ℕ := match k with | 0 => 0 | 1 => 4 | 2 => 252

/-- The first grid row of the keys a query block of each kind meets. -/
def keyBase (k : Fin 3) : ℕ := match k with | 0 => 0 | 1 => 0 | 2 => 244

/-- The column of the relative position bias for query column `w` and key column `j`. -/
def colOff (w j : Fin 64) : Fin 31 := ⟨min (j.val + 15 - w.val) 30, by omega⟩

/-- The row of the relative position bias for query row `r` and key row `kr` of a block of kind `k`. -/
def rowOff (k : Fin 3) (r : Fin 4) (kr : Fin 12) : Fin 15 :=
  ⟨min (keyBase k + kr.val + 7 - (rowBase k + r.val)) 14, by omega⟩

/-- Key column `j` is one of the sixteen that query column `w` attends to. -/
def colIn (w j : Fin 64) : Bool := decide (min 48 (w.val - 8) ≤ j.val ∧ j.val < min 48 (w.val - 8) + 16)

/-- Key row `kr` is one of the eight that query row `r` attends to, in a block of kind `k`. -/
def rowIn (k : Fin 3) (r : Fin 4) (kr : Fin 12) : Bool :=
  decide (min 248 (rowBase k + r.val - 4) ≤ keyBase k + kr.val ∧ keyBase k + kr.val < min 248 (rowBase k + r.val - 4) + 8)

theorem clamp_col (n : Fin 31) (h) : (⟨min (BitVec.ofNat 32 n.val).toInt.toNat 30, h⟩ : Fin 31) = n := by
  have : ∀ n : Fin 31, min (BitVec.ofNat 32 n.val).toInt.toNat 30 = n.val := by decide
  exact Fin.ext (this n)

theorem clamp_row (n : Fin 15) (h) : (⟨min (BitVec.ofNat 32 n.val).toInt.toNat 14, h⟩ : Fin 15) = n := by
  have : ∀ n : Fin 15, min (BitVec.ofNat 32 n.val).toInt.toNat 14 = n.val := by decide
  exact Fin.ext (this n)

/-- A select on the conjunction of two mask bits is a choice on the conjunction of what they stand for. -/
theorem select_and {a b : BitVec 1} {x y x' y' : EReal} (p q : Bool) (ha : a = BitVec.ofBool p) (hb : b = BitVec.ofBool q)
    (hx : x = x') (hy : y = y') : Scalar.select (IntOp.andi a b) x y = if p && q then x' else y' := by
  subst ha hb hx hy
  cases p <;> cases q <;> rfl

variable (m : (ℓ : Loc nD τ sig) → Buf (Elt Ideal) ℓ)

/-- The logarithm of e to base 2, as the host code computes it. -/
def log2e : EReal := Ideal.div 1 (Ideal.log (Ideal.ofBits .f32 1073741824#32))

/-- The bias table's entry for head `h`, query row `r`, query column `w`, key row `kr` and key column `j` in a block of
    kind `k`: the scaled relative position bias where the query attends to the key, minus infinity elsewhere. -/
def biasAt (B : S1x16x15x31.Idx → EReal) (k : Fin 3) (h : Fin 16) (r : Fin 4) (w : Fin 64) (kr : Fin 12) (j : Fin 64) : EReal :=
  if rowIn k r kr && colIn w j then
    B (ix4 0 h (rowOff k r kr) (colOff w j)) * log2e
  else ⊥

/-- The bias table for query blocks of kind 0. -/
theorem bias0_apply (c : Dev nD) (h : Fin 16) (i : Fin 256) (j : Fin 768) :
    V m c main_v95 (ix3 h i j)
      = biasAt (m (c, Proc.tc.devRef main_arg1)) 0 h ⟨i.val / 64, by omega⟩ ⟨i.val % 64, by omega⟩ ⟨j.val / 64, by omega⟩ ⟨j.val % 64, by omega⟩ := by
  unfold V
  after_reads_at
  rw [gather_rows, gather_cols]
  generalize hc : broadcastInDim S64x64x1 _ _ _ = ci
  generalize hr : broadcastInDim S4x12x1 _ _ _ = ri
  have hci : ∀ (i j : Fin 64), ci (ix3 i j 0) = BitVec.ofNat 32 (colOff i j).val := by
    intro i j
    rw [← hc]
    pointwise
    clear hc hr
    revert i j
    decide +kernel
  have hri : ∀ (i : Fin 4) (j : Fin 12), ri (ix3 i j 0) = BitVec.ofNat 32 (rowOff 0 i j).val := by
    intro i j
    rw [← hr]
    pointwise
    clear hc hr
    revert i j
    decide +kernel
  clear hc hr
  simp only [hci, hri, clamp_col, clamp_row]
  clear hci hri
  generalize hr : (⟨i.val / 64, _⟩ : Fin 4) = r
  generalize hw : (⟨i.val % 64, _⟩ : Fin 64) = w
  generalize hkr : (⟨j.val / 64, _⟩ : Fin 12) = kr
  generalize hkc : (⟨j.val % 64, _⟩ : Fin 64) = kc
  rw [show i.val / 64 = r.val by rw [← hr], show i.val % 64 = w.val by rw [← hw],
    show j.val / 64 = kr.val by rw [← hkr], show j.val % 64 = kc.val by rw [← hkc]]
  refine select_and (rowIn 0 r kr) (colIn w kc) ?_ ?_ rfl ?_
  · clear * - r kr
    revert r kr
    decide +kernel
  · clear * - w kc
    revert w kc
    decide +kernel
  · exact ofBits_neg_inf

/-- The bias table for query blocks of kind 1. -/
theorem bias1_apply (c : Dev nD) (h : Fin 16) (i : Fin 256) (j : Fin 768) :
    V m c main_v145 (ix3 h i j)
      = biasAt (m (c, Proc.tc.devRef main_arg1)) 1 h ⟨i.val / 64, by omega⟩ ⟨i.val % 64, by omega⟩ ⟨j.val / 64, by omega⟩ ⟨j.val % 64, by omega⟩ := by
  unfold V
  after_reads_at
  rw [gather_rows, gather_cols]
  generalize hc : broadcastInDim S64x64x1 _ _ _ = ci
  generalize hr : broadcastInDim S4x12x1 _ _ _ = ri
  have hci : ∀ (i j : Fin 64), ci (ix3 i j 0) = BitVec.ofNat 32 (colOff i j).val := by
    intro i j
    rw [← hc]
    pointwise
    clear hc hr
    revert i j
    decide +kernel
  have hri : ∀ (i : Fin 4) (j : Fin 12), ri (ix3 i j 0) = BitVec.ofNat 32 (rowOff 1 i j).val := by
    intro i j
    rw [← hr]
    pointwise
    clear hc hr
    revert i j
    decide +kernel
  clear hc hr
  simp only [hci, hri, clamp_col, clamp_row]
  clear hci hri
  generalize hr : (⟨i.val / 64, _⟩ : Fin 4) = r
  generalize hw : (⟨i.val % 64, _⟩ : Fin 64) = w
  generalize hkr : (⟨j.val / 64, _⟩ : Fin 12) = kr
  generalize hkc : (⟨j.val % 64, _⟩ : Fin 64) = kc
  rw [show i.val / 64 = r.val by rw [← hr], show i.val % 64 = w.val by rw [← hw],
    show j.val / 64 = kr.val by rw [← hkr], show j.val % 64 = kc.val by rw [← hkc]]
  refine select_and (rowIn 1 r kr) (colIn w kc) ?_ ?_ rfl ?_
  · clear * - r kr
    revert r kr
    decide +kernel
  · clear * - w kc
    revert w kc
    decide +kernel
  · exact ofBits_neg_inf

/-- The bias table for query blocks of kind 2. -/
theorem bias2_apply (c : Dev nD) (h : Fin 16) (i : Fin 256) (j : Fin 768) :
    V m c main_v195 (ix3 h i j)
      = biasAt (m (c, Proc.tc.devRef main_arg1)) 2 h ⟨i.val / 64, by omega⟩ ⟨i.val % 64, by omega⟩ ⟨j.val / 64, by omega⟩ ⟨j.val % 64, by omega⟩ := by
  unfold V
  after_reads_at
  rw [gather_rows, gather_cols]
  generalize hc : broadcastInDim S64x64x1 _ _ _ = ci
  generalize hr : broadcastInDim S4x12x1 _ _ _ = ri
  have hci : ∀ (i j : Fin 64), ci (ix3 i j 0) = BitVec.ofNat 32 (colOff i j).val := by
    intro i j
    rw [← hc]
    pointwise
    clear hc hr
    revert i j
    decide +kernel
  have hri : ∀ (i : Fin 4) (j : Fin 12), ri (ix3 i j 0) = BitVec.ofNat 32 (rowOff 2 i j).val := by
    intro i j
    rw [← hr]
    pointwise
    clear hc hr
    revert i j
    decide +kernel
  clear hc hr
  simp only [hci, hri, clamp_col, clamp_row]
  clear hci hri
  generalize hr : (⟨i.val / 64, _⟩ : Fin 4) = r
  generalize hw : (⟨i.val % 64, _⟩ : Fin 64) = w
  generalize hkr : (⟨j.val / 64, _⟩ : Fin 12) = kr
  generalize hkc : (⟨j.val % 64, _⟩ : Fin 64) = kc
  rw [show i.val / 64 = r.val by rw [← hr], show i.val % 64 = w.val by rw [← hw],
    show j.val / 64 = kr.val by rw [← hkr], show j.val % 64 = kc.val by rw [← hkc]]
  refine select_and (rowIn 2 r kr) (colIn w kc) ?_ ?_ rfl ?_
  · clear * - r kr
    revert r kr
    decide +kernel
  · clear * - w kc
    revert w kc
    decide +kernel
  · exact ofBits_neg_inf

/-- The three tables are stacked. -/
theorem bias_stack (c : Dev nD) (k : Fin 3) (h : Fin 16) (i : Fin 256) (j : Fin 768) :
    V m c main_v199 (ix4 k h i j)
      = if k.val < 1 then V m c main_v95 (ix3 h i j) else if k.val - 1 < 1 then V m c main_v145 (ix3 h i j)
        else V m c main_v195 (ix3 h i j) := by
  unfold V
  simp (disch := decide) only [StableHlo.readAfter, StableHlo.readUpto, StableHlo.nary_result']
  pointwise
  simp (disch := decide) only [StableHlo.readAfter, StableHlo.readUpto, StableHlo.unary_result']
  pointwise
  rfl

/-- The bias table the kernel reads. -/
theorem bias_apply (c : Dev nD) (k : Fin 3) (h : Fin 16) (i : Fin 256) (j : Fin 768) :
    V m c main_v199 (ix4 k h i j)
      = biasAt (m (c, Proc.tc.devRef main_arg1)) k h ⟨i.val / 64, by omega⟩ ⟨i.val % 64, by omega⟩
          ⟨j.val / 64, by omega⟩ ⟨j.val % 64, by omega⟩ := by
  rw [bias_stack, bias0_apply, bias1_apply, bias2_apply]
  match k with
  | 0 => rfl
  | 1 => rfl
  | 2 => rfl

/-- The fused queries, keys and values by head: row `r` of the three sequences put end to end, with the queries' heads
    scaled by the logarithm and the root of the head's width. -/
def qkvAt (X : S3x16384x6144.Idx → EReal) (g : Fin 48) (r : Fin 49152) (e : Fin 128) : EReal :=
  X (ix3 ⟨r.val / 16384, by omega⟩ ⟨r.val % 16384, by omega⟩ ⟨g.val * 128 + e.val, by omega⟩)
    * if g.val * 128 + e.val < 2048 then Ideal.div log2e (Ideal.sqrt (Ideal.ofBits .f32 1124073472#32)) else 1

/-- The fused queries, keys and values by head, as the kernel reads them. -/
theorem qkv_apply (c : Dev nD) (g : Fin 48) (r : Fin 49152) (e : Fin 128) :
    V m c main_v12 (ix3 g r e)
      = qkvAt (m (c, Proc.tc.devRef main_arg0)) g r e := by
  unfold V
  after_reads_at
  after_reads_at
  rfl

end Cert.Na
-- ==== Proof.Na.Blocks.lean ====
module

public import proofs.«01_k».proof.Proof.Na.Unit
public import Idealize.ShloMosaic.Lib.StableHlo.ReadAt

/-!
The blocks of a grid point, read at one index: which rows of the host arrays the queries, keys, values and bias of each
of its sixteen units are.
-/

@[expose] public section

set_option maxRecDepth 16384

noncomputable section

namespace Cert.Na

open Cert.KernelIdeal Cert.KernelIdeal.Gen Idealize.ShloMosaic Idealize.ShloMosaic.TcCoe Idealize.SL.Sem

/-- The first key block of a grid point's window. -/
def winBase (b : ℕ) : ℕ := min (16 * b - 1) 46

theorem idx0 : ∀ t : Fin cfg0.N, ∀ a, (cfg0.win 0).index t a = ![t.val / 12, t.val % 12, 0] a := by decide +kernel
theorem idx1 : ∀ t : Fin cfg0.N, ∀ a, (cfg0.win 1).index t a = ![16 + t.val / 12, (64 * (t.val / 4 % 3) + winBase (t.val % 4)) * 256, 0] a := by
  decide +kernel
theorem idx2 : ∀ t : Fin cfg0.N, ∀ a, (cfg0.win 2).index t a = ![32 + t.val / 12, (64 * (t.val / 4 % 3) + winBase (t.val % 4)) * 256, 0] a := by
  decide +kernel
theorem idx3 : ∀ t : Fin cfg0.N, ∀ a, (cfg0.win 3).index t a = ![0, t.val / 12, 0, 0] a := by
  decide +kernel
theorem idx4 : ∀ t : Fin cfg0.N, ∀ a, (cfg0.win 4).index t a = ![t.val / 12, t.val % 12, 0] a := by decide +kernel

theorem off1 : ∀ (t : Fin cfg0.N) (u : Fin 16), ∀ a, k0_off1 (grid0.coords t) (BitVec.ofNat 32 u.val) a
    = ![0, 256 * (min (16 * (t.val % 4) + u.val - 1) 61 - winBase (t.val % 4)), 0] a := by
  decide +kernel

/-- The kind of query block a unit is: the first of its sequence, an inner one, the last. -/
def unitKind (n : ℕ) : Fin 3 := if n = 0 then 0 else if n = 63 then 2 else 1

theorem off2 : ∀ (t : Fin cfg0.N) (u : Fin 16), ∀ a, k0_off2 (grid0.coords t) (BitVec.ofNat 32 u.val) a
    = ![(unitKind (16 * (t.val % 4) + u.val)).val, 0, 0, 0] a := by
  decide +kernel

theorem lt192 (t : Fin cfg0.N) : t.val < 192 := t.isLt

variable (m : (ℓ : Loc nD τ sig) → Buf (Elt Ideal) ℓ)

/-- The queries of unit `u` at grid point `t`. -/
theorem q_block (c : Dev nD) (t : Fin cfg0.N) (u : Fin 16) (i : Fin 256) (e : Fin 128) :
    View.ld (iblk m c 0 t) (Rect.unit (s := S1x4096x128) ![0, 256 * u.val, 0] S1x256x128.size (qrows_inb u)) (ix3 0 i e)
      = V m c main_v12 (ix3 ⟨t.val / 12, by have := lt192 t; omega⟩
          ⟨4096 * (t.val % 12) + (256 * u.val + i.val), by have := lt192 t; omega⟩ e) := by
  have h := lt192 t
  refine Eq.trans (b := V m c main_v12 ((win0_0.blk t).view.emb
    (Rect.emb (Rect.unit (s := S1x4096x128) ![0, 256 * u.val, 0] S1x256x128.size (qrows_inb u)) (ix3 0 i e)))) (by rfl) ?_
  congr 1
  funext a
  have e0 : ∀ a, (((win0_0.rect t).emb (Rect.emb (Rect.unit (s := S1x4096x128) ![0, 256 * u.val, 0] S1x256x128.size (qrows_inb u)) (ix3 0 i e))) a : ℕ) = _ :=
    fun a => win0_0.rect_emb_val t _ a
  refine Fin.ext ((e0 a).trans ?_)
  rw [show win0_0.index t a = _ from idx0 t a]
  match a with
  | ⟨0, _⟩ => show t.val / 12 * 1 + (0 + 1 * 0) = t.val / 12; omega
  | ⟨1, _⟩ => show t.val % 12 * 4096 + (256 * u.val + 1 * i.val) = 4096 * (t.val % 12) + (256 * u.val + i.val); omega
  | ⟨2, _⟩ => show 0 * 128 + (0 + 1 * e.val) = e.val; omega

/-- The keys of unit `u` at grid point `t`. -/
theorem k_block (c : Dev nD) (t : Fin cfg0.N) (u : Fin 16) (j : Fin 768) (e : Fin 128) :
    View.ld (iblk m c 1 t) (Rect.unit (s := S1x4608x128) (k0_off1 (grid0.coords t) (BitVec.ofNat 32 u.val)) S1x768x128.size
        (k0_off1_inb (grid0.coords t) u)) (ix3 0 j e)
      = V m c main_v12 (ix3 ⟨16 + t.val / 12, by have := lt192 t; omega⟩
          ⟨16384 * (t.val / 4 % 3) + (256 * min (16 * (t.val % 4) + u.val - 1) 61 + j.val), by have := lt192 t; omega⟩ e) := by
  have h := lt192 t
  refine Eq.trans (b := V m c main_v12 ((win0_1.blk t).view.emb
    (Rect.emb (Rect.unit (s := S1x4608x128) (k0_off1 (grid0.coords t) (BitVec.ofNat 32 u.val)) S1x768x128.size
        (k0_off1_inb (grid0.coords t) u)) (ix3 0 j e)))) (by rfl) ?_
  congr 1
  funext a
  refine Fin.ext ((win0_1.rect_emb_val_off t _ a).trans ?_)
  rw [show win0_1.index t a = _ from idx1 t a]
  have o : ∀ a, ((Rect.emb (Rect.unit (s := S1x4608x128) (k0_off1 (grid0.coords t) (BitVec.ofNat 32 u.val)) S1x768x128.size
        (k0_off1_inb (grid0.coords t) u)) (ix3 0 j e)) a : ℕ)
      = k0_off1 (grid0.coords t) (BitVec.ofNat 32 u.val) a + 1 * ((ix3 (0 : Fin 1) j e : S1x768x128.Idx) a : ℕ) := fun a => rfl
  refine (congrArg (fun n => _ + n) ((o a).trans (congrArg (· + _) (off1 t u a)))).trans ?_
  match a with
  | ⟨0, _⟩ => show 16 + t.val / 12 + (0 + 1 * 0) = 16 + t.val / 12; omega
  | ⟨1, _⟩ =>
    show (64 * (t.val / 4 % 3) + winBase (t.val % 4)) * 256
      + (256 * (min (16 * (t.val % 4) + u.val - 1) 61 - winBase (t.val % 4)) + 1 * j.val) = _ + (_ + j.val)
    unfold winBase
    have := u.isLt
    omega
  | ⟨2, _⟩ => show 0 + (0 + 1 * e.val) = e.val; omega

/-- The values of unit `u` at grid point `t`. -/
theorem v_block (c : Dev nD) (t : Fin cfg0.N) (u : Fin 16) (j : Fin 768) (e : Fin 128) :
    View.ld (iblk m c 2 t) (Rect.unit (s := S1x4608x128) (k0_off1 (grid0.coords t) (BitVec.ofNat 32 u.val)) S1x768x128.size
        (k0_off1_inb (grid0.coords t) u)) (ix3 0 j e)
      = V m c main_v12 (ix3 ⟨32 + t.val / 12, by have := lt192 t; omega⟩
          ⟨16384 * (t.val / 4 % 3) + (256 * min (16 * (t.val % 4) + u.val - 1) 61 + j.val), by have := lt192 t; omega⟩ e) := by
  have h := lt192 t
  refine Eq.trans (b := V m c main_v12 ((win0_2.blk t).view.emb
    (Rect.emb (Rect.unit (s := S1x4608x128) (k0_off1 (grid0.coords t) (BitVec.ofNat 32 u.val)) S1x768x128.size
        (k0_off1_inb (grid0.coords t) u)) (ix3 0 j e)))) (by rfl) ?_
  congr 1
  funext a
  refine Fin.ext ((win0_2.rect_emb_val_off t _ a).trans ?_)
  rw [show win0_2.index t a = _ from idx2 t a]
  have o : ∀ a, ((Rect.emb (Rect.unit (s := S1x4608x128) (k0_off1 (grid0.coords t) (BitVec.ofNat 32 u.val)) S1x768x128.size
        (k0_off1_inb (grid0.coords t) u)) (ix3 0 j e)) a : ℕ)
      = k0_off1 (grid0.coords t) (BitVec.ofNat 32 u.val) a + 1 * ((ix3 (0 : Fin 1) j e : S1x768x128.Idx) a : ℕ) := fun a => rfl
  refine (congrArg (fun n => _ + n) ((o a).trans (congrArg (· + _) (off1 t u a)))).trans ?_
  match a with
  | ⟨0, _⟩ => show 32 + t.val / 12 + (0 + 1 * 0) = 32 + t.val / 12; omega
  | ⟨1, _⟩ =>
    show (64 * (t.val / 4 % 3) + winBase (t.val % 4)) * 256
      + (256 * (min (16 * (t.val % 4) + u.val - 1) 61 - winBase (t.val % 4)) + 1 * j.val) = _ + (_ + j.val)
    unfold winBase
    have := u.isLt
    omega
  | ⟨2, _⟩ => show 0 + (0 + 1 * e.val) = e.val; omega

/-- The bias of unit `u` at grid point `t`. -/
theorem b_block (c : Dev nD) (t : Fin cfg0.N) (u : Fin 16) (i : Fin 256) (j : Fin 768) :
    View.ld (iblk m c 3 t) (Rect.unit (s := S3x1x256x768) (k0_off2 (grid0.coords t) (BitVec.ofNat 32 u.val)) S1x1x256x768.size
        (k0_off2_inb (grid0.coords t) u)) (ix4 0 0 i j)
      = V m c main_v199 (ix4 (unitKind (16 * (t.val % 4) + u.val)) ⟨t.val / 12, by have := lt192 t; omega⟩ i j) := by
  have h := lt192 t
  refine Eq.trans (b := V m c main_v199 ((win0_3.blk t).view.emb
    (Rect.emb (Rect.unit (s := S3x1x256x768) (k0_off2 (grid0.coords t) (BitVec.ofNat 32 u.val)) S1x1x256x768.size
        (k0_off2_inb (grid0.coords t) u)) (ix4 0 0 i j)))) (by rfl) ?_
  congr 1
  funext a
  refine Fin.ext ((win0_3.rect_emb_val t _ a).trans ?_)
  rw [show win0_3.index t a = _ from idx3 t a]
  have o : ∀ a, ((Rect.emb (Rect.unit (s := S3x1x256x768) (k0_off2 (grid0.coords t) (BitVec.ofNat 32 u.val)) S1x1x256x768.size
        (k0_off2_inb (grid0.coords t) u)) (ix4 0 0 i j)) a : ℕ)
      = k0_off2 (grid0.coords t) (BitVec.ofNat 32 u.val) a + 1 * ((ix4 (0 : Fin 1) (0 : Fin 1) i j : S1x1x256x768.Idx) a : ℕ) := fun a => rfl
  refine (congrArg (fun n => _ + n) ((o a).trans (congrArg (· + _) (off2 t u a)))).trans ?_
  match a with
  | ⟨0, _⟩ => show 0 * 3 + ((unitKind (16 * (t.val % 4) + u.val)).val + 1 * 0) = (unitKind (16 * (t.val % 4) + u.val)).val; omega
  | ⟨1, _⟩ => show t.val / 12 * 1 + (0 + 1 * 0) = t.val / 12; omega
  | ⟨2, _⟩ => show 0 * 256 + (0 + 1 * i.val) = i.val; omega
  | ⟨3, _⟩ => show 0 * 768 + (0 + 1 * j.val) = j.val; omega

end Cert.Na
-- ==== Proof.Na.Ref.lean ====
module

public import proofs.«01_k».proof.Proof.Gen.ReferenceIdeal.Run
public import Idealize.ShloMosaic.Lib.Tactic.CleanTypes
public import Idealize.ShloMosaic.Lib.Pointwise

/-!
The reference read at one index: its scores, its softmax weights and its weighted sum of the values.
-/

@[expose] public section

set_option maxRecDepth 16384

noncomputable section

namespace Cert.Na.Ref

open Cert.ReferenceIdeal Cert.ReferenceIdeal.Gen Idealize.ShloMosaic Idealize.ShloMosaic.TcCoe Idealize.SL.Sem

/-- The gather of the neighbouring rows: row `idx (q, a)` of every sequence. -/
theorem gather_nrows {α : Type} (x : S3x256x64x16x128.Idx → α) (idx : IVec S256x8x1 32) (b : Fin 3) (q : Fin 256) (a : Fin 8)
    (w : Fin 64) (h : Fin 16) (e : Fin 128) :
    Host.gather gather_S3x256x64x16x128_S256x8x1_S3x256x8x64x16x128_0345_1_n_n_1_2_316416128 x idx (ix6 b q a w h e)
      = x (ix5 b ⟨min (idx (ix3 q a 0)).toInt.toNat 255, by omega⟩ w h e) := by
  unfold Host.gather
  congr 1
  funext z
  match z with
  | ⟨0, _⟩ => exact Fin.ext (Nat.zero_add _)
  | ⟨1, _⟩ =>
    refine Fin.ext ?_
    show min (idx _).toInt.toNat 255 + 0 + 0 = min (idx _).toInt.toNat 255
    have e : GatherDims.siIdx gather_S3x256x64x16x128_S256x8x1_S3x256x8x64x16x128_0345_1_n_n_1_2_316416128 (ix6 b q a w h e)
        ⟨0, by decide⟩ = ix3 q a 0 := by
      funext y
      match y with
      | ⟨0, _⟩ => rfl
      | ⟨1, _⟩ => rfl
      | ⟨2, _⟩ => rfl
    exact congrArg (fun y => min (idx y).toInt.toNat 255) e
  | ⟨2, _⟩ => exact Fin.ext (Nat.zero_add _)
  | ⟨3, _⟩ => exact Fin.ext (Nat.zero_add _)
  | ⟨4, _⟩ => exact Fin.ext (Nat.zero_add _)

/-- The gather of the neighbouring columns: column `idx (w, k)` of every gathered row. -/
theorem gather_ncols {α : Type} (x : S3x256x8x64x16x128.Idx → α) (idx : IVec S64x16x1 32) (b : Fin 3) (q : Fin 256) (a : Fin 8)
    (w : Fin 64) (k : Fin 16) (h : Fin 16) (e : Fin 128) :
    Host.gather gather_S3x256x8x64x16x128_S64x16x1_S3x256x8x64x16x16x128_01256_3_n_n_3_2_32568116128 x idx (ix7 b q a w k h e)
      = x (ix6 b q a ⟨min (idx (ix3 w k 0)).toInt.toNat 63, by omega⟩ h e) := by
  unfold Host.gather
  congr 1
  funext z
  match z with
  | ⟨0, _⟩ => exact Fin.ext (Nat.zero_add _)
  | ⟨1, _⟩ => exact Fin.ext (Nat.zero_add _)
  | ⟨2, _⟩ => exact Fin.ext (Nat.zero_add _)
  | ⟨3, _⟩ =>
    refine Fin.ext ?_
    show min (idx _).toInt.toNat 63 + 0 + 0 = min (idx _).toInt.toNat 63
    have e : GatherDims.siIdx gather_S3x256x8x64x16x128_S64x16x1_S3x256x8x64x16x16x128_01256_3_n_n_3_2_32568116128
        (ix7 b q a w k h e) ⟨0, by decide⟩ = ix3 w k 0 := by
      funext y
      match y with
      | ⟨0, _⟩ => rfl
      | ⟨1, _⟩ => rfl
      | ⟨2, _⟩ => rfl
    exact congrArg (fun y => min (idx y).toInt.toNat 63) e
  | ⟨4, _⟩ => exact Fin.ext (Nat.zero_add _)
  | ⟨5, _⟩ => exact Fin.ext (Nat.zero_add _)

/-- The gather of the relative position bias at a pair of indices. -/
theorem gather_bias {α : Type} (x : S16x15x31.Idx → α) (idx : IVec S256x64x8x16x2 32) (h : Fin 16) (q : Fin 256) (w : Fin 64)
    (a : Fin 8) (k : Fin 16) :
    Host.gather gather_S16x15x31_S256x64x8x16x2_S16x256x64x8x16_0_12_n_n_12_4_1611 x idx (ix5 h q w a k)
      = x (ix3 h ⟨min (idx (ix5 q w a k 0)).toInt.toNat 14, by omega⟩ ⟨min (idx (ix5 q w a k 1)).toInt.toNat 30, by omega⟩) := by
  unfold Host.gather
  congr 1
  funext z
  match z with
  | ⟨0, _⟩ => exact Fin.ext (Nat.zero_add _)
  | ⟨1, _⟩ =>
    refine Fin.ext ?_
    show min (idx _).toInt.toNat 14 + 0 + 0 = min (idx _).toInt.toNat 14
    have e : GatherDims.siIdx gather_S16x15x31_S256x64x8x16x2_S16x256x64x8x16_0_12_n_n_12_4_1611 (ix5 h q w a k)
        ⟨0, by decide⟩ = ix5 q w a k 0 := by
      funext y
      match y with
      | ⟨0, _⟩ => rfl
      | ⟨1, _⟩ => rfl
      | ⟨2, _⟩ => rfl
      | ⟨3, _⟩ => rfl
      | ⟨4, _⟩ => rfl
    exact congrArg (fun y => min (idx y).toInt.toNat 14) e
  | ⟨2, _⟩ =>
    refine Fin.ext ?_
    show min (idx _).toInt.toNat 30 + 0 + 0 = min (idx _).toInt.toNat 30
    have e : GatherDims.siIdx gather_S16x15x31_S256x64x8x16x2_S16x256x64x8x16_0_12_n_n_12_4_1611 (ix5 h q w a k)
        ⟨1, by decide⟩ = ix5 q w a k 1 := by
      funext y
      match y with
      | ⟨0, _⟩ => rfl
      | ⟨1, _⟩ => rfl
      | ⟨2, _⟩ => rfl
      | ⟨3, _⟩ => rfl
      | ⟨4, _⟩ => rfl
    exact congrArg (fun y => min (idx y).toInt.toNat 30) e

/-- The first of the eight rows that row `q` attends to. -/
def rowStart (q : Fin 256) : ℕ := min 248 (q.val - 4)

/-- The first of the sixteen columns that column `w` attends to. -/
def colStart (w : Fin 64) : ℕ := min 48 (w.val - 8)

/-- The `a`-th row that row `q` attends to. -/
def nbRow (q : Fin 256) (a : Fin 8) : Fin 256 := ⟨rowStart q + a.val, by unfold rowStart; omega⟩

/-- The `k`-th column that column `w` attends to. -/
def nbCol (w : Fin 64) (k : Fin 16) : Fin 64 := ⟨colStart w + k.val, by unfold colStart; omega⟩

/-- The row of the relative position bias for the `a`-th row that row `q` attends to. -/
def biasRow (q : Fin 256) (a : Fin 8) : Fin 15 := ⟨rowStart q + a.val + 7 - q.val, by unfold rowStart; omega⟩

/-- The column of the relative position bias for the `k`-th column that column `w` attends to. -/
def biasCol (w : Fin 64) (k : Fin 16) : Fin 31 := ⟨colStart w + k.val + 15 - w.val, by unfold colStart; omega⟩

/-- A word below the bound of a clamp is read as itself. -/
theorem clamp_word (n b : ℕ) (hb : b < 2 ^ 31) (hn : n ≤ b) : min (BitVec.ofNat 32 n).toInt.toNat b = n := by
  have h : (BitVec.ofNat 32 n).toInt = n := by
    rw [BitVec.toInt_eq_toNat_of_lt] <;> rw [BitVec.toNat_ofNat, Nat.mod_eq_of_lt (by omega)]
    omega
  rw [h]
  omega

theorem clamp_nbRow (q a h) : (⟨min (BitVec.ofNat 32 (nbRow q a).val).toInt.toNat 255, h⟩ : Fin 256) = nbRow q a :=
  Fin.ext (clamp_word _ _ (by omega) (by omega))

theorem clamp_nbCol (w k h) : (⟨min (BitVec.ofNat 32 (nbCol w k).val).toInt.toNat 63, h⟩ : Fin 64) = nbCol w k :=
  Fin.ext (clamp_word _ _ (by omega) (by omega))

theorem clamp_biasRow (q a h) : (⟨min (BitVec.ofNat 32 (biasRow q a).val).toInt.toNat 14, h⟩ : Fin 15) = biasRow q a :=
  Fin.ext (clamp_word _ _ (by omega) (by omega))

theorem clamp_biasCol (w k h) : (⟨min (BitVec.ofNat 32 (biasCol w k).val).toInt.toNat 30, h⟩ : Fin 31) = biasCol w k :=
  Fin.ext (clamp_word _ _ (by omega) (by omega))

/-- The exponentials of the reference's softmax, from its scores. -/
def exps (S : FVec Ideal S3x16x256x64x128 .f32) : FVec Ideal S3x16x256x64x128 .f32 :=
  Host.exp (subf S
    (broadcastInDim S3x16x256x64x128 ![0, 1, 2, 3, 4] bcast_S3x16x256x64x1_S3x16x256x64x128_0_1_2_3_4
      (broadcastInDim S3x16x256x64x1 ![0, 1, 2, 3] bcast_S3x16x256x64_S3x16x256x64x1_0_1_2_3
        (maximumf (broadcastInDim S3x16x256x64 ![] bcast_S_S3x16x256x64 (constant S_ .f32 4286578688#32))
          (Host.reduce (FloatOps.maximumf (F := Ideal) (φ := .f32)) S (constant S_ .f32 4286578688#32)
            reducesTo_S3x16x256x64x128_S3x16x256x64_d4 h_S_)))))

/-- The softmax weights of the reference from its scores. -/
def weights (S : FVec Ideal S3x16x256x64x128 .f32) : FVec Ideal S3x16x256x64x8x16 .f32 :=
  shapeCast S3x16x256x64x8x16 (Host.divf (exps S)
    (broadcastInDim S3x16x256x64x128 ![0, 1, 2, 3, 4] bcast_S3x16x256x64x1_S3x16x256x64x128_0_1_2_3_4
      (broadcastInDim S3x16x256x64x1 ![0, 1, 2, 3] bcast_S3x16x256x64_S3x16x256x64x1_0_1_2_3
        (Host.reduceAdd (exps S) (constant S_ .f32 0#32) reducesTo_S3x16x256x64x128_S3x16x256x64_d4 h_S_))))
    shapeCasts_S3x16x256x64x128_S3x16x256x64x8x16

theorem max_apply (S : FVec Ideal S3x16x256x64x128 .f32) (b h q w) :
    Host.reduce (FloatOps.maximumf (F := Ideal) (φ := .f32)) S (constant S_ .f32 4286578688#32)
      reducesTo_S3x16x256x64x128_S3x16x256x64_d4 h_S_ (ix4 b h q w)
      = Finset.fold max (Ideal.ofBits .f32 4286578688#32) (fun x => S (ix5 b h q w x)) Finset.univ := by
  pointwise

theorem exp_apply (S : FVec Ideal S3x16x256x64x128 .f32) (M : FVec Ideal S3x16x256x64 .f32) (b h q w x) :
    Host.exp (subf S
      (broadcastInDim S3x16x256x64x128 ![0, 1, 2, 3, 4] bcast_S3x16x256x64x1_S3x16x256x64x128_0_1_2_3_4
        (broadcastInDim S3x16x256x64x1 ![0, 1, 2, 3] bcast_S3x16x256x64_S3x16x256x64x1_0_1_2_3
          (maximumf (broadcastInDim S3x16x256x64 ![] bcast_S_S3x16x256x64 (constant S_ .f32 4286578688#32)) M))))
      (ix5 b h q w x)
      = Ideal.exp (S (ix5 b h q w x) - max (Ideal.ofBits .f32 4286578688#32) (M (ix4 b h q w))) := by
  pointwise

theorem sum_apply (E : FVec Ideal S3x16x256x64x128 .f32) (b h q w) :
    Host.reduceAdd E (constant S_ .f32 0#32) reducesTo_S3x16x256x64x128_S3x16x256x64_d4 h_S_ (ix4 b h q w)
      = ∑ x, E (ix5 b h q w x) := by
  pointwise

theorem div_apply (E : FVec Ideal S3x16x256x64x128 .f32) (N : FVec Ideal S3x16x256x64 .f32) (b h q w) (x : Fin 8) (y : Fin 16) :
    shapeCast S3x16x256x64x8x16 (Host.divf E
      (broadcastInDim S3x16x256x64x128 ![0, 1, 2, 3, 4] bcast_S3x16x256x64x1_S3x16x256x64x128_0_1_2_3_4
        (broadcastInDim S3x16x256x64x1 ![0, 1, 2, 3] bcast_S3x16x256x64_S3x16x256x64x1_0_1_2_3 N)))
      shapeCasts_S3x16x256x64x128_S3x16x256x64x8x16 (ix6 b h q w x y)
      = Ideal.div (E (ix5 b h q w ⟨x.val * 16 + y.val, by omega⟩)) (N (ix4 b h q w)) := by
  pointwise

/-- The exponential of a score less the largest score of its query. -/
def expAt (s : Fin 128 → EReal) (n : Fin 128) : EReal :=
  Ideal.exp (s n - max (Ideal.ofBits .f32 4286578688#32) (Finset.fold max (Ideal.ofBits .f32 4286578688#32) s Finset.univ))

theorem exps_apply (S : FVec Ideal S3x16x256x64x128 .f32) (b h q w x) :
    exps S (ix5 b h q w x) = expAt (fun n => S (ix5 b h q w n)) x := by
  unfold exps expAt
  rw [exp_apply, max_apply]

theorem weights_apply (S : FVec Ideal S3x16x256x64x128 .f32) (b h q w) (x : Fin 8) (y : Fin 16) :
    weights S (ix6 b h q w x y)
      = Ideal.div (expAt (fun n => S (ix5 b h q w n)) ⟨x.val * 16 + y.val, by omega⟩)
          (∑ n, expAt (fun n => S (ix5 b h q w n)) n) := by
  unfold weights
  rw [div_apply, sum_apply]
  simp only [exps_apply]

variable (m : (ℓ : Loc nD τ sig) → Buf (Elt Ideal) ℓ)

/-- The reference's score of query row `q`, column `w`, with its `a`-th row and `k`-th column. -/
def scoreAt (X : S3x16384x6144.Idx → EReal) (B : S1x16x15x31.Idx → EReal) (b : Fin 3) (h : Fin 16) (q : Fin 256) (w : Fin 64)
    (a : Fin 8) (k : Fin 16) : EReal :=
  (∑ e : Fin 128, Ideal.div (X (ix3 b ⟨q.val * 64 + w.val, by omega⟩ ⟨h.val * 128 + e.val, by omega⟩))
      (Ideal.sqrt (Ideal.ofBits .f32 1124073472#32))
    * X (ix3 b ⟨(nbRow q a).val * 64 + (nbCol w k).val, by omega⟩ ⟨2048 + h.val * 128 + e.val, by omega⟩))
  + B (ix4 0 h (biasRow q a) (biasCol w k))

/-- The reference's scores, values and weights, read at one index. -/
theorem parts (c : Dev nD) : ∃ (S : FVec Ideal S3x16x256x64x128 .f32) (vg : FVec Ideal S3x256x8x64x16x16x128 .f32),
    (∀ b h q w a k, S (ix5 b h q w ⟨a.val * 16 + k.val, by omega⟩)
      = scoreAt (m (c, Proc.tc.devRef main_arg0)) (m (c, Proc.tc.devRef main_arg1)) b h q w a k)
    ∧ (∀ b q a w k h e, vg (ix7 b q a w k h e)
      = m (c, Proc.tc.devRef main_arg0) (ix3 b ⟨(nbRow q a).val * 64 + (nbCol w k).val, by omega⟩ ⟨4096 + h.val * 128 + e.val, by omega⟩))
    ∧ ∀ h R d, Cert.ReferenceIdeal.Value.res_main_v107 m c (ix3 h R d)
      = ∑ k : Fin 16, ∑ a : Fin 8,
        weights S (ix6 ⟨R.val / 16384, by omega⟩ h ⟨R.val / 64 % 256, by omega⟩ ⟨R.val % 64, by omega⟩ a k)
          * vg (ix7 ⟨R.val / 16384, by omega⟩ ⟨R.val / 64 % 256, by omega⟩ a ⟨R.val % 64, by omega⟩ k h d) := by
  unfold Cert.ReferenceIdeal.Value.res_main_v107
  clean_types
  generalize hS : shapeCast S3x16x256x64x128 (addf (F := Ideal) (φ := .f32) _ _) _ = S
  generalize hv : Host.gather gather_S3x256x8x64x16x128_S64x16x1_S3x256x8x64x16x16x128_01256_3_n_n_3_2_32568116128 _ _ = vg
  generalize hP : shapeCast S3x16x256x64x8x16 _ _ = P
  have hP' : P = weights S := hP.symm
  clear hP
  refine ⟨S, vg, ?_, ?_, ?_⟩
  · intro b h q w a k
    rw [← hS]
    clear hS hv hP'
    generalize hk : Host.gather gather_S3x256x8x64x16x128_S64x16x1_S3x256x8x64x16x16x128_01256_3_n_n_3_2_32568116128 _ _ = kg
    generalize hb : Host.gather gather_S16x15x31_S256x64x8x16x2_S16x256x64x8x16_0_12_n_n_12_4_1611 _ _ = bg
    have hk' : ∀ b q a w k h e, kg (ix7 b q a w k h e)
        = m (c, Proc.tc.devRef main_arg0) (ix3 b ⟨(nbRow q a).val * 64 + (nbCol w k).val, by omega⟩ ⟨2048 + h.val * 128 + e.val, by omega⟩) := by
      intro b q a w k h e
      rw [← hk, gather_ncols, gather_nrows]
      generalize hc : broadcastInDim S64x16x1 _ _ _ = ci
      generalize hr : broadcastInDim S256x8x1 _ _ _ = ri
      have hci : ∀ w k, ci (ix3 w k 0) = BitVec.ofNat 32 (nbCol w k).val := by
        intro w k
        rw [← hc]
        clear hr hc hk hb
        pointwise
        revert w k
        decide +kernel
      have hri : ∀ q a, ri (ix3 q a 0) = BitVec.ofNat 32 (nbRow q a).val := by
        intro q a
        rw [← hr]
        clear hr hc hci hk hb
        pointwise
        revert q a
        decide +kernel
      clear hc hr hk hb
      simp only [hci, hri, clamp_nbCol, clamp_nbRow]
      pointwise
    clear hk
    have hb' : ∀ h q w a k, bg (ix5 h q w a k) = m (c, Proc.tc.devRef main_arg1) (ix4 0 h (biasRow q a) (biasCol w k)) := by
      intro h q w a k
      rw [← hb, gather_bias]
      generalize hc : concatenate _ _ _ _ = ci
      have h0 : ci (ix5 q w a k 0) = BitVec.ofNat 32 (biasRow q a).val := by
        rw [← hc]
        clear hc hb hk'
        pointwise
        revert q a
        decide +kernel
      have h1 : ci (ix5 q w a k 1) = BitVec.ofNat 32 (biasCol w k).val := by
        rw [← hc]
        clear hc hb hk' h0
        pointwise
        revert w k
        decide +kernel
      clear hc hb hk'
      simp only [h0, h1, clamp_biasRow, clamp_biasCol]
      pointwise
    clear hb
    unfold scoreAt
    have ea : ∀ (a : Fin 8) (k : Fin 16) h, (⟨(a.val * 16 + k.val) / 16, h⟩ : Fin 8) = a := fun a k h => Fin.ext (by show (a.val * 16 + k.val) / 16 = _; omega)
    have ek : ∀ (a : Fin 8) (k : Fin 16) h, (⟨(a.val * 16 + k.val) % 16, h⟩ : Fin 16) = k := fun a k h => Fin.ext (by show (a.val * 16 + k.val) % 16 = _; omega)
    pointwise
    simp only [ea, ek, hk', hb']
  · intro b q a w k h e
    rw [← hv, gather_ncols, gather_nrows]
    generalize hc : broadcastInDim S64x16x1 _ _ _ = ci
    generalize hr : broadcastInDim S256x8x1 _ _ _ = ri
    have hci : ∀ w k, ci (ix3 w k 0) = BitVec.ofNat 32 (nbCol w k).val := by
      intro w k
      rw [← hc]
      clear hS hv hP' hr hc
      pointwise
      revert w k
      decide +kernel
    have hri : ∀ q a, ri (ix3 q a 0) = BitVec.ofNat 32 (nbRow q a).val := by
      intro q a
      rw [← hr]
      clear hS hv hP' hr hc hci
      pointwise
      revert q a
      decide +kernel
    clear hc hr hS hv hP'
    simp only [hci, hri, clamp_nbCol, clamp_nbRow]
    pointwise
  · intro h R d
    rw [← hP']
    clear hP' hv hS
    pointwise

end Cert.Na.Ref
-- ==== Proof.Na.Combine.lean ====
module

public import proofs.«01_k».proof.Proof.Na.Softmax
public import proofs.«01_k».proof.Proof.Na.Prep
public import proofs.«01_k».proof.Proof.Na.Blocks
public import proofs.«01_k».proof.Proof.Na.Ref

/-!
The two sides meet: the scores of a query against the 768 keys of its unit's window are, on the 128 keys it attends to, the
reference's scores in base 2, and minus infinity elsewhere.
-/

@[expose] public section

set_option maxRecDepth 16384

noncomputable section

namespace Cert.Na

open Cert.Na.Ref Idealize.ShloMosaic

/-- The first grid row of the window that the query rows of `q`'s unit read. -/
def keyRow (q : Fin 256) : ℕ := 4 * min (q.val / 4 - 1) 61

/-- Row `q`'s place in its unit. -/
def inUnit (q : Fin 256) : Fin 4 := ⟨q.val % 4, by omega⟩

theorem rowIn_eq : ∀ (q : Fin 256) (kr : Fin 12), rowIn (unitKind (q.val / 4)) (inUnit q) kr
    = decide (rowStart q ≤ keyRow q + kr.val ∧ keyRow q + kr.val < rowStart q + 8) := by
  decide +kernel

theorem keyRow_le (q : Fin 256) : keyRow q ≤ rowStart q := by unfold keyRow rowStart; omega

theorem rowStart_lt (q : Fin 256) : rowStart q < keyRow q + 5 := by unfold keyRow rowStart; omega

/-- The row, within the window, of the `a`-th row that row `q` attends to. -/
def winRow (q : Fin 256) (a : Fin 8) : Fin 12 :=
  ⟨rowStart q + a.val - keyRow q, by have := rowStart_lt q; have := keyRow_le q; omega⟩

theorem rowOff_eq : ∀ (q : Fin 256) (a : Fin 8), rowOff (unitKind (q.val / 4)) (inUnit q) (winRow q a) = biasRow q a := by
  decide +kernel

theorem colOff_eq : ∀ (w : Fin 64) (k : Fin 16), colOff w (nbCol w k) = biasCol w k := by
  decide +kernel

/-- The place, within the window, of the key a query attends to. -/
def winKey (q : Fin 256) (w : Fin 64) (i : Fin 8 × Fin 16) : Fin 768 :=
  ⟨(winRow q i.1).val * 64 + (nbCol w i.2).val, by omega⟩

theorem winKey_injective (q w) : Function.Injective (winKey q w) := by
  rintro ⟨a, k⟩ ⟨a', k'⟩ h
  have h := congrArg Fin.val h
  have h1 := keyRow_le q
  simp only [winKey, winRow, nbCol] at h
  have hc : colStart w ≤ 48 := by unfold colStart; omega
  have hk := k.isLt
  have hk' := k'.isLt
  refine Prod.ext (Fin.ext ?_) (Fin.ext ?_) <;> show _ = _ <;> simp only <;> omega

/-- The bias table's entry at a key the query attends to. -/
theorem bias_in (B : Cert.KernelIdeal.S1x16x15x31.Idx → EReal) (h : Fin 16) (q : Fin 256) (w : Fin 64) (a : Fin 8) (k : Fin 16) :
    biasAt B (unitKind (q.val / 4)) h (inUnit q) w (winRow q a) (nbCol w k)
      = B (ix4 0 h (biasRow q a) (biasCol w k)) * log2e := by
  have h1 : rowIn (unitKind (q.val / 4)) (inUnit q) (winRow q a) = true := by
    have := keyRow_le q
    rw [rowIn_eq, decide_eq_true_eq]
    simp only [winRow]
    omega
  have h2 : colIn w (nbCol w k) = true := by
    unfold colIn
    rw [decide_eq_true_eq]
    simp only [nbCol, colStart]
    omega
  unfold biasAt
  rw [h1, h2, rowOff_eq, colOff_eq]
  rfl

/-- The bias table's entry at a key the query does not attend to. -/
theorem bias_out (B : Cert.KernelIdeal.S1x16x15x31.Idx → EReal) (h : Fin 16) (q : Fin 256) (w : Fin 64) (j : Fin 768)
    (hj : ∀ i, winKey q w i ≠ j) :
    biasAt B (unitKind (q.val / 4)) h (inUnit q) w ⟨j.val / 64, by omega⟩ ⟨j.val % 64, by omega⟩ = ⊥ := by
  unfold biasAt
  refine if_neg fun hh => ?_
  rw [Bool.and_eq_true, rowIn_eq, decide_eq_true_eq] at hh
  obtain ⟨⟨h1, h2⟩, h3⟩ := hh
  unfold colIn at h3
  rw [decide_eq_true_eq] at h3
  obtain ⟨h3, h4⟩ := h3
  have h5 := keyRow_le q
  simp only at h1 h2 h3 h4
  refine hj (⟨keyRow q + j.val / 64 - rowStart q, by omega⟩, ⟨j.val % 64 - colStart w, by unfold colStart; omega⟩) (Fin.ext ?_)
  simp only [winKey, winRow, nbCol, colStart]
  omega

/-- The reference's sum over rows and columns, as a sum over pairs. -/
theorem softmax_pairs (s : Fin 128 → EReal) (x : Fin 8 × Fin 16 → EReal)
    (hs : ∀ (a : Fin 8) (k : Fin 16), s ⟨a.val * 16 + k.val, by omega⟩ = x (a, k)) (v : Fin 8 → Fin 16 → EReal) :
    ∑ k : Fin 16, ∑ a : Fin 8, Ideal.div (expAt s ⟨a.val * 16 + k.val, by omega⟩) (∑ n, expAt s n) * v a k
      = ∑ i : Fin 8 × Fin 16, Ideal.div (Ideal.exp (x i - Finset.univ.sup x)) (∑ i', Ideal.exp (x i' - Finset.univ.sup x))
          * v i.1 i.2 := by
  have e : ∀ i : Fin 8 × Fin 16, s (finProdFinEquiv i) = x i := by
    rintro ⟨a, k⟩
    rw [← hs]
    congr 1
    exact Fin.ext (by show k.val + 16 * a.val = _; simp only; omega)
  have hsup : Finset.univ.sup s = Finset.univ.sup x := by
    rw [← Finset.map_univ_equiv (finProdFinEquiv (m := 8) (n := 16)), Finset.sup_map]
    exact Finset.sup_congr rfl fun i _ => e i
  have hexp : ∀ n, expAt s n = Ideal.exp (s n - Finset.univ.sup x) := by
    intro n
    unfold expAt
    rw [ofBits_neg_inf, fold_max_eq_sup, max_eq_right bot_le, hsup]
  have hsum : ∑ n, expAt s n = ∑ i', Ideal.exp (x i' - Finset.univ.sup x) := by
    rw [← Equiv.sum_comp (finProdFinEquiv (m := 8) (n := 16))]
    exact Finset.sum_congr rfl fun i _ => by rw [hexp, e]
  rw [hsum, Finset.sum_comm, ← Finset.sum_product']
  refine Finset.sum_congr rfl fun i _ => ?_
  rw [hexp, hs]

end Cert.Na
-- ==== Proof.Na.Attention.lean ====
module

public import proofs.«01_k».proof.Proof.Na.Combine

/-!
One row of the attention: the base-2 softmax over the unit's window against the reference's softmax over the neighbourhood.
-/

@[expose] public section

set_option maxRecDepth 16384

noncomputable section

namespace Cert.Na

open Cert.Na.Ref Idealize.ShloMosaic

/-- The logarithm of e to base 2 as a real number. -/
def lg : ℝ := 1 / Real.log 2

theorem lg_mul : lg * Real.log 2 = 1 := by
  unfold lg
  have : Real.log 2 ≠ 0 := (Real.log_pos (by norm_num)).ne'
  field_simp

theorem log2e_eq : log2e = ((lg : ℝ) : EReal) := by
  have h2 : Ideal.ofBits .f32 1073741824#32 = ((2 : ℝ) : EReal) := by
    simp [Ideal.ofBits, Ideal.ieee, -EReal.coe_mul]
    norm_num
  unfold log2e lg
  rw [h2, Ideal.log_coe, if_neg (by norm_num), Ideal.div_coe (Real.log_pos (by norm_num)).ne', one_mul]

/-- The square root of the head's width. -/
theorem root_eq : Ideal.sqrt (Ideal.ofBits .f32 1124073472#32) = ((Real.sqrt 128 : ℝ) : EReal) := by
  have h : Ideal.ofBits .f32 1124073472#32 = ((128 : ℝ) : EReal) := by
    simp [Ideal.ofBits, Ideal.ieee, -EReal.coe_mul]
    norm_num
  rw [h, Ideal.sqrt_coe, if_neg (by norm_num)]

theorem root_ne : Real.sqrt 128 ≠ 0 := (Real.sqrt_pos.mpr (by norm_num)).ne'

variable (X : Cert.KernelIdeal.S3x16384x6144.Idx → EReal) (B : Cert.KernelIdeal.S1x16x15x31.Idx → EReal)

/-- The grid row of a row of the three sequences put end to end. -/
def gridRow (R : Fin 49152) : Fin 256 := ⟨R.val / 64 % 256, by omega⟩

/-- The grid column of such a row. -/
def gridCol (R : Fin 49152) : Fin 64 := ⟨R.val % 64, by omega⟩

/-- The sequence of such a row. -/
def seqOf (R : Fin 49152) : Fin 3 := ⟨R.val / 16384, by omega⟩

/-- The row of the `j`-th key of the window that row `R`'s unit reads. -/
def keyAt (R : Fin 49152) (j : Fin 768) : Fin 49152 :=
  ⟨16384 * (R.val / 16384) + (64 * keyRow (gridRow R) + j.val), by unfold keyRow; omega⟩

/-- The kernel's score of row `R` with the `j`-th key of its window. -/
def kScore (h : Fin 16) (R : Fin 49152) (j : Fin 768) : EReal :=
  (∑ e : Fin 128, qkvAt X ⟨h.val, by omega⟩ R e * qkvAt X ⟨16 + h.val, by omega⟩ (keyAt R j) e)
    + biasAt B (unitKind ((gridRow R).val / 4)) h (inUnit (gridRow R)) (gridCol R) ⟨j.val / 64, by omega⟩ ⟨j.val % 64, by omega⟩

/-- Where a key the query attends to lies among the tokens. -/
theorem keyAt_winKey (R : Fin 49152) (a : Fin 8) (k : Fin 16) :
    (keyAt R (winKey (gridRow R) (gridCol R) (a, k))).val
      = 16384 * (seqOf R).val + ((nbRow (gridRow R) a).val * 64 + (nbCol (gridCol R) k).val) := by
  have := keyRow_le (gridRow R)
  simp only [keyAt, winKey, winRow, nbRow, seqOf]
  omega

/-- The scaled query. -/
theorem query_eq (h : Fin 16) (R : Fin 49152) (e : Fin 128) :
    qkvAt X ⟨h.val, by omega⟩ R e
      = X (ix3 (seqOf R) ⟨(gridRow R).val * 64 + (gridCol R).val, by omega⟩ ⟨h.val * 128 + e.val, by omega⟩)
        * ((lg / Real.sqrt 128 : ℝ) : EReal) := by
  unfold qkvAt
  rw [if_pos (by show h.val * 128 + e.val < 2048; omega), log2e_eq, root_eq, Ideal.div_coe root_ne, ← EReal.coe_mul, mul_one_div]
  congr 3
  exact Fin.ext (by simp only [gridRow, gridCol]; omega)

/-- A key or value the query attends to. -/
theorem other_eq (g : Fin 48) (hg : 16 ≤ g.val) (R : Fin 49152) (a : Fin 8) (k : Fin 16) (e : Fin 128) :
    qkvAt X g (keyAt R (winKey (gridRow R) (gridCol R) (a, k))) e
      = X (ix3 (seqOf R) ⟨(nbRow (gridRow R) a).val * 64 + (nbCol (gridCol R) k).val, by omega⟩
          ⟨g.val * 128 + e.val, by omega⟩) := by
  have hk := keyAt_winKey R a k
  have h1 := (nbRow (gridRow R) a).isLt
  have h2 := (nbCol (gridCol R) k).isLt
  unfold qkvAt
  rw [if_neg (by omega), mul_one]
  congr 2
  · exact Fin.ext (by simp only; omega)
  · exact Fin.ext (by simp only; omega)

variable (hX : ∀ (s : Fin 3) (t : Fin 16384) (g : Fin 6144), g.val < 4096 → ∃ r : ℝ, X (ix3 s t g) = (r : EReal))
  (hB : ∀ (h : Fin 16) (i : Fin 15) (j : Fin 31), ∃ r : ℝ, B (ix4 0 h i j) = (r : EReal))

include hX hB in
/-- On the keys a query attends to, the kernel's score is the reference's, a real number, in base 2. -/
theorem score_real (h : Fin 16) (R : Fin 49152) : ∃ x : Fin 8 × Fin 16 → ℝ,
    (∀ a k, scoreAt X B (seqOf R) h (gridRow R) (gridCol R) a k = (x (a, k) : EReal))
    ∧ ∀ i, kScore X B h R (winKey (gridRow R) (gridCol R) i) = ((lg * x i : ℝ) : EReal) := by
  have hq : ∀ e : Fin 128, ∃ r : ℝ, X (ix3 (seqOf R) ⟨(gridRow R).val * 64 + (gridCol R).val, by omega⟩ ⟨h.val * 128 + e.val, by omega⟩)
      = (r : EReal) := fun e => hX _ _ _ (by simp only; omega)
  have hk : ∀ (a : Fin 8) (k : Fin 16) (e : Fin 128), ∃ r : ℝ,
      X (ix3 (seqOf R) ⟨(nbRow (gridRow R) a).val * 64 + (nbCol (gridCol R) k).val, by omega⟩ ⟨2048 + h.val * 128 + e.val, by omega⟩)
        = (r : EReal) := fun a k e => hX _ _ _ (by simp only; omega)
  choose q hq using hq
  choose y hy using hk
  choose b hb using fun (a : Fin 8) (k : Fin 16) => hB h (biasRow (gridRow R) a) (biasCol (gridCol R) k)
  refine ⟨fun i => (∑ e, q e * (1 / Real.sqrt 128) * y i.1 i.2 e) + b i.1 i.2, ?_, ?_⟩
  · intro a k
    unfold scoreAt
    rw [hb]
    simp only [hq, hy, root_eq, Ideal.div_coe root_ne, ← EReal.coe_mul]
    rw [EReal.coe_add, coe_sum]
  · rintro ⟨a, k⟩
    have e1 : ∀ p, (⟨(winKey (gridRow R) (gridCol R) (a, k)).val / 64, p⟩ : Fin 12) = winRow (gridRow R) a :=
      fun p => Fin.ext (by simp only [winKey]; omega)
    have e2 : ∀ p, (⟨(winKey (gridRow R) (gridCol R) (a, k)).val % 64, p⟩ : Fin 64) = nbCol (gridCol R) k :=
      fun p => Fin.ext (by simp only [winKey]; omega)
    unfold kScore
    rw [e1, e2, bias_in, hb, log2e_eq]
    have e3 : ∀ e : Fin 128, qkvAt X ⟨16 + h.val, by omega⟩ (keyAt R (winKey (gridRow R) (gridCol R) (a, k))) e = (y a k e : EReal) := by
      intro e
      rw [other_eq X _ (by simp only; omega), ← hy]
      congr 2
      exact Fin.ext (by simp only; omega)
    simp only [e3, query_eq, hq, ← EReal.coe_mul]
    have e4 : lg * ((∑ e, q e * (1 / Real.sqrt 128) * y a k e) + b a k) = (∑ e, q e * (lg / Real.sqrt 128) * y a k e) + b a k * lg := by
      rw [mul_add, Finset.mul_sum]
      congr 1
      · exact Finset.sum_congr rfl fun e _ => by ring
      · ring
    rw [e4, EReal.coe_add, coe_sum]

/-- On the other keys the kernel's score is minus infinity. -/
theorem score_masked (h : Fin 16) (R : Fin 49152) (j : Fin 768) (hj : ∀ i, winKey (gridRow R) (gridCol R) i ≠ j) :
    kScore X B h R j = ⊥ := by
  unfold kScore
  rw [bias_out B h _ _ j hj, EReal.add_bot]

include hX hB in
/-- One element of the attention's result: the kernel's quotient of sums is the reference's weighted sum. -/
theorem attention_eq (h : Fin 16) (R : Fin 49152) (d : Fin 128) (s : Fin 128 → EReal)
    (hs : ∀ (a : Fin 8) (k : Fin 16), s ⟨a.val * 16 + k.val, by omega⟩ = scoreAt X B (seqOf R) h (gridRow R) (gridCol R) a k) :
    Ideal.div (∑ j, Ideal.exp2 (kScore X B h R j - Finset.univ.sup (kScore X B h R)) * qkvAt X ⟨32 + h.val, by omega⟩ (keyAt R j) d)
        (∑ j, Ideal.exp2 (kScore X B h R j - Finset.univ.sup (kScore X B h R)))
      = ∑ k : Fin 16, ∑ a : Fin 8, Ideal.div (expAt s ⟨a.val * 16 + k.val, by omega⟩) (∑ n, expAt s n)
        * X (ix3 (seqOf R) ⟨(nbRow (gridRow R) a).val * 64 + (nbCol (gridCol R) k).val, by omega⟩
            ⟨4096 + h.val * 128 + d.val, by omega⟩) := by
  obtain ⟨x, hx, hk⟩ := score_real X B hX hB h R
  rw [masked_softmax (winKey (gridRow R) (gridCol R)) (winKey_injective _ _) lg_mul x (kScore X B h R) hk
      (fun j hj => score_masked X B h R j hj) (fun j => qkvAt X ⟨32 + h.val, by omega⟩ (keyAt R j) d),
    softmax_pairs s (fun i => (x i : EReal)) (fun a k => by rw [hs, hx])]
  refine Finset.sum_congr rfl fun i _ => ?_
  congr 1
  rw [other_eq X _ (by simp only; omega)]
  congr 2
  exact Fin.ext (by simp only; omega)

end Cert.Na
-- ==== Proof.Na.Value.lean ====
module

public import proofs.«01_k».proof.Proof.Na.Attention
public import proofs.«01_k».proof.Proof.Gen.KernelIdeal.Value
public import Idealize.ShloMosaic.Lib.Pipeline.ValueKit

/-!
The array the kernel leaves, element by element.
-/

@[expose] public section

set_option maxRecDepth 16384

noncomputable section

namespace Cert.Na

open Cert.KernelIdeal Cert.KernelIdeal.Gen Cert.KernelIdeal.Value Idealize.ShloMosaic Idealize.ShloMosaic.TcCoe Idealize.SL.Sem

/-- The attention of row `R` under head `h` at lane `d`, as the kernel computes it. -/
def attnAt (X : S3x16384x6144.Idx → EReal) (B : S1x16x15x31.Idx → EReal) (h : Fin 16) (R : Fin 49152) (d : Fin 128) : EReal :=
  Ideal.div (∑ j, Ideal.exp2 (kScore X B h R j - Finset.univ.sup (kScore X B h R)) * qkvAt X ⟨32 + h.val, by omega⟩ (keyAt R j) d)
    (∑ j, Ideal.exp2 (kScore X B h R j - Finset.univ.sup (kScore X B h R)))

variable (m : (ℓ : Loc nD τ sig) → Buf (Elt Ideal) ℓ)

theorem blk0_at (c : Dev nD) (t : Fin cfg0.N) (u : Fin 16) (r : Fin 256) (e : Fin 128) (h : Fin 16) (R : Fin 49152)
    (hh : h.val = t.val / 12) (hR : R.val = 4096 * (t.val % 12) + (256 * u.val + r.val)) :
    View.ld (iblk m c 0 t) (Rect.unit (s := S1x4096x128) ![0, 256 * u.val, 0] S1x256x128.size (qrows_inb u)) (ix3 0 r e)
      = qkvAt (m (c, Proc.tc.devRef main_arg0)) ⟨h.val, by omega⟩ R e := by
  rw [q_block, qkv_apply]
  congr 1
  · exact Fin.ext hh.symm
  · exact Fin.ext hR.symm

theorem key_eq (t : Fin cfg0.N) (u : Fin 16) (r : Fin 256) (j : Fin 768) (R : Fin 49152)
    (hR : R.val = 4096 * (t.val % 12) + (256 * u.val + r.val)) :
    16384 * (t.val / 4 % 3) + (256 * min (16 * (t.val % 4) + u.val - 1) 61 + j.val) = (keyAt R j).val := by
  have := lt192 t
  simp only [keyAt, keyRow, gridRow]
  omega

theorem blk1_at (c : Dev nD) (t : Fin cfg0.N) (u : Fin 16) (r : Fin 256) (j : Fin 768) (e : Fin 128) (h : Fin 16) (R : Fin 49152)
    (hh : h.val = t.val / 12) (hR : R.val = 4096 * (t.val % 12) + (256 * u.val + r.val)) :
    View.ld (iblk m c 1 t) (Rect.unit (s := S1x4608x128) (k0_off1 (grid0.coords t) (BitVec.ofNat 32 u.val)) S1x768x128.size
        (k0_off1_inb (grid0.coords t) u)) (ix3 0 j e)
      = qkvAt (m (c, Proc.tc.devRef main_arg0)) ⟨16 + h.val, by omega⟩ (keyAt R j) e := by
  rw [k_block, qkv_apply]
  congr 1
  · exact Fin.ext (by simp only [hh])
  · exact Fin.ext (key_eq t u r j R hR)

theorem blk2_at (c : Dev nD) (t : Fin cfg0.N) (u : Fin 16) (r : Fin 256) (j : Fin 768) (e : Fin 128) (h : Fin 16) (R : Fin 49152)
    (hh : h.val = t.val / 12) (hR : R.val = 4096 * (t.val % 12) + (256 * u.val + r.val)) :
    View.ld (iblk m c 2 t) (Rect.unit (s := S1x4608x128) (k0_off1 (grid0.coords t) (BitVec.ofNat 32 u.val)) S1x768x128.size
        (k0_off1_inb (grid0.coords t) u)) (ix3 0 j e)
      = qkvAt (m (c, Proc.tc.devRef main_arg0)) ⟨32 + h.val, by omega⟩ (keyAt R j) e := by
  rw [v_block, qkv_apply]
  congr 1
  · exact Fin.ext (by simp only [hh])
  · exact Fin.ext (key_eq t u r j R hR)

theorem blk3_at (c : Dev nD) (t : Fin cfg0.N) (u : Fin 16) (r : Fin 256) (j : Fin 768) (h : Fin 16) (R : Fin 49152)
    (hh : h.val = t.val / 12) (hR : R.val = 4096 * (t.val % 12) + (256 * u.val + r.val)) :
    View.ld (iblk m c 3 t) (Rect.unit (s := S3x1x256x768) (k0_off2 (grid0.coords t) (BitVec.ofNat 32 u.val)) S1x1x256x768.size
        (k0_off2_inb (grid0.coords t) u)) (ix4 0 0 r j)
      = biasAt (m (c, Proc.tc.devRef main_arg1)) (unitKind ((gridRow R).val / 4)) h (inUnit (gridRow R)) (gridCol R)
          ⟨j.val / 64, by omega⟩ ⟨j.val % 64, by omega⟩ := by
  have := lt192 t
  rw [b_block, bias_apply]
  congr 1
  · congr 1
    simp only [gridRow]
    omega
  · exact Fin.ext hh.symm
  · exact Fin.ext (by simp only [inUnit, gridRow]; omega)
  · exact Fin.ext (by simp only [gridCol]; omega)

/-- What a unit stores, once its blocks are known, is the attention of its rows. -/
theorem unit_of (q : Vec Ideal S1x256x128 .bf16) (k v : Vec Ideal S1x768x128 .bf16) (b : Vec Ideal S1x1x256x768 .f32)
    (X : S3x16384x6144.Idx → EReal) (B : S1x16x15x31.Idx → EReal) (h : Fin 16) (R : Fin 49152) (r : Fin 256) (d : Fin 128)
    (hq : ∀ e, (q (ix3 0 r e) : EReal) = qkvAt X ⟨h.val, by omega⟩ R e)
    (hk : ∀ j e, (k (ix3 0 j e) : EReal) = qkvAt X ⟨16 + h.val, by omega⟩ (keyAt R j) e)
    (hv : ∀ j e, (v (ix3 0 j e) : EReal) = qkvAt X ⟨32 + h.val, by omega⟩ (keyAt R j) e)
    (hb : ∀ j : Fin 768, (b (ix4 0 0 r j) : EReal) = biasAt B (unitKind ((gridRow R).val / 4)) h (inUnit (gridRow R)) (gridCol R)
          ⟨j.val / 64, by omega⟩ ⟨j.val % 64, by omega⟩) :
    (unitOut q k v b (ix3 0 r d) : EReal) = attnAt X B h R d := by
  have hs : unitScore q k b r = kScore X B h R := by
    funext j
    unfold unitScore kScore
    rw [hb]
    simp only [hq, hk]
  rw [unitOut_apply, hs]
  simp only [hv]
  rfl

/-- What a unit stores is the attention of its rows. -/
theorem unit_value (c : Dev nD) (t : Fin cfg0.N) (u : Fin 16) (r : Fin 256) (d : Fin 128) (h : Fin 16) (R : Fin 49152)
    (hh : h.val = t.val / 12) (hR : R.val = 4096 * (t.val % 12) + (256 * u.val + r.val)) :
    (unitAt (grid0.coords t) (iblk m c 0 t) (iblk m c 1 t) (iblk m c 2 t) (iblk m c 3 t) u (ix3 0 r d) : EReal)
      = attnAt (m (c, Proc.tc.devRef main_arg0)) (m (c, Proc.tc.devRef main_arg1)) h R d :=
  unit_of _ _ _ _ _ _ h R r d (fun e => blk0_at m c t u r e h R hh hR) (fun j e => blk1_at m c t u r j e h R hh hR)
    (fun j e => blk2_at m c t u r j e h R hh hR) (fun j => blk3_at m c t u r j h R hh hR)

/-- The array the kernel leaves. -/
def outArr (c : Dev nD) : S16x49152x128.Idx → EReal := fun y =>
  attnAt (m (c, Proc.tc.devRef main_arg0)) (m (c, Proc.tc.devRef main_arg1)) (y 0) (y 1) (y 2)

theorem arr_eq (c : Dev nD) : (dats m 0 c).arrAt 4 cfg0.N = outArr m c := by
  refine (dats m 0 c).arrAt_eq_of_covers 4 _ (by decide +kernel) fun t hf y => ?_
  have h := lt192 t
  blk_simp
  rw [after0_4]
  simp only [outsAt0]
  have y0 : (y 0 : ℕ) < 1 := (y 0).isLt
  have y1 : (y 1 : ℕ) < 4096 := (y 1).isLt
  have y2 : (y 2 : ℕ) < 128 := (y 2).isLt
  have hy : y = (ix3 (0 : Fin 1) (⟨256 * ((⟨(y 1 : ℕ) / 256, by omega⟩ : Fin 16)).val + ((⟨(y 1 : ℕ) % 256, by omega⟩ : Fin 256)).val, by simp only; omega⟩ : Fin 4096)
      (⟨(y 2 : ℕ), y2⟩ : Fin 128) : S1x4096x128.Idx) := by
    funext a
    match a with
    | 0 => exact Fin.ext (by show (y 0 : ℕ) = 0; omega)
    | 1 => exact Fin.ext (by show (y 1 : ℕ) = 256 * ((y 1 : ℕ) / 256) + (y 1 : ℕ) % 256; omega)
    | 2 => rfl
  have e0 : ∀ a, (((View.whole main_v200).slice (win0_4.rect t)).emb y a : ℕ) = (cfg0.win 4).index t a * ![1, 4096, 128] a + (y a : ℕ) := by
    intro a
    refine (Pipeline.Window.rect_emb_val (cfg0.win 4) t y a (by rfl)).trans ?_
    match a with
    | 0 => rfl
    | 1 => rfl
    | 2 => rfl
  refine Eq.trans (congrArg _ hy) ?_
  rw [out_apply]
  refine (unit_value m c t _ _ _ (((View.whole main_v200).slice (win0_4.rect t)).emb y 0) (((View.whole main_v200).slice (win0_4.rect t)).emb y 1) ?_ ?_).trans ?_
  · rw [e0, idx4]
    show t.val / 12 * 1 + (y 0 : ℕ) = _
    omega
  · rw [e0, idx4]
    show t.val % 12 * 4096 + (y 1 : ℕ) = 4096 * (t.val % 12) + (256 * ((y 1 : ℕ) / 256) + (y 1 : ℕ) % 256)
    omega
  · unfold outArr
    congr 1
    refine Fin.ext ?_
    rw [e0, idx4]
    show (y 2 : ℕ) = 0 * 128 + (y 2 : ℕ)
    omega

end Cert.Na
-- ==== Proof.Na.Finite.lean ====
module

public import proofs.«01_k».proof.Proof.Gen.Pre_finite
public import Idealize.ShloMosaic.Lib.Pointwise
public import Idealize.ShloMosaic.Lib.ReduceAll

/-!
What the precondition says of the argument arrays: queries, keys and bias table are real numbers.
-/

@[expose] public section

noncomputable section

namespace Cert.Na

open Cert.Pre_finite Idealize.ShloMosaic

theorem ofBits_inf : Ideal.ofBits .f32 0x7F800000#32 = ⊤ := by
  simp [Ideal.ofBits, Ideal.ieee]

/-- A number whose absolute value is below infinity is real. -/
theorem real_of_abs_lt (x : EReal) (h : max x (-x) < ⊤) : ∃ r : ℝ, x = (r : EReal) := by
  induction x using EReal.rec with
  | bot => simp at h
  | top => simp at h
  | coe r => exact ⟨r, rfl⟩

theorem olt_one (a b : EReal) (h : Ideal.cmp .olt a b = 1#1) : a < b := by
  by_contra hn
  simp [Ideal.cmp, hn] at h

instance : Subsingleton S_.Idx := ⟨fun _ _ => funext fun a => a.elim0⟩

theorem finite_iff [Facts] (X : S3x16384x6144.Idx → EReal) (B : S1x16x15x31.Idx → EReal)
    (h : fn (F := Ideal) X B = fun _ => 1#1) :
    (∀ (s : Fin 3) (t : Fin 16384) (g : Fin 6144), g.val < 4096 → ∃ r : ℝ, X (ix3 s t g) = (r : EReal))
    ∧ ∀ (h : Fin 16) (i : Fin 15) (j : Fin 31), ∃ r : ℝ, B (ix4 0 h i j) = (r : EReal) := by
  have h' := congrFun h (fun a => a.elim0)
  dsimp only [fn] at h'
  obtain ⟨h1, h2⟩ := IntOp.andi_eq_one.1 h'
  refine ⟨fun s t g hg => ?_, fun h i j => ?_⟩
  · have e := Host.reduce_andi_all _ _ _ _ _ h1 (ix3 s t ⟨g.val, hg⟩)
    have e' := olt_one _ _ e
    pointwise at e'
    rw [ofBits_inf] at e'
    exact real_of_abs_lt _ e'
  · have e := Host.reduce_andi_all _ _ _ _ _ h2 (ix4 0 h i j)
    have e' := olt_one (max (B (ix4 0 h i j)) (-B (ix4 0 h i j))) (Ideal.ofBits .f32 0x7F800000#32) e
    rw [ofBits_inf] at e'
    exact real_of_abs_lt _ e'

end Cert.Na
-- ==== Proof.Ffn.Up.lean ====
module

public import proofs.«01_k».proof.Proof.Gen.UpIdeal.Value
public import proofs.«01_k».proof.Proof.Gen.UpReferenceIdeal.Run
public import Idealize.ShloMosaic.Lib.Pipeline.ValueKit
public import Idealize.ShloMosaic.Lib.StableHlo.ReadAt
public import Idealize.ShloMosaic.Lib.Tactic.CleanTypes
public import Idealize.ShloMosaic.Lib.Pointwise

/-!
The feed-forward part's gated product: the call's array element by element, and the reference's.
-/

@[expose] public section

set_option maxRecDepth 16384

noncomputable section

namespace Cert.Ffn.Up

open Cert.UpIdeal Cert.UpIdeal.Gen Cert.UpIdeal.Value Idealize.ShloMosaic Idealize.ShloMosaic.TcCoe Idealize.SL.Sem

/-- The gated product at token `i` and feature `j`: the gate times its logistic times the other projection. -/
def upAt (H : S49152x2048.Idx → EReal) (Wg Wu : S2048x5632.Idx → EReal) (i : Fin 49152) (j : Fin 5632) : EReal :=
  (∑ k : Fin 2048, H (ix2 i k) * Wg (ix2 k j)) * Ideal.logistic (∑ k : Fin 2048, H (ix2 i k) * Wg (ix2 k j))
    * ∑ k : Fin 2048, H (ix2 i k) * Wu (ix2 k j)

variable (m : (ℓ : Loc nD τ sig) → Buf (Elt Ideal) ℓ)

theorem gate_apply (c : Dev nD) (k : Fin 2048) (j : Fin 5632) :
    V m c main_v0 (ix2 k j) = m (c, Proc.tc.devRef main_arg1) (ix2 k j) := by
  unfold V
  after_reads_at

theorem other_apply (c : Dev nD) (k : Fin 2048) (j : Fin 5632) :
    V m c main_v1 (ix2 k j) = m (c, Proc.tc.devRef main_arg2) (ix2 k j) := by
  unfold V
  after_reads_at

/-- One element of what a grid point stores. -/
theorem pay_apply (h : Vec Ideal S1024x2048 .bf16) (g u : Vec Ideal S2048x512 .bf16) (i : Fin 1024) (j : Fin 512) :
    (k0_pay1 h g u (ix2 i j) : EReal)
      = (∑ k : Fin 2048, (h (ix2 i k) : EReal) * g (ix2 k j)) * Ideal.logistic (∑ k : Fin 2048, (h (ix2 i k) : EReal) * g (ix2 k j))
        * ∑ k : Fin 2048, (h (ix2 i k) : EReal) * u (ix2 k j) := by
  pointwise [k0_pay1]

theorem idx0 : ∀ t : Fin cfg0.N, ∀ a, (cfg0.win 0).index t a = ![t.val / 11, 0] a := by decide +kernel
theorem idx1 : ∀ t : Fin cfg0.N, ∀ a, (cfg0.win 1).index t a = ![0, t.val % 11] a := by decide +kernel
theorem idx2 : ∀ t : Fin cfg0.N, ∀ a, (cfg0.win 2).index t a = ![0, t.val % 11] a := by decide +kernel
theorem idx3 : ∀ t : Fin cfg0.N, ∀ a, (cfg0.win 3).index t a = ![t.val / 11, t.val % 11] a := by decide +kernel

theorem lt528 (t : Fin cfg0.N) : t.val < 528 := t.isLt

theorem blk0 (c : Dev nD) (t : Fin cfg0.N) (i : Fin 1024) (k : Fin 2048) :
    iblk m c 0 t (ix2 i k) = m (c, Proc.tc.devRef main_arg0) (ix2 ⟨1024 * (t.val / 11) + i.val, by have := lt528 t; omega⟩ k) := by
  refine Eq.trans (b := V m c main_arg0 ((win0_0.blk t).view.emb (ix2 i k))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show t.val / 11 * 1024 + i.val = 1024 * (t.val / 11) + i.val; omega
  | 1 => show 0 * 2048 + k.val = k.val; omega

theorem blk1 (c : Dev nD) (t : Fin cfg0.N) (k : Fin 2048) (j : Fin 512) :
    iblk m c 1 t (ix2 k j) = m (c, Proc.tc.devRef main_arg1) (ix2 k ⟨512 * (t.val % 11) + j.val, by omega⟩) := by
  refine Eq.trans (b := V m c main_v0 ((win0_1.blk t).view.emb (ix2 k j))) (by rfl) ?_
  rw [← gate_apply m c]
  refine congrArg (V m c main_v0) (funext fun a => Fin.ext ((win0_1.rect_emb_val t _ a).trans ?_))
  rw [show win0_1.index t a = _ from idx1 t a]
  match a with
  | 0 => show 0 * 2048 + k.val = k.val; omega
  | 1 => show t.val % 11 * 512 + j.val = 512 * (t.val % 11) + j.val; omega

theorem blk2 (c : Dev nD) (t : Fin cfg0.N) (k : Fin 2048) (j : Fin 512) :
    iblk m c 2 t (ix2 k j) = m (c, Proc.tc.devRef main_arg2) (ix2 k ⟨512 * (t.val % 11) + j.val, by omega⟩) := by
  refine Eq.trans (b := V m c main_v1 ((win0_2.blk t).view.emb (ix2 k j))) (by rfl) ?_
  rw [← other_apply m c]
  refine congrArg (V m c main_v1) (funext fun a => Fin.ext ((win0_2.rect_emb_val t _ a).trans ?_))
  rw [show win0_2.index t a = _ from idx2 t a]
  match a with
  | 0 => show 0 * 2048 + k.val = k.val; omega
  | 1 => show t.val % 11 * 512 + j.val = 512 * (t.val % 11) + j.val; omega

/-- The array the call leaves. -/
def outArr (c : Dev nD) : S49152x5632.Idx → EReal := fun y =>
  upAt (m (c, Proc.tc.devRef main_arg0)) (m (c, Proc.tc.devRef main_arg1)) (m (c, Proc.tc.devRef main_arg2)) (y 0) (y 1)

theorem arr_eq (c : Dev nD) : (dats m 0 c).arrAt 3 cfg0.N = outArr m c := by
  refine (dats m 0 c).arrAt_eq_of_covers 3 _ (by decide +kernel) fun t hf y => ?_
  blk_simp
  rw [after0_3]
  frame_out
  have h := lt528 t
  have e : ∀ a, (((View.whole main_v2).slice (win0_3.rect t)).emb y a : ℕ) = ![t.val / 11, t.val % 11] a * ![1024, 512] a + (y a : ℕ) := by
    intro a
    refine (win0_3.rect_emb_val t y a).trans ?_
    rw [show win0_3.index t a = _ from idx3 t a]
  obtain ⟨i, j, rfl⟩ : ∃ (i : Fin 1024) (j : Fin 512), y = (ix2 i j : S1024x512.Idx) :=
    ⟨y 0, y 1, funext fun a => by match a with | 0 => rfl | 1 => rfl⟩
  refine (pay_apply _ _ _ i j).trans ?_
  simp only [blk0, blk1, blk2]
  unfold outArr upAt
  have e0 : ((View.whole main_v2).slice (win0_3.rect t)).emb (ix2 i j) 0 = (⟨1024 * (t.val / 11) + i.val, by omega⟩ : Fin 49152) :=
    Fin.ext ((e 0).trans (by show t.val / 11 * 1024 + i.val = 1024 * (t.val / 11) + i.val; omega))
  have e1 : ((View.whole main_v2).slice (win0_3.rect t)).emb (ix2 i j) 1 = (⟨512 * (t.val % 11) + j.val, by omega⟩ : Fin 5632) :=
    Fin.ext ((e 1).trans (by show t.val % 11 * 512 + j.val = 512 * (t.val % 11) + j.val; omega))
  rw [e0, e1]

open Cert.UpReferenceIdeal in
/-- The reference's run, with its result read element by element. -/
theorem ref_run (m : (ℓ : Loc Cert.UpReferenceIdeal.nD Cert.UpReferenceIdeal.τ Cert.UpReferenceIdeal.sig) → Buf (Elt Ideal) ℓ)
    (ρ : Dev Cert.UpReferenceIdeal.nD → PrngReg) :
    θ_run Cert.UpReferenceIdeal.defs (onTc (τ := Cert.UpReferenceIdeal.τ) (Cert.UpReferenceIdeal.main (F := Ideal))) ⟨m, fun _ => 0, ρ⟩ fun r =>
      ∀ c : Dev Cert.UpReferenceIdeal.nD,
      (∀ i j, r.2.mem ((c.tc : Thread Cert.UpReferenceIdeal.nD Cert.UpReferenceIdeal.τ).loc Cert.UpReferenceIdeal.main_v5) (ix2 i j)
        = upAt (m (c, Proc.tc.devRef Cert.UpReferenceIdeal.main_arg0)) (m (c, Proc.tc.devRef Cert.UpReferenceIdeal.main_arg1))
            (m (c, Proc.tc.devRef Cert.UpReferenceIdeal.main_arg2)) i j)
      ∧ r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2) := by
  refine (θ_run Cert.UpReferenceIdeal.defs _ _).mono (fun r h c => ?_) (Cert.UpReferenceIdeal.Value.run m ρ)
  obtain ⟨h1, h2⟩ := h c
  refine ⟨fun i j => ?_, h2⟩
  rw [h1]
  pointwise
  rfl

end Cert.Ffn.Up
-- ==== Proof.Ffn.Norm.lean ====
module

public import Idealize.ShloMosaic.PureOps.Ideal
public import Idealize.ShloMosaic.Lib.ValueIdx

/-!
The last residual sum and normalisation of a token, as both the call and the reference compute it.
-/

@[expose] public section

noncomputable section

namespace Cert.Ffn

open Idealize.ShloMosaic

/-- A row divided by the root of its mean square (with the small number added), times the gains. -/
def normAt (y g : Fin 2048 → EReal) (j : Fin 2048) : EReal :=
  y j * Ideal.rsqrt (Ideal.div (∑ k, y k * y k) (Ideal.ofBits .f32 0x45000000#32) + Ideal.ofBits .f32 0x358637BD#32) * g j

/-- The residual row of a token: what came in plus the product of the token's features with the weights. -/
def rowAt (x : Fin 2048 → EReal) (a : Fin 5632 → EReal) (w : Fin 5632 → Fin 2048 → EReal) (j : Fin 2048) : EReal :=
  x j + ∑ k, a k * w k j

end Cert.Ffn
-- ==== Proof.Ffn.Prompt.lean ====
module

public import proofs.«01_k».proof.Proof.Ffn.Norm
public import proofs.«01_k».proof.Proof.Gen.PromptIdeal.Value
public import proofs.«01_k».proof.Proof.Gen.PromptReferenceIdeal.Run
public import Idealize.ShloMosaic.Lib.Pipeline.ValueKit
public import Idealize.ShloMosaic.Lib.StableHlo.ReadAt
public import Idealize.ShloMosaic.Lib.Tactic.CleanTypes
public import Idealize.ShloMosaic.Lib.Pointwise

/-!
The prompt's result: the call's array element by element, and the reference's.
-/

@[expose] public section

set_option maxRecDepth 16384

noncomputable section

namespace Cert.Ffn.Prompt

open Cert.PromptIdeal Cert.PromptIdeal.Gen Cert.PromptIdeal.Value Idealize.ShloMosaic Idealize.ShloMosaic.TcCoe Idealize.SL.Sem

/-- The result at row `i` of these sequences and feature `j`. -/
def downAt (A : S49152x5632.Idx → EReal) (W : S5632x2048.Idx → EReal) (X : S49152x2048.Idx → EReal) (g : S2048.Idx → EReal)
    (i : Fin 16384) (j : Fin 2048) : EReal :=
  normAt (rowAt (fun j => X (ix2 ⟨i.val, by omega⟩ j)) (fun k => A (ix2 ⟨i.val, by omega⟩ k)) fun k j => W (ix2 k j))
    (fun j => g (ix1 j)) j

variable (m : (ℓ : Loc nD τ sig) → Buf (Elt Ideal) ℓ)

theorem weight_apply (c : Dev nD) (k : Fin 5632) (j : Fin 2048) :
    V m c main_v0 (ix2 k j) = m (c, Proc.tc.devRef main_arg1) (ix2 k j) := by
  unfold V
  after_reads_at

theorem gain_apply (c : Dev nD) (j : Fin 2048) :
    V m c main_v1 (ix2 0 j) = m (c, Proc.tc.devRef main_arg3) (ix1 j) := by
  unfold V
  after_reads_at

/-- One element of what a grid point stores. -/
theorem pay_apply (x : Vec Ideal S256x2048 .f32) (a : Vec Ideal S256x5632 .bf16) (w : Vec Ideal S5632x2048 .bf16)
    (g : Vec Ideal S1x2048 .f32) (i : Fin 256) (j : Fin 2048) :
    (k0_pay1 x a w g (ix2 i j) : EReal)
      = normAt (rowAt (fun j => x (ix2 i j)) (fun k => a (ix2 i k)) fun k j => w (ix2 k j)) (fun j => g (ix2 0 j)) j := by
  pointwise [k0_pay1]
  rfl

theorem idx0 : ∀ t : Fin cfg0.N, ∀ a, (cfg0.win 0).index t a = ![t.val, 0] a := by decide +kernel
theorem idx1 : ∀ t : Fin cfg0.N, ∀ a, (cfg0.win 1).index t a = ![0, 0] a := by decide +kernel
theorem idx2 : ∀ t : Fin cfg0.N, ∀ a, (cfg0.win 2).index t a = ![t.val, 0] a := by decide +kernel
theorem idx3 : ∀ t : Fin cfg0.N, ∀ a, (cfg0.win 3).index t a = ![0, 0] a := by decide +kernel
theorem idx4 : ∀ t : Fin cfg0.N, ∀ a, (cfg0.win 4).index t a = ![t.val, 0] a := by decide +kernel

theorem point_lt (t : Fin cfg0.N) : t.val < 64 := t.isLt

theorem blk0 (c : Dev nD) (t : Fin cfg0.N) (i : Fin 256) (k : Fin 5632) :
    iblk m c 0 t (ix2 i k) = m (c, Proc.tc.devRef main_arg0) (ix2 ⟨256 * t.val + i.val, by have := point_lt t; omega⟩ k) := by
  refine Eq.trans (b := V m c main_arg0 ((win0_0.blk t).view.emb (ix2 i k))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show t.val * 256 + i.val = 256 * t.val + i.val; omega
  | 1 => show 0 * 5632 + k.val = k.val; omega

theorem blk1 (c : Dev nD) (t : Fin cfg0.N) (k : Fin 5632) (j : Fin 2048) :
    iblk m c 1 t (ix2 k j) = m (c, Proc.tc.devRef main_arg1) (ix2 k j) := by
  refine Eq.trans (b := V m c main_v0 ((win0_1.blk t).view.emb (ix2 k j))) (by rfl) ?_
  rw [← weight_apply m c]
  refine congrArg (V m c main_v0) (funext fun a => Fin.ext ((win0_1.rect_emb_val t _ a).trans ?_))
  rw [show win0_1.index t a = _ from idx1 t a]
  match a with
  | 0 => show 0 * 5632 + k.val = k.val; omega
  | 1 => show 0 * 2048 + j.val = j.val; omega

theorem blk2 (c : Dev nD) (t : Fin cfg0.N) (i : Fin 256) (j : Fin 2048) :
    iblk m c 2 t (ix2 i j) = m (c, Proc.tc.devRef main_arg2) (ix2 ⟨256 * t.val + i.val, by have := point_lt t; omega⟩ j) := by
  refine Eq.trans (b := V m c main_arg2 ((win0_2.blk t).view.emb (ix2 i j))) (by rfl) ?_
  rw [V_main_arg2]
  refine congrArg (m (c, Proc.tc.devRef main_arg2)) (funext fun a => Fin.ext ((win0_2.rect_emb_val t _ a).trans ?_))
  rw [show win0_2.index t a = _ from idx2 t a]
  match a with
  | 0 => show t.val * 256 + i.val = 256 * t.val + i.val; omega
  | 1 => show 0 * 2048 + j.val = j.val; omega

theorem blk3 (c : Dev nD) (t : Fin cfg0.N) (j : Fin 2048) :
    iblk m c 3 t (ix2 0 j) = m (c, Proc.tc.devRef main_arg3) (ix1 j) := by
  refine Eq.trans (b := V m c main_v1 ((win0_3.blk t).view.emb (ix2 0 j))) (by rfl) ?_
  rw [← gain_apply m c]
  refine congrArg (V m c main_v1) (funext fun a => Fin.ext ((win0_3.rect_emb_val t _ a).trans ?_))
  rw [show win0_3.index t a = _ from idx3 t a]
  match a with
  | 0 => rfl
  | 1 => show 0 * 2048 + j.val = j.val; omega

/-- The array the call leaves. -/
def outArr (c : Dev nD) : S16384x2048.Idx → EReal := fun y =>
  downAt (m (c, Proc.tc.devRef main_arg0)) (m (c, Proc.tc.devRef main_arg1)) (m (c, Proc.tc.devRef main_arg2))
    (m (c, Proc.tc.devRef main_arg3)) (y 0) (y 1)

theorem arr_eq (c : Dev nD) : (dats m 0 c).arrAt 4 cfg0.N = outArr m c := by
  refine (dats m 0 c).arrAt_eq_of_covers 4 _ (by decide +kernel) fun t hf y => ?_
  blk_simp
  rw [after0_4]
  frame_out
  have h := point_lt t
  have e : ∀ a, (((View.whole main_v2).slice (win0_4.rect t)).emb y a : ℕ) = ![t.val, 0] a * ![256, 2048] a + (y a : ℕ) := by
    intro a
    refine (win0_4.rect_emb_val t y a).trans ?_
    rw [show win0_4.index t a = _ from idx4 t a]
  obtain ⟨i, j, rfl⟩ : ∃ (i : Fin 256) (j : Fin 2048), y = (ix2 i j : S256x2048.Idx) :=
    ⟨y 0, y 1, funext fun a => by match a with | 0 => rfl | 1 => rfl⟩
  refine (pay_apply _ _ _ _ i j).trans ?_
  simp only [blk0, blk1, blk2, blk3]
  unfold outArr downAt
  have e0 : ((View.whole main_v2).slice (win0_4.rect t)).emb (ix2 i j) 0 = (⟨256 * t.val + i.val, by omega⟩ : Fin 16384) :=
    Fin.ext ((e 0).trans (by show t.val * 256 + i.val = 256 * t.val + i.val; omega))
  have e1 : ((View.whole main_v2).slice (win0_4.rect t)).emb (ix2 i j) 1 = j :=
    Fin.ext ((e 1).trans (by show 0 * 2048 + j.val = j.val; omega))
  rw [e0, e1]

open Cert.PromptReferenceIdeal in
/-- The reference's run, with its result read element by element. -/
theorem ref_run (m : (ℓ : Loc Cert.PromptReferenceIdeal.nD Cert.PromptReferenceIdeal.τ Cert.PromptReferenceIdeal.sig) → Buf (Elt Ideal) ℓ)
    (ρ : Dev Cert.PromptReferenceIdeal.nD → PrngReg) :
    θ_run Cert.PromptReferenceIdeal.defs (onTc (τ := Cert.PromptReferenceIdeal.τ) (Cert.PromptReferenceIdeal.main (F := Ideal))) ⟨m, fun _ => 0, ρ⟩ fun r =>
      ∀ c : Dev Cert.PromptReferenceIdeal.nD,
      (∀ i j, r.2.mem ((c.tc : Thread Cert.PromptReferenceIdeal.nD Cert.PromptReferenceIdeal.τ).loc Cert.PromptReferenceIdeal.main_v17) (ix2 i j)
        = downAt (m (c, Proc.tc.devRef Cert.PromptReferenceIdeal.main_arg0)) (m (c, Proc.tc.devRef Cert.PromptReferenceIdeal.main_arg1))
            (m (c, Proc.tc.devRef Cert.PromptReferenceIdeal.main_arg2)) (m (c, Proc.tc.devRef Cert.PromptReferenceIdeal.main_arg3)) i j)
      ∧ r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3) := by
  refine (θ_run Cert.PromptReferenceIdeal.defs _ _).mono (fun r h c => ?_) (Cert.PromptReferenceIdeal.Value.run m ρ)
  obtain ⟨h1, h2⟩ := h c
  refine ⟨fun i j => ?_, h2⟩
  rw [h1]
  clear h h1 h2
  pointwise
  rfl

end Cert.Ffn.Prompt
-- ==== Proof.Ffn.Sample.lean ====
module

public import proofs.«01_k».proof.Proof.Ffn.Norm
public import proofs.«01_k».proof.Proof.Gen.SampleIdeal.Value
public import proofs.«01_k».proof.Proof.Gen.SampleReferenceIdeal.Run
public import Idealize.ShloMosaic.Lib.Pipeline.ValueKit
public import Idealize.ShloMosaic.Lib.StableHlo.ReadAt
public import Idealize.ShloMosaic.Lib.Tactic.CleanTypes
public import Idealize.ShloMosaic.Lib.Pointwise

/-!
The sample's result: the call's array element by element, and the reference's.
-/

@[expose] public section

set_option maxRecDepth 16384

noncomputable section

namespace Cert.Ffn.Sample

open Cert.SampleIdeal Cert.SampleIdeal.Gen Cert.SampleIdeal.Value Idealize.ShloMosaic Idealize.ShloMosaic.TcCoe Idealize.SL.Sem

/-- The result at row `i` of these sequences and feature `j`. -/
def downAt (A : S49152x5632.Idx → EReal) (W : S5632x2048.Idx → EReal) (X : S49152x2048.Idx → EReal) (g : S2048.Idx → EReal)
    (i : Fin 32768) (j : Fin 2048) : EReal :=
  normAt (rowAt (fun j => X (ix2 ⟨16384 + i.val, by omega⟩ j)) (fun k => A (ix2 ⟨16384 + i.val, by omega⟩ k)) fun k j => W (ix2 k j))
    (fun j => g (ix1 j)) j

variable (m : (ℓ : Loc nD τ sig) → Buf (Elt Ideal) ℓ)

theorem weight_apply (c : Dev nD) (k : Fin 5632) (j : Fin 2048) :
    V m c main_v0 (ix2 k j) = m (c, Proc.tc.devRef main_arg1) (ix2 k j) := by
  unfold V
  after_reads_at

theorem gain_apply (c : Dev nD) (j : Fin 2048) :
    V m c main_v1 (ix2 0 j) = m (c, Proc.tc.devRef main_arg3) (ix1 j) := by
  unfold V
  after_reads_at

/-- One element of what a grid point stores. -/
theorem pay_apply (x : Vec Ideal S256x2048 .f32) (a : Vec Ideal S256x5632 .bf16) (w : Vec Ideal S5632x2048 .bf16)
    (g : Vec Ideal S1x2048 .f32) (i : Fin 256) (j : Fin 2048) :
    (k0_pay1 x a w g (ix2 i j) : EReal)
      = normAt (rowAt (fun j => x (ix2 i j)) (fun k => a (ix2 i k)) fun k j => w (ix2 k j)) (fun j => g (ix2 0 j)) j := by
  pointwise [k0_pay1]
  rfl

theorem idx0 : ∀ t : Fin cfg0.N, ∀ a, (cfg0.win 0).index t a = ![64 + t.val, 0] a := by decide +kernel
theorem idx1 : ∀ t : Fin cfg0.N, ∀ a, (cfg0.win 1).index t a = ![0, 0] a := by decide +kernel
theorem idx2 : ∀ t : Fin cfg0.N, ∀ a, (cfg0.win 2).index t a = ![64 + t.val, 0] a := by decide +kernel
theorem idx3 : ∀ t : Fin cfg0.N, ∀ a, (cfg0.win 3).index t a = ![0, 0] a := by decide +kernel
theorem idx4 : ∀ t : Fin cfg0.N, ∀ a, (cfg0.win 4).index t a = ![t.val, 0] a := by decide +kernel

theorem point_lt (t : Fin cfg0.N) : t.val < 128 := t.isLt

theorem blk0 (c : Dev nD) (t : Fin cfg0.N) (i : Fin 256) (k : Fin 5632) :
    iblk m c 0 t (ix2 i k) = m (c, Proc.tc.devRef main_arg0) (ix2 ⟨16384 + (256 * t.val + i.val), by have := point_lt t; omega⟩ k) := by
  refine Eq.trans (b := V m c main_arg0 ((win0_0.blk t).view.emb (ix2 i k))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show (64 + t.val) * 256 + i.val = 16384 + (256 * t.val + i.val); omega
  | 1 => show 0 * 5632 + k.val = k.val; omega

theorem blk1 (c : Dev nD) (t : Fin cfg0.N) (k : Fin 5632) (j : Fin 2048) :
    iblk m c 1 t (ix2 k j) = m (c, Proc.tc.devRef main_arg1) (ix2 k j) := by
  refine Eq.trans (b := V m c main_v0 ((win0_1.blk t).view.emb (ix2 k j))) (by rfl) ?_
  rw [← weight_apply m c]
  refine congrArg (V m c main_v0) (funext fun a => Fin.ext ((win0_1.rect_emb_val t _ a).trans ?_))
  rw [show win0_1.index t a = _ from idx1 t a]
  match a with
  | 0 => show 0 * 5632 + k.val = k.val; omega
  | 1 => show 0 * 2048 + j.val = j.val; omega

theorem blk2 (c : Dev nD) (t : Fin cfg0.N) (i : Fin 256) (j : Fin 2048) :
    iblk m c 2 t (ix2 i j) = m (c, Proc.tc.devRef main_arg2) (ix2 ⟨16384 + (256 * t.val + i.val), by have := point_lt t; omega⟩ j) := by
  refine Eq.trans (b := V m c main_arg2 ((win0_2.blk t).view.emb (ix2 i j))) (by rfl) ?_
  rw [V_main_arg2]
  refine congrArg (m (c, Proc.tc.devRef main_arg2)) (funext fun a => Fin.ext ((win0_2.rect_emb_val t _ a).trans ?_))
  rw [show win0_2.index t a = _ from idx2 t a]
  match a with
  | 0 => show (64 + t.val) * 256 + i.val = 16384 + (256 * t.val + i.val); omega
  | 1 => show 0 * 2048 + j.val = j.val; omega

theorem blk3 (c : Dev nD) (t : Fin cfg0.N) (j : Fin 2048) :
    iblk m c 3 t (ix2 0 j) = m (c, Proc.tc.devRef main_arg3) (ix1 j) := by
  refine Eq.trans (b := V m c main_v1 ((win0_3.blk t).view.emb (ix2 0 j))) (by rfl) ?_
  rw [← gain_apply m c]
  refine congrArg (V m c main_v1) (funext fun a => Fin.ext ((win0_3.rect_emb_val t _ a).trans ?_))
  rw [show win0_3.index t a = _ from idx3 t a]
  match a with
  | 0 => rfl
  | 1 => show 0 * 2048 + j.val = j.val; omega

/-- The array the call leaves. -/
def outArr (c : Dev nD) : S32768x2048.Idx → EReal := fun y =>
  downAt (m (c, Proc.tc.devRef main_arg0)) (m (c, Proc.tc.devRef main_arg1)) (m (c, Proc.tc.devRef main_arg2))
    (m (c, Proc.tc.devRef main_arg3)) (y 0) (y 1)

theorem arr_eq (c : Dev nD) : (dats m 0 c).arrAt 4 cfg0.N = outArr m c := by
  refine (dats m 0 c).arrAt_eq_of_covers 4 _ (by decide +kernel) fun t hf y => ?_
  blk_simp
  rw [after0_4]
  frame_out
  have h := point_lt t
  have e : ∀ a, (((View.whole main_v2).slice (win0_4.rect t)).emb y a : ℕ) = ![t.val, 0] a * ![256, 2048] a + (y a : ℕ) := by
    intro a
    refine (win0_4.rect_emb_val t y a).trans ?_
    rw [show win0_4.index t a = _ from idx4 t a]
  obtain ⟨i, j, rfl⟩ : ∃ (i : Fin 256) (j : Fin 2048), y = (ix2 i j : S256x2048.Idx) :=
    ⟨y 0, y 1, funext fun a => by match a with | 0 => rfl | 1 => rfl⟩
  refine (pay_apply _ _ _ _ i j).trans ?_
  simp only [blk0, blk1, blk2, blk3]
  unfold outArr downAt
  have e0 : ((View.whole main_v2).slice (win0_4.rect t)).emb (ix2 i j) 0 = (⟨256 * t.val + i.val, by omega⟩ : Fin 32768) :=
    Fin.ext ((e 0).trans (by show t.val * 256 + i.val = 256 * t.val + i.val; omega))
  have e1 : ((View.whole main_v2).slice (win0_4.rect t)).emb (ix2 i j) 1 = j :=
    Fin.ext ((e 1).trans (by show 0 * 2048 + j.val = j.val; omega))
  rw [e0, e1]

open Cert.SampleReferenceIdeal in
/-- The reference's run, with its result read element by element. -/
theorem ref_run (m : (ℓ : Loc Cert.SampleReferenceIdeal.nD Cert.SampleReferenceIdeal.τ Cert.SampleReferenceIdeal.sig) → Buf (Elt Ideal) ℓ)
    (ρ : Dev Cert.SampleReferenceIdeal.nD → PrngReg) :
    θ_run Cert.SampleReferenceIdeal.defs (onTc (τ := Cert.SampleReferenceIdeal.τ) (Cert.SampleReferenceIdeal.main (F := Ideal))) ⟨m, fun _ => 0, ρ⟩ fun r =>
      ∀ c : Dev Cert.SampleReferenceIdeal.nD,
      (∀ i j, r.2.mem ((c.tc : Thread Cert.SampleReferenceIdeal.nD Cert.SampleReferenceIdeal.τ).loc Cert.SampleReferenceIdeal.main_v17) (ix2 i j)
        = downAt (m (c, Proc.tc.devRef Cert.SampleReferenceIdeal.main_arg0)) (m (c, Proc.tc.devRef Cert.SampleReferenceIdeal.main_arg1))
            (m (c, Proc.tc.devRef Cert.SampleReferenceIdeal.main_arg2)) (m (c, Proc.tc.devRef Cert.SampleReferenceIdeal.main_arg3)) i j)
      ∧ r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3) := by
  refine (θ_run Cert.SampleReferenceIdeal.defs _ _).mono (fun r h c => ?_) (Cert.SampleReferenceIdeal.Value.run m ρ)
  obtain ⟨h1, h2⟩ := h c
  refine ⟨fun i j => ?_, h2⟩
  rw [h1]
  clear h h1 h2
  pointwise
  rfl

end Cert.Ffn.Sample
-- ==== Proof.Mla.Steps.lean ====
/- The body of the MLA attention as a composition of steps on one chunk of 256 query columns. A step is written with the
   rest of the program as its last argument. The printed function is equal to the composition. -/
module

public import proofs.«01_k».proof.Proof.Gen.MlaIdeal.Skeleton

@[expose] public section

noncomputable section

namespace Cert.Mla

open Idealize.ShloMosaic Idealize.SL.Sem Cert.MlaIdeal Cert.MlaIdeal.Gen

variable {F : FTy → Type} [FloatOps F]

/-- A program of the kernel. -/
abbrev P (F : FTy → Type) [FloatOps F] := Prog (TpuEff nD τ sig (Elt F) Λ₀ .tc) PUnit

/-! ## The chunks -/

theorem inbM (c : Fin 8) (a : Fin 2) : (![0, 256 * c.val] : Fin 2 → ℕ) a + S1x256.size a ≤ S1x2048.size a := by
  have := c.isLt
  fin_cases a
  · show 0 + 1 ≤ 1; omega
  · show 256 * c.val + 256 ≤ 2048; omega

theorem inbA (c : Fin 8) (a : Fin 2) : (![0, 256 * c.val] : Fin 2 → ℕ) a + S144x256.size a ≤ S144x2048.size a := by
  have := c.isLt
  fin_cases a
  · show 0 + 144 ≤ 144; omega
  · show 256 * c.val + 256 ≤ 2048; omega

theorem inbS (c : Fin 8) (a : Fin 2) : (![0, 256 * c.val] : Fin 2 → ℕ) a + S1024x256.size a ≤ S1024x2048.size a := by
  have := c.isLt
  fin_cases a
  · show 0 + 1024 ≤ 1024; omega
  · show 256 * c.val + 256 ≤ 2048; omega

theorem inbQ (c : Fin 8) (a : Fin 3) : (![0, 256 * c.val, 0] : Fin 3 → ℕ) a + S1x256x256.size a ≤ S1x2048x256.size a := by
  have := c.isLt
  fin_cases a
  · show 0 + 1 ≤ 1; omega
  · show 256 * c.val + 256 ≤ 2048; omega
  · show 0 + 256 ≤ 256; omega

theorem inbK (t : Fin 16) (a : Fin 3) : (![0, 1024 * t.val, 0] : Fin 3 → ℕ) a + S1x1024x256.size a ≤ S1x16384x256.size a := by
  have := t.isLt
  fin_cases a
  · show 0 + 1 ≤ 1; omega
  · show 1024 * t.val + 1024 ≤ 16384; omega
  · show 0 + 256 ≤ 256; omega

theorem inbV (t : Fin 16) (a : Fin 3) : (![0, 0, 1024 * t.val] : Fin 3 → ℕ) a + S1x144x1024.size a ≤ S1x144x16384.size a := by
  have := t.isLt
  fin_cases a
  · show 0 + 1 ≤ 1; omega
  · show 0 + 144 ≤ 144; omega
  · show 1024 * t.val + 1024 ≤ 16384; omega

/-- Chunk `c` of a row, of the sums and of the scores. -/
abbrev rM (c : Fin 8) : Rect S1x2048 := Rect.unit (s := S1x2048) ![0, 256 * c.val] S1x256.size (inbM c)
abbrev rA (c : Fin 8) : Rect S144x2048 := Rect.unit (s := S144x2048) ![0, 256 * c.val] S144x256.size (inbA c)
abbrev rS (c : Fin 8) : Rect S1024x2048 := Rect.unit (s := S1024x2048) ![0, 256 * c.val] S1024x256.size (inbS c)
/-- Chunk `c` of the queries. -/
abbrev rQ (c : Fin 8) : Rect S1x2048x256 := Rect.unit (s := S1x2048x256) ![0, 256 * c.val, 0] S1x256x256.size (inbQ c)
/-- Block `t` of the keys and of the transposed values. -/
abbrev rK (t : Fin 16) : Rect S1x16384x256 := Rect.unit (s := S1x16384x256) ![0, 1024 * t.val, 0] S1x1024x256.size (inbK t)
abbrev rV (t : Fin 16) : Rect S1x144x16384 := Rect.unit (s := S1x144x16384) ![0, 0, 1024 * t.val] S1x144x1024.size (inbV t)
/-- The whole of a row and of the sums, and of the output. -/
abbrev rM' : Rect S1x2048 := Rect.unit (s := S1x2048) ![0, 0] S1x2048.size inb_S1x2048_S1x2048_0_0
abbrev rA' : Rect S144x2048 := Rect.unit (s := S144x2048) ![0, 0] S144x2048.size inb_S144x2048_S144x2048_0_0
abbrev rO' : Rect S1x2048x128 := Rect.unit (s := S1x2048x128) ![0, 0, 0] S1x2048x128.size inb_S1x2048x128_S1x2048x128_0_0_0

/-! ## The payloads -/

/-- The scores of a block of keys and a chunk of queries. -/
def payS (k : Vec F S1x1024x256 .bf16) (q : Vec F S1x256x256 .bf16) : FVec F S1024x256 .f32 :=
  matmul dot_S1024x256_S256x256_S1024x256_1_1_0_0_n_n none (shapeCast S1024x256 k shapeCasts_S1x1024x256_S1024x256)
    (shapeCast S256x256 q shapeCasts_S1x256x256_S256x256) (constant S1024x256 .f32 0x00000000#32)

/-- Their maximum over the keys. -/
def payMt (s : FVec F S1024x256 .f32) : FVec F S1x256 .f32 :=
  shapeCast S1x256 (multiReduction .maximumf [0] S256 s 0xFF800000#32 reduces_S1024x256_S256 (.inl rfl) rfl) shapeCasts_S256_S1x256

/-- The next maximum. -/
def payM (m mt : Vec F S1x256 .f32) : FVec F S1x256 .f32 := maximumf m mt

/-- The weights of the block. -/
def payP (m' : FVec F S1x256 .f32) (s : Vec F S1024x256 .f32) : FVec F S1024x256 .bf16 :=
  truncf .bf16 (exp2 (subf s (broadcastTo S1024x256 m' broadcasts_S1x256_S1024x256))) bitsLt_bf16_f32

/-- The next sums: the old ones scaled, and the block's. -/
def payA (m m' : FVec F S1x256 .f32) (p : FVec F S1024x256 .bf16) (acc : Vec F S144x256 .f32) (vt : Vec F S1x144x1024 .bf16) :
    FVec F S144x256 .f32 :=
  addf (mulf acc (broadcastTo S144x256 (exp2 (subf m m')) broadcasts_S1x256_S144x256))
    (matmul dot_S144x1024_S1024x256_S144x256_1_0_0_1_n_n none (shapeCast S144x1024 vt shapeCasts_S1x144x1024_S144x1024) p
      (constant S144x256 .f32 0x00000000#32))

/-- The output of the sums. -/
def payO (acc : Vec F S144x2048 .f32) : FVec F S1x2048x128 .bf16 :=
  shapeCast S1x2048x128 (truncf .bf16 (transpose S2048x128 [1, 0]
    (divf (extractStridedSlice S128x2048 ![0, 0] acc slices_S144x2048_o0_0_S128x2048)
      (broadcastTo S128x2048 (extractStridedSlice S1x2048 ![128, 0] acc slices_S144x2048_o128_0_S1x2048) broadcasts_S1x2048_S128x2048))
    transposes_S128x2048_p1_0_S2048x128) bitsLt_bf16_f32) shapeCasts_S2048x128_S1x2048x128

/-! ## The steps -/

section
variable (arg3 : Memref sig .tc .vmem S1x2048x256 .bf16) (arg4 : Memref sig .tc .vmem S1x16384x256 .bf16)
  (arg5 : Memref sig .tc .vmem S1x144x16384 .bf16) (arg7 : Memref sig .tc .vmem S1x2048 .f32)
  (arg8 : Memref sig .tc .vmem S144x2048 .f32)

/-- Chunk `c` of the scores of the keys at `o`, and their maximum, to the buffers `s` and `mt`. -/
def scoresK {o : Fin 3 → ℕ} (ho : ∀ a, o a + S1x1024x256.size a ≤ S1x16384x256.size a)
    (s : Memref sig .tc .vmem S1024x2048 .f32) (mt : Memref sig .tc .vmem S1x2048 .f32) (c : Fin 8) (k : P F) : P F :=
  .op (.load arg4 (Rect.unit (s := S1x16384x256) o S1x1024x256.size ho).toLoadRect (View.loadsAt_vmem h_S1x1024x256)) fun vk =>
  .op (.load arg3 (rQ c).toLoadRect (View.loadsAt_vmem h_S1x256x256)) fun vq =>
  .op (.load s (rS c).toLoadRect (View.loadsAt_vmem h_S1024x256)) fun _ =>
  .op (.store s (rS c) (shapeCast S1024x256 (payS vk vq) shapeCasts_S1024x256_S1024x256) Finset.univ (View.stores_vmem_bits_univ h_S1024x256 rfl) (.inl rfl)) fun _ =>
  .op (.load mt (rM c).toLoadRect (View.loadsAt_vmem h_S1x256)) fun _ =>
  .op (.store mt (rM c) (shapeCast S1x256 (payMt (payS vk vq)) shapeCasts_S1x256_S1x256) Finset.univ (View.stores_vmem_bits_univ h_S1x256 rfl) (.inl rfl)) fun _ =>
  k

/-- Chunk `c` of the maximum: read, and replaced by the next; and the weights of the scores in `s`. -/
def maxK (s : Memref sig .tc .vmem S1024x2048 .f32) (mt : Memref sig .tc .vmem S1x2048 .f32) (c : Fin 8)
    (k : FVec F S1x256 .f32 → FVec F S1x256 .f32 → FVec F S1024x256 .bf16 → P F) : P F :=
  .op (.load arg7 (rM c).toLoadRect (View.loadsAt_vmem h_S1x256)) fun m =>
  .op (.load mt (rM c).toLoadRect (View.loadsAt_vmem h_S1x256)) fun vmt =>
  .op (.load arg7 (rM c).toLoadRect (View.loadsAt_vmem h_S1x256)) fun _ =>
  .op (.store arg7 (rM c) (shapeCast S1x256 (payM m vmt) shapeCasts_S1x256_S1x256) Finset.univ (View.stores_vmem_bits_univ h_S1x256 rfl) (.inl rfl)) fun _ =>
  .op (.load s (rS c).toLoadRect (View.loadsAt_vmem h_S1024x256)) fun vs =>
  k m (payM m vmt) (payP (payM m vmt) vs)

/-- Chunk `c` of the sums: read, and replaced by the next with the values at `o`. -/
def accK {o : Fin 3 → ℕ} (ho : ∀ a, o a + S1x144x1024.size a ≤ S1x144x16384.size a) (c : Fin 8)
    (m m' : FVec F S1x256 .f32) (p : FVec F S1024x256 .bf16) (k : P F) : P F :=
  .op (.load arg8 (rA c).toLoadRect (View.loadsAt_vmem h_S144x256)) fun acc =>
  .op (.load arg5 (Rect.unit (s := S1x144x16384) o S1x144x1024.size ho).toLoadRect (View.loadsAt_vmem h_S1x144x1024)) fun vt =>
  .op (.load arg8 (rA c).toLoadRect (View.loadsAt_vmem h_S144x256)) fun _ =>
  .op (.store arg8 (rA c) (shapeCast S144x256 (payA m m' p acc vt) shapeCasts_S144x256_S144x256) Finset.univ (View.stores_vmem_bits_univ h_S144x256 rfl) (.inl rfl)) fun _ =>
  k

/-- One chunk of a step: the scores of the next keys go to `s'`, `mt'` while those in `s`, `mt` are summed. -/
def chunkK {o o' : Fin 3 → ℕ} (ho : ∀ a, o a + S1x1024x256.size a ≤ S1x16384x256.size a)
    (ho' : ∀ a, o' a + S1x144x1024.size a ≤ S1x144x16384.size a)
    (s : Memref sig .tc .vmem S1024x2048 .f32) (mt : Memref sig .tc .vmem S1x2048 .f32)
    (s' : Memref sig .tc .vmem S1024x2048 .f32) (mt' : Memref sig .tc .vmem S1x2048 .f32) (c : Fin 8) (k : P F) : P F :=
  maxK arg7 s mt c fun m m' p => scoresK arg3 arg4 ho s' mt' c (accK arg5 arg8 ho' c m m' p k)

/-- The last step's chunk: no next keys. -/
def lastK {o' : Fin 3 → ℕ} (ho' : ∀ a, o' a + S1x144x1024.size a ≤ S1x144x16384.size a)
    (s : Memref sig .tc .vmem S1024x2048 .f32) (mt : Memref sig .tc .vmem S1x2048 .f32) (c : Fin 8) (k : P F) : P F :=
  maxK arg7 s mt c fun m m' p => accK arg5 arg8 ho' c m m' p k

/-- The eight chunks in turn. -/
def eight (f : Fin 8 → P F → P F) (k : P F) : P F :=
  f ⟨0, by decide⟩ (f ⟨1, by decide⟩ (f ⟨2, by decide⟩ (f ⟨3, by decide⟩
    (f ⟨4, by decide⟩ (f ⟨5, by decide⟩ (f ⟨6, by decide⟩ (f ⟨7, by decide⟩ k)))))))

variable (arg6 : Memref sig .tc .vmem S1x2048x128 .bf16) (harg6 : arg6.IsWhole) (arg9 arg10 : Memref sig .tc .vmem S1024x2048 .f32)
  (arg11 arg12 : Memref sig .tc .vmem S1x2048 .f32)

/-- The loop's trip: six steps, the two pairs of buffers in turn. -/
def tripK (t : Fin k0_t1_loop.trips) : P F :=
    eight (chunkK arg3 arg4 arg5 arg7 arg8 (k0_off1_inb t 0) (k0_off2_inb t 0) arg9 arg11 arg10 arg12) <|
    eight (chunkK arg3 arg4 arg5 arg7 arg8 (k0_off1_inb t 1) (k0_off2_inb t 1) arg10 arg12 arg9 arg11) <|
    eight (chunkK arg3 arg4 arg5 arg7 arg8 (k0_off1_inb t 2) (k0_off2_inb t 2) arg9 arg11 arg10 arg12) <|
    eight (chunkK arg3 arg4 arg5 arg7 arg8 (k0_off1_inb t 3) (k0_off2_inb t 3) arg10 arg12 arg9 arg11) <|
    eight (chunkK arg3 arg4 arg5 arg7 arg8 (k0_off1_inb t 4) (k0_off2_inb t 4) arg9 arg11 arg10 arg12) <|
    eight (chunkK arg3 arg4 arg5 arg7 arg8 (k0_off1_inb t 5) (k0_off2_inb t 5) arg10 arg12 arg9 arg11) <|
    pure ⟨⟩

/-- Up to the loop: the sums at zero, the scores of the first keys, their maximum the first maximum. -/
def headK (k : P F) : P F :=
  .op (.load arg8 rA'.toLoadRect (View.loadsAt_vmem h_S144x2048)) fun _ =>
  .op (.store arg8 rA' (k0_pay386 (F := F)) Finset.univ (View.stores_vmem_bits_univ h_S144x2048 rfl) (.inl rfl)) fun _ =>
  eight (scoresK arg3 arg4 (inbK 0) arg9 arg11) <|
  .op (.load arg11 rM'.toLoadRect (View.loadsAt_vmem h_S1x2048)) fun v =>
  .op (.load arg7 rM'.toLoadRect (View.loadsAt_vmem h_S1x2048)) fun _ =>
  .op (.store arg7 rM' (shapeCast S1x2048 v shapeCasts_S1x2048_S1x2048) Finset.univ (View.stores_vmem_bits_univ h_S1x2048 rfl) (.inl rfl)) fun _ =>
  k

/-- After the loop: the last four steps, and the output. -/
def tailK : P F :=
    eight (chunkK arg3 arg4 arg5 arg7 arg8 (inbK 13) (inbV 12) arg9 arg11 arg10 arg12) <|
    eight (chunkK arg3 arg4 arg5 arg7 arg8 (inbK 14) (inbV 13) arg10 arg12 arg9 arg11) <|
    eight (chunkK arg3 arg4 arg5 arg7 arg8 (inbK 15) (inbV 14) arg9 arg11 arg10 arg12) <|
    eight (lastK arg5 arg7 arg8 (inbV 15) arg10 arg12) <|
  .op (.load arg8 rA'.toLoadRect (View.loadsAt_vmem h_S144x2048)) fun acc =>
  .op (.load arg6 rO'.toLoadRect (View.loadsAt_vmem h_S1x2048x128)) fun _ =>
  .op (.store arg6 rO' (payO acc) Finset.univ (View.stores_vmem h_S1x2048x128 (harg6.storeExact_slice rfl _ packedbf16_S1x2048x128_S1x2048x128_0_0_0) (fun _ => rfl)) (.inl rfl)) fun _ =>
  pure ⟨⟩

/-- The body. -/
def bodyK : P F :=
  headK arg3 arg4 arg7 arg8 arg9 arg11 <|
  Scf.Loop.for k0_t1_loop k0_t1_ok ⟨⟩ (fun t _ => tripK arg3 arg4 arg5 arg7 arg8 arg9 arg10 arg11 arg12 t) >>= fun _ =>
  tailK arg3 arg4 arg5 arg7 arg8 arg6 harg6 arg9 arg10 arg11 arg12

end

/-- Two programs that begin with the same operation and go on alike. -/
theorem op_congr {α β : Type} {e : TpuEff nD τ sig (Elt F) Λ₀ .tc β} {k k' : β → Prog (TpuEff nD τ sig (Elt F) Λ₀ .tc) α}
    (h : ∀ x, k x = k' x) : (Prog.op e k : Prog _ α) = Prog.op e k' := congrArg _ (funext h)

set_option maxRecDepth 65536 in
/-- The printed function is the composition. -/
theorem body_eq (i : grid0.Coords) (arg3 : Memref sig .tc .vmem S1x2048x256 .bf16) (harg3 : arg3.IsWhole) (arg4 : Memref sig .tc .vmem S1x16384x256 .bf16) (harg4 : arg4.IsWhole) (arg5 : Memref sig .tc .vmem S1x144x16384 .bf16) (harg5 : arg5.IsWhole) (arg6 : Memref sig .tc .vmem S1x2048x128 .bf16) (harg6 : arg6.IsWhole) (arg7 : Memref sig .tc .vmem S1x2048 .f32) (harg7 : arg7.IsWhole) (arg8 : Memref sig .tc .vmem S144x2048 .f32) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S1x2048 .f32) (harg11 : arg11.IsWhole) (arg12 : Memref sig .tc .vmem S1x2048 .f32) (harg12 : arg12.IsWhole) :
    cc0_mla_attention (F := F) i arg3 harg3 arg4 harg4 arg5 harg5 arg6 harg6 arg7 harg7 arg8 harg8 arg9 harg9 arg10 harg10 arg11 harg11 arg12 harg12
      = bodyK arg3 arg4 arg5 arg7 arg8 arg6 harg6 arg9 arg10 arg11 arg12 := by
  iterate 53 refine op_congr fun _ => ?_
  refine (Prog.bind_assoc (Scf.Loop.for k0_t1_loop k0_t1_ok PUnit.unit _) _ _).trans ?_
  refine congrArg₂ _ ?_ (funext fun _ => ?_)
  · rfl
  · rfl

end Cert.Mla
-- ==== Proof.Mla.Rules.lean ====
/- The rules of the steps: a memref that is held is read and written one chunk at a time. -/
module

public import proofs.«01_k».proof.Proof.Mla.Steps
public import proofs.«01_k».proof.Proof.Gen.MlaIdeal.Frame
public import Idealize.ShloMosaic.Lib.Pointwise.Index
public import Idealize.ShloMosaic.Lib.VecWindow
public import Idealize.ShloMosaic.Lib.Pipeline.Value
public import Idealize.ShloMosaic.Lib.PageRing.Basic

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal Cert.MlaIdeal.Gen

variable {F : FTy → Type} [FloatOps F]

local notation "𝕄" => MT nD τ sig Unit (Elt F) ℕ (UR sig nD τ) ℕ

/-! ## The contents of a buffer by chunks -/

/-- A buffer of 2048 columns from its eight chunks. -/
def glue {R : ℕ} {α : Type} (X : Fin 8 → (⟨2, ![R, 256]⟩ : Shape).Idx → α) : (⟨2, ![R, 2048]⟩ : Shape).Idx → α :=
  fun y => X ⟨(y 1).val / 256, by have : (y 1).val < 2048 := (y 1).isLt; omega⟩
    (ix2 (y 0) ⟨(y 1).val % 256, Nat.mod_lt _ (by decide)⟩)

theorem chunk_inb {R : ℕ} (c : Fin 8) (a : Fin 2) :
    (![0, 256 * c.val] : Fin 2 → ℕ) a + (⟨2, ![R, 256]⟩ : Shape).size a ≤ (⟨2, ![R, 2048]⟩ : Shape).size a := by
  have := c.isLt
  fin_cases a
  · show 0 + R ≤ R; omega
  · show 256 * c.val + 256 ≤ 2048; omega

/-- Chunk `c` of a buffer. -/
def cut {R : ℕ} {α : Type} (x : (⟨2, ![R, 2048]⟩ : Shape).Idx → α) (c : Fin 8) : (⟨2, ![R, 256]⟩ : Shape).Idx → α :=
  fun y => x (ix2 (y 0) ⟨256 * c.val + (y 1).val, by have : (y 1).val < 256 := (y 1).isLt; have := c.isLt; omega⟩)

theorem glue_cut {R : ℕ} {α : Type} (x : (⟨2, ![R, 2048]⟩ : Shape).Idx → α) : glue (cut x) = x := by
  funext y
  refine congrArg x (funext fun a => Fin.ext ?_)
  match a with
  | 0 => rfl
  | 1 => show 256 * ((y 1).val / 256) + (y 1).val % 256 = (y 1).val; omega

theorem window_glue {R : ℕ} {α : Type} (X : Fin 8 → (⟨2, ![R, 256]⟩ : Shape).Idx → α) (c : Fin 8) :
    VecWindow.window (glue X) ![0, 256 * c.val] (⟨2, ![R, 256]⟩ : Shape).size (chunk_inb c) = X c := by
  funext y
  have h1 : (y 1).val < 256 := (y 1).isLt
  have hc := c.isLt
  show X ⟨(256 * c.val + 1 * (y 1).val) / 256, _⟩ _ = X c y
  have e : (256 * c.val + 1 * (y 1).val) / 256 = c.val := by omega
  refine congr (congrArg X (Fin.ext e)) (funext fun a => Fin.ext ?_)
  match a with
  | 0 => show 0 + 1 * (y 0).val = (y 0).val; omega
  | 1 => show (256 * c.val + 1 * (y 1).val) % 256 = (y 1).val; omega

theorem put_glue {R : ℕ} {α : Type} (X : Fin 8 → (⟨2, ![R, 256]⟩ : Shape).Idx → α) (c : Fin 8)
    (w : (⟨2, ![R, 256]⟩ : Shape).Idx → α) :
    VecWindow.put (glue X) ![0, 256 * c.val] (⟨2, ![R, 256]⟩ : Shape).size w = glue (Function.update X c w) := by
  funext y
  have h1 : (y 1).val < 2048 := (y 1).isLt
  unfold VecWindow.put
  split
  · next h =>
    have hy : 256 * c.val ≤ (y 1).val ∧ (y 1).val < 256 * c.val + 256 := h 1
    have e : (⟨(y 1).val / 256, by omega⟩ : Fin 8) = c := Fin.ext (by show (y 1).val / 256 = c.val; omega)
    unfold glue
    rw [e, Function.update_self]
    refine congrArg w (funext fun a => Fin.ext ?_)
    match a with
    | 0 => show (y 0).val - 0 = (y 0).val; omega
    | 1 => show (y 1).val - 256 * c.val = (y 1).val % 256; omega
  · next h =>
    have e : (⟨(y 1).val / 256, by omega⟩ : Fin 8) ≠ c := fun e => h fun a => by
      have e' : (y 1).val / 256 = c.val := congrArg Fin.val e
      match a with
      | 0 => exact ⟨Nat.zero_le _, by show (y 0).val < 0 + R; have : (y 0).val < R := (y 0).isLt; omega⟩
      | 1 => show 256 * c.val ≤ (y 1).val ∧ (y 1).val < 256 * c.val + 256; omega
    unfold glue
    rw [Function.update_of_ne e]

/-- The first `n` chunks of `f`, the others of `g`. -/
def upto {α : Type} (n : ℕ) (f g : Fin 8 → α) : Fin 8 → α := fun c => if c.val < n then f c else g c

theorem upto_zero {α : Type} (f g : Fin 8 → α) : upto 0 f g = g := rfl
theorem upto_eight {α : Type} (f g : Fin 8 → α) : upto 8 f g = f := funext fun c => if_pos c.isLt
theorem upto_self {α : Type} (c : Fin 8) (f g : Fin 8 → α) : upto c.val f g c = g c := if_neg (lt_irrefl _)
theorem update_upto {α : Type} (c : Fin 8) (f g : Fin 8 → α) : Function.update (upto c.val f g) c (f c) = upto (c.val + 1) f g := by
  funext d
  by_cases h : d = c
  · subst h; rw [Function.update_self]; exact (if_pos (Nat.lt_succ_self _)).symm
  · rw [Function.update_of_ne h]
    have : d.val ≠ c.val := fun e => h (Fin.ext e)
    unfold upto
    by_cases h1 : d.val < c.val
    · rw [if_pos h1, if_pos (by omega)]
    · rw [if_neg h1, if_neg (by omega)]

/-! ## Loads and stores of a memref that is held -/

section
variable (c : Dev nD) {sh : Shape} {e : EltTy} (m : Memref sig .tc .vmem sh e)

/-- A memref held whole at contents `X`. -/
abbrev held (X : Vec F sh e) : sProp 𝕄 := owns (c : Thread nD τ) m fullShare X

/-- A program's weakest precondition. -/
abbrev wpP (p : P F) (Q : PUnit → sProp 𝕄) : sProp 𝕄 := wp frame (wpE (defs₀ (F := F)) Variants.none c none) Set.univ p Q

theorem load_held {off size : Fin sh.rank → ℕ} {inb : ∀ a, off a + size a ≤ sh.size a}
    {hl : m.view.LoadsAt (Rect.unit off size inb).toLoadRect} (X : Vec F sh e)
    (k : ((Rect.unit off size inb).shape.Idx → Elt F e) → P F) (Q : PUnit → sProp 𝕄) :
    iprop(held c m X ∗ (held c m X -∗ wpP c (k (VecWindow.window X off size inb)) Q))
      ⊢ wpP c (.op (.load m (Rect.unit off size inb).toLoadRect hl) k) Q := by
  unfold held owns
  iintro ⟨⟨%f, %hf, H⟩, Hk⟩
  subst hf
  iapply (wp_load (defs := defs₀ (F := F)) Variants.none (c : Thread nD τ) none Set.univ (S := m.view.set) (m.view.setOn_subset_set _)) $$ [H]
  · iexact H
  iintro H
  iapply Hk
  iexists f
  isplitr
  · ipureintro; rfl
  iexact H

theorem store_held {off size : Fin sh.rank → ℕ} {inb : ∀ a, off a + size a ≤ sh.size a}
    {w : (Rect.unit off size inb).shape.Idx → Elt F e}
    {hx : (m.access (Rect.unit off size inb)).Stores Finset.univ} {hm} (X X' : Vec F sh e)
    (hX : VecWindow.put X off size w = X')
    (k : PUnit → P F) (Q : PUnit → sProp 𝕄) :
    iprop(held c m X ∗ (held c m X' -∗ wpP c (k ⟨⟩) Q))
      ⊢ wpP c (.op (.store m (Rect.unit off size inb) w Finset.univ hx hm) k) Q := by
  subst hX
  unfold held owns
  iintro ⟨⟨%f, %hf, H⟩, Hk⟩
  subst hf
  iapply (wp_store (defs := defs₀ (F := F)) Variants.none (c : Thread nD τ) none Set.univ (S := m.view.set)
    (((m.access _).setOn_subset_set _).trans (m.view.set_slice_subset _))) $$ [H]
  · iexact H
  iintro H
  iapply Hk
  iexists _
  isplitr
  swap
  · iexact H
  ipureintro
  exact View.read_writes_cons_put m.view f inb w [] rfl

end

end Cert.Mla
-- ==== Proof.Mla.Chunk.lean ====
/- The rules of a chunk: what each part of a step leaves in the chunk's columns, and the eight chunks in turn. -/
module

public import proofs.«01_k».proof.Proof.Mla.Rules

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal Cert.MlaIdeal.Gen

variable {F : FTy → Type} [FloatOps F]

local notation "𝕄" => MT nD τ sig Unit (Elt F) ℕ (UR sig nD τ) ℕ

/-- The contents of the row buffers, of the sums and of the scores, by chunks. -/
abbrev Row (F : FTy → Type) [FloatOps F] := Fin 8 → Vec F S1x256 .f32
abbrev Sums (F : FTy → Type) [FloatOps F] := Fin 8 → Vec F S144x256 .f32
abbrev Scores (F : FTy → Type) [FloatOps F] := Fin 8 → Vec F S1024x256 .f32

/-! ## What a step computes of each chunk -/

section
variable (xq : Vec F S1x2048x256 .bf16) (xk : Vec F S1x16384x256 .bf16) (xv : Vec F S1x144x16384 .bf16)

/-- The scores of the keys at `o`. -/
def nextS {o : Fin 3 → ℕ} (ho : ∀ a, o a + S1x1024x256.size a ≤ S1x16384x256.size a) : Scores F := fun c =>
  payS (VecWindow.window (s := S1x16384x256) xk o S1x1024x256.size ho)
    (VecWindow.window (s := S1x2048x256) xq ![0, 256 * c.val, 0] S1x256x256.size (inbQ c))

/-- Their maximum. -/
def nextMt (S : Scores F) : Row F := fun c => payMt (S c)

/-- The next maximum. -/
def nextM (M MT : Row F) : Row F := fun c => payM (M c) (MT c)

/-- The next sums, with the values at `o`. -/
def nextA {o : Fin 3 → ℕ} (ho : ∀ a, o a + S1x144x1024.size a ≤ S1x144x16384.size a) (M MT : Row F) (S : Scores F) (A : Sums F) : Sums F :=
  fun c => payA (M c) (nextM M MT c) (payP (nextM M MT c) (S c)) (A c)
    (VecWindow.window (s := S1x144x16384) xv o S1x144x1024.size ho)

end

section
variable (c : Dev nD) (arg3 : Memref sig .tc .vmem S1x2048x256 .bf16) (arg4 : Memref sig .tc .vmem S1x16384x256 .bf16)
  (arg5 : Memref sig .tc .vmem S1x144x16384 .bf16) (arg7 : Memref sig .tc .vmem S1x2048 .f32)
  (arg8 : Memref sig .tc .vmem S144x2048 .f32)
variable (xq : Vec F S1x2048x256 .bf16) (xk : Vec F S1x16384x256 .bf16) (xv : Vec F S1x144x16384 .bf16)

/-- A load of a chunk. -/
theorem load_chunk {R : ℕ} (m : Memref sig .tc .vmem ⟨2, ![R, 2048]⟩ .f32) (j : Fin 8)
    {inb : ∀ a, (![0, 256 * j.val] : Fin 2 → ℕ) a + (⟨2, ![R, 256]⟩ : Shape).size a ≤ (⟨2, ![R, 2048]⟩ : Shape).size a}
    {hl : m.view.LoadsAt (Rect.unit (s := ⟨2, ![R, 2048]⟩) ![0, 256 * j.val] (⟨2, ![R, 256]⟩ : Shape).size inb).toLoadRect}
    (X : Fin 8 → Vec F ⟨2, ![R, 256]⟩ .f32) (k : Vec F ⟨2, ![R, 256]⟩ .f32 → P F) (Q : PUnit → sProp 𝕄) :
    iprop(held c m (glue X) ∗ (held c m (glue X) -∗ wpP c (k (X j)) Q))
      ⊢ wpP c (.op (.load m (Rect.unit (s := ⟨2, ![R, 2048]⟩) ![0, 256 * j.val] (⟨2, ![R, 256]⟩ : Shape).size inb).toLoadRect hl) k) Q := by
  have h := load_held c m (hl := hl) (glue X) k Q
  rw [show VecWindow.window (glue X) ![0, 256 * j.val] (⟨2, ![R, 256]⟩ : Shape).size inb = X j from window_glue X j] at h
  exact h

/-- A store of a chunk, when the chunks before it are done. -/
theorem store_chunk {R : ℕ} (m : Memref sig .tc .vmem ⟨2, ![R, 2048]⟩ .f32) (j : Fin 8)
    {inb : ∀ a, (![0, 256 * j.val] : Fin 2 → ℕ) a + (⟨2, ![R, 256]⟩ : Shape).size a ≤ (⟨2, ![R, 2048]⟩ : Shape).size a}
    {h0 : (⟨2, ![R, 256]⟩ : Shape).ShapeCasts ⟨2, ![R, 256]⟩}
    {w : Vec F ⟨2, ![R, 256]⟩ .f32}
    {hx : (m.access (Rect.unit (s := ⟨2, ![R, 2048]⟩) ![0, 256 * j.val] (⟨2, ![R, 256]⟩ : Shape).size inb)).Stores Finset.univ} {hm}
    (X Y : Fin 8 → Vec F ⟨2, ![R, 256]⟩ .f32) (hw : w = Y j) (k : PUnit → P F) (Q : PUnit → sProp 𝕄) :
    iprop(held c m (glue (upto j.val Y X)) ∗ (held c m (glue (upto (j.val + 1) Y X)) -∗ wpP c (k ⟨⟩) Q))
      ⊢ wpP c (.op (.store m (Rect.unit (s := ⟨2, ![R, 2048]⟩) ![0, 256 * j.val] (⟨2, ![R, 256]⟩ : Shape).size inb)
          (shapeCast (⟨2, ![R, 256]⟩ : Shape) w h0) Finset.univ hx hm) k) Q := by
  subst hw
  rw [show shapeCast (⟨2, ![R, 256]⟩ : Shape) (Y j) h0 = Y j from shapeCast_self _ _]
  exact store_held c m (hx := hx) (hm := hm) (glue (upto j.val Y X)) _
    ((put_glue _ _ _).trans (congrArg glue (update_upto j Y X))) k Q

theorem scores_rule {o : Fin 3 → ℕ} (ho : ∀ a, o a + S1x1024x256.size a ≤ S1x16384x256.size a)
    (s : Memref sig .tc .vmem S1024x2048 .f32) (mt : Memref sig .tc .vmem S1x2048 .f32) (S : Scores F) (MT : Row F) (j : Fin 8)
    (k : P F) (Q : PUnit → sProp 𝕄) :
    iprop(held c arg3 xq ∗ held c arg4 xk ∗ held c s (glue (upto j.val (nextS xq xk ho) S)) ∗ held c mt (glue (upto j.val (nextMt (nextS xq xk ho)) MT))
        ∗ (iprop(held c arg3 xq ∗ held c arg4 xk ∗ held c s (glue (upto (j.val + 1) (nextS xq xk ho) S))
            ∗ held c mt (glue (upto (j.val + 1) (nextMt (nextS xq xk ho)) MT))) -∗ wpP c k Q))
      ⊢ wpP c (scoresK arg3 arg4 ho s mt j k) Q := by
  iintro ⟨Hq, Hk, Hs, Hm, H⟩
  unfold scoresK
  iapply (load_held c arg4 xk _ Q) $$ [Hk Hq Hs Hm H]
  isplitl [Hk]; · iexact Hk
  iintro Hk
  iapply (load_held c arg3 xq _ Q) $$ [Hk Hq Hs Hm H]
  isplitl [Hq]; · iexact Hq
  iintro Hq
  iapply (load_chunk c s j _ _ Q) $$ [Hk Hq Hs Hm H]
  isplitl [Hs]; · iexact Hs
  iintro Hs
  iapply (store_chunk c s j S (nextS xq xk ho) rfl _ Q) $$ [Hk Hq Hs Hm H]
  isplitl [Hs]; · iexact Hs
  iintro Hs
  iapply (load_chunk c mt j _ _ Q) $$ [Hk Hq Hs Hm H]
  isplitl [Hm]; · iexact Hm
  iintro Hm
  iapply (store_chunk c mt j MT (nextMt (nextS xq xk ho)) rfl _ Q) $$ [Hk Hq Hs Hm H]
  isplitl [Hm]; · iexact Hm
  iintro Hm
  iapply H
  isplitl [Hq]; · iexact Hq
  isplitl [Hk]; · iexact Hk
  isplitl [Hs]; · iexact Hs
  iexact Hm

theorem max_rule (s : Memref sig .tc .vmem S1024x2048 .f32) (mt : Memref sig .tc .vmem S1x2048 .f32) (M MT : Row F) (S : Scores F) (j : Fin 8)
    (k : FVec F S1x256 .f32 → FVec F S1x256 .f32 → FVec F S1024x256 .bf16 → P F) (Q : PUnit → sProp 𝕄) :
    iprop(held c arg7 (glue (upto j.val (nextM M MT) M)) ∗ held c s (glue S) ∗ held c mt (glue MT)
        ∗ (iprop(held c arg7 (glue (upto (j.val + 1) (nextM M MT) M)) ∗ held c s (glue S) ∗ held c mt (glue MT))
            -∗ wpP c (k (M j) (nextM M MT j) (payP (nextM M MT j) (S j))) Q))
      ⊢ wpP c (maxK arg7 s mt j k) Q := by
  iintro ⟨H7, Hs, Hm, H⟩
  unfold maxK
  iapply (load_chunk c arg7 j _ _ Q) $$ [H7 Hs Hm H]
  isplitl [H7]; · iexact H7
  iintro H7
  rw [upto_self]
  iapply (load_chunk c mt j _ _ Q) $$ [H7 Hs Hm H]
  isplitl [Hm]; · iexact Hm
  iintro Hm
  iapply (load_chunk c arg7 j _ _ Q) $$ [H7 Hs Hm H]
  isplitl [H7]; · iexact H7
  iintro H7
  iapply (store_chunk c arg7 j M (nextM M MT) rfl _ Q) $$ [H7 Hs Hm H]
  isplitl [H7]; · iexact H7
  iintro H7
  iapply (load_chunk c s j _ _ Q) $$ [H7 Hs Hm H]
  isplitl [Hs]; · iexact Hs
  iintro Hs
  iapply H
  isplitl [H7]; · iexact H7
  isplitl [Hs]; · iexact Hs
  iexact Hm

theorem acc_rule {o : Fin 3 → ℕ} (ho : ∀ a, o a + S1x144x1024.size a ≤ S1x144x16384.size a) (M MT : Row F) (S : Scores F) (A : Sums F) (j : Fin 8)
    (k : P F) (Q : PUnit → sProp 𝕄) :
    iprop(held c arg5 xv ∗ held c arg8 (glue (upto j.val (nextA xv ho M MT S A) A))
        ∗ (iprop(held c arg5 xv ∗ held c arg8 (glue (upto (j.val + 1) (nextA xv ho M MT S A) A))) -∗ wpP c k Q))
      ⊢ wpP c (accK arg5 arg8 ho j (M j) (nextM M MT j) (payP (nextM M MT j) (S j)) k) Q := by
  iintro ⟨Hv, Ha, H⟩
  unfold accK
  iapply (load_chunk c arg8 j _ _ Q) $$ [Hv Ha H]
  isplitl [Ha]; · iexact Ha
  iintro Ha
  rw [upto_self]
  iapply (load_held c arg5 xv _ Q) $$ [Hv Ha H]
  isplitl [Hv]; · iexact Hv
  iintro Hv
  iapply (load_chunk c arg8 j _ _ Q) $$ [Hv Ha H]
  isplitl [Ha]; · iexact Ha
  iintro Ha
  iapply (store_chunk c arg8 j A (nextA xv ho M MT S A) rfl _ Q) $$ [Hv Ha H]
  isplitl [Ha]; · iexact Ha
  iintro Ha
  iapply H
  isplitl [Hv]; · iexact Hv
  iexact Ha

/-- The eight chunks in turn, from a rule of each. -/
theorem eight_rule (I : ℕ → sProp 𝕄) (f : Fin 8 → P F → P F)
    (h : ∀ (j : Fin 8) (k : P F) (Q : PUnit → sProp 𝕄), iprop(I j.val ∗ (I (j.val + 1) -∗ wpP c k Q)) ⊢ wpP c (f j k) Q)
    (k : P F) (Q : PUnit → sProp 𝕄) : iprop(I 0 ∗ (I 8 -∗ wpP c k Q)) ⊢ wpP c (eight f k) Q := by
  unfold eight
  have h0 : ∀ (k : P F) (Q : PUnit → sProp 𝕄), iprop(I 0 ∗ (I 1 -∗ wpP c k Q)) ⊢ wpP c (f ⟨0, by decide⟩ k) Q := h ⟨0, by decide⟩
  have h1 : ∀ (k : P F) (Q : PUnit → sProp 𝕄), iprop(I 1 ∗ (I 2 -∗ wpP c k Q)) ⊢ wpP c (f ⟨1, by decide⟩ k) Q := h ⟨1, by decide⟩
  have h2 : ∀ (k : P F) (Q : PUnit → sProp 𝕄), iprop(I 2 ∗ (I 3 -∗ wpP c k Q)) ⊢ wpP c (f ⟨2, by decide⟩ k) Q := h ⟨2, by decide⟩
  have h3 : ∀ (k : P F) (Q : PUnit → sProp 𝕄), iprop(I 3 ∗ (I 4 -∗ wpP c k Q)) ⊢ wpP c (f ⟨3, by decide⟩ k) Q := h ⟨3, by decide⟩
  have h4 : ∀ (k : P F) (Q : PUnit → sProp 𝕄), iprop(I 4 ∗ (I 5 -∗ wpP c k Q)) ⊢ wpP c (f ⟨4, by decide⟩ k) Q := h ⟨4, by decide⟩
  have h5 : ∀ (k : P F) (Q : PUnit → sProp 𝕄), iprop(I 5 ∗ (I 6 -∗ wpP c k Q)) ⊢ wpP c (f ⟨5, by decide⟩ k) Q := h ⟨5, by decide⟩
  have h6 : ∀ (k : P F) (Q : PUnit → sProp 𝕄), iprop(I 6 ∗ (I 7 -∗ wpP c k Q)) ⊢ wpP c (f ⟨6, by decide⟩ k) Q := h ⟨6, by decide⟩
  have h7 : ∀ (k : P F) (Q : PUnit → sProp 𝕄), iprop(I 7 ∗ (I 8 -∗ wpP c k Q)) ⊢ wpP c (f ⟨7, by decide⟩ k) Q := h ⟨7, by decide⟩
  iintro ⟨HI, H⟩
  iapply (h0 _ Q) $$ [HI H]
  isplitl [HI]; · iexact HI
  iintro HI
  iapply (h1 _ Q) $$ [HI H]
  isplitl [HI]; · iexact HI
  iintro HI
  iapply (h2 _ Q) $$ [HI H]
  isplitl [HI]; · iexact HI
  iintro HI
  iapply (h3 _ Q) $$ [HI H]
  isplitl [HI]; · iexact HI
  iintro HI
  iapply (h4 _ Q) $$ [HI H]
  isplitl [HI]; · iexact HI
  iintro HI
  iapply (h5 _ Q) $$ [HI H]
  isplitl [HI]; · iexact HI
  iintro HI
  iapply (h6 _ Q) $$ [HI H]
  isplitl [HI]; · iexact HI
  iintro HI
  iapply (h7 _ Q) $$ [HI H]
  isplitl [HI]; · iexact HI
  iintro HI
  iapply H
  iexact HI

end

end Cert.Mla
-- ==== Proof.Mla.Body.lean ====
/- The body's triple: after `n` blocks of keys the buffers hold the maxima, the sums and the scores of a recursion over
   the blocks; the output is taken from the sums after all sixteen. -/
module

public import proofs.«01_k».proof.Proof.Mla.Chunk

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal Cert.MlaIdeal.Gen

variable {F : FTy → Type} [FloatOps F]

local notation "𝕄" => MT nD τ sig Unit (Elt F) ℕ (UR sig nD τ) ℕ

/-! ## The recursion over the blocks of keys -/

section
variable (xq : Vec F S1x2048x256 .bf16) (xk : Vec F S1x16384x256 .bf16) (xv : Vec F S1x144x16384 .bf16)

/-- The block a number stands for. -/
def blk (n : ℕ) : Fin 16 := ⟨n % 16, Nat.mod_lt _ (by decide)⟩

/-- The scores of block `n`, and their maximum. -/
def Sx (n : ℕ) : Scores F := nextS xq xk (inbK (blk n))
def Tx (n : ℕ) : Row F := nextMt (Sx xq xk n)

/-- The maximum before block `n` is summed. -/
def Mx : ℕ → Row F
  | 0 => Tx xq xk 0
  | n + 1 => nextM (Mx n) (Tx xq xk n)

/-- The sums over the first `n` blocks. -/
def Ax : ℕ → Sums F
  | 0 => cut (R := 144) (k0_pay386 (F := F))
  | n + 1 => nextA xv (inbV (blk n)) (Mx xq xk n) (Tx xq xk n) (Sx xq xk n) (Ax n)

/-- What the body leaves in the output's buffer. -/
def outB : Vec F S1x2048x128 .bf16 := payO (glue (R := 144) (Ax xq xk xv 16))

theorem nextS_congr {o o' : Fin 3 → ℕ} (h : o = o') (ho : ∀ a, o a + S1x1024x256.size a ≤ S1x16384x256.size a)
    (ho' : ∀ a, o' a + S1x1024x256.size a ≤ S1x16384x256.size a) : nextS xq xk ho = nextS xq xk ho' := by subst h; rfl

theorem nextA_congr {o o' : Fin 3 → ℕ} (h : o = o') (ho : ∀ a, o a + S1x144x1024.size a ≤ S1x144x16384.size a)
    (ho' : ∀ a, o' a + S1x144x1024.size a ≤ S1x144x16384.size a) : nextA (F := F) xv ho = nextA xv ho' := by subst h; rfl

end

/-! ## The steps -/

section
variable (c : Dev nD) (arg3 : Memref sig .tc .vmem S1x2048x256 .bf16) (arg4 : Memref sig .tc .vmem S1x16384x256 .bf16)
  (arg5 : Memref sig .tc .vmem S1x144x16384 .bf16) (arg7 : Memref sig .tc .vmem S1x2048 .f32)
  (arg8 : Memref sig .tc .vmem S144x2048 .f32)
variable (xq : Vec F S1x2048x256 .bf16) (xk : Vec F S1x16384x256 .bf16) (xv : Vec F S1x144x16384 .bf16)

/-- The inputs and the buffers between steps. -/
def heldG (s : Memref sig .tc .vmem S1024x2048 .f32) (mt : Memref sig .tc .vmem S1x2048 .f32)
    (s' : Memref sig .tc .vmem S1024x2048 .f32) (mt' : Memref sig .tc .vmem S1x2048 .f32)
    (M : Row F) (A : Sums F) (S : Scores F) (MT : Row F) (S' : Scores F) (MT' : Row F) : sProp 𝕄 :=
  iprop(held c arg3 xq ∗ held c arg4 xk ∗ held c arg5 xv ∗ held c arg7 (glue M) ∗ held c arg8 (glue A)
    ∗ held c s (glue S) ∗ held c mt (glue MT) ∗ held c s' (glue S') ∗ held c mt' (glue MT'))

variable {o o' : Fin 3 → ℕ} (ho : ∀ a, o a + S1x1024x256.size a ≤ S1x16384x256.size a)
  (ho' : ∀ a, o' a + S1x144x1024.size a ≤ S1x144x16384.size a)
variable (s : Memref sig .tc .vmem S1024x2048 .f32) (mt : Memref sig .tc .vmem S1x2048 .f32)
  (s' : Memref sig .tc .vmem S1024x2048 .f32) (mt' : Memref sig .tc .vmem S1x2048 .f32)

theorem step_rule (M : Row F) (A : Sums F) (S : Scores F) (MT : Row F) (S' : Scores F) (MT' : Row F) (k : P F) (Q : PUnit → sProp 𝕄) :
    iprop(heldG c arg3 arg4 arg5 arg7 arg8 xq xk xv s mt s' mt' M A S MT S' MT'
        ∗ (heldG c arg3 arg4 arg5 arg7 arg8 xq xk xv s mt s' mt' (nextM M MT) (nextA xv ho' M MT S A) S MT
            (nextS xq xk ho) (nextMt (nextS xq xk ho)) -∗ wpP c k Q))
      ⊢ wpP c (eight (chunkK arg3 arg4 arg5 arg7 arg8 ho ho' s mt s' mt') k) Q := by
  have h := (eight_rule c (fun n => heldG c arg3 arg4 arg5 arg7 arg8 xq xk xv s mt s' mt' (upto n (nextM M MT) M)
    (upto n (nextA xv ho' M MT S A) A) S MT (upto n (nextS xq xk ho) S') (upto n (nextMt (nextS xq xk ho)) MT'))
    (chunkK arg3 arg4 arg5 arg7 arg8 ho ho' s mt s' mt') ?_ k Q)
  · simpa only [upto_zero, upto_eight] using h
  intro j k Q
  unfold heldG chunkK
  iintro ⟨⟨H3, H4, H5, H7, H8, Hs, Hm, Hs', Hm'⟩, H⟩
  iapply (max_rule c arg7 s mt M MT S j _ Q) $$ [H3 H4 H5 H7 H8 Hs Hm Hs' Hm' H]
  isplitl [H7]; · iexact H7
  isplitl [Hs]; · iexact Hs
  isplitl [Hm]; · iexact Hm
  iintro ⟨H7, Hs, Hm⟩
  iapply (scores_rule c arg3 arg4 xq xk ho s' mt' S' MT' j _ Q) $$ [H3 H4 H5 H7 H8 Hs Hm Hs' Hm' H]
  isplitl [H3]; · iexact H3
  isplitl [H4]; · iexact H4
  isplitl [Hs']; · iexact Hs'
  isplitl [Hm']; · iexact Hm'
  iintro ⟨H3, H4, Hs', Hm'⟩
  iapply (acc_rule c arg5 arg8 xv ho' M MT S A j _ Q) $$ [H3 H4 H5 H7 H8 Hs Hm Hs' Hm' H]
  isplitl [H5]; · iexact H5
  isplitl [H8]; · iexact H8
  iintro ⟨H5, H8⟩
  iapply H
  isplitl [H3]; · iexact H3
  isplitl [H4]; · iexact H4
  isplitl [H5]; · iexact H5
  isplitl [H7]; · iexact H7
  isplitl [H8]; · iexact H8
  isplitl [Hs]; · iexact Hs
  isplitl [Hm]; · iexact Hm
  isplitl [Hs']; · iexact Hs'
  iexact Hm'

theorem last_rule (M : Row F) (A : Sums F) (S : Scores F) (MT : Row F) (S' : Scores F) (MT' : Row F) (k : P F) (Q : PUnit → sProp 𝕄) :
    iprop(heldG c arg3 arg4 arg5 arg7 arg8 xq xk xv s mt s' mt' M A S MT S' MT'
        ∗ (heldG c arg3 arg4 arg5 arg7 arg8 xq xk xv s mt s' mt' (nextM M MT) (nextA xv ho' M MT S A) S MT S' MT' -∗ wpP c k Q))
      ⊢ wpP c (eight (lastK arg5 arg7 arg8 ho' s mt) k) Q := by
  have h := (eight_rule c (fun n => heldG c arg3 arg4 arg5 arg7 arg8 xq xk xv s mt s' mt' (upto n (nextM M MT) M)
    (upto n (nextA xv ho' M MT S A) A) S MT S' MT')
    (lastK arg5 arg7 arg8 ho' s mt) ?_ k Q)
  · simpa only [upto_zero, upto_eight] using h
  intro j k Q
  unfold heldG lastK
  iintro ⟨⟨H3, H4, H5, H7, H8, Hs, Hm, Hs', Hm'⟩, H⟩
  iapply (max_rule c arg7 s mt M MT S j _ Q) $$ [H3 H4 H5 H7 H8 Hs Hm Hs' Hm' H]
  isplitl [H7]; · iexact H7
  isplitl [Hs]; · iexact Hs
  isplitl [Hm]; · iexact Hm
  iintro ⟨H7, Hs, Hm⟩
  iapply (acc_rule c arg5 arg8 xv ho' M MT S A j _ Q) $$ [H3 H4 H5 H7 H8 Hs Hm Hs' Hm' H]
  isplitl [H5]; · iexact H5
  isplitl [H8]; · iexact H8
  iintro ⟨H5, H8⟩
  iapply H
  isplitl [H3]; · iexact H3
  isplitl [H4]; · iexact H4
  isplitl [H5]; · iexact H5
  isplitl [H7]; · iexact H7
  isplitl [H8]; · iexact H8
  isplitl [Hs]; · iexact Hs
  isplitl [Hm]; · iexact Hm
  isplitl [Hs']; · iexact Hs'
  iexact Hm'

/-- The buffers before block `n` is summed: its scores are in `s`, `mt`. -/
def heldN (s : Memref sig .tc .vmem S1024x2048 .f32) (mt : Memref sig .tc .vmem S1x2048 .f32)
    (s' : Memref sig .tc .vmem S1024x2048 .f32) (mt' : Memref sig .tc .vmem S1x2048 .f32) (n : ℕ) : sProp 𝕄 :=
  iprop(∃ (S' : Scores F) (MT' : Row F), heldG c arg3 arg4 arg5 arg7 arg8 xq xk xv s mt s' mt' (Mx xq xk n) (Ax xq xk xv n)
    (Sx xq xk n) (Tx xq xk n) S' MT')

/-- A step takes block `n` into the sums, and the next block's scores into the other buffers. -/
theorem step_n (n : ℕ) (h : o = ![0, 1024 * (blk (n + 1)).val, 0]) (h' : o' = ![0, 0, 1024 * (blk n).val]) (k : P F) (Q : PUnit → sProp 𝕄) :
    iprop(heldN c arg3 arg4 arg5 arg7 arg8 xq xk xv s mt s' mt' n
        ∗ (heldN c arg3 arg4 arg5 arg7 arg8 xq xk xv s' mt' s mt (n + 1) -∗ wpP c k Q))
      ⊢ wpP c (eight (chunkK arg3 arg4 arg5 arg7 arg8 ho ho' s mt s' mt') k) Q := by
  unfold heldN
  iintro ⟨⟨%S', %MT', HG⟩, H⟩
  iapply (step_rule c arg3 arg4 arg5 arg7 arg8 xq xk xv ho ho' s mt s' mt' _ _ _ _ _ _ k Q) $$ [HG H]
  isplitl [HG]; · iexact HG
  iintro HG
  iapply H
  iexists (Sx xq xk n), (Tx xq xk n)
  rw [nextS_congr xq xk h ho (inbK (blk (n + 1))), nextA_congr xv h' ho' (inbV (blk n))]
  unfold heldG
  icases HG with ⟨H3, H4, H5, H7, H8, Hs, Hm, Hs', Hm'⟩
  isplitl [H3]; · iexact H3
  isplitl [H4]; · iexact H4
  isplitl [H5]; · iexact H5
  isplitl [H7]; · iexact H7
  isplitl [H8]; · iexact H8
  isplitl [Hs']; · iexact Hs'
  isplitl [Hm']; · iexact Hm'
  isplitl [Hs]; · iexact Hs
  iexact Hm

end

end Cert.Mla
-- ==== Proof.Mla.Whole.lean ====
/- The whole body: the head, the loop by its invariant, the tail. -/
module

public import proofs.«01_k».proof.Proof.Mla.Body
public import Idealize.ShloMosaic.Lib.PageRing.Basic

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal Cert.MlaIdeal.Gen

variable {F : FTy → Type} [FloatOps F]

local notation "𝕄" => MT nD τ sig Unit (Elt F) ℕ (UR sig nD τ) ℕ

/-- The block of keys, and of values, a step of the loop takes. -/
theorem off1_eq (t : Fin k0_t1_loop.trips) (u : Fin 6) :
    k0_off1 t (BitVec.ofNat 32 u.val) = ![0, 1024 * (blk (6 * t.val + u.val + 1)).val, 0] :=
  funext ((by decide +kernel : ∀ (t : Fin k0_t1_loop.trips) (u : Fin 6) (a : Fin 3),
    k0_off1 t (BitVec.ofNat 32 u.val) a = (![0, 1024 * (blk (6 * t.val + u.val + 1)).val, 0] : Fin 3 → ℕ) a) t u)
theorem off2_eq (t : Fin k0_t1_loop.trips) (u : Fin 6) :
    k0_off2 t (BitVec.ofNat 32 u.val) = ![0, 0, 1024 * (blk (6 * t.val + u.val)).val] :=
  funext ((by decide +kernel : ∀ (t : Fin k0_t1_loop.trips) (u : Fin 6) (a : Fin 3),
    k0_off2 t (BitVec.ofNat 32 u.val) a = (![0, 0, 1024 * (blk (6 * t.val + u.val)).val] : Fin 3 → ℕ) a) t u)
theorem trips_eq : k0_t1_loop.trips = 2 := by decide +kernel

/-- The window at the origin of a buffer's own sizes is the buffer. -/
theorem window_all {sh : Shape} {α : Type} (X : sh.Idx → α) (off : Fin sh.rank → ℕ) (hoff : off = fun _ => 0)
    (inb : ∀ a, off a + sh.size a ≤ sh.size a) : VecWindow.window X off sh.size inb = X := by
  subst hoff
  funext y
  refine congrArg X (funext fun a => Fin.ext ?_)
  show 0 + 1 * (y a).val = (y a).val
  omega

/-- So a store there leaves the value. -/
theorem put_all {sh : Shape} {α : Type} (X : sh.Idx → α) (off : Fin sh.rank → ℕ) (w : sh.Idx → α) (hoff : off = fun _ => 0) : VecWindow.put X off sh.size w = w := by
  subst hoff
  funext y
  unfold VecWindow.put
  rw [dif_pos fun a => ⟨Nat.zero_le _, (y a).isLt.trans_eq (Nat.zero_add _).symm⟩]
  exact congrArg w (funext fun a => Fin.ext (Nat.sub_zero _))

/-- A loop that carries nothing, each of whose trips steps `I`. -/
theorem loop_any (c : Dev nD) (lp : Scf.Loop 32) (hok : lp.OK) (body : Fin lp.trips → PUnit → P F) (I : ℕ → sProp 𝕄)
    (hstep : ∀ k : Fin lp.trips, I k.val ⊢ wpP c (body k ⟨⟩) (fun _ => I (k.val + 1))) :
    I 0 ⊢ wpP c (Scf.Loop.for lp hok ⟨⟩ body) (fun _ => I lp.trips) := by
  have h := exec_loop_last (M := 𝕄) frame (wpE (defs₀ (F := F)) Variants.none (c : Thread nD τ) none) Set.univ lp.lb lp.ub lp.st hok ⟨⟩ body
    ⟨fun n _ => I n, fun k _ => hstep k⟩ (Q := fun _ => I lp.trips)
  have h' : I 0 ⊢ iprop((∀ acc : PUnit, I lp.trips -∗ I lp.trips)
      -∗ wpP c (Scf.Loop.for lp hok ⟨⟩ body) (fun _ => I lp.trips)) := h
  iintro HI
  iapply h' $$ [HI]
  · iexact HI
  iintro %acc H
  iexact H

section
variable (c : Dev nD) (arg3 : Memref sig .tc .vmem S1x2048x256 .bf16) (arg4 : Memref sig .tc .vmem S1x16384x256 .bf16)
  (arg5 : Memref sig .tc .vmem S1x144x16384 .bf16) (arg7 : Memref sig .tc .vmem S1x2048 .f32)
  (arg8 : Memref sig .tc .vmem S144x2048 .f32)
  (arg9 : Memref sig .tc .vmem S1024x2048 .f32) (arg10 : Memref sig .tc .vmem S1024x2048 .f32)
  (arg11 : Memref sig .tc .vmem S1x2048 .f32) (arg12 : Memref sig .tc .vmem S1x2048 .f32)
variable (xq : Vec F S1x2048x256 .bf16) (xk : Vec F S1x16384x256 .bf16) (xv : Vec F S1x144x16384 .bf16)

/-- A trip takes six blocks. -/
theorem trip_rule (t : Fin k0_t1_loop.trips) (R : sProp 𝕄) :
    iprop(heldN c arg3 arg4 arg5 arg7 arg8 xq xk xv arg9 arg11 arg10 arg12 (6 * t.val) ∗ R)
      ⊢ wpP c (tripK arg3 arg4 arg5 arg7 arg8 arg9 arg10 arg11 arg12 t)
          (fun _ => iprop(heldN c arg3 arg4 arg5 arg7 arg8 xq xk xv arg9 arg11 arg10 arg12 (6 * (t.val + 1)) ∗ R)) := by
  unfold tripK
  iintro ⟨H, HR⟩
  iapply (step_n c arg3 arg4 arg5 arg7 arg8 xq xk xv _ _ arg9 arg11 arg10 arg12 (6 * t.val) (off1_eq t 0) (off2_eq t 0) _ _) $$ [H HR]
  isplitl [H]; · iexact H
  iintro H
  iapply (step_n c arg3 arg4 arg5 arg7 arg8 xq xk xv _ _ arg10 arg12 arg9 arg11 (6 * t.val + 1) (off1_eq t 1) (off2_eq t 1) _ _) $$ [H HR]
  isplitl [H]; · iexact H
  iintro H
  iapply (step_n c arg3 arg4 arg5 arg7 arg8 xq xk xv _ _ arg9 arg11 arg10 arg12 (6 * t.val + 2) (off1_eq t 2) (off2_eq t 2) _ _) $$ [H HR]
  isplitl [H]; · iexact H
  iintro H
  iapply (step_n c arg3 arg4 arg5 arg7 arg8 xq xk xv _ _ arg10 arg12 arg9 arg11 (6 * t.val + 3) (off1_eq t 3) (off2_eq t 3) _ _) $$ [H HR]
  isplitl [H]; · iexact H
  iintro H
  iapply (step_n c arg3 arg4 arg5 arg7 arg8 xq xk xv _ _ arg9 arg11 arg10 arg12 (6 * t.val + 4) (off1_eq t 4) (off2_eq t 4) _ _) $$ [H HR]
  isplitl [H]; · iexact H
  iintro H
  iapply (step_n c arg3 arg4 arg5 arg7 arg8 xq xk xv _ _ arg10 arg12 arg9 arg11 (6 * t.val + 5) (off1_eq t 5) (off2_eq t 5) _ _) $$ [H HR]
  isplitl [H]; · iexact H
  iintro H
  unfold wpP
  sl_step
  isplitl [H]; · iexact H
  iexact HR

/-- The loop takes twelve. -/
theorem loop_rule (R : sProp 𝕄) :
    iprop(heldN c arg3 arg4 arg5 arg7 arg8 xq xk xv arg9 arg11 arg10 arg12 0 ∗ R)
      ⊢ wpP c (Scf.Loop.for k0_t1_loop k0_t1_ok ⟨⟩ (fun t _ => tripK arg3 arg4 arg5 arg7 arg8 arg9 arg10 arg11 arg12 t))
          (fun _ => iprop(heldN c arg3 arg4 arg5 arg7 arg8 xq xk xv arg9 arg11 arg10 arg12 12 ∗ R)) := by
  have h := loop_any c k0_t1_loop k0_t1_ok
    (fun t _ => tripK arg3 arg4 arg5 arg7 arg8 arg9 arg10 arg11 arg12 t)
    (fun n => iprop(heldN c arg3 arg4 arg5 arg7 arg8 xq xk xv arg9 arg11 arg10 arg12 (6 * n) ∗ R))
    (fun t => trip_rule c arg3 arg4 arg5 arg7 arg8 arg9 arg10 arg11 arg12 xq xk xv t R)
  have e : 6 * k0_t1_loop.trips = 12 := by rw [trips_eq]
  simp only [e] at h
  exact h

/-- The head: from any contents to the scores of the first block. -/
theorem head_rule (X7 : Vec F S1x2048 .f32) (X8 : Vec F S144x2048 .f32) (X9 X10 : Vec F S1024x2048 .f32) (X11 X12 : Vec F S1x2048 .f32)
    (k : P F) (Q : PUnit → sProp 𝕄) :
    iprop((held c arg3 xq ∗ held c arg4 xk ∗ held c arg5 xv ∗ held c arg7 X7 ∗ held c arg8 X8 ∗ held c arg9 X9 ∗ held c arg10 X10
          ∗ held c arg11 X11 ∗ held c arg12 X12)
        ∗ (heldN c arg3 arg4 arg5 arg7 arg8 xq xk xv arg9 arg11 arg10 arg12 0 -∗ wpP c k Q))
      ⊢ wpP c (headK arg3 arg4 arg7 arg8 arg9 arg11 k) Q := by
  unfold headK
  iintro ⟨⟨H3, H4, H5, H7, H8, H9, H10, H11, H12⟩, H⟩
  iapply (load_held c arg8 X8 _ Q) $$ [H3 H4 H5 H7 H8 H9 H10 H11 H12 H]
  isplitl [H8]; · iexact H8
  iintro H8
  iapply (store_held c arg8 X8 (glue (R := 144) (Ax xq xk xv 0)) ?_ _ Q) $$ [H3 H4 H5 H7 H8 H9 H10 H11 H12 H]
  · exact (put_all _ _ _ (by decide)).trans (glue_cut (R := 144) _).symm
  isplitl [H8]; · iexact H8
  iintro H8
  have h := eight_rule c (fun n => iprop(held c arg3 xq ∗ held c arg4 xk ∗ held c arg9 (glue (upto n (Sx xq xk 0) (cut (R := 1024) X9)))
      ∗ held c arg11 (glue (upto n (Tx xq xk 0) (cut (R := 1) X11)))))
    (scoresK arg3 arg4 (inbK 0) arg9 arg11) (fun j k Q => by
      iintro ⟨⟨H3, H4, Hs, Hm⟩, H⟩
      iapply (scores_rule c arg3 arg4 xq xk (inbK 0) arg9 arg11 (cut (R := 1024) X9) (cut (R := 1) X11) j k Q) $$ [H3 H4 Hs Hm H]
      isplitl [H3]; · iexact H3
      isplitl [H4]; · iexact H4
      isplitl [Hs]; · iexact Hs
      isplitl [Hm]; · iexact Hm
      iintro ⟨H3, H4, Hs, Hm⟩
      iapply H
      isplitl [H3]; · iexact H3
      isplitl [H4]; · iexact H4
      isplitl [Hs]; · iexact Hs
      iexact Hm)
  simp only [upto_zero, upto_eight, glue_cut] at h
  iapply (h _ Q) $$ [H3 H4 H5 H7 H8 H9 H10 H11 H12 H]
  isplitl [H3 H4 H9 H11]
  · isplitl [H3]; · iexact H3
    isplitl [H4]; · iexact H4
    isplitl [H9]; · iexact H9
    iexact H11
  iintro ⟨H3, H4, H9, H11⟩
  iapply (load_held c arg11 _ _ Q) $$ [H3 H4 H5 H7 H8 H9 H10 H11 H12 H]
  isplitl [H11]; · iexact H11
  iintro H11
  iapply (load_held c arg7 X7 _ Q) $$ [H3 H4 H5 H7 H8 H9 H10 H11 H12 H]
  isplitl [H7]; · iexact H7
  iintro H7
  iapply (store_held c arg7 X7 (glue (R := 1) (Mx xq xk 0)) ?_ _ Q) $$ [H3 H4 H5 H7 H8 H9 H10 H11 H12 H]
  · refine (put_all _ _ _ (by decide)).trans ?_
    refine (shapeCast_self (s := S1x2048) _ _).trans ?_
    exact window_all _ _ (by decide) _
  isplitl [H7]; · iexact H7
  iintro H7
  iapply H
  unfold heldN
  iexists (cut (R := 1024) X10), (cut (R := 1) X12)
  unfold heldG
  rw [glue_cut, glue_cut]
  isplitl [H3]; · iexact H3
  isplitl [H4]; · iexact H4
  isplitl [H5]; · iexact H5
  isplitl [H7]; · iexact H7
  isplitl [H8]; · iexact H8
  isplitl [H9]; · iexact H9
  isplitl [H11]; · iexact H11
  isplitl [H10]; · iexact H10
  iexact H12

/-- The buffers at the end, at some contents. -/
def heldE : sProp 𝕄 :=
  iprop(held c arg3 xq ∗ held c arg4 xk ∗ held c arg5 xv ∗ (∃ X, held c arg7 X) ∗ (∃ X, held c arg8 X) ∗ (∃ X, held c arg9 X)
    ∗ (∃ X, held c arg10 X) ∗ (∃ X, held c arg11 X) ∗ (∃ X, held c arg12 X))

theorem tail_rule (arg6 : Memref sig .tc .vmem S1x2048x128 .bf16) (harg6 : arg6.IsWhole) (X6 : Vec F S1x2048x128 .bf16) (Q : PUnit → sProp 𝕄) :
    iprop(heldN c arg3 arg4 arg5 arg7 arg8 xq xk xv arg9 arg11 arg10 arg12 12 ∗ held c arg6 X6
        ∗ (heldE c arg3 arg4 arg5 arg7 arg8 arg9 arg10 arg11 arg12 xq xk xv ∗ held c arg6 (outB xq xk xv) -∗ Q ⟨⟩))
      ⊢ wpP c (tailK arg3 arg4 arg5 arg7 arg8 arg6 harg6 arg9 arg10 arg11 arg12) Q := by
  unfold tailK
  iintro ⟨H, H6, HR⟩
  iapply (step_n c arg3 arg4 arg5 arg7 arg8 xq xk xv _ _ arg9 arg11 arg10 arg12 12 rfl rfl _ _) $$ [H H6 HR]
  isplitl [H]; · iexact H
  iintro H
  iapply (step_n c arg3 arg4 arg5 arg7 arg8 xq xk xv _ _ arg10 arg12 arg9 arg11 13 rfl rfl _ _) $$ [H H6 HR]
  isplitl [H]; · iexact H
  iintro H
  iapply (step_n c arg3 arg4 arg5 arg7 arg8 xq xk xv _ _ arg9 arg11 arg10 arg12 14 rfl rfl _ _) $$ [H H6 HR]
  isplitl [H]; · iexact H
  iintro H
  unfold heldN
  icases H with ⟨%S', %MT', H⟩
  iapply (last_rule c arg3 arg4 arg5 arg7 arg8 xq xk xv (inbV 15) arg10 arg12 arg9 arg11 _ _ _ _ _ _ _ Q) $$ [H H6 HR]
  isplitl [H]; · iexact H
  unfold heldG
  iintro ⟨H3, H4, H5, H7, H8, H10, H12, H9, H11⟩
  iapply (load_held c arg8 _ _ Q) $$ [H3 H4 H5 H7 H8 H9 H10 H11 H12 H6 HR]
  isplitl [H8]; · iexact H8
  iintro H8
  iapply (load_held c arg6 X6 _ Q) $$ [H3 H4 H5 H7 H8 H9 H10 H11 H12 H6 HR]
  isplitl [H6]; · iexact H6
  iintro H6
  iapply (store_held c arg6 X6 (outB xq xk xv) ?_ _ Q) $$ [H3 H4 H5 H7 H8 H9 H10 H11 H12 H6 HR]
  · refine (put_all _ _ _ (by decide)).trans ?_
    exact congrArg payO (window_all _ _ (by decide) _)
  isplitl [H6]; · iexact H6
  iintro H6
  unfold wpP
  sl_step
  iapply HR
  unfold heldE
  isplitr [H6]
  · isplitl [H3]; · iexact H3
    isplitl [H4]; · iexact H4
    isplitl [H5]; · iexact H5
    isplitl [H7]; · iexists _; iexact H7
    isplitl [H8]; · iexists _; iexact H8
    isplitl [H9]; · iexists _; iexact H9
    isplitl [H10]; · iexists _; iexact H10
    isplitl [H11]; · iexists _; iexact H11
    iexists _; iexact H12
  iexact H6

/-- The body. -/
theorem body_rule (arg6 : Memref sig .tc .vmem S1x2048x128 .bf16) (harg6 : arg6.IsWhole) (Q : PUnit → sProp 𝕄) :
    iprop(heldE c arg3 arg4 arg5 arg7 arg8 arg9 arg10 arg11 arg12 xq xk xv ∗ (∃ X, held c arg6 X)
        ∗ (heldE c arg3 arg4 arg5 arg7 arg8 arg9 arg10 arg11 arg12 xq xk xv ∗ held c arg6 (outB xq xk xv) -∗ Q ⟨⟩))
      ⊢ wpP c (bodyK arg3 arg4 arg5 arg7 arg8 arg6 harg6 arg9 arg10 arg11 arg12) Q := by
  unfold heldE bodyK
  iintro ⟨⟨H3, H4, H5, ⟨%X7, H7⟩, ⟨%X8, H8⟩, ⟨%X9, H9⟩, ⟨%X10, H10⟩, ⟨%X11, H11⟩, ⟨%X12, H12⟩⟩, ⟨%X6, H6⟩, HR⟩
  iapply (head_rule c arg3 arg4 arg5 arg7 arg8 arg9 arg10 arg11 arg12 xq xk xv X7 X8 X9 X10 X11 X12 _ Q)
    $$ [H3 H4 H5 H7 H8 H9 H10 H11 H12 H6 HR]
  isplitr [H6 HR]
  · isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    iexact H12
  iintro H
  unfold wpP
  rw [wp_bind]
  have hl := loop_rule c arg3 arg4 arg5 arg7 arg8 arg9 arg10 arg11 arg12 xq xk xv
    (iprop(held c arg6 X6 ∗ (heldE c arg3 arg4 arg5 arg7 arg8 arg9 arg10 arg11 arg12 xq xk xv ∗ held c arg6 (outB xq xk xv) -∗ Q ⟨⟩)))
  have ht := hl.trans (wp_mono _ _ _ fun _ => tail_rule c arg3 arg4 arg5 arg7 arg8 arg9 arg10 arg11 arg12 xq xk xv arg6 harg6 X6 Q)
  iapply ht $$ [H H6 HR]
  isplitl [H]; · iexact H
  isplitl [H6]; · iexact H6
  iexact HR

end

end Cert.Mla
-- ==== Proof.Mla.Run.lean ====
/- The run of the MLA attention, at any values: the body's triple at a point of the grid, the proof data, the launch. -/
module

public import proofs.«01_k».proof.Proof.Mla.Whole
public import proofs.«01_k».proof.Proof.Gen.MlaIdeal.Launch
public import proofs.«01_k».proof.Proof.Gen.MlaIdeal.Points
public import proofs.«01_k».proof.Proof.Gen.MlaIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlaIdeal Cert.MlaIdeal.Gen

variable {F : FTy → Type} [FloatOps F]

local notation "𝕄" => MT nD τ sig Unit (Elt F) ℕ (UR sig nD τ) ℕ

/-- The kernel's own buffers, at some contents. -/
theorem rest_held (c : Dev nD) : (Pipeline.scopedRest (Ix := Unit) (Name := ℕ) (U := UR sig nD τ) (Lvl := ℕ) (Val := Elt F) spec0 c : sProp 𝕄)
    = iprop((∃ X, held c (Memref.whole cc0_scratch0) X) ∗ (∃ X, held c (Memref.whole cc0_scratch1) X)
      ∗ (∃ X, held c (Memref.whole cc0_scratch2) X) ∗ (∃ X, held c (Memref.whole cc0_scratch3) X)
      ∗ (∃ X, held c (Memref.whole cc0_scratch4) X) ∗ (∃ X, held c (Memref.whole cc0_scratch5) X)) := by
  rw [scopedRest0_eq]
  unfold held
  simp only [owns_whole]

/-- The body at a point: the inputs' buffers as they were, the output's at `outB` of them, its own at anything. -/
theorem sound_kernel (c : Dev nD) (t : Fin cfg0.N) (x0 : Vec F S1x2048x256 .bf16) (x1 : Vec F S1x16384x256 .bf16) (x2 : Vec F S1x144x16384 .bf16)
    (K : PUnit → sProp 𝕄) :
    iprop(Pipeline.scopedRest (Ix := Unit) (Name := ℕ) (U := UR sig nD τ) (Lvl := ℕ) (Val := Elt F) spec0 c
        ∗ held c (st0_0 t) x0 ∗ held c (st0_1 t) x1 ∗ held c (st0_2 t) x2 ∗ (∃ d, held c (st0_3 t) d)
        ∗ (iprop(Pipeline.scopedRest (Ix := Unit) (Name := ℕ) (U := UR sig nD τ) (Lvl := ℕ) (Val := Elt F) spec0 c
            ∗ held c (st0_0 t) x0 ∗ held c (st0_1 t) x1 ∗ held c (st0_2 t) x2 ∗ held c (st0_3 t) (outB x0 x1 x2)) -∗ K ⟨⟩))
      ⊢ wp frame (wpE (defs₀ (F := F)) Variants.none c none) Set.univ (bodyAt0 t) K := by
  unfold bodyAt0
  rw [body_eq, rest_held]
  iintro ⟨⟨H7, H8, H9, H10, H11, H12⟩, H3, H4, H5, H6, HK⟩
  iapply (body_rule c (st0_0 t) (st0_1 t) (st0_2 t) (Memref.whole cc0_scratch0) (Memref.whole cc0_scratch1)
    (Memref.whole cc0_scratch2) (Memref.whole cc0_scratch3) (Memref.whole cc0_scratch4) (Memref.whole cc0_scratch5)
    x0 x1 x2 (st0_3 t) (hstage0_3 ((cfg0.slots t 3).cast nbuf0_3)) K)
  unfold heldE
  isplitr [H6 HK]
  · isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    iexact H12
  isplitl [H6]; · iexact H6
  iintro ⟨⟨H3, H4, H5, H7, H8, H9, H10, H11, H12⟩, H6⟩
  iapply HK
  isplitr [H3 H4 H5 H6]
  · isplitl [H7]; · iexact H7
    isplitl [H8]; · iexact H8
    isplitl [H9]; · iexact H9
    isplitl [H10]; · iexact H10
    isplitl [H11]; · iexact H11
    iexact H12
  isplitl [H3]; · iexact H3
  isplitl [H4]; · iexact H4
  isplitl [H5]; · iexact H5
  iexact H6

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (iblk m c 0 t) (iblk m c 1 t) (iblk m c 2 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  unfold dats Pipeline.ΦA
  dsimp only
  icases HΦ with ⟨HR, HP⟩
  iapply (sound_kernel c t (iblk m c 0 t) (iblk m c 1 t) (iblk m c 2 t) _)
  unfold held
  isplitl [HR]; · iexact HR
  isplitl [H0]; · iexact H0
  isplitl [H1]; · iexact H1
  isplitl [H2]; · iexact H2
  isplitl [H3]; · iexists _; iexact H3
  iintro ⟨HR, H0, H1, H2, H3⟩
  isplitl [HR HP]
  · isplitl [HR]; · iexact HR
    iexact HP
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Mla

end
-- ==== Proof.Mla.Prep.lean ====
module

public import proofs.«01_k».proof.Proof.Mla.Run
public import Idealize.ShloMosaic.Lib.Pointwise
public import Idealize.ShloMosaic.Lib.StableHlo.ReadAt

/-!
The host operations before the kernel, read at one index: the queries and keys of a head, with their rotary lanes behind the
plain ones, and the values with a row of ones below them.
-/

@[expose] public section

set_option maxRecDepth 16384

noncomputable section

namespace Cert.Mla

open Cert.MlaIdeal Cert.MlaIdeal.Gen Idealize.ShloMosaic Idealize.ShloMosaic.TcCoe Idealize.SL.Sem

/-- The scale of the queries: the base-2 logarithm of e over the square root of the head's width. -/
def scale : EReal := Ideal.div (Ideal.div 1 (Ideal.log (Ideal.ofBits FTy.f32 1073741824#32))) (Ideal.sqrt (Ideal.ofBits FTy.f32 1128267776#32))

/-- The queries by head: the plain lanes, the rotary lanes, zeros. -/
def qAt (Q : S3x16384x16x128.Idx → EReal) (Qr : S3x16384x16x64.Idx → EReal) (h : Fin 16) (r : Fin 49152) (e : Fin 256) : EReal :=
  if h1 : e.val < 128 then Q (ix4 ⟨r.val / 16384, by omega⟩ ⟨r.val % 16384, by omega⟩ h ⟨e.val, h1⟩) * scale
  else if h2 : e.val - 128 < 64 then Qr (ix4 ⟨r.val / 16384, by omega⟩ ⟨r.val % 16384, by omega⟩ h ⟨e.val - 128, h2⟩) * scale
  else 0

/-- The keys by head: the plain lanes, the rotary lanes that all heads share, zeros. -/
def kAt (K : S3x16384x16x128.Idx → EReal) (Kr : S3x16384x64.Idx → EReal) (h : Fin 16) (r : Fin 49152) (e : Fin 256) : EReal :=
  if h1 : e.val < 128 then K (ix4 ⟨r.val / 16384, by omega⟩ ⟨r.val % 16384, by omega⟩ h ⟨e.val, h1⟩)
  else if h2 : e.val - 128 < 64 then Kr (ix3 ⟨r.val / 16384, by omega⟩ ⟨r.val % 16384, by omega⟩ ⟨e.val - 128, h2⟩)
  else 0

variable (m : (ℓ : Loc nD τ sig) → Buf (Elt Ideal) ℓ)

/-- The queries the kernel reads. -/
theorem q_apply (c : Dev nD) (h : Fin 16) (r : Fin 49152) (e : Fin 256) :
    V m c main_v17 (ix3 h r e) = qAt (m (c, Proc.tc.devRef main_arg0)) (m (c, Proc.tc.devRef main_arg1)) h r e := by
  unfold V
  after_reads_at
  after_reads_at
  rfl

/-- The keys the kernel reads. -/
theorem k_apply (c : Dev nD) (h : Fin 16) (r : Fin 49152) (e : Fin 256) :
    V m c main_v19 (ix3 h r e) = kAt (m (c, Proc.tc.devRef main_arg2)) (m (c, Proc.tc.devRef main_arg3)) h r e := by
  unfold V
  after_reads_at
  after_reads_at
  rfl

/-- The values the kernel reads, transposed. -/
theorem v_apply (c : Dev nD) (h : Fin 16) (r : Fin 49152) (d : Fin 128) :
    V m c main_v28 (ix3 h (⟨d.val, by omega⟩ : Fin 144) r)
      = m (c, Proc.tc.devRef main_arg4) (ix4 ⟨r.val / 16384, by omega⟩ ⟨r.val % 16384, by omega⟩ h d) := by
  unfold V
  after_reads_at
  after_reads_at

/-- The row of ones below the values. -/
theorem one_apply (c : Dev nD) (h : Fin 16) (r : Fin 49152) :
    V m c main_v28 (ix3 h (128 : Fin 144) r) = (1 : EReal) := by
  unfold V
  after_reads_at
  after_reads_at
  simp only [id]
  pointwise

end Cert.Mla
-- ==== Proof.Mla.Online.lean ====
module

public import proofs.«01_k».proof.Proof.Na.Softmax

/-!
The running softmax over the extended reals: maxima and sums kept block by block, the old sums scaled by a power of two, end
at the softmax of all the scores.
-/

@[expose] public section

noncomputable section

namespace Cert.Mla

open Idealize.ShloMosaic Cert.Na

/-- Powers of two of real differences multiply. -/
theorem exp2_trans (a b c : ℝ) :
    Ideal.exp2 ((a : EReal) - (b : EReal)) * Ideal.exp2 ((b : EReal) - (c : EReal)) = Ideal.exp2 ((a : EReal) - (c : EReal)) := by
  rw [← EReal.coe_sub, ← EReal.coe_sub, ← EReal.coe_sub, Ideal.exp2_coe, Ideal.exp2_coe, Ideal.exp2_coe, ← EReal.coe_mul]
  congr 1
  show (2 : ℝ) ^ (a - b) * (2 : ℝ) ^ (b - c) = (2 : ℝ) ^ (a - c)
  rw [← Real.rpow_add (by norm_num)]
  congr 1
  ring

theorem exp2_pos (a b : ℝ) : ∃ r : ℝ, 0 < r ∧ Ideal.exp2 ((a : EReal) - (b : EReal)) = (r : EReal) := by
  rw [← EReal.coe_sub, Ideal.exp2_coe]
  exact ⟨_, Real.rpow_pos_of_pos (by norm_num) _, rfl⟩

/-- The running sums: scaled at each block to the new maximum, they are the sums over the blocks so far at the last maximum. -/
theorem running {J : Type*} [Fintype J] (s : ℕ → J → ℝ) (w : ℕ → J → EReal) (M A : ℕ → EReal) (hM : ∀ n, ∃ r : ℝ, M n = (r : EReal))
    (hA0 : A 0 = 0)
    (hA : ∀ n, A (n + 1) = A n * Ideal.exp2 (M n - M (n + 1)) + ∑ j, w n j * Ideal.exp2 ((s n j : EReal) - M (n + 1))) (n : ℕ) :
    A n = ∑ i ∈ Finset.range n, ∑ j, w i j * Ideal.exp2 ((s i j : EReal) - M n) := by
  choose μ hμ using hM
  induction n with
  | zero => rw [hA0, Finset.range_zero, Finset.sum_empty]
  | succ n ih =>
    rw [hA, ih, Finset.sum_range_succ, hμ n, hμ (n + 1)]
    congr 1
    obtain ⟨r, hr, e⟩ := exp2_pos (μ n) (μ (n + 1))
    rw [e, sum_mul_coe _ _ hr.le]
    refine Finset.sum_congr rfl fun i _ => ?_
    rw [sum_mul_coe _ _ hr.le]
    refine Finset.sum_congr rfl fun j _ => ?_
    rw [← e, mul_assoc, exp2_trans]

/-- The softmax at any real shift: scores `L · x i` with `L = 1 / log 2`. -/
theorem shifted_softmax {ι : Type*} [Fintype ι] [Nonempty ι] {L : ℝ} (hL : L * Real.log 2 = 1) (x : ι → ℝ) (μ : ℝ) (v : ι → EReal) :
    Ideal.div (∑ i, v i * Ideal.exp2 (((L * x i : ℝ) : EReal) - (μ : EReal))) (∑ i, 1 * Ideal.exp2 (((L * x i : ℝ) : EReal) - (μ : EReal)))
      = ∑ i, v i * Ideal.div (Ideal.exp ((x i : EReal) - Finset.univ.sup fun i => (x i : EReal)))
          (∑ i', Ideal.exp ((x i' : EReal) - Finset.univ.sup fun i => (x i : EReal))) := by
  obtain ⟨i₀, hsup, -⟩ := exists_sup_coe x
  rw [hsup]
  set e : ι → ℝ := fun i => Real.exp (x i - x i₀) with he
  obtain ⟨r, hr, hre⟩ := exp2_pos (L * x i₀) μ
  have hpow : ∀ i, Ideal.exp2 (((L * x i : ℝ) : EReal) - (μ : EReal)) = ((e i * r : ℝ) : EReal) := by
    intro i
    rw [← exp2_trans _ (L * x i₀), hre, EReal.coe_mul (e i) r]
    congr 1
    rw [← EReal.coe_sub, Ideal.exp2_coe, ← mul_sub, two_rpow_eq_exp hL]
  have hexp : ∀ i, Ideal.exp ((x i : EReal) - (x i₀ : EReal)) = (e i : EReal) := by
    intro i
    rw [← EReal.coe_sub, Ideal.exp_coe]
  simp only [hpow, hexp, one_mul]
  rw [coe_sum, coe_sum]
  have hpos : 0 < ∑ i, e i := Finset.sum_pos (fun i _ => Real.exp_pos _) Finset.univ_nonempty
  have hsum : ∑ i, e i * r = (∑ i, e i) * r := (Finset.sum_mul _ _ _).symm
  have hpos' : 0 < ∑ i, e i * r := by rw [hsum]; positivity
  rw [Ideal.div_coe hpos'.ne', sum_mul_coe _ _ (by positivity)]
  refine Finset.sum_congr rfl fun i _ => ?_
  rw [Ideal.div_coe hpos.ne', mul_assoc, ← EReal.coe_mul, ← EReal.coe_mul]
  congr 2
  rw [hsum]
  field_simp

/-- A sum over sixteen blocks of 1024 is the sum over all. -/
theorem sum_blocks (f : Fin 16384 → EReal) (g : ℕ → Fin 1024 → EReal)
    (h : ∀ (i : Fin 16) (j : Fin 1024), g i.val j = f ⟨1024 * i.val + j.val, by omega⟩) :
    ∑ i ∈ Finset.range 16, ∑ j, g i j = ∑ k, f k := by
  rw [Finset.sum_range, ← Equiv.sum_comp (finProdFinEquiv (m := 16) (n := 1024)), ← Finset.sum_product']
  refine Finset.sum_congr rfl fun p _ => ?_
  rw [h]
  exact congrArg f (Fin.ext (by show 1024 * p.1.val + p.2.val = p.2.val + 1024 * p.1.val; omega))

end Cert.Mla
-- ==== Proof.Mla.Ref.lean ====
module

public import proofs.«01_k».proof.Proof.Gen.MlaReferenceIdeal.Run
public import proofs.«01_k».proof.Proof.Mla.Online
public import proofs.«01_k».proof.Proof.Na.Unit
public import Idealize.ShloMosaic.Lib.Tactic.CleanTypes
public import Idealize.ShloMosaic.Lib.Pointwise

/-!
The reference of the multi-head attention read at one index: its scores, its softmax and its weighted sum of the values.
-/

@[expose] public section

set_option maxRecDepth 16384

noncomputable section

namespace Cert.Mla.Ref

open Cert.MlaReferenceIdeal Cert.MlaReferenceIdeal.Gen Idealize.ShloMosaic Idealize.ShloMosaic.TcCoe Idealize.SL.Sem

/-- The exponentials of the reference's softmax, from its scores. -/
def exps (S : FVec Ideal S3x16x16384x16384 .f32) : FVec Ideal S3x16x16384x16384 .f32 :=
  Host.exp (subf S
    (broadcastInDim S3x16x16384x16384 ![0, 1, 2, 3] bcast_S3x16x16384x1_S3x16x16384x16384_0_1_2_3
      (broadcastInDim S3x16x16384x1 ![0, 1, 2] bcast_S3x16x16384_S3x16x16384x1_0_1_2
        (maximumf (broadcastInDim S3x16x16384 ![] bcast_S_S3x16x16384 (constant S_ .f32 4286578688#32))
          (Host.reduce (FloatOps.maximumf (F := Ideal) (φ := .f32)) S (constant S_ .f32 4286578688#32)
            reducesTo_S3x16x16384x16384_S3x16x16384_d3 h_S_)))))

/-- The softmax weights of the reference from its scores. -/
def weights (S : FVec Ideal S3x16x16384x16384 .f32) : FVec Ideal S3x16x16384x16384 .f32 :=
  Host.divf (exps S)
    (broadcastInDim S3x16x16384x16384 ![0, 1, 2, 3] bcast_S3x16x16384x1_S3x16x16384x16384_0_1_2_3
      (broadcastInDim S3x16x16384x1 ![0, 1, 2] bcast_S3x16x16384_S3x16x16384x1_0_1_2
        (Host.reduceAdd (exps S) (constant S_ .f32 0#32) reducesTo_S3x16x16384x16384_S3x16x16384_d3 h_S_)))

theorem max_apply (S : FVec Ideal S3x16x16384x16384 .f32) (b h q) :
    Host.reduce (FloatOps.maximumf (F := Ideal) (φ := .f32)) S (constant S_ .f32 4286578688#32)
      reducesTo_S3x16x16384x16384_S3x16x16384_d3 h_S_ (ix3 b h q)
      = Finset.fold max (Ideal.ofBits .f32 4286578688#32) (fun k => S (ix4 b h q k)) Finset.univ := by
  pointwise

theorem exp_apply (S : FVec Ideal S3x16x16384x16384 .f32) (M : FVec Ideal S3x16x16384 .f32) (b h q k) :
    Host.exp (subf S
      (broadcastInDim S3x16x16384x16384 ![0, 1, 2, 3] bcast_S3x16x16384x1_S3x16x16384x16384_0_1_2_3
        (broadcastInDim S3x16x16384x1 ![0, 1, 2] bcast_S3x16x16384_S3x16x16384x1_0_1_2
          (maximumf (broadcastInDim S3x16x16384 ![] bcast_S_S3x16x16384 (constant S_ .f32 4286578688#32)) M))))
      (ix4 b h q k)
      = Ideal.exp (S (ix4 b h q k) - max (Ideal.ofBits .f32 4286578688#32) (M (ix3 b h q))) := by
  pointwise

theorem sum_apply (E : FVec Ideal S3x16x16384x16384 .f32) (b h q) :
    Host.reduceAdd E (constant S_ .f32 0#32) reducesTo_S3x16x16384x16384_S3x16x16384_d3 h_S_ (ix3 b h q) = ∑ k, E (ix4 b h q k) := by
  pointwise

theorem div_apply (E : FVec Ideal S3x16x16384x16384 .f32) (N : FVec Ideal S3x16x16384 .f32) (b h q k) :
    Host.divf E
      (broadcastInDim S3x16x16384x16384 ![0, 1, 2, 3] bcast_S3x16x16384x1_S3x16x16384x16384_0_1_2_3
        (broadcastInDim S3x16x16384x1 ![0, 1, 2] bcast_S3x16x16384_S3x16x16384x1_0_1_2 N)) (ix4 b h q k)
      = Ideal.div (E (ix4 b h q k)) (N (ix3 b h q)) := by
  pointwise

theorem exps_apply (S : FVec Ideal S3x16x16384x16384 .f32) (b h q k) :
    exps S (ix4 b h q k) = Ideal.exp ((S (ix4 b h q k) : EReal) - Finset.univ.sup fun i => (S (ix4 b h q i) : EReal)) := by
  unfold exps
  rw [exp_apply, max_apply, Cert.Na.ofBits_neg_inf, max_eq_right bot_le, Cert.Na.fold_max_eq_sup]

theorem weights_apply (S : FVec Ideal S3x16x16384x16384 .f32) (b h q k) :
    weights S (ix4 b h q k)
      = Ideal.div (Ideal.exp ((S (ix4 b h q k) : EReal) - Finset.univ.sup fun i => (S (ix4 b h q i) : EReal)))
          (∑ k', Ideal.exp ((S (ix4 b h q k') : EReal) - Finset.univ.sup fun i => (S (ix4 b h q i) : EReal))) := by
  unfold weights
  rw [div_apply, sum_apply]
  simp only [exps_apply]

/-- The reference's score of query `q` with key `k`. -/
def scoreAt (Q : S3x16384x16x128.Idx → EReal) (Qr : S3x16384x16x64.Idx → EReal) (K : S3x16384x16x128.Idx → EReal)
    (Kr : S3x16384x64.Idx → EReal) (b : Fin 3) (h : Fin 16) (q k : Fin 16384) : EReal :=
  (∑ e : Fin 128, Ideal.div (Q (ix4 b q h e)) (Ideal.sqrt (Ideal.ofBits .f32 1128267776#32)) * K (ix4 b k h e))
    + ∑ e : Fin 64, Kr (ix3 b k e) * Ideal.div (Qr (ix4 b q h e)) (Ideal.sqrt (Ideal.ofBits .f32 1128267776#32))

/-- The values weighed, at row `R` of the three sequences put end to end. -/
def mixAt (W : S3x16384x16x128.Idx → EReal) (P : S3x16x16384x16384.Idx → EReal) (h : Fin 16) (R : Fin 49152) (d : Fin 128) : EReal :=
  ∑ k : Fin 16384, W (ix4 ⟨R.val / 16384, by omega⟩ k h d) * P (ix4 ⟨R.val / 16384, by omega⟩ h ⟨R.val % 16384, by omega⟩ k)

variable (m : (ℓ : Loc nD τ sig) → Buf (Elt Ideal) ℓ)

/-- The reference's scores, and its result from their softmax, read at one index. -/
theorem parts (c : Dev nD) : ∃ S : FVec Ideal S3x16x16384x16384 .f32,
    (∀ b h q k, S (ix4 b h q k) = scoreAt (m (c, Proc.tc.devRef main_arg0)) (m (c, Proc.tc.devRef main_arg1))
      (m (c, Proc.tc.devRef main_arg2)) (m (c, Proc.tc.devRef main_arg3)) b h q k)
    ∧ ∀ h R d, Cert.MlaReferenceIdeal.Value.res_main_v24 m c (ix3 h R d)
      = mixAt (m (c, Proc.tc.devRef main_arg4)) (weights S) h R d := by
  unfold Cert.MlaReferenceIdeal.Value.res_main_v24
  clean_types
  generalize hS : addf (F := Ideal) (φ := .f32) _ _ = S
  generalize hP : Host.divf (F := Ideal) (φ := .f32) (Host.exp _) _ = P
  have hP' : P = weights S := hP.symm
  clear hP
  refine ⟨S, ?_, ?_⟩
  · intro b h q k
    rw [← hS]
    clear hS hP'
    unfold scoreAt
    pointwise
  · intro h R d
    rw [← hP']
    clear hP' hS
    unfold mixAt
    pointwise

end Cert.Mla.Ref
-- ==== Proof.Mla.Attention.lean ====
module

public import proofs.«01_k».proof.Proof.Mla.Prep
public import proofs.«01_k».proof.Proof.Mla.Ref
public import proofs.«01_k».proof.Proof.Na.Attention

/-!
The scores of a row: what the kernel multiplies out over its 256 lanes is the reference's score in base 2.
-/

@[expose] public section

set_option maxRecDepth 16384

noncomputable section

namespace Cert.Mla

open Cert.MlaIdeal Cert.Mla.Ref Idealize.ShloMosaic Cert.Na

/-- The square root of the head's width, the plain lanes and the rotary ones. -/
theorem width_eq : Ideal.sqrt (Ideal.ofBits .f32 1128267776#32) = ((Real.sqrt 192 : ℝ) : EReal) := by
  have h : Ideal.ofBits .f32 1128267776#32 = ((192 : ℝ) : EReal) := by
    simp [Ideal.ofBits, Ideal.ieee, -EReal.coe_mul]
    norm_num
  rw [h, Ideal.sqrt_coe, if_neg (by norm_num)]

theorem width_ne : Real.sqrt 192 ≠ 0 := (Real.sqrt_pos.mpr (by norm_num)).ne'

theorem scale_eq : scale = ((lg / Real.sqrt 192 : ℝ) : EReal) := by
  unfold scale
  rw [show Ideal.div 1 (Ideal.log (Ideal.ofBits FTy.f32 1073741824#32)) = ((lg : ℝ) : EReal) from log2e_eq, width_eq, Ideal.div_coe width_ne,
    ← EReal.coe_mul, mul_one_div]

/-- A sum over 256 lanes whose last 64 are zero. -/
theorem sum_lanes (f : Fin 256 → EReal) (a : Fin 128 → EReal) (b : Fin 64 → EReal) (ha : ∀ e : Fin 128, f ⟨e.val, by omega⟩ = a e)
    (hb : ∀ e : Fin 64, f ⟨128 + e.val, by omega⟩ = b e) (hc : ∀ e : Fin 64, f ⟨192 + e.val, by omega⟩ = 0) :
    ∑ e, f e = (∑ e, a e) + ∑ e, b e := by
  have h1 := Fin.sum_univ_add (a := 128) (b := 128) f
  have h2 := Fin.sum_univ_add (a := 64) (b := 64) fun e : Fin 128 => f (Fin.natAdd 128 e)
  have h3 : ∑ e : Fin 64, f (Fin.natAdd 128 (Fin.natAdd 64 e)) = 0 := by
    refine Finset.sum_eq_zero fun e _ => (congrArg f (Fin.ext ?_)).trans (hc e)
    show 128 + (64 + e.val) = 192 + e.val
    omega
  refine h1.trans (congrArg₂ _ (Finset.sum_congr rfl fun e _ => ha e) (h2.trans ?_))
  rw [h3, add_zero]
  exact Finset.sum_congr rfl fun e _ => hb e

variable (Q : S3x16384x16x128.Idx → EReal) (Qr : S3x16384x16x64.Idx → EReal) (K : S3x16384x16x128.Idx → EReal) (Kr : S3x16384x64.Idx → EReal)
  (hQ : ∀ i, ∃ r : ℝ, Q i = (r : EReal)) (hQr : ∀ i, ∃ r : ℝ, Qr i = (r : EReal)) (hK : ∀ i, ∃ r : ℝ, K i = (r : EReal))
  (hKr : ∀ i, ∃ r : ℝ, Kr i = (r : EReal))

/-- The row of a key among the three sequences put end to end. -/
def keyRow (R : Fin 49152) (k : Fin 16384) : Fin 49152 := ⟨16384 * (R.val / 16384) + k.val, by omega⟩

include hQ hQr hK hKr in
/-- The scores are real numbers, and the kernel's are the reference's in base 2. -/
theorem score_real (h : Fin 16) (R : Fin 49152) : ∃ x : Fin 16384 → ℝ,
    (∀ k, scoreAt Q Qr K Kr ⟨R.val / 16384, by omega⟩ h ⟨R.val % 16384, by omega⟩ k = (x k : EReal))
    ∧ ∀ k, ∑ e, kAt K Kr h (keyRow R k) e * qAt Q Qr h R e = ((lg * x k : ℝ) : EReal) := by
  choose q hq using fun e : Fin 128 => hQ (ix4 ⟨R.val / 16384, by omega⟩ ⟨R.val % 16384, by omega⟩ h e)
  choose p hp using fun e : Fin 64 => hQr (ix4 ⟨R.val / 16384, by omega⟩ ⟨R.val % 16384, by omega⟩ h e)
  choose y hy using fun (k : Fin 16384) (e : Fin 128) => hK (ix4 ⟨R.val / 16384, by omega⟩ k h e)
  choose z hz using fun (k : Fin 16384) (e : Fin 64) => hKr (ix3 ⟨R.val / 16384, by omega⟩ k e)
  refine ⟨fun k => (∑ e, q e * (1 / Real.sqrt 192) * y k e) + ∑ e, z k e * (p e * (1 / Real.sqrt 192)), fun k => ?_, fun k => ?_⟩
  · unfold scoreAt
    simp only [hq, hp, hy, hz, width_eq, Ideal.div_coe width_ne, ← EReal.coe_mul]
    rw [EReal.coe_add, coe_sum, coe_sum]
  · have e1 : ∀ p, (⟨(keyRow R k).val / 16384, p⟩ : Fin 3) = ⟨R.val / 16384, by omega⟩ :=
      fun p => Fin.ext (by simp only [keyRow]; omega)
    have e2 : ∀ p, (⟨(keyRow R k).val % 16384, p⟩ : Fin 16384) = k :=
      fun p => Fin.ext (by simp only [keyRow]; omega)
    rw [sum_lanes _ (fun e => ((y k e * (q e * (lg / Real.sqrt 192)) : ℝ) : EReal)) (fun e => ((z k e * (p e * (lg / Real.sqrt 192)) : ℝ) : EReal))]
    · have e4 : lg * ((∑ e, q e * (1 / Real.sqrt 192) * y k e) + ∑ e, z k e * (p e * (1 / Real.sqrt 192)))
          = (∑ e, y k e * (q e * (lg / Real.sqrt 192))) + ∑ e, z k e * (p e * (lg / Real.sqrt 192)) := by
        rw [mul_add, Finset.mul_sum, Finset.mul_sum]
        congr 1
        · exact Finset.sum_congr rfl fun e _ => by ring
        · exact Finset.sum_congr rfl fun e _ => by ring
      simp only [e4]
      rw [EReal.coe_add, coe_sum, coe_sum]
    · intro e
      unfold kAt qAt
      rw [dif_pos e.isLt, dif_pos e.isLt, e1, e2, scale_eq]
      simp only [hq, hy, ← EReal.coe_mul]
    · intro e
      unfold kAt qAt
      have n1 : ¬ 128 + e.val < 128 := by omega
      have n2 : 128 + e.val - 128 < 64 := by omega
      have n3 : ∀ p, (⟨128 + e.val - 128, p⟩ : Fin 64) = e := fun p => Fin.ext (by simp only; omega)
      rw [dif_neg n1, dif_pos n2, dif_neg n1, dif_pos n2, e1, e2, scale_eq]
      simp only [n3, hp, hz, ← EReal.coe_mul]
    · intro e
      unfold kAt
      rw [dif_neg (by simp only; omega), dif_neg (by simp only; omega), zero_mul]

/-- The attention of row `R` under head `h` at lane `d`. -/
def attnAt (W : S3x16384x16x128.Idx → EReal) (h : Fin 16) (R : Fin 49152) (d : Fin 128) : EReal :=
  ∑ k, W (ix4 ⟨R.val / 16384, by omega⟩ k h d)
    * Ideal.div (Ideal.exp (scoreAt Q Qr K Kr ⟨R.val / 16384, by omega⟩ h ⟨R.val % 16384, by omega⟩ k
        - Finset.univ.sup (scoreAt Q Qr K Kr ⟨R.val / 16384, by omega⟩ h ⟨R.val % 16384, by omega⟩)))
      (∑ k', Ideal.exp (scoreAt Q Qr K Kr ⟨R.val / 16384, by omega⟩ h ⟨R.val % 16384, by omega⟩ k'
        - Finset.univ.sup (scoreAt Q Qr K Kr ⟨R.val / 16384, by omega⟩ h ⟨R.val % 16384, by omega⟩)))

theorem mix_eq (W : S3x16384x16x128.Idx → EReal) (S : FVec Ideal Cert.MlaReferenceIdeal.S3x16x16384x16384 .f32)
    (hS : ∀ b h q k, S (ix4 b h q k) = scoreAt Q Qr K Kr b h q k) (h : Fin 16) (R : Fin 49152) (d : Fin 128) :
    mixAt W (weights S) h R d = attnAt Q Qr K Kr W h R d := by
  unfold mixAt attnAt
  refine Finset.sum_congr rfl fun k _ => ?_
  rw [weights_apply]
  simp only [hS]

/-- The reference's result is the attention. -/
theorem ref_eq (m : (ℓ : Loc Cert.MlaReferenceIdeal.nD Cert.MlaReferenceIdeal.τ Cert.MlaReferenceIdeal.sig) → Buf (Elt Ideal) ℓ)
    (c : Dev Cert.MlaReferenceIdeal.nD) (h : Fin 16) (R : Fin 49152) (d : Fin 128) :
    Cert.MlaReferenceIdeal.Value.res_main_v24 m c (ix3 h R d)
      = attnAt (m (c, Proc.tc.devRef Cert.MlaReferenceIdeal.main_arg0)) (m (c, Proc.tc.devRef Cert.MlaReferenceIdeal.main_arg1))
        (m (c, Proc.tc.devRef Cert.MlaReferenceIdeal.main_arg2)) (m (c, Proc.tc.devRef Cert.MlaReferenceIdeal.main_arg3))
        (m (c, Proc.tc.devRef Cert.MlaReferenceIdeal.main_arg4)) h R d := by
  obtain ⟨S, hS, hr⟩ := parts m c
  exact (hr h R d).trans (mix_eq _ _ _ _ _ S hS h R d)

end Cert.Mla
-- ==== Proof.Mla.Read.lean ====
module

public import proofs.«01_k».proof.Proof.Mla.Body
public import proofs.«01_k».proof.Proof.Mla.Online
public import proofs.«01_k».proof.Proof.Na.Unit
public import Idealize.ShloMosaic.Lib.Pointwise

/-!
The body's recursion at one query: scores, maxima and sums read at an index.
-/

@[expose] public section

noncomputable section

namespace Cert.Mla

open Idealize.ShloMosaic Cert.MlaIdeal Cert.MlaIdeal.Gen

variable (xq : Vec Ideal S1x2048x256 .bf16) (xk : Vec Ideal S1x16384x256 .bf16) (xv : Vec Ideal S1x144x16384 .bf16)

theorem payS_apply (k : Vec Ideal S1x1024x256 .bf16) (q : Vec Ideal S1x256x256 .bf16) (j : Fin 1024) (r : Fin 256) :
    (payS k q (ix2 j r) : EReal) = ∑ e : Fin 256, (k (ix3 0 j e) : EReal) * q (ix3 0 r e) := by
  pointwise [payS]

theorem payMt_apply (s : FVec Ideal S1024x256 .f32) (r : Fin 256) :
    (payMt s (ix2 0 r) : EReal) = Finset.univ.fold max (Ideal.ofBits .f32 0xFF800000#32) (fun j : Fin 1024 => (s (ix2 j r) : EReal)) := by
  pointwise [payMt]

theorem payA_apply (m mt : Vec Ideal S1x256 .f32) (s : Vec Ideal S1024x256 .f32) (acc : Vec Ideal S144x256 .f32)
    (vt : Vec Ideal S1x144x1024 .bf16) (d : Fin 144) (r : Fin 256) :
    (payA m (payM m mt) (payP (payM m mt) s) acc vt (ix2 d r) : EReal)
      = acc (ix2 d r) * Ideal.exp2 ((m (ix2 0 r) : EReal) - max (m (ix2 0 r) : EReal) (mt (ix2 0 r)))
        + ∑ j : Fin 1024, (vt (ix3 0 d j) : EReal) * Ideal.exp2 ((s (ix2 j r) : EReal) - max (m (ix2 0 r) : EReal) (mt (ix2 0 r))) := by
  pointwise [payA, payM, payP]
  rfl

theorem payO_apply (acc : Vec Ideal S144x2048 .f32) (r : Fin 2048) (d : Fin 128) :
    (payO acc (ix3 0 r d) : EReal) = Ideal.div (acc (ix2 ⟨d.val, by omega⟩ r)) (acc (ix2 128 r)) := by
  pointwise [payO]

/-- The score of query `r` with key `k`. -/
def scoreB (k : Fin 16384) (r : Fin 2048) : EReal := ∑ e : Fin 256, (xk (ix3 0 k e) : EReal) * xq (ix3 0 r e)

theorem Sx_apply (n : ℕ) (c : Fin 8) (j : Fin 1024) (r : Fin 256) :
    (Sx xq xk n c (ix2 j r) : EReal) = scoreB xq xk ⟨1024 * (n % 16) + j.val, by omega⟩ ⟨256 * c.val + r.val, by omega⟩ := by
  unfold Sx nextS scoreB
  rw [payS_apply]
  refine Finset.sum_congr rfl fun e _ => congrArg₂ _ (congrArg xk ?_) (congrArg xq ?_)
  · funext a
    match a with
    | 0 => rfl
    | 1 => exact Fin.ext (by show 1024 * (n % 16) + 1 * j.val = 1024 * (n % 16) + j.val; omega)
    | 2 => exact Fin.ext (by show 0 + 1 * e.val = e.val; omega)
  · funext a
    match a with
    | 0 => rfl
    | 1 => exact Fin.ext (by show 256 * c.val + 1 * r.val = 256 * c.val + r.val; omega)
    | 2 => exact Fin.ext (by show 0 + 1 * e.val = e.val; omega)

theorem Tx_apply (n : ℕ) (c : Fin 8) (r : Fin 256) :
    (Tx xq xk n c (ix2 0 r) : EReal) = Finset.univ.sup fun j : Fin 1024 =>
      scoreB xq xk ⟨1024 * (n % 16) + j.val, by omega⟩ ⟨256 * c.val + r.val, by omega⟩ := by
  unfold Tx nextMt
  rw [payMt_apply, Cert.Na.ofBits_neg_inf, Cert.Na.fold_max_eq_sup]
  exact Finset.sup_congr rfl fun j _ => Sx_apply xq xk n c j r

theorem Ax_zero (c : Fin 8) (d : Fin 144) (r : Fin 256) : (Ax xq xk xv 0 c (ix2 d r) : EReal) = 0 := by
  show Ideal.ofBits .f32 0x00000000#32 = 0
  simp [Ideal.ofBits, Ideal.ieee]

theorem Ax_succ (n : ℕ) (c : Fin 8) (d : Fin 144) (r : Fin 256) :
    (Ax xq xk xv (n + 1) c (ix2 d r) : EReal)
      = Ax xq xk xv n c (ix2 d r) * Ideal.exp2 ((Mx xq xk n c (ix2 0 r) : EReal) - Mx xq xk (n + 1) c (ix2 0 r))
        + ∑ j : Fin 1024, (xv (ix3 0 d ⟨1024 * (n % 16) + j.val, by omega⟩) : EReal)
          * Ideal.exp2 (scoreB xq xk ⟨1024 * (n % 16) + j.val, by omega⟩ ⟨256 * c.val + r.val, by omega⟩ - Mx xq xk (n + 1) c (ix2 0 r)) := by
  refine (payA_apply _ _ _ _ _ d r).trans ?_
  refine congrArg₂ _ rfl (Finset.sum_congr rfl fun j _ => congrArg₂ _ (congrArg xv ?_) ?_)
  · funext a
    match a with
    | 0 => rfl
    | 1 => exact Fin.ext (by show 0 + 1 * d.val = d.val; omega)
    | 2 => exact Fin.ext (by show 1024 * (n % 16) + 1 * j.val = 1024 * (n % 16) + j.val; omega)
  · rw [Sx_apply]
    rfl

/-- When the scores are real, so are the maxima. -/
theorem Mx_real (c : Fin 8) (r : Fin 256) (h : ∀ k, ∃ x : ℝ, scoreB xq xk k ⟨256 * c.val + r.val, by omega⟩ = (x : EReal)) (n : ℕ) :
    ∃ μ : ℝ, (Mx xq xk n c (ix2 0 r) : EReal) = (μ : EReal) := by
  have hT : ∀ n, ∃ μ : ℝ, (Tx xq xk n c (ix2 0 r) : EReal) = (μ : EReal) := by
    intro n
    choose x hx using h
    rw [Tx_apply]
    obtain ⟨i, hi, -⟩ := Cert.Na.exists_sup_coe fun j : Fin 1024 => x ⟨1024 * (n % 16) + j.val, by omega⟩
    refine ⟨_, Eq.trans (Finset.sup_congr rfl fun j _ => ?_) hi⟩
    exact hx _
  induction n with
  | zero => exact hT 0
  | succ n ih =>
    obtain ⟨a, ha⟩ := ih
    obtain ⟨b, hb⟩ := hT n
    refine ⟨max a b, ?_⟩
    show max (Mx xq xk n c (ix2 0 r) : EReal) (Tx xq xk n c (ix2 0 r)) = _
    rw [ha, hb]
    exact (Monotone.map_max (fun _ _ h => EReal.coe_le_coe_iff.2 h) : ((max a b : ℝ) : EReal) = _).symm

/-- The body's output at query `r`, value lane `d`: the softmax of the scores `L · x` against the values, row 128 of the values
    being ones. -/
theorem outB_apply {L : ℝ} (hL : L * Real.log 2 = 1) (r : Fin 2048) (d : Fin 128) (x : Fin 16384 → ℝ)
    (hx : ∀ k, scoreB xq xk k r = ((L * x k : ℝ) : EReal)) (h1 : ∀ k, (xv (ix3 0 128 k) : EReal) = 1) :
    (outB xq xk xv (ix3 0 r d) : EReal)
      = ∑ k, (xv (ix3 0 ⟨d.val, by omega⟩ k) : EReal) * Ideal.div (Ideal.exp ((x k : EReal) - Finset.univ.sup fun i => (x i : EReal)))
          (∑ i', Ideal.exp ((x i' : EReal) - Finset.univ.sup fun i => (x i : EReal))) := by
  have hr : (⟨256 * (⟨r.val / 256, by omega⟩ : Fin 8).val + (⟨r.val % 256, by omega⟩ : Fin 256).val, by simp only; omega⟩ : Fin 2048) = r :=
    Fin.ext (by show 256 * (r.val / 256) + r.val % 256 = r.val; omega)
  have hs : ∀ k, scoreB xq xk k ⟨256 * (⟨r.val / 256, by omega⟩ : Fin 8).val + (⟨r.val % 256, by omega⟩ : Fin 256).val, by simp only; omega⟩
      = ((L * x k : ℝ) : EReal) := fun k => by rw [hr, hx]
  have hM := Mx_real xq xk ⟨r.val / 256, by omega⟩ ⟨r.val % 256, by omega⟩ (fun k => ⟨_, hs k⟩)
  have hA : ∀ d : Fin 144, (Ax xq xk xv 16 ⟨r.val / 256, by omega⟩ (ix2 d ⟨r.val % 256, by omega⟩) : EReal)
      = ∑ k, (xv (ix3 0 d k) : EReal) * Ideal.exp2 (((L * x k : ℝ) : EReal) - Mx xq xk 16 ⟨r.val / 256, by omega⟩ (ix2 0 ⟨r.val % 256, by omega⟩)) := by
    intro d
    refine (running (fun n (j : Fin 1024) => L * x ⟨1024 * (n % 16) + j.val, by omega⟩)
      (fun n j => (xv (ix3 0 d ⟨1024 * (n % 16) + j.val, by omega⟩) : EReal)) (fun n => Mx xq xk n ⟨r.val / 256, by omega⟩ (ix2 0 ⟨r.val % 256, by omega⟩))
      (fun n => Ax xq xk xv n ⟨r.val / 256, by omega⟩ (ix2 d ⟨r.val % 256, by omega⟩)) hM (Ax_zero xq xk xv _ _ _) (fun n => ?_) 16).trans ?_
    · refine (Ax_succ xq xk xv n _ d _).trans ?_
      refine congrArg₂ _ rfl (Finset.sum_congr rfl fun j _ => ?_)
      rw [hs]
    · refine sum_blocks _ _ fun i j => ?_
      have e : (⟨1024 * (i.val % 16) + j.val, by omega⟩ : Fin 16384) = ⟨1024 * i.val + j.val, by omega⟩ :=
        Fin.ext (by show 1024 * (i.val % 16) + j.val = 1024 * i.val + j.val; omega)
      simp only [e]
  unfold outB
  rw [payO_apply]
  obtain ⟨μ, hμ⟩ := hM 16
  rw [hμ] at hA
  refine (congrArg₂ Ideal.div (hA ⟨d.val, by omega⟩) (hA 128)).trans ?_
  simp only [h1]
  exact shifted_softmax hL x μ _

end Cert.Mla
-- ==== Proof.Mla.Value.lean ====
module

public import proofs.«01_k».proof.Proof.Mla.Attention
public import proofs.«01_k».proof.Proof.Mla.Read
public import Idealize.ShloMosaic.Lib.Pipeline.ValueKit

/-!
The array the multi-head attention leaves, element by element.
-/

@[expose] public section

set_option maxRecDepth 16384

noncomputable section

namespace Cert.Mla

open Cert.MlaIdeal Cert.MlaIdeal.Gen Idealize.ShloMosaic Idealize.ShloMosaic.TcCoe Idealize.SL.Sem Cert.Na

theorem idx0 : ∀ t : Fin cfg0.N, ∀ a, (cfg0.win 0).index t a = ![t.val / 8 % 16, t.val / 128 * 8 + t.val % 8, 0] a := by decide +kernel
theorem idx1 : ∀ t : Fin cfg0.N, ∀ a, (cfg0.win 1).index t a = ![t.val / 8 % 16, t.val / 128, 0] a := by decide +kernel
theorem idx2 : ∀ t : Fin cfg0.N, ∀ a, (cfg0.win 2).index t a = ![t.val / 8 % 16, 0, t.val / 128] a := by decide +kernel
theorem idx3 : ∀ t : Fin cfg0.N, ∀ a, (cfg0.win 3).index t a = ![t.val / 8 % 16, t.val / 128 * 8 + t.val % 8, 0] a := by decide +kernel

theorem lt384 (t : Fin cfg0.N) : t.val < 384 := t.isLt

/-- The head of a grid point. -/
def headOf (t : Fin cfg0.N) : Fin 16 := ⟨t.val / 8 % 16, by omega⟩

/-- The row of a query of a grid point. -/
def rowOf (t : Fin cfg0.N) (r : Fin 2048) : Fin 49152 := ⟨(t.val / 128 * 8 + t.val % 8) * 2048 + r.val, by have := lt384 t; omega⟩

variable (m : (ℓ : Loc nD τ sig) → Buf (Elt Ideal) ℓ)

theorem q_block (c : Dev nD) (t : Fin cfg0.N) (r : Fin 2048) (e : Fin 256) :
    iblk m c 0 t (ix3 0 r e) = V m c main_v17 (ix3 (headOf t) (rowOf t r) e) := by
  refine Eq.trans (b := V m c main_v17 ((win0_0.blk t).view.emb (ix3 0 r e))) (by rfl) ?_
  congr 1
  funext a
  have e0 : ∀ a, (((win0_0.rect t).emb (ix3 0 r e)) a : ℕ) = _ := fun a => win0_0.rect_emb_val t _ a
  refine Fin.ext ((e0 a).trans ?_)
  rw [show win0_0.index t a = _ from idx0 t a]
  match a with
  | ⟨0, _⟩ => show t.val / 8 % 16 * 1 + 0 = t.val / 8 % 16; omega
  | ⟨1, _⟩ => show (t.val / 128 * 8 + t.val % 8) * 2048 + r.val = _; rfl
  | ⟨2, _⟩ => show 0 * 256 + e.val = e.val; omega

theorem k_block (c : Dev nD) (t : Fin cfg0.N) (r : Fin 2048) (k : Fin 16384) (e : Fin 256) :
    iblk m c 1 t (ix3 0 k e) = V m c main_v19 (ix3 (headOf t) (keyRow (rowOf t r) k) e) := by
  have h := lt384 t
  refine Eq.trans (b := V m c main_v19 ((win0_1.blk t).view.emb (ix3 0 k e))) (by rfl) ?_
  congr 1
  funext a
  have e0 : ∀ a, (((win0_1.rect t).emb (ix3 0 k e)) a : ℕ) = _ := fun a => win0_1.rect_emb_val t _ a
  refine Fin.ext ((e0 a).trans ?_)
  rw [show win0_1.index t a = _ from idx1 t a]
  match a with
  | ⟨0, _⟩ => show t.val / 8 % 16 * 1 + 0 = t.val / 8 % 16; omega
  | ⟨1, _⟩ =>
    show t.val / 128 * 16384 + k.val = 16384 * (((t.val / 128 * 8 + t.val % 8) * 2048 + r.val) / 16384) + k.val
    omega
  | ⟨2, _⟩ => show 0 * 256 + e.val = e.val; omega

theorem v_block (c : Dev nD) (t : Fin cfg0.N) (r : Fin 2048) (k : Fin 16384) (d : Fin 144) :
    iblk m c 2 t (ix3 0 d k) = V m c main_v28 (ix3 (headOf t) d (keyRow (rowOf t r) k)) := by
  have h := lt384 t
  refine Eq.trans (b := V m c main_v28 ((win0_2.blk t).view.emb (ix3 0 d k))) (by rfl) ?_
  congr 1
  funext a
  have e0 : ∀ a, (((win0_2.rect t).emb (ix3 0 d k)) a : ℕ) = _ := fun a => win0_2.rect_emb_val t _ a
  refine Fin.ext ((e0 a).trans ?_)
  rw [show win0_2.index t a = _ from idx2 t a]
  match a with
  | ⟨0, _⟩ => show t.val / 8 % 16 * 1 + 0 = t.val / 8 % 16; omega
  | ⟨1, _⟩ => show 0 * 144 + d.val = d.val; omega
  | ⟨2, _⟩ =>
    show t.val / 128 * 16384 + k.val = 16384 * (((t.val / 128 * 8 + t.val % 8) * 2048 + r.val) / 16384) + k.val
    omega

/-- What the body writes, once its blocks are known, is the attention of its rows. -/
theorem out_of (xq : Vec Ideal S1x2048x256 .bf16) (xk : Vec Ideal S1x16384x256 .bf16) (xv : Vec Ideal S1x144x16384 .bf16)
    (Q : S3x16384x16x128.Idx → EReal) (Qr : S3x16384x16x64.Idx → EReal) (K : S3x16384x16x128.Idx → EReal) (Kr : S3x16384x64.Idx → EReal)
    (W : S3x16384x16x128.Idx → EReal) (hQ : ∀ i, ∃ r : ℝ, Q i = (r : EReal)) (hQr : ∀ i, ∃ r : ℝ, Qr i = (r : EReal))
    (hK : ∀ i, ∃ r : ℝ, K i = (r : EReal)) (hKr : ∀ i, ∃ r : ℝ, Kr i = (r : EReal)) (h : Fin 16) (R : Fin 49152) (r : Fin 2048) (d : Fin 128)
    (hq : ∀ e, (xq (ix3 0 r e) : EReal) = qAt Q Qr h R e) (hk : ∀ k e, (xk (ix3 0 k e) : EReal) = kAt K Kr h (keyRow R k) e)
    (hv : ∀ k, (xv (ix3 0 ⟨d.val, by omega⟩ k) : EReal) = W (ix4 ⟨(keyRow R k).val / 16384, by omega⟩ ⟨(keyRow R k).val % 16384, by omega⟩ h d))
    (h1 : ∀ k, (xv (ix3 0 128 k) : EReal) = 1) :
    (outB xq xk xv (ix3 0 r d) : EReal) = attnAt Q Qr K Kr W h R d := by
  obtain ⟨x, hx, hs⟩ := score_real Q Qr K Kr hQ hQr hK hKr h R
  have e1 : ∀ (k : Fin 16384) p, (⟨(keyRow R k).val / 16384, p⟩ : Fin 3) = ⟨R.val / 16384, by omega⟩ :=
    fun k p => Fin.ext (by simp only [keyRow]; omega)
  have e2 : ∀ (k : Fin 16384) p, (⟨(keyRow R k).val % 16384, p⟩ : Fin 16384) = k :=
    fun k p => Fin.ext (by simp only [keyRow]; omega)
  have hsc : ∀ k, scoreB xq xk k r = ((lg * x k : ℝ) : EReal) := by
    intro k
    rw [← hs k]
    unfold scoreB
    simp only [hq, hk]
  have hx' : Cert.Mla.Ref.scoreAt Q Qr K Kr ⟨R.val / 16384, by omega⟩ h ⟨R.val % 16384, by omega⟩ = fun k => (x k : EReal) := funext hx
  rw [outB_apply xq xk xv lg_mul r d x hsc h1]
  unfold attnAt
  rw [hx']
  refine Finset.sum_congr rfl fun k _ => congrArg₂ _ ?_ rfl
  rw [hv, e1, e2]

/-- What the body writes is the attention of its rows. -/
theorem block_eq (c : Dev nD) (t : Fin cfg0.N) (r : Fin 2048) (d : Fin 128)
    (hQ : ∀ i, ∃ r : ℝ, m (c, Proc.tc.devRef main_arg0) i = (r : EReal))
    (hQr : ∀ i, ∃ r : ℝ, m (c, Proc.tc.devRef main_arg1) i = (r : EReal)) (hK : ∀ i, ∃ r : ℝ, m (c, Proc.tc.devRef main_arg2) i = (r : EReal))
    (hKr : ∀ i, ∃ r : ℝ, m (c, Proc.tc.devRef main_arg3) i = (r : EReal)) :
    outB (iblk m c 0 t) (iblk m c 1 t) (iblk m c 2 t) (ix3 0 r d)
      = attnAt (m (c, Proc.tc.devRef main_arg0)) (m (c, Proc.tc.devRef main_arg1)) (m (c, Proc.tc.devRef main_arg2))
        (m (c, Proc.tc.devRef main_arg3)) (m (c, Proc.tc.devRef main_arg4)) (headOf t) (rowOf t r) d := by
  have hq : ∀ e, iblk m c 0 t (ix3 0 r e) = qAt (m (c, Proc.tc.devRef main_arg0)) (m (c, Proc.tc.devRef main_arg1)) (headOf t) (rowOf t r) e :=
    fun e => (q_block m c t r e).trans (q_apply m c _ _ e)
  have hk : ∀ k e, iblk m c 1 t (ix3 0 k e)
      = kAt (m (c, Proc.tc.devRef main_arg2)) (m (c, Proc.tc.devRef main_arg3)) (headOf t) (keyRow (rowOf t r) k) e :=
    fun k e => (k_block m c t r k e).trans (k_apply m c _ _ e)
  have hv : ∀ k, iblk m c 2 t (ix3 0 ⟨d.val, by omega⟩ k) = m (c, Proc.tc.devRef main_arg4)
      (ix4 ⟨(keyRow (rowOf t r) k).val / 16384, by omega⟩ ⟨(keyRow (rowOf t r) k).val % 16384, by omega⟩ (headOf t) d) :=
    fun k => (v_block m c t r k _).trans (v_apply m c _ _ d)
  have h1 : ∀ k, iblk m c 2 t (ix3 0 (128 : Fin 144) k) = (1 : EReal) := fun k => (v_block m c t r k 128).trans (one_apply m c _ _)
  generalize iblk m c 0 t = xq at hq ⊢
  generalize iblk m c 1 t = xk at hk ⊢
  generalize iblk m c 2 t = xv at hv h1 ⊢
  exact out_of xq xk xv _ _ _ _ _ hQ hQr hK hKr (headOf t) (rowOf t r) r d hq hk hv h1

/-- The array the kernel leaves. -/
def outArr (c : Dev nD) : S16x49152x128.Idx → EReal := fun y =>
  attnAt (m (c, Proc.tc.devRef main_arg0)) (m (c, Proc.tc.devRef main_arg1)) (m (c, Proc.tc.devRef main_arg2)) (m (c, Proc.tc.devRef main_arg3))
    (m (c, Proc.tc.devRef main_arg4)) (y 0) (y 1) (y 2)

theorem arr_eq (c : Dev nD) (hQ : ∀ i, ∃ r : ℝ, m (c, Proc.tc.devRef main_arg0) i = (r : EReal))
    (hQr : ∀ i, ∃ r : ℝ, m (c, Proc.tc.devRef main_arg1) i = (r : EReal)) (hK : ∀ i, ∃ r : ℝ, m (c, Proc.tc.devRef main_arg2) i = (r : EReal))
    (hKr : ∀ i, ∃ r : ℝ, m (c, Proc.tc.devRef main_arg3) i = (r : EReal)) :
    (dats m 0 c).arrAt 3 cfg0.N = outArr m c := by
  refine (dats m 0 c).arrAt_eq_of_covers 3 _ (by decide +kernel) fun t hf y => ?_
  have h := lt384 t
  blk_simp
  rw [after0_3]
  have y0 : (y 0 : ℕ) < 1 := (y 0).isLt
  have y1 : (y 1 : ℕ) < 2048 := (y 1).isLt
  have y2 : (y 2 : ℕ) < 128 := (y 2).isLt
  have hy : y = (ix3 (0 : Fin 1) (⟨(y 1 : ℕ), y1⟩ : Fin 2048) (⟨(y 2 : ℕ), y2⟩ : Fin 128) : S1x2048x128.Idx) := by
    funext a
    match a with
    | 0 => exact Fin.ext (by show (y 0 : ℕ) = 0; omega)
    | 1 => rfl
    | 2 => rfl
  have e0 : ∀ a, (((View.whole main_v29).slice (win0_3.rect t)).emb y a : ℕ) = (cfg0.win 3).index t a * ![1, 2048, 128] a + (y a : ℕ) := by
    intro a
    refine (Pipeline.Window.rect_emb_val (cfg0.win 3) t y a (by rfl)).trans ?_
    match a with
    | 0 => rfl
    | 1 => rfl
    | 2 => rfl
  refine Eq.trans (congrArg _ hy) ?_
  refine (block_eq m c t ⟨(y 1 : ℕ), y1⟩ ⟨(y 2 : ℕ), y2⟩ hQ hQr hK hKr).trans ?_
  have p0 : headOf t = ((View.whole main_v29).slice (win0_3.rect t)).emb y 0 := by
    refine Fin.ext ?_
    rw [e0, idx3]
    show t.val / 8 % 16 = t.val / 8 % 16 * 1 + (y 0 : ℕ)
    omega
  have p1 : rowOf t ⟨(y 1 : ℕ), y1⟩ = ((View.whole main_v29).slice (win0_3.rect t)).emb y 1 := by
    refine Fin.ext ?_
    rw [e0, idx3]
    rfl
  have p2 : (⟨(y 2 : ℕ), y2⟩ : Fin 128) = ((View.whole main_v29).slice (win0_3.rect t)).emb y 2 := by
    refine Fin.ext ?_
    rw [e0, idx3]
    show (y 2 : ℕ) = 0 * 128 + (y 2 : ℕ)
    omega
  exact congr (congr (congrArg _ p0) p1) p2

end Cert.Mla
-- ==== Proof.Mla.Same.lean ====
module

public import proofs.«01_k».proof.Proof.Gen.Mla
public import proofs.«01_k».proof.Proof.Mla.Run

/-!
The attention's program and its idealization are the same program, so the frame of the one is the frame of the other.
-/

@[expose] public section

noncomputable section

namespace Cert.Mla.Same

open Idealize.ShloMosaic Idealize.ShloMosaic.TcCoe Idealize.SL.Sem

variable {F : FTy → Type} [FloatOps F]

theorem body_eq : Cert.Mla.cc0_mla_attention (F := F) = Cert.MlaIdeal.cc0_mla_attention (F := F) := rfl

/-- The bodies of the two programs. -/
theorem bodies_eq : Cert.Mla.defs₀ (F := F) = Cert.MlaIdeal.defs₀ (F := F) := by
  unfold Cert.Mla.defs₀ Cert.MlaIdeal.defs₀
  refine congrArg _ ?_
  funext l a
  match l, a with
  | 0, (t, s) =>
    dsimp only
    rw [body_eq]
    rfl

/-- The two programs' tables. -/
theorem defs_eq : Cert.Mla.defs (F := F) = Cert.MlaIdeal.defs (F := F) :=
  congrArg (Pipeline.defs (Cert.MlaIdeal.pcfgs (F := F))) bodies_eq

/-- The two programs' host code. -/
theorem main_eq : Cert.Mla.main (F := F) = Cert.MlaIdeal.main (F := F) := rfl

variable (m : (ℓ : Loc Cert.Mla.nD Cert.Mla.τ Cert.Mla.sig) → Buf (Elt F) ℓ) (ρ : Dev Cert.Mla.nD → PrngReg)

/-- The program runs, leaves its arguments unchanged and every counter at zero. -/
theorem frame : θ_run (Cert.Mla.defs (F := F)) (onTc (τ := Cert.Mla.τ) (Cert.Mla.main (F := F))) ⟨m, fun _ => 0, ρ⟩
    (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0) := by
  rw [defs_eq, main_eq]
  exact Cert.Mla.frame m ρ

end Cert.Mla.Same
-- ==== Proof.Mla.Finite.lean ====
module

public import proofs.«01_k».proof.Proof.Gen.Pre_mla_finite
public import proofs.«01_k».proof.Proof.Na.Finite
public import Idealize.ShloMosaic.Lib.Pointwise
public import Idealize.ShloMosaic.Lib.ReduceAll

/-!
What the precondition of the multi-head attention says of its arguments: the queries and keys, and their rotary parts, are real
numbers.
-/

@[expose] public section

noncomputable section

namespace Cert.Mla

open Cert.Pre_mla_finite Idealize.ShloMosaic Cert.Na

theorem finite_iff [Facts] (Q : S3x16384x16x128.Idx → EReal) (Qr : S3x16384x16x64.Idx → EReal) (K : S3x16384x16x128.Idx → EReal)
    (Kr : S3x16384x64.Idx → EReal) (W : S3x16384x16x128.Idx → EReal) (h : fn (F := Ideal) Q Qr K Kr W = fun _ => 1#1) :
    (∀ i, ∃ r : ℝ, Q i = (r : EReal)) ∧ (∀ i, ∃ r : ℝ, Qr i = (r : EReal)) ∧ (∀ i, ∃ r : ℝ, K i = (r : EReal))
      ∧ ∀ i, ∃ r : ℝ, Kr i = (r : EReal) := by
  have h' := congrFun h (fun a => a.elim0)
  dsimp only [fn, fn_part1] at h'
  obtain ⟨h123, h4⟩ := IntOp.andi_eq_one.1 h'
  obtain ⟨h12, h3⟩ := IntOp.andi_eq_one.1 h123
  obtain ⟨h1, h2⟩ := IntOp.andi_eq_one.1 h12
  refine ⟨fun i => ?_, fun i => ?_, fun i => ?_, fun i => ?_⟩
  · have e := olt_one (max (Q i) (-Q i)) (Ideal.ofBits .f32 0x7F800000#32) (Host.reduce_andi_all _ _ _ _ _ h1 i)
    rw [ofBits_inf] at e
    exact real_of_abs_lt _ e
  · have e := olt_one (max (Qr i) (-Qr i)) (Ideal.ofBits .f32 0x7F800000#32) (Host.reduce_andi_all _ _ _ _ _ h2 i)
    rw [ofBits_inf] at e
    exact real_of_abs_lt _ e
  · have e := olt_one (max (K i) (-K i)) (Ideal.ofBits .f32 0x7F800000#32) (Host.reduce_andi_all _ _ _ _ _ h3 i)
    rw [ofBits_inf] at e
    exact real_of_abs_lt _ e
  · have e := olt_one (max (Kr i) (-Kr i)) (Ideal.ofBits .f32 0x7F800000#32) (Host.reduce_andi_all _ _ _ _ _ h4 i)
    rw [ofBits_inf] at e
    exact real_of_abs_lt _ e

end Cert.Mla
-- ==== Proof.Ffn.Down.lean ====
module

public import proofs.«01_k».proof.Proof.Ffn.Norm
public import proofs.«01_k».proof.Proof.Gen.DownIdeal.Value
public import proofs.«01_k».proof.Proof.Gen.DownReferenceIdeal.Run
public import Idealize.ShloMosaic.Lib.Pipeline.ValueKit
public import Idealize.ShloMosaic.Lib.StableHlo.ReadAt
public import Idealize.ShloMosaic.Lib.Tactic.CleanTypes
public import Idealize.ShloMosaic.Lib.Pointwise

/-!
The first layer's projection back: the residual stream and its normalisation, the call's two arrays element by element, and the reference's.
-/

@[expose] public section

set_option maxRecDepth 16384

noncomputable section

namespace Cert.Ffn.Down

open Cert.DownIdeal Cert.DownIdeal.Gen Cert.DownIdeal.Value Idealize.ShloMosaic Idealize.ShloMosaic.TcCoe Idealize.SL.Sem

/-- The residual stream at row `i`. -/
def sumAt (A : S49152x5632.Idx → EReal) (W : S5632x2048.Idx → EReal) (X : S49152x2048.Idx → EReal) (i : Fin 49152) : Fin 2048 → EReal :=
  rowAt (fun j => X (ix2 i j)) (fun k => A (ix2 i k)) fun k j => W (ix2 k j)

variable (m : (ℓ : Loc nD τ sig) → Buf (Elt Ideal) ℓ)

theorem weight_apply (c : Dev nD) (k : Fin 5632) (j : Fin 2048) :
    V m c main_v0 (ix2 k j) = m (c, Proc.tc.devRef main_arg1) (ix2 k j) := by
  unfold V
  after_reads_at

theorem gain_apply (c : Dev nD) (j : Fin 2048) :
    V m c main_v1 (ix2 0 j) = m (c, Proc.tc.devRef main_arg3) (ix1 j) := by
  unfold V
  after_reads_at

/-- One element of the sums that a grid point stores. -/
theorem sum_apply (x : Vec Ideal S256x2048 .f32) (a : Vec Ideal S256x5632 .bf16) (w : Vec Ideal S5632x2048 .bf16) (i : Fin 256) (j : Fin 2048) :
    (k0_pay1 x a w (ix2 i j) : EReal) = rowAt (fun j => x (ix2 i j)) (fun k => a (ix2 i k)) (fun k j => w (ix2 k j)) j := by
  pointwise [k0_pay1]
  rfl

/-- One element of the normalised rows that it stores. -/
theorem norm_apply (x : Vec Ideal S256x2048 .f32) (a : Vec Ideal S256x5632 .bf16) (w : Vec Ideal S5632x2048 .bf16)
    (g : Vec Ideal S1x2048 .f32) (i : Fin 256) (j : Fin 2048) :
    (k0_pay2 x a w g (ix2 i j) : EReal)
      = normAt (rowAt (fun j => x (ix2 i j)) (fun k => a (ix2 i k)) fun k j => w (ix2 k j)) (fun j => g (ix2 0 j)) j := by
  pointwise [k0_pay2, k0_pay1]
  rfl

theorem idx0 : ∀ t : Fin cfg0.N, ∀ a, (cfg0.win 0).index t a = ![t.val, 0] a := by decide +kernel
theorem idx1 : ∀ t : Fin cfg0.N, ∀ a, (cfg0.win 1).index t a = ![0, 0] a := by decide +kernel
theorem idx2 : ∀ t : Fin cfg0.N, ∀ a, (cfg0.win 2).index t a = ![t.val, 0] a := by decide +kernel
theorem idx3 : ∀ t : Fin cfg0.N, ∀ a, (cfg0.win 3).index t a = ![0, 0] a := by decide +kernel
theorem idx4 : ∀ t : Fin cfg0.N, ∀ a, (cfg0.win 4).index t a = ![t.val, 0] a := by decide +kernel

theorem idx5 : ∀ t : Fin cfg0.N, ∀ a, (cfg0.win 5).index t a = ![t.val, 0] a := by decide +kernel

theorem point_lt (t : Fin cfg0.N) : t.val < 192 := t.isLt

/-- The row of the whole array that is row `i` of block `t`. -/
def rowOf (t : Fin cfg0.N) (i : Fin 256) : Fin 49152 := ⟨256 * t.val + i.val, by have := point_lt t; omega⟩

theorem blk0 (c : Dev nD) (t : Fin cfg0.N) (i : Fin 256) (k : Fin 5632) :
    iblk m c 0 t (ix2 i k) = m (c, Proc.tc.devRef main_arg0) (ix2 (rowOf t i) k) := by
  refine Eq.trans (b := V m c main_arg0 ((win0_0.blk t).view.emb (ix2 i k))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show t.val * 256 + i.val = 256 * t.val + i.val; omega
  | 1 => show 0 * 5632 + k.val = k.val; omega

theorem blk1 (c : Dev nD) (t : Fin cfg0.N) (k : Fin 5632) (j : Fin 2048) :
    iblk m c 1 t (ix2 k j) = m (c, Proc.tc.devRef main_arg1) (ix2 k j) := by
  refine Eq.trans (b := V m c main_v0 ((win0_1.blk t).view.emb (ix2 k j))) (by rfl) ?_
  rw [← weight_apply m c]
  refine congrArg (V m c main_v0) (funext fun a => Fin.ext ((win0_1.rect_emb_val t _ a).trans ?_))
  rw [show win0_1.index t a = _ from idx1 t a]
  match a with
  | 0 => show 0 * 5632 + k.val = k.val; omega
  | 1 => show 0 * 2048 + j.val = j.val; omega

theorem blk2 (c : Dev nD) (t : Fin cfg0.N) (i : Fin 256) (j : Fin 2048) :
    iblk m c 2 t (ix2 i j) = m (c, Proc.tc.devRef main_arg2) (ix2 (rowOf t i) j) := by
  refine Eq.trans (b := V m c main_arg2 ((win0_2.blk t).view.emb (ix2 i j))) (by rfl) ?_
  rw [V_main_arg2]
  refine congrArg (m (c, Proc.tc.devRef main_arg2)) (funext fun a => Fin.ext ((win0_2.rect_emb_val t _ a).trans ?_))
  rw [show win0_2.index t a = _ from idx2 t a]
  match a with
  | 0 => show t.val * 256 + i.val = 256 * t.val + i.val; omega
  | 1 => show 0 * 2048 + j.val = j.val; omega

theorem blk3 (c : Dev nD) (t : Fin cfg0.N) (j : Fin 2048) :
    iblk m c 3 t (ix2 0 j) = m (c, Proc.tc.devRef main_arg3) (ix1 j) := by
  refine Eq.trans (b := V m c main_v1 ((win0_3.blk t).view.emb (ix2 0 j))) (by rfl) ?_
  rw [← gain_apply m c]
  refine congrArg (V m c main_v1) (funext fun a => Fin.ext ((win0_3.rect_emb_val t _ a).trans ?_))
  rw [show win0_3.index t a = _ from idx3 t a]
  match a with
  | 0 => rfl
  | 1 => show 0 * 2048 + j.val = j.val; omega

/-- The residual stream that the call leaves. -/
def sumArr (c : Dev nD) : S49152x2048.Idx → EReal := fun y =>
  sumAt (m (c, Proc.tc.devRef main_arg0)) (m (c, Proc.tc.devRef main_arg1)) (m (c, Proc.tc.devRef main_arg2)) (y 0) (y 1)

/-- Its normalisation. -/
def normArr (c : Dev nD) : S49152x2048.Idx → EReal := fun y =>
  normAt (sumAt (m (c, Proc.tc.devRef main_arg0)) (m (c, Proc.tc.devRef main_arg1)) (m (c, Proc.tc.devRef main_arg2)) (y 0))
    (fun j => m (c, Proc.tc.devRef main_arg3) (ix1 j)) (y 1)

theorem sum_eq (c : Dev nD) : (dats m 0 c).arrAt 4 cfg0.N = sumArr m c := by
  refine (dats m 0 c).arrAt_eq_of_covers 4 _ (by decide +kernel) fun t hf y => ?_
  blk_simp
  rw [after0_4]
  frame_out
  have e : ∀ a, (((View.whole main_v2_0).slice (win0_4.rect t)).emb y a : ℕ) = ![t.val, 0] a * ![256, 2048] a + (y a : ℕ) := by
    intro a
    refine (win0_4.rect_emb_val t y a).trans ?_
    rw [show win0_4.index t a = _ from idx4 t a]
  obtain ⟨i, j, rfl⟩ : ∃ (i : Fin 256) (j : Fin 2048), y = (ix2 i j : S256x2048.Idx) :=
    ⟨y 0, y 1, funext fun a => by match a with | 0 => rfl | 1 => rfl⟩
  refine (sum_apply _ _ _ i j).trans ?_
  simp only [blk0, blk1, blk2]
  unfold sumArr sumAt
  have e0 : ((View.whole main_v2_0).slice (win0_4.rect t)).emb (ix2 i j) 0 = rowOf t i :=
    Fin.ext ((e 0).trans (by show t.val * 256 + i.val = 256 * t.val + i.val; omega))
  have e1 : ((View.whole main_v2_0).slice (win0_4.rect t)).emb (ix2 i j) 1 = j :=
    Fin.ext ((e 1).trans (by show 0 * 2048 + j.val = j.val; omega))
  rw [e0, e1]

theorem norm_eq (c : Dev nD) : (dats m 0 c).arrAt 5 cfg0.N = normArr m c := by
  refine (dats m 0 c).arrAt_eq_of_covers 5 _ (by decide +kernel) fun t hf y => ?_
  blk_simp
  rw [after0_5]
  frame_out
  have e : ∀ a, (((View.whole main_v2_1).slice (win0_5.rect t)).emb y a : ℕ) = ![t.val, 0] a * ![256, 2048] a + (y a : ℕ) := by
    intro a
    refine (win0_5.rect_emb_val t y a).trans ?_
    rw [show win0_5.index t a = _ from idx5 t a]
  obtain ⟨i, j, rfl⟩ : ∃ (i : Fin 256) (j : Fin 2048), y = (ix2 i j : S256x2048.Idx) :=
    ⟨y 0, y 1, funext fun a => by match a with | 0 => rfl | 1 => rfl⟩
  refine (norm_apply _ _ _ _ i j).trans ?_
  simp only [blk0, blk1, blk2, blk3]
  unfold normArr sumAt
  have e0 : ((View.whole main_v2_1).slice (win0_5.rect t)).emb (ix2 i j) 0 = rowOf t i :=
    Fin.ext ((e 0).trans (by show t.val * 256 + i.val = 256 * t.val + i.val; omega))
  have e1 : ((View.whole main_v2_1).slice (win0_5.rect t)).emb (ix2 i j) 1 = j :=
    Fin.ext ((e 1).trans (by show 0 * 2048 + j.val = j.val; omega))
  rw [e0, e1]

open Cert.DownReferenceIdeal in
/-- The reference's run, with its two results read element by element. -/
theorem ref_run (m : (ℓ : Loc Cert.DownReferenceIdeal.nD Cert.DownReferenceIdeal.τ Cert.DownReferenceIdeal.sig) → Buf (Elt Ideal) ℓ) (ρ : Dev Cert.DownReferenceIdeal.nD → PrngReg) :
    θ_run Cert.DownReferenceIdeal.defs (onTc (τ := Cert.DownReferenceIdeal.τ) (Cert.DownReferenceIdeal.main (F := Ideal))) ⟨m, fun _ => 0, ρ⟩ fun r =>
      ∀ c : Dev Cert.DownReferenceIdeal.nD,
      (∀ i j, r.2.mem ((c.tc : Thread Cert.DownReferenceIdeal.nD Cert.DownReferenceIdeal.τ).loc Cert.DownReferenceIdeal.main_v2) (ix2 i j) = sumAt (m (c, Proc.tc.devRef Cert.DownReferenceIdeal.main_arg0)) (m (c, Proc.tc.devRef Cert.DownReferenceIdeal.main_arg1)) (m (c, Proc.tc.devRef Cert.DownReferenceIdeal.main_arg2)) i j)
      ∧ (∀ i j, r.2.mem ((c.tc : Thread Cert.DownReferenceIdeal.nD Cert.DownReferenceIdeal.τ).loc Cert.DownReferenceIdeal.main_v16) (ix2 i j) = normAt (sumAt (m (c, Proc.tc.devRef Cert.DownReferenceIdeal.main_arg0)) (m (c, Proc.tc.devRef Cert.DownReferenceIdeal.main_arg1)) (m (c, Proc.tc.devRef Cert.DownReferenceIdeal.main_arg2)) i) (fun j => m (c, Proc.tc.devRef Cert.DownReferenceIdeal.main_arg3) (ix1 j)) j)
      ∧ r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3) := by
  refine (θ_run Cert.DownReferenceIdeal.defs _ _).mono (fun r h c => ?_) (Cert.DownReferenceIdeal.Value.run m ρ)
  obtain ⟨h1, h2, h3⟩ := h c
  refine ⟨fun i j => ?_, fun i j => ?_, h3⟩
  · rw [h1]
    clear h h1 h2 h3
    pointwise
    rfl
  · rw [h2]
    clear h h1 h2 h3
    pointwise
    rfl

end Cert.Ffn.Down
-- ==== Proof.Ffn.Out.lean ====
module

public import proofs.«01_k».proof.Proof.Ffn.Norm
public import proofs.«01_k».proof.Proof.Gen.OutIdeal.Value
public import proofs.«01_k».proof.Proof.Gen.OutReferenceIdeal.Run
public import Idealize.ShloMosaic.Lib.Pipeline.ValueKit
public import Idealize.ShloMosaic.Lib.StableHlo.ReadAt
public import Idealize.ShloMosaic.Lib.Tactic.CleanTypes
public import Idealize.ShloMosaic.Lib.Pointwise

/-!
The first layer's projection back: the residual stream and its normalisation, the call's two arrays element by element, and the reference's.
-/

@[expose] public section

set_option maxRecDepth 16384

noncomputable section

namespace Cert.Ffn.Out

open Cert.OutIdeal Cert.OutIdeal.Gen Cert.OutIdeal.Value Idealize.ShloMosaic Idealize.ShloMosaic.TcCoe Idealize.SL.Sem

/-- The heads' outputs at row `i`, side by side: feature `k` is lane `k % 128` of head `k / 128`. -/
def sideAt (O : S16x49152x128.Idx → EReal) (i : Fin 49152) (k : Fin 2048) : EReal :=
  O (ix3 ⟨k.val / 128, by omega⟩ i ⟨k.val % 128, by omega⟩)

/-- The residual row of a token: what came in plus the product of the heads' outputs with the weights. -/
def headRow (x : Fin 2048 → EReal) (a : Fin 2048 → EReal) (w : Fin 2048 → Fin 2048 → EReal) (j : Fin 2048) : EReal :=
  x j + ∑ k, a k * w k j

/-- The residual stream at row `i`. -/
def sumAt (O : S16x49152x128.Idx → EReal) (W : S2048x2048.Idx → EReal) (X : S49152x2048.Idx → EReal) (i : Fin 49152) : Fin 2048 → EReal :=
  headRow (fun j => X (ix2 i j)) (sideAt O i) fun k j => W (ix2 k j)

variable (m : (ℓ : Loc nD τ sig) → Buf (Elt Ideal) ℓ)

theorem weight_apply (c : Dev nD) (k : Fin 2048) (j : Fin 2048) :
    V m c main_v0 (ix2 k j) = m (c, Proc.tc.devRef main_arg1) (ix2 k j) := by
  unfold V
  after_reads_at

theorem gain_apply (c : Dev nD) (j : Fin 2048) :
    V m c main_v1 (ix2 0 j) = m (c, Proc.tc.devRef main_arg3) (ix1 j) := by
  unfold V
  after_reads_at

/-- The payload of a head. -/
def headOf (o : Vec Ideal S16x512x128 .bf16) (h : Fin 16) : FVec Ideal S512x128 .bf16 := fun y => o (ix3 h (y 0) (y 1))

/-- One head's load, as the body reads it. -/
theorem head_eq (o : Vec Ideal S16x512x128 .bf16) (h : Fin 16) (inb : ∀ a, (![h.val, 0, 0] : Fin 3 → ℕ) a + S1x512x128.size a ≤ S16x512x128.size a) :
    shapeCast S512x128 (View.ld o (Rect.unit (s := S16x512x128) ![h.val, 0, 0] S1x512x128.size inb)) shapeCasts_S1x512x128_S512x128
      = headOf o h := by
  funext y
  have h0 : (y 0).val < 512 := (y 0).isLt
  have h1 : (y 1).val < 128 := (y 1).isLt
  refine (shapeCast_apply _ _ y (ix3 0 (y 0) (y 1) : S1x512x128.Idx) ?_).trans ?_
  · rw [Shape.rowMajor_val_two, Shape.rowMajor_val_three]
    show (0 * 512 + (y 0).val) * 128 + (y 1).val = (y 0).val * 128 + (y 1).val
    omega
  · refine congrArg o (funext fun a => Fin.ext ?_)
    match a with
    | 0 => show h.val + 1 * 0 = h.val; omega
    | 1 => show 0 + 1 * (y 0).val = (y 0).val; omega
    | 2 => show 0 + 1 * (y 1).val = (y 1).val; omega

/-- The sums that a grid point stores, from its blocks. -/
def sums (o : Vec Ideal S16x512x128 .bf16) (x : Vec Ideal S512x2048 .f32) (w : Vec Ideal S2048x2048 .bf16) : FVec Ideal S512x2048 .f32 :=
  k0_pay12 (k0_pay1 (View.ld o r0_0)) (k0_pay2 (View.ld o r0_1)) (k0_pay3 (View.ld o r0_2)) (k0_pay4 (View.ld o r0_3)) (k0_pay5 (View.ld o r0_4)) (k0_pay6 (View.ld o r0_5)) (k0_pay7 (View.ld o r0_6)) (k0_pay8 (View.ld o r0_7)) (k0_pay9 (View.ld o r0_8)) (k0_pay10 (View.ld o r0_9)) (k0_pay11 (View.ld o r0_10)) (View.ld o r0_11) (View.ld o r0_12) (View.ld o r0_13) (View.ld o r0_14) (View.ld o r0_15) x w

/-- The normalised rows. -/
def norms (o : Vec Ideal S16x512x128 .bf16) (x : Vec Ideal S512x2048 .f32) (w : Vec Ideal S2048x2048 .bf16) (g : Vec Ideal S1x2048 .f32) : FVec Ideal S512x2048 .bf16 :=
  k0_pay13 (k0_pay1 (View.ld o r0_0)) (k0_pay2 (View.ld o r0_1)) (k0_pay3 (View.ld o r0_2)) (k0_pay4 (View.ld o r0_3)) (k0_pay5 (View.ld o r0_4)) (k0_pay6 (View.ld o r0_5)) (k0_pay7 (View.ld o r0_6)) (k0_pay8 (View.ld o r0_7)) (k0_pay9 (View.ld o r0_8)) (k0_pay10 (View.ld o r0_9)) (k0_pay11 (View.ld o r0_10)) (View.ld o r0_11) (View.ld o r0_12) (View.ld o r0_13) (View.ld o r0_14) (View.ld o r0_15) x w g

/-- The heads side by side. -/
def side (o : Vec Ideal S16x512x128 .bf16) : FVec Ideal S512x2048 .bf16 := fun y => o (ix3 ⟨(y 1).val / 128, by have : (y 1).val < 2048 := (y 1).isLt; omega⟩ (y 0) ⟨(y 1).val % 128, by omega⟩)

/-- The concatenation of sixteen pieces is the pieces side by side. -/
theorem cat_eq (f : Fin 16 → FVec Ideal S512x128 .bf16) (j : S512x2048.Idx) :
    concatenate S512x2048 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩, ⟨S512x128, f 8⟩, ⟨S512x128, f 9⟩, ⟨S512x128, f 10⟩, ⟨S512x128, f 11⟩, ⟨S512x128, f 12⟩, ⟨S512x128, f 13⟩, ⟨S512x128, f 14⟩, ⟨S512x128, f 15⟩] concatenates_S512x128_S512x128_S512x128_S512x128_S512x128_S512x128_S512x128_S512x128_S512x128_S512x128_S512x128_S512x128_S512x128_S512x128_S512x128_S512x128_S512x2048_d1 j
      = f ⟨(j 1).val / 128, by have : (j 1).val < 2048 := (j 1).isLt; omega⟩ (ix2 (j 0) ⟨(j 1).val % 128, by omega⟩) := by
  refine concatenate_ofFn_apply (t := S512x2048) (s₁ := S512x128) 1 f concatenates_S512x128_S512x128_S512x128_S512x128_S512x128_S512x128_S512x128_S512x128_S512x128_S512x128_S512x128_S512x128_S512x128_S512x128_S512x128_S512x128_S512x2048_d1 rfl 128 rfl j _ rfl _ rfl ?_
  intro b hb
  match b with
  | 0 => rfl
  | 1 => exact absurd rfl hb

theorem side_eq (o : Vec Ideal S16x512x128 .bf16) :
    concatenate S512x2048 1 [⟨S512x128, k0_pay1 (View.ld o r0_0)⟩, ⟨S512x128, k0_pay2 (View.ld o r0_1)⟩, ⟨S512x128, k0_pay3 (View.ld o r0_2)⟩, ⟨S512x128, k0_pay4 (View.ld o r0_3)⟩, ⟨S512x128, k0_pay5 (View.ld o r0_4)⟩, ⟨S512x128, k0_pay6 (View.ld o r0_5)⟩, ⟨S512x128, k0_pay7 (View.ld o r0_6)⟩, ⟨S512x128, k0_pay8 (View.ld o r0_7)⟩, ⟨S512x128, k0_pay9 (View.ld o r0_8)⟩, ⟨S512x128, k0_pay10 (View.ld o r0_9)⟩, ⟨S512x128, k0_pay11 (View.ld o r0_10)⟩, ⟨S512x128, shapeCast S512x128 (View.ld o r0_11) shapeCasts_S1x512x128_S512x128⟩, ⟨S512x128, shapeCast S512x128 (View.ld o r0_12) shapeCasts_S1x512x128_S512x128⟩, ⟨S512x128, shapeCast S512x128 (View.ld o r0_13) shapeCasts_S1x512x128_S512x128⟩, ⟨S512x128, shapeCast S512x128 (View.ld o r0_14) shapeCasts_S1x512x128_S512x128⟩, ⟨S512x128, shapeCast S512x128 (View.ld o r0_15) shapeCasts_S1x512x128_S512x128⟩] concatenates_S512x128_S512x128_S512x128_S512x128_S512x128_S512x128_S512x128_S512x128_S512x128_S512x128_S512x128_S512x128_S512x128_S512x128_S512x128_S512x128_S512x2048_d1 = side o := by
  have e0 : k0_pay1 (View.ld o r0_0) = headOf o 0 := head_eq o 0 _
  have e1 : k0_pay2 (View.ld o r0_1) = headOf o 1 := head_eq o 1 _
  have e2 : k0_pay3 (View.ld o r0_2) = headOf o 2 := head_eq o 2 _
  have e3 : k0_pay4 (View.ld o r0_3) = headOf o 3 := head_eq o 3 _
  have e4 : k0_pay5 (View.ld o r0_4) = headOf o 4 := head_eq o 4 _
  have e5 : k0_pay6 (View.ld o r0_5) = headOf o 5 := head_eq o 5 _
  have e6 : k0_pay7 (View.ld o r0_6) = headOf o 6 := head_eq o 6 _
  have e7 : k0_pay8 (View.ld o r0_7) = headOf o 7 := head_eq o 7 _
  have e8 : k0_pay9 (View.ld o r0_8) = headOf o 8 := head_eq o 8 _
  have e9 : k0_pay10 (View.ld o r0_9) = headOf o 9 := head_eq o 9 _
  have e10 : k0_pay11 (View.ld o r0_10) = headOf o 10 := head_eq o 10 _
  have e11 : shapeCast S512x128 (View.ld o r0_11) shapeCasts_S1x512x128_S512x128 = headOf o 11 := head_eq o 11 _
  have e12 : shapeCast S512x128 (View.ld o r0_12) shapeCasts_S1x512x128_S512x128 = headOf o 12 := head_eq o 12 _
  have e13 : shapeCast S512x128 (View.ld o r0_13) shapeCasts_S1x512x128_S512x128 = headOf o 13 := head_eq o 13 _
  have e14 : shapeCast S512x128 (View.ld o r0_14) shapeCasts_S1x512x128_S512x128 = headOf o 14 := head_eq o 14 _
  have e15 : shapeCast S512x128 (View.ld o r0_15) shapeCasts_S1x512x128_S512x128 = headOf o 15 := head_eq o 15 _
  funext j
  rw [e0, e1, e2, e3, e4, e5, e6, e7, e8, e9, e10, e11, e12, e13, e14, e15, cat_eq (headOf o) j]
  rfl

/-- A row's sums over the heads side by side, as one product. -/
def product (a : FVec Ideal S512x2048 .bf16) (x : Vec Ideal S512x2048 .f32) (w : Vec Ideal S2048x2048 .bf16) : FVec Ideal S512x2048 .f32 :=
  addf x (matmul dot_S512x2048_S2048x2048_S512x2048_1_0_0_1_n_n none a (shapeCast S2048x2048 w shapeCasts_S2048x2048_S2048x2048 : FVec Ideal S2048x2048 .bf16) (constant S512x2048 .f32 0x00000000#32))

theorem product_apply (a : FVec Ideal S512x2048 .bf16) (x : Vec Ideal S512x2048 .f32) (w : Vec Ideal S2048x2048 .bf16) (i : Fin 512) (j : Fin 2048) :
    (product a x w (ix2 i j) : EReal) = headRow (fun j => x (ix2 i j)) (fun k => a (ix2 i k)) (fun k j => w (ix2 k j)) j := by
  unfold product
  pointwise
  rfl

theorem sums_eq (o : Vec Ideal S16x512x128 .bf16) (x : Vec Ideal S512x2048 .f32) (w : Vec Ideal S2048x2048 .bf16) :
    sums o x w = product (side o) x w := by
  unfold product
  rw [← side_eq]
  rfl

/-- One element of the sums. -/
theorem sum_apply (o : Vec Ideal S16x512x128 .bf16) (x : Vec Ideal S512x2048 .f32) (w : Vec Ideal S2048x2048 .bf16) (i : Fin 512) (j : Fin 2048) :
    (sums o x w (ix2 i j) : EReal) = headRow (fun j => x (ix2 i j)) (fun k => o (ix3 ⟨k.val / 128, by omega⟩ i ⟨k.val % 128, by omega⟩)) (fun k j => w (ix2 k j)) j := by
  rw [sums_eq, product_apply]
  rfl

/-- The normalised rows of an array of rows. -/
def scaled (y : FVec Ideal S512x2048 .f32) (g : Vec Ideal S1x2048 .f32) : FVec Ideal S512x2048 .bf16 :=
  truncf .bf16 (mulf (mulf y (broadcastTo S512x2048 (rsqrt (addf (divf (shapeCast S512x1
    (multiReduction .add [1] S512 (mulf y y) 0x00000000#32 reduces_S512x2048_S512 (.inl rfl) rfl) shapeCasts_S512_S512x1)
    (broadcast S512x1 (Scalar.ofBits .f32 0x45000000#32 : Ideal .f32))) (broadcast S512x1 (Scalar.ofBits .f32 0x358637BD#32 : Ideal .f32))))
    broadcasts_S512x1_S512x2048)) (broadcastTo S512x2048 (shapeCast S1x2048 g shapeCasts_S1x2048_S1x2048 : FVec Ideal S1x2048 .f32) broadcasts_S1x2048_S512x2048))
    bitsLt_bf16_f32

theorem scaled_apply (y : FVec Ideal S512x2048 .f32) (g : Vec Ideal S1x2048 .f32) (i : Fin 512) (j : Fin 2048) :
    (scaled y g (ix2 i j) : EReal) = normAt (fun j => y (ix2 i j)) (fun j => g (ix2 0 j)) j := by
  unfold scaled
  pointwise
  rfl

theorem norms_eq (o : Vec Ideal S16x512x128 .bf16) (x : Vec Ideal S512x2048 .f32) (w : Vec Ideal S2048x2048 .bf16) (g : Vec Ideal S1x2048 .f32) :
    norms o x w g = scaled (sums o x w) g := rfl

/-- One element of the normalised rows. -/
theorem norm_apply (o : Vec Ideal S16x512x128 .bf16) (x : Vec Ideal S512x2048 .f32) (w : Vec Ideal S2048x2048 .bf16) (g : Vec Ideal S1x2048 .f32)
    (i : Fin 512) (j : Fin 2048) :
    (norms o x w g (ix2 i j) : EReal)
      = normAt (headRow (fun j => x (ix2 i j)) (fun k => o (ix3 ⟨k.val / 128, by omega⟩ i ⟨k.val % 128, by omega⟩)) fun k j => w (ix2 k j))
        (fun j => g (ix2 0 j)) j := by
  rw [norms_eq, scaled_apply]
  simp only [sum_apply]

theorem out4_eq (o : Vec Ideal S16x512x128 .bf16) (w : Vec Ideal S2048x2048 .bf16) (x : Vec Ideal S512x2048 .f32) (g : Vec Ideal S1x2048 .f32) :
    out0_4 o w x g = sums o x w := by
  have ex : View.ld x r0_16 = x := View.ld_unit_zero (funext fun a => by match a with | 0 => rfl | 1 => rfl) _ x
  have ew : View.ld w r0_17 = w := View.ld_unit_zero (funext fun a => by match a with | 0 => rfl | 1 => rfl) _ w
  unfold_out out0_4
  rw [ex, ew]
  unfold sums
  frame_out

theorem out5_eq (o : Vec Ideal S16x512x128 .bf16) (w : Vec Ideal S2048x2048 .bf16) (x : Vec Ideal S512x2048 .f32) (g : Vec Ideal S1x2048 .f32) :
    out0_5 o w x g = norms o x w g := by
  have ex : View.ld x r0_16 = x := View.ld_unit_zero (funext fun a => by match a with | 0 => rfl | 1 => rfl) _ x
  have ew : View.ld w r0_17 = w := View.ld_unit_zero (funext fun a => by match a with | 0 => rfl | 1 => rfl) _ w
  have eg : View.ld g r0_18 = g := View.ld_unit_zero (funext fun a => by match a with | 0 => rfl | 1 => rfl) _ g
  unfold_out out0_5
  rw [ex, ew, eg]
  unfold norms
  frame_out

theorem idx0 : ∀ t : Fin cfg0.N, ∀ a, (cfg0.win 0).index t a = ![0, t.val, 0] a := by decide +kernel
theorem idx1 : ∀ t : Fin cfg0.N, ∀ a, (cfg0.win 1).index t a = ![0, 0] a := by decide +kernel
theorem idx2 : ∀ t : Fin cfg0.N, ∀ a, (cfg0.win 2).index t a = ![t.val, 0] a := by decide +kernel
theorem idx3 : ∀ t : Fin cfg0.N, ∀ a, (cfg0.win 3).index t a = ![0, 0] a := by decide +kernel
theorem idx4 : ∀ t : Fin cfg0.N, ∀ a, (cfg0.win 4).index t a = ![t.val, 0] a := by decide +kernel

theorem idx5 : ∀ t : Fin cfg0.N, ∀ a, (cfg0.win 5).index t a = ![t.val, 0] a := by decide +kernel

theorem point_lt (t : Fin cfg0.N) : t.val < 96 := t.isLt

/-- The row of the whole array that is row `i` of block `t`. -/
def rowOf (t : Fin cfg0.N) (i : Fin 512) : Fin 49152 := ⟨512 * t.val + i.val, by have := point_lt t; omega⟩

theorem blk0 (c : Dev nD) (t : Fin cfg0.N) (h : Fin 16) (i : Fin 512) (e : Fin 128) :
    iblk m c 0 t (ix3 h i e) = m (c, Proc.tc.devRef main_arg0) (ix3 h (rowOf t i) e) := by
  refine Eq.trans (b := V m c main_arg0 ((win0_0.blk t).view.emb (ix3 h i e))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show 0 * 16 + h.val = h.val; omega
  | 1 => show t.val * 512 + i.val = 512 * t.val + i.val; omega
  | 2 => show 0 * 128 + e.val = e.val; omega

theorem blk1 (c : Dev nD) (t : Fin cfg0.N) (k : Fin 2048) (j : Fin 2048) :
    iblk m c 1 t (ix2 k j) = m (c, Proc.tc.devRef main_arg1) (ix2 k j) := by
  refine Eq.trans (b := V m c main_v0 ((win0_1.blk t).view.emb (ix2 k j))) (by rfl) ?_
  rw [← weight_apply m c]
  refine congrArg (V m c main_v0) (funext fun a => Fin.ext ((win0_1.rect_emb_val t _ a).trans ?_))
  rw [show win0_1.index t a = _ from idx1 t a]
  match a with
  | 0 => show 0 * 2048 + k.val = k.val; omega
  | 1 => show 0 * 2048 + j.val = j.val; omega

theorem blk2 (c : Dev nD) (t : Fin cfg0.N) (i : Fin 512) (j : Fin 2048) :
    iblk m c 2 t (ix2 i j) = m (c, Proc.tc.devRef main_arg2) (ix2 (rowOf t i) j) := by
  refine Eq.trans (b := V m c main_arg2 ((win0_2.blk t).view.emb (ix2 i j))) (by rfl) ?_
  rw [V_main_arg2]
  refine congrArg (m (c, Proc.tc.devRef main_arg2)) (funext fun a => Fin.ext ((win0_2.rect_emb_val t _ a).trans ?_))
  rw [show win0_2.index t a = _ from idx2 t a]
  match a with
  | 0 => show t.val * 512 + i.val = 512 * t.val + i.val; omega
  | 1 => show 0 * 2048 + j.val = j.val; omega

theorem blk3 (c : Dev nD) (t : Fin cfg0.N) (j : Fin 2048) :
    iblk m c 3 t (ix2 0 j) = m (c, Proc.tc.devRef main_arg3) (ix1 j) := by
  refine Eq.trans (b := V m c main_v1 ((win0_3.blk t).view.emb (ix2 0 j))) (by rfl) ?_
  rw [← gain_apply m c]
  refine congrArg (V m c main_v1) (funext fun a => Fin.ext ((win0_3.rect_emb_val t _ a).trans ?_))
  rw [show win0_3.index t a = _ from idx3 t a]
  match a with
  | 0 => rfl
  | 1 => show 0 * 2048 + j.val = j.val; omega

/-- The residual stream that the call leaves. -/
def sumArr (c : Dev nD) : S49152x2048.Idx → EReal := fun y =>
  sumAt (m (c, Proc.tc.devRef main_arg0)) (m (c, Proc.tc.devRef main_arg1)) (m (c, Proc.tc.devRef main_arg2)) (y 0) (y 1)

/-- Its normalisation. -/
def normArr (c : Dev nD) : S49152x2048.Idx → EReal := fun y =>
  normAt (sumAt (m (c, Proc.tc.devRef main_arg0)) (m (c, Proc.tc.devRef main_arg1)) (m (c, Proc.tc.devRef main_arg2)) (y 0))
    (fun j => m (c, Proc.tc.devRef main_arg3) (ix1 j)) (y 1)

theorem sum_eq (c : Dev nD) : (dats m 0 c).arrAt 4 cfg0.N = sumArr m c := by
  refine (dats m 0 c).arrAt_eq_of_covers 4 _ (by decide +kernel) fun t hf y => ?_
  blk_simp
  rw [after0_4, out4_eq]
  have e : ∀ a, (((View.whole main_v2_0).slice (win0_4.rect t)).emb y a : ℕ) = ![t.val, 0] a * ![512, 2048] a + (y a : ℕ) := by
    intro a
    refine (win0_4.rect_emb_val t y a).trans ?_
    rw [show win0_4.index t a = _ from idx4 t a]
  obtain ⟨i, j, rfl⟩ : ∃ (i : Fin 512) (j : Fin 2048), y = (ix2 i j : S512x2048.Idx) :=
    ⟨y 0, y 1, funext fun a => by match a with | 0 => rfl | 1 => rfl⟩
  refine (sum_apply _ _ _ i j).trans ?_
  simp only [blk0, blk1, blk2]
  unfold sumArr sumAt sideAt
  have e0 : ((View.whole main_v2_0).slice (win0_4.rect t)).emb (ix2 i j) 0 = rowOf t i :=
    Fin.ext ((e 0).trans (by show t.val * 512 + i.val = 512 * t.val + i.val; omega))
  have e1 : ((View.whole main_v2_0).slice (win0_4.rect t)).emb (ix2 i j) 1 = j :=
    Fin.ext ((e 1).trans (by show 0 * 2048 + j.val = j.val; omega))
  rw [e0, e1]

theorem norm_eq (c : Dev nD) : (dats m 0 c).arrAt 5 cfg0.N = normArr m c := by
  refine (dats m 0 c).arrAt_eq_of_covers 5 _ (by decide +kernel) fun t hf y => ?_
  blk_simp
  rw [after0_5, out5_eq]
  have e : ∀ a, (((View.whole main_v2_1).slice (win0_5.rect t)).emb y a : ℕ) = ![t.val, 0] a * ![512, 2048] a + (y a : ℕ) := by
    intro a
    refine (win0_5.rect_emb_val t y a).trans ?_
    rw [show win0_5.index t a = _ from idx5 t a]
  obtain ⟨i, j, rfl⟩ : ∃ (i : Fin 512) (j : Fin 2048), y = (ix2 i j : S512x2048.Idx) :=
    ⟨y 0, y 1, funext fun a => by match a with | 0 => rfl | 1 => rfl⟩
  refine (norm_apply _ _ _ _ i j).trans ?_
  simp only [blk0, blk1, blk2, blk3]
  unfold normArr sumAt sideAt
  have e0 : ((View.whole main_v2_1).slice (win0_5.rect t)).emb (ix2 i j) 0 = rowOf t i :=
    Fin.ext ((e 0).trans (by show t.val * 512 + i.val = 512 * t.val + i.val; omega))
  have e1 : ((View.whole main_v2_1).slice (win0_5.rect t)).emb (ix2 i j) 1 = j :=
    Fin.ext ((e 1).trans (by show 0 * 2048 + j.val = j.val; omega))
  rw [e0, e1]

end Cert.Ffn.Out
-- ==== Proof.Ffn.OutRef.lean ====
module

public import proofs.«01_k».proof.Proof.Ffn.Out
public import proofs.«01_k».proof.Proof.Gen.OutReferenceIdeal.Run

/-!
The reference of the attention's projection back, read element by element.
-/

@[expose] public section

set_option maxRecDepth 16384

noncomputable section

namespace Cert.Ffn.Out.Ref

open Cert.OutReferenceIdeal Cert.OutReferenceIdeal.Gen Idealize.ShloMosaic Idealize.ShloMosaic.TcCoe Idealize.SL.Sem Idealize.ShloMosaic.StableHlo

/-- The reference's run, with its two results read element by element. -/
theorem ref_run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
      (∀ i j, r.2.mem ((c.tc : Thread nD τ).loc main_v4) (ix2 i j) = sumAt (m (c, Proc.tc.devRef main_arg0)) (m (c, Proc.tc.devRef main_arg1)) (m (c, Proc.tc.devRef main_arg2)) i j)
      ∧ (∀ i j, r.2.mem ((c.tc : Thread nD τ).loc main_v18) (ix2 i j) = normAt (sumAt (m (c, Proc.tc.devRef main_arg0)) (m (c, Proc.tc.devRef main_arg1)) (m (c, Proc.tc.devRef main_arg2)) i) (fun j => m (c, Proc.tc.devRef main_arg3) (ix1 j)) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h1, h2, h3⟩ := h c
  refine ⟨fun i j => ?_, fun i j => ?_, h3⟩
  · rw [h1]
    clear h h1 h2 h3
    pointwise
    rfl
  · rw [h2]
    clear h h1 h2 h3
    pointwise
    rfl

end Cert.Ffn.Out.Ref
-- ==== Proof.Ffn.Qkv.lean ====
module

public import proofs.«01_k».proof.Proof.Na.Attention
public import proofs.«01_k».proof.Proof.Gen.QkvIdeal.Value
public import Idealize.ShloMosaic.Lib.Pipeline.ValueKit
public import Idealize.ShloMosaic.Lib.StableHlo.ReadAt
public import Idealize.ShloMosaic.Lib.Tactic.CleanTypes
public import Idealize.ShloMosaic.Lib.Pointwise

/-!
The projection to the neighbourhood attention's queries, keys and values: the call's array element by element, and the
reference's.
-/

@[expose] public section

set_option maxRecDepth 16384

noncomputable section

namespace Cert.Qkv

open Cert.QkvIdeal Cert.QkvIdeal.Gen Cert.QkvIdeal.Value Idealize.ShloMosaic Idealize.ShloMosaic.TcCoe Idealize.SL.Sem

/-- The projection of token `r` at column `n`: the product of its features with the weights, plus the bias. -/
def projAt (H : S49152x2048.Idx → EReal) (W : S2048x6144.Idx → EReal) (b : S6144.Idx → EReal) (r : Fin 49152) (n : Fin 6144) : EReal :=
  (∑ k : Fin 2048, H (ix2 r k) * W (ix2 k n)) + b (ix1 n)

/-- The factor of a column: the queries' scale, or one. -/
def factor (n : Fin 6144) : EReal :=
  if n.val < 2048 then Ideal.div Cert.Na.log2e (Ideal.sqrt (Ideal.ofBits .f32 1124073472#32)) else 1

/-- The column of lane `e` of head `g`. -/
def colOf (g : Fin 48) (e : Fin 128) : Fin 6144 := ⟨g.val * 128 + e.val, by omega⟩

variable (m : (ℓ : Loc nD τ sig) → Buf (Elt Ideal) ℓ)

theorem weight_apply (c : Dev nD) (k : Fin 2048) (n : Fin 6144) :
    V m c main_v7 (ix2 k n) = m (c, Proc.tc.devRef main_arg1) (ix2 k n) := by
  unfold V
  after_reads_at

theorem bias_apply (c : Dev nD) (n : Fin 6144) : V m c main_v8 (ix2 0 n) = m (c, Proc.tc.devRef main_arg2) (ix1 n) := by
  unfold V
  after_reads_at

theorem factor_apply (c : Dev nD) (n : Fin 6144) : V m c main_v9 (ix2 0 n) = factor n := by
  unfold V
  after_reads_at
  after_reads_at
  rfl

/-- One element of the scaled projection of a grid point. -/
theorem pay_apply (h : Vec Ideal S1024x2048 .bf16) (w : Vec Ideal S2048x1024 .bf16) (b s : Vec Ideal S1x1024 .f32)
    (i : Fin 1024) (j : Fin 1024) :
    (k0_pay5 h w b s (ix2 i j) : EReal)
      = ((∑ k : Fin 2048, (h (ix2 i k) : EReal) * w (ix2 k j)) + b (ix2 0 j)) * s (ix2 0 j) := by
  pointwise [k0_pay5]

theorem idx0 : ∀ t : Fin cfg0.N, ∀ a, (cfg0.win 0).index t a = ![t.val / 6, 0] a := by decide +kernel
theorem idx1 : ∀ t : Fin cfg0.N, ∀ a, (cfg0.win 1).index t a = ![0, t.val % 6] a := by decide +kernel
theorem idx2 : ∀ t : Fin cfg0.N, ∀ a, (cfg0.win 2).index t a = ![0, t.val % 6] a := by decide +kernel
theorem idx3 : ∀ t : Fin cfg0.N, ∀ a, (cfg0.win 3).index t a = ![0, t.val % 6] a := by decide +kernel
theorem idx4 : ∀ t : Fin cfg0.N, ∀ a, (cfg0.win 4).index t a = ![t.val % 6, t.val / 6, 0] a := by decide +kernel

theorem point_lt (t : Fin cfg0.N) : t.val < 288 := t.isLt

/-- The token that is row `i` of grid point `t`'s block. -/
def rowOf (t : Fin cfg0.N) (i : Fin 1024) : Fin 49152 := ⟨1024 * (t.val / 6) + i.val, by have := point_lt t; omega⟩

/-- The column that is column `j` of its block. -/
def blkCol (t : Fin cfg0.N) (j : Fin 1024) : Fin 6144 := ⟨1024 * (t.val % 6) + j.val, by omega⟩

theorem blk0 (c : Dev nD) (t : Fin cfg0.N) (i : Fin 1024) (k : Fin 2048) :
    iblk m c 0 t (ix2 i k) = m (c, Proc.tc.devRef main_arg0) (ix2 (rowOf t i) k) := by
  refine Eq.trans (b := V m c main_arg0 ((win0_0.blk t).view.emb (ix2 i k))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show t.val / 6 * 1024 + i.val = 1024 * (t.val / 6) + i.val; omega
  | 1 => show 0 * 2048 + k.val = k.val; omega

theorem blk1 (c : Dev nD) (t : Fin cfg0.N) (k : Fin 2048) (j : Fin 1024) :
    iblk m c 1 t (ix2 k j) = m (c, Proc.tc.devRef main_arg1) (ix2 k (blkCol t j)) := by
  refine Eq.trans (b := V m c main_v7 ((win0_1.blk t).view.emb (ix2 k j))) (by rfl) ?_
  rw [← weight_apply m c]
  refine congrArg (V m c main_v7) (funext fun a => Fin.ext ((win0_1.rect_emb_val t _ a).trans ?_))
  rw [show win0_1.index t a = _ from idx1 t a]
  match a with
  | 0 => show 0 * 2048 + k.val = k.val; omega
  | 1 => show t.val % 6 * 1024 + j.val = 1024 * (t.val % 6) + j.val; omega

theorem blk2 (c : Dev nD) (t : Fin cfg0.N) (j : Fin 1024) :
    iblk m c 2 t (ix2 0 j) = m (c, Proc.tc.devRef main_arg2) (ix1 (blkCol t j)) := by
  refine Eq.trans (b := V m c main_v8 ((win0_2.blk t).view.emb (ix2 0 j))) (by rfl) ?_
  rw [← bias_apply m c]
  refine congrArg (V m c main_v8) (funext fun a => Fin.ext ((win0_2.rect_emb_val t _ a).trans ?_))
  rw [show win0_2.index t a = _ from idx2 t a]
  match a with
  | 0 => rfl
  | 1 => show t.val % 6 * 1024 + j.val = 1024 * (t.val % 6) + j.val; omega

theorem blk3 (c : Dev nD) (t : Fin cfg0.N) (j : Fin 1024) : iblk m c 3 t (ix2 0 j) = factor (blkCol t j) := by
  refine Eq.trans (b := V m c main_v9 ((win0_3.blk t).view.emb (ix2 0 j))) (by rfl) ?_
  rw [← factor_apply m c]
  refine congrArg (V m c main_v9) (funext fun a => Fin.ext ((win0_3.rect_emb_val t _ a).trans ?_))
  rw [show win0_3.index t a = _ from idx3 t a]
  match a with
  | 0 => rfl
  | 1 => show t.val % 6 * 1024 + j.val = 1024 * (t.val % 6) + j.val; omega

/-- The array the call leaves. -/
def outArr (c : Dev nD) : S48x49152x128.Idx → EReal := fun y =>
  projAt (m (c, Proc.tc.devRef main_arg0)) (m (c, Proc.tc.devRef main_arg1)) (m (c, Proc.tc.devRef main_arg2)) (y 1)
    (colOf (y 0) (y 2)) * factor (colOf (y 0) (y 2))

/-- One element of what a grid point leaves in its block. -/
theorem block_apply (h : Vec Ideal S1024x2048 .bf16) (w : Vec Ideal S2048x1024 .bf16) (b s : Vec Ideal S1x1024 .f32)
    (g : Fin 8) (i : Fin 1024) (e : Fin 128) :
    (out0_4 h w b s (ix3 g i e) : EReal)
      = ((∑ k : Fin 2048, (h (ix2 i k) : EReal) * w (ix2 k ⟨g.val * 128 + e.val, by omega⟩)) + b (ix2 0 ⟨g.val * 128 + e.val, by omega⟩))
        * s (ix2 0 ⟨g.val * 128 + e.val, by omega⟩) := by
  have e0 : View.ld h r0_0 = h := View.ld_unit_zero (funext fun a => by match a with | 0 => rfl | 1 => rfl) _ h
  have e1 : View.ld w r0_1 = w := View.ld_unit_zero (funext fun a => by match a with | 0 => rfl | 1 => rfl) _ w
  have e2 : View.ld b r0_2 = b := View.ld_unit_zero (funext fun a => by match a with | 0 => rfl | 1 => rfl) _ b
  have e3 : View.ld s r0_2 = s := View.ld_unit_zero (funext fun a => by match a with | 0 => rfl | 1 => rfl) _ s
  have hE : E4 h w b s (ix3 g i e) = k0_pay5 h w b s (ix2 i ⟨g.val * 128 + e.val, by omega⟩) :=
    congrArg (k0_pay5 h w b s) (funext fun a => by match a with | 0 => rfl | 1 => rfl)
  refine Eq.trans ?_ (pay_apply h w b s i ⟨g.val * 128 + e.val, by omega⟩)
  refine Eq.trans ?_ hE
  refine Eq.trans ?_ (canon4_eq h w b s (ix3 g i e))
  unfold_out out0_4
  rw [e0, e1, e2, e3]

theorem arr_eq (c : Dev nD) : (dats m 0 c).arrAt 4 cfg0.N = outArr m c := by
  refine (dats m 0 c).arrAt_eq_of_covers 4 _ (by decide +kernel) fun t hf y => ?_
  blk_simp
  rw [after0_4]
  have h := point_lt t
  have e : ∀ a, (((View.whole main_v10).slice (win0_4.rect t)).emb y a : ℕ) = ![t.val % 6, t.val / 6, 0] a * ![8, 1024, 128] a + (y a : ℕ) := by
    intro a
    refine (win0_4.rect_emb_val t y a).trans ?_
    rw [show win0_4.index t a = _ from idx4 t a]
  obtain ⟨g, i, l, rfl⟩ : ∃ (g : Fin 8) (i : Fin 1024) (l : Fin 128), y = (ix3 g i l : S8x1024x128.Idx) :=
    ⟨y 0, y 1, y 2, funext fun a => by match a with | 0 => rfl | 1 => rfl | 2 => rfl⟩
  refine (block_apply _ _ _ _ g i l).trans ?_
  simp only [blk0, blk1, blk2, blk3]
  unfold outArr projAt
  have e1 : ((View.whole main_v10).slice (win0_4.rect t)).emb (ix3 g i l) 1 = rowOf t i :=
    Fin.ext ((e 1).trans (by show t.val / 6 * 1024 + i.val = 1024 * (t.val / 6) + i.val; omega))
  have e2 : colOf (((View.whole main_v10).slice (win0_4.rect t)).emb (ix3 g i l) 0)
      (((View.whole main_v10).slice (win0_4.rect t)).emb (ix3 g i l) 2) = blkCol t ⟨g.val * 128 + l.val, by omega⟩ := by
    refine Fin.ext ?_
    show (((View.whole main_v10).slice (win0_4.rect t)).emb (ix3 g i l) 0 : ℕ) * 128
      + (((View.whole main_v10).slice (win0_4.rect t)).emb (ix3 g i l) 2 : ℕ) = 1024 * (t.val % 6) + (g.val * 128 + l.val)
    rw [e 0, e 2]
    show (t.val % 6 * 8 + g.val) * 128 + (0 * 128 + l.val) = _
    omega
  rw [e1, e2]

/-- The projection as the reference leaves it: the queries divided by the root of the head's width times the logarithm of two. -/
def refAt (H : S49152x2048.Idx → EReal) (W : S2048x6144.Idx → EReal) (b : S6144.Idx → EReal) (r : Fin 49152) (n : Fin 6144) : EReal :=
  if n.val < 2048 then
    Ideal.div (projAt H W b r n) (Ideal.sqrt (Ideal.ofBits .f32 1124073472#32) * Ideal.log (Ideal.ofBits .f32 1073741824#32))
  else projAt H W b r n

/-- The two agree, for any projection, finite or not. -/
theorem refAt_eq (H : S49152x2048.Idx → EReal) (W : S2048x6144.Idx → EReal) (b : S6144.Idx → EReal) (r : Fin 49152) (n : Fin 6144) :
    refAt H W b r n = projAt H W b r n * factor n := by
  unfold refAt factor
  split
  · have h2 : Ideal.ofBits .f32 1073741824#32 = ((2 : ℝ) : EReal) := by
      simp [Ideal.ofBits, Ideal.ieee, -EReal.coe_mul]
      norm_num
    have hl : Real.log 2 ≠ 0 := (Real.log_pos (by norm_num)).ne'
    rw [Cert.Na.log2e_eq, Cert.Na.root_eq, h2, Ideal.log_coe, if_neg (by norm_num), ← EReal.coe_mul,
      Ideal.div_coe (mul_ne_zero Cert.Na.root_ne hl), Ideal.div_coe Cert.Na.root_ne, ← EReal.coe_mul]
    congr 2
    unfold Cert.Na.lg
    have := Cert.Na.root_ne
    field_simp
  · rw [mul_one]

end Cert.Qkv
-- ==== Proof.Ffn.QkvRef.lean ====
module

public import proofs.«01_k».proof.Proof.Ffn.Qkv
public import proofs.«01_k».proof.Proof.Gen.QkvReferenceIdeal.Run

/-!
The reference of the projection to the neighbourhood attention's queries, keys and values, read element by element.
-/

@[expose] public section

set_option maxRecDepth 16384

noncomputable section

namespace Cert.Qkv.Ref

open Cert.QkvReferenceIdeal Cert.QkvReferenceIdeal.Gen Idealize.ShloMosaic Idealize.ShloMosaic.TcCoe Idealize.SL.Sem Idealize.ShloMosaic.StableHlo

/-- The projection with its columns split into three parts of sixteen heads. -/
def split (H : FVec Ideal S49152x2048 .bf16) (W : FVec Ideal S2048x6144 .f32) (b : FVec Ideal S6144 .f32) : FVec Ideal S49152x3x16x128 .f32 :=
  shapeCast _ (addf (Host.dotGeneral dot_S49152x2048_S2048x6144_S49152x6144_1_0_0_1_n_n none (extf .f32 H bitsLt_bf16_f32) W)
    (broadcastInDim S49152x6144 ![0, 1] bcast_S1x6144_S49152x6144_0_1 (broadcastInDim S1x6144 ![1] bcast_S6144_S1x6144_1 b)))
    shapeCasts_S49152x6144_S49152x3x16x128

theorem split_apply (H : FVec Ideal S49152x2048 .bf16) (W : FVec Ideal S2048x6144 .f32) (b : FVec Ideal S6144 .f32)
    (i : Fin 49152) (p : Fin 3) (h : Fin 16) (e : Fin 128) :
    (split H W b (ix4 i p h e) : EReal) = projAt H W b i ⟨p.val * 2048 + h.val * 128 + e.val, by omega⟩ := by
  unfold split
  pointwise
  rfl

/-- The unit the queries are divided by. -/
def unit : FVec Ideal S_ .f32 := mulf (Host.sqrt (constant S_ .f32 0x43000000#32)) (Host.log (constant S_ .f32 0x40000000#32))

/-- The queries, divided. -/
def query (Y : FVec Ideal S49152x3x16x128 .f32) (u : FVec Ideal S_ .f32) : FVec Ideal S49152x16x128 .f32 :=
  Host.divf (shapeCast _ (extractStridedSlice S49152x1x16x128 ![0, 0, 0, 0] Y slices_S49152x3x16x128_S49152x1x16x128_0_0_0_0)
    shapeCasts_S49152x1x16x128_S49152x16x128) (broadcastInDim S49152x16x128 ![] bcast_S_S49152x16x128 u)

/-- The keys. -/
def key (Y : FVec Ideal S49152x3x16x128 .f32) : FVec Ideal S49152x16x128 .f32 :=
  shapeCast _ (extractStridedSlice S49152x1x16x128 ![0, 1, 0, 0] Y slices_S49152x3x16x128_S49152x1x16x128_0_1_0_0)
    shapeCasts_S49152x1x16x128_S49152x16x128

/-- The values. -/
def value (Y : FVec Ideal S49152x3x16x128 .f32) : FVec Ideal S49152x16x128 .f32 :=
  shapeCast _ (extractStridedSlice S49152x1x16x128 ![0, 2, 0, 0] Y slices_S49152x3x16x128_S49152x1x16x128_0_2_0_0)
    shapeCasts_S49152x1x16x128_S49152x16x128

theorem query_apply (Y : FVec Ideal S49152x3x16x128 .f32) (i : Fin 49152) (h : Fin 16) (e : Fin 128) :
    (query Y unit (ix3 i h e) : EReal) = Ideal.div (Y (ix4 i 0 h e))
      (Ideal.sqrt (Ideal.ofBits .f32 1124073472#32) * Ideal.log (Ideal.ofBits .f32 1073741824#32)) := by
  unfold query unit
  pointwise

theorem key_apply (Y : FVec Ideal S49152x3x16x128 .f32) (i : Fin 49152) (h : Fin 16) (e : Fin 128) :
    key Y (ix3 i h e) = Y (ix4 i 1 h e) := by
  unfold key
  pointwise

theorem value_apply (Y : FVec Ideal S49152x3x16x128 .f32) (i : Fin 49152) (h : Fin 16) (e : Fin 128) :
    value Y (ix3 i h e) = Y (ix4 i 2 h e) := by
  unfold value
  pointwise

/-- The three parts stacked, head by head. -/
def stack (q k v : FVec Ideal S49152x16x128 .f32) : FVec Ideal S3x49152x16x128 .f32 :=
  concatenate S3x49152x16x128 0 [⟨S1x49152x16x128, (broadcastInDim S1x49152x16x128 ![1, 2, 3] bcast_S49152x16x128_S1x49152x16x128_1_2_3 q : FVec Ideal S1x49152x16x128 .f32)⟩,
    ⟨S1x49152x16x128, (broadcastInDim S1x49152x16x128 ![1, 2, 3] bcast_S49152x16x128_S1x49152x16x128_1_2_3 k : FVec Ideal S1x49152x16x128 .f32)⟩,
    ⟨S1x49152x16x128, (broadcastInDim S1x49152x16x128 ![1, 2, 3] bcast_S49152x16x128_S1x49152x16x128_1_2_3 v : FVec Ideal S1x49152x16x128 .f32)⟩]
    concatenates_S1x49152x16x128_S1x49152x16x128_S1x49152x16x128_S3x49152x16x128_d0

theorem stack_apply (q k v : FVec Ideal S49152x16x128 .f32) (p : Fin 3) (i : Fin 49152) (h : Fin 16) (e : Fin 128) :
    stack q k v (ix4 p i h e) = if p.val = 0 then q (ix3 i h e) else if p.val = 1 then k (ix3 i h e) else v (ix3 i h e) := by
  fin_cases p
  · unfold stack
    pointwise
  · unfold stack
    pointwise
  · unfold stack
    pointwise

/-- The stack with its heads first. -/
def heads (Z : FVec Ideal S3x49152x16x128 .f32) : FVec Ideal S48x49152x128 .bf16 :=
  truncf .bf16 (shapeCast _ (transpose S3x16x49152x128 [0, 2, 1, 3] Z transposes_S3x49152x16x128_S3x16x49152x128_0_2_1_3)
    shapeCasts_S3x16x49152x128_S48x49152x128) bitsLt_bf16_f32

theorem heads_apply (Z : FVec Ideal S3x49152x16x128 .f32) (g : Fin 48) (i : Fin 49152) (e : Fin 128) :
    (heads Z (ix3 g i e) : EReal) = Z (ix4 ⟨g.val / 16, by omega⟩ i ⟨g.val % 16, by omega⟩ e) := by
  unfold heads
  pointwise

/-- The column that each part reads. -/
theorem column (f : Fin 6144 → EReal) (u : EReal) (g : Fin 48) (e : Fin 128) :
    (if g.val / 16 = 0 then Ideal.div (f ⟨(0 : Fin 3).val * 2048 + g.val % 16 * 128 + e.val, by simp only [Fin.val_zero]; omega⟩) u
      else if g.val / 16 = 1 then f ⟨(1 : Fin 3).val * 2048 + g.val % 16 * 128 + e.val, by simp only [Fin.val_one]; omega⟩
      else f ⟨(2 : Fin 3).val * 2048 + g.val % 16 * 128 + e.val, by simp only [Fin.val_two]; omega⟩)
      = if (colOf g e).val < 2048 then Ideal.div (f (colOf g e)) u else f (colOf g e) := by
  by_cases h0 : g.val / 16 = 0
  · rw [if_pos h0, if_pos (by show g.val * 128 + e.val < 2048; omega)]
    refine congrArg (fun n => Ideal.div (f n) u) (Fin.ext ?_)
    show 0 * 2048 + g.val % 16 * 128 + e.val = g.val * 128 + e.val
    omega
  · have hn : ¬ (colOf g e).val < 2048 := by show ¬ g.val * 128 + e.val < 2048; omega
    rw [if_neg h0, if_neg hn]
    by_cases h1 : g.val / 16 = 1
    · rw [if_pos h1]
      refine congrArg f (Fin.ext ?_)
      show 1 * 2048 + g.val % 16 * 128 + e.val = g.val * 128 + e.val
      omega
    · rw [if_neg h1]
      refine congrArg f (Fin.ext ?_)
      show 2 * 2048 + g.val % 16 * 128 + e.val = g.val * 128 + e.val
      omega

/-- The reference's result, element by element. -/
theorem result_apply (H : FVec Ideal S49152x2048 .bf16) (W : FVec Ideal S2048x6144 .f32) (b : FVec Ideal S6144 .f32)
    (g : Fin 48) (i : Fin 49152) (e : Fin 128) :
    (heads (stack (query (split H W b) unit) (key (split H W b)) (value (split H W b))) (ix3 g i e) : EReal) = refAt H W b i (colOf g e) := by
  rw [heads_apply, stack_apply, query_apply, key_apply, value_apply, split_apply, split_apply, split_apply]
  exact column (projAt H W b i) _ g e

/-- The reference's run, with its result read element by element. -/
theorem ref_run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
      (∀ g i e, r.2.mem ((c.tc : Thread nD τ).loc main_v23) (ix3 g i e) = refAt (m (c, Proc.tc.devRef main_arg0)) (m (c, Proc.tc.devRef main_arg1)) (m (c, Proc.tc.devRef main_arg2)) i (colOf g e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2⟩ := h c
  refine ⟨fun g i e => (congrFun h1 (ix3 g i e)).trans ?_, h2⟩
  refine Eq.trans (b := heads (stack (query (split (m (c, Proc.tc.devRef main_arg0)) (m (c, Proc.tc.devRef main_arg1)) (m (c, Proc.tc.devRef main_arg2))) unit)
    (key (split (m (c, Proc.tc.devRef main_arg0)) (m (c, Proc.tc.devRef main_arg1)) (m (c, Proc.tc.devRef main_arg2))))
    (value (split (m (c, Proc.tc.devRef main_arg0)) (m (c, Proc.tc.devRef main_arg1)) (m (c, Proc.tc.devRef main_arg2))))) (ix3 g i e)) (by rfl) ?_
  exact result_apply _ _ _ g i e

end Cert.Qkv.Ref
-- ==== Proof.Ffn.Parts.lean ====
module

public import proofs.«01_k».proof.Proof.Ffn.Norm
public import proofs.«01_k».proof.Proof.Gen.PartsIdeal.Value
public import proofs.«01_k».proof.Proof.Gen.PartsReferenceIdeal.Run
public import Idealize.ShloMosaic.Lib.Pipeline.ValueKit
public import Idealize.ShloMosaic.Lib.StableHlo.ReadAt
public import Idealize.ShloMosaic.Lib.Tactic.CleanTypes
public import Idealize.ShloMosaic.Lib.Pointwise

/-!
The projection back onto a residual stream that arrives as two arrays: the sums and their normalisation, the call's two arrays element by element, and the reference's.
-/

@[expose] public section

set_option maxRecDepth 16384

noncomputable section

namespace Cert.Ffn.Parts

open Cert.PartsIdeal Cert.PartsIdeal.Gen Cert.PartsIdeal.Value Idealize.ShloMosaic Idealize.ShloMosaic.TcCoe Idealize.SL.Sem

/-- The heads' outputs at row `i`, side by side: feature `k` is lane `k % 128` of head `k / 128`. -/
def sideAt (O : S16x49152x128.Idx → EReal) (i : Fin 49152) (k : Fin 2048) : EReal :=
  O (ix3 ⟨k.val / 128, by omega⟩ i ⟨k.val % 128, by omega⟩)

/-- The residual row of a token: what came in plus the product of the heads' outputs with the weights. -/
def headRow (x : Fin 2048 → EReal) (a : Fin 2048 → EReal) (w : Fin 2048 → Fin 2048 → EReal) (j : Fin 2048) : EReal :=
  x j + ∑ k, a k * w k j

/-- What came in at row `i`: the first array's rows, then the second's. -/
def rowAt (XA : S16384x2048.Idx → EReal) (XB : S32768x2048.Idx → EReal) (i : Fin 49152) (j : Fin 2048) : EReal :=
  if h : i.val < 16384 then XA (ix2 ⟨i.val, h⟩ j) else XB (ix2 ⟨i.val - 16384, by omega⟩ j)

/-- The residual stream at row `i`. -/
def sumAt (O : S16x49152x128.Idx → EReal) (W : S2048x2048.Idx → EReal) (XA : S16384x2048.Idx → EReal) (XB : S32768x2048.Idx → EReal) (i : Fin 49152) : Fin 2048 → EReal :=
  headRow (rowAt XA XB i) (sideAt O i) fun k j => W (ix2 k j)

variable (m : (ℓ : Loc nD τ sig) → Buf (Elt Ideal) ℓ)

theorem weight_apply (c : Dev nD) (k : Fin 2048) (j : Fin 2048) :
    V m c main_v0 (ix2 k j) = m (c, Proc.tc.devRef main_arg1) (ix2 k j) := by
  unfold V
  after_reads_at

theorem gain_apply (c : Dev nD) (j : Fin 2048) :
    V m c main_v1 (ix2 0 j) = m (c, Proc.tc.devRef main_arg4) (ix1 j) := by
  unfold V
  after_reads_at

/-- The payload of a head. -/
def headOf (o : Vec Ideal S16x512x128 .bf16) (h : Fin 16) : FVec Ideal S512x128 .bf16 := fun y => o (ix3 h (y 0) (y 1))

/-- One head's load, as the body reads it. -/
theorem head_eq (o : Vec Ideal S16x512x128 .bf16) (h : Fin 16) (inb : ∀ a, (![h.val, 0, 0] : Fin 3 → ℕ) a + S1x512x128.size a ≤ S16x512x128.size a) :
    shapeCast S512x128 (View.ld o (Rect.unit (s := S16x512x128) ![h.val, 0, 0] S1x512x128.size inb)) shapeCasts_S1x512x128_S512x128
      = headOf o h := by
  funext y
  have h0 : (y 0).val < 512 := (y 0).isLt
  have h1 : (y 1).val < 128 := (y 1).isLt
  refine (shapeCast_apply _ _ y (ix3 0 (y 0) (y 1) : S1x512x128.Idx) ?_).trans ?_
  · rw [Shape.rowMajor_val_two, Shape.rowMajor_val_three]
    show (0 * 512 + (y 0).val) * 128 + (y 1).val = (y 0).val * 128 + (y 1).val
    omega
  · refine congrArg o (funext fun a => Fin.ext ?_)
    match a with
    | 0 => show h.val + 1 * 0 = h.val; omega
    | 1 => show 0 + 1 * (y 0).val = (y 0).val; omega
    | 2 => show 0 + 1 * (y 1).val = (y 1).val; omega

/-- The block that a grid point adds to: of the first array before point 32, of the second from there on. -/
def picked (b : BitVec 32) (xa : Vec Ideal S512x2048 .f32) (xb : Vec Ideal S512x2048 .f32) : Vec Ideal S512x2048 .f32 :=
  Scalar.select (Scalar.cmpi .slt b 32#32) xa xb

/-- The sums that a grid point stores, from its blocks. -/
def sums (b : BitVec 32) (o : Vec Ideal S16x512x128 .bf16) (xa : Vec Ideal S512x2048 .f32) (xb : Vec Ideal S512x2048 .f32) (w : Vec Ideal S2048x2048 .bf16) : FVec Ideal S512x2048 .f32 :=
  k0_pay13 b (k0_pay2 (View.ld o r0_0)) (k0_pay3 (View.ld o r0_1)) (k0_pay4 (View.ld o r0_2)) (k0_pay5 (View.ld o r0_3)) (k0_pay6 (View.ld o r0_4)) (k0_pay7 (View.ld o r0_5)) (k0_pay8 (View.ld o r0_6)) (k0_pay9 (View.ld o r0_7)) (k0_pay10 (View.ld o r0_8)) (k0_pay11 (View.ld o r0_9)) (k0_pay12 (View.ld o r0_10)) (View.ld o r0_11) (View.ld o r0_12) (View.ld o r0_13) (View.ld o r0_14) (View.ld o r0_15) xa xb w

/-- The normalised rows. -/
def norms (b : BitVec 32) (o : Vec Ideal S16x512x128 .bf16) (xa : Vec Ideal S512x2048 .f32) (xb : Vec Ideal S512x2048 .f32) (w : Vec Ideal S2048x2048 .bf16) (g : Vec Ideal S1x2048 .f32) : FVec Ideal S512x2048 .bf16 :=
  k0_pay1 (k0_pay14 b (k0_pay2 (View.ld o r0_0)) (k0_pay3 (View.ld o r0_1)) (k0_pay4 (View.ld o r0_2)) (k0_pay5 (View.ld o r0_3)) (k0_pay6 (View.ld o r0_4)) (k0_pay7 (View.ld o r0_5)) (k0_pay8 (View.ld o r0_6)) (k0_pay9 (View.ld o r0_7)) (k0_pay10 (View.ld o r0_8)) (k0_pay11 (View.ld o r0_9)) (k0_pay12 (View.ld o r0_10)) (View.ld o r0_11) (View.ld o r0_12) (View.ld o r0_13) (View.ld o r0_14) (View.ld o r0_15) xa xb w) (k0_pay15 g)

/-- The heads side by side. -/
def side (o : Vec Ideal S16x512x128 .bf16) : FVec Ideal S512x2048 .bf16 := fun y => o (ix3 ⟨(y 1).val / 128, by have : (y 1).val < 2048 := (y 1).isLt; omega⟩ (y 0) ⟨(y 1).val % 128, by omega⟩)

/-- The concatenation of sixteen pieces is the pieces side by side. -/
theorem cat_eq (f : Fin 16 → FVec Ideal S512x128 .bf16) (j : S512x2048.Idx) :
    concatenate S512x2048 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩, ⟨S512x128, f 8⟩, ⟨S512x128, f 9⟩, ⟨S512x128, f 10⟩, ⟨S512x128, f 11⟩, ⟨S512x128, f 12⟩, ⟨S512x128, f 13⟩, ⟨S512x128, f 14⟩, ⟨S512x128, f 15⟩] concatenates_S512x128_S512x128_S512x128_S512x128_S512x128_S512x128_S512x128_S512x128_S512x128_S512x128_S512x128_S512x128_S512x128_S512x128_S512x128_S512x128_S512x2048_d1 j
      = f ⟨(j 1).val / 128, by have : (j 1).val < 2048 := (j 1).isLt; omega⟩ (ix2 (j 0) ⟨(j 1).val % 128, by omega⟩) := by
  refine concatenate_ofFn_apply (t := S512x2048) (s₁ := S512x128) 1 f concatenates_S512x128_S512x128_S512x128_S512x128_S512x128_S512x128_S512x128_S512x128_S512x128_S512x128_S512x128_S512x128_S512x128_S512x128_S512x128_S512x128_S512x2048_d1 rfl 128 rfl j _ rfl _ rfl ?_
  intro b hb
  match b with
  | 0 => rfl
  | 1 => exact absurd rfl hb

theorem side_eq (o : Vec Ideal S16x512x128 .bf16) :
    concatenate S512x2048 1 [⟨S512x128, k0_pay2 (View.ld o r0_0)⟩, ⟨S512x128, k0_pay3 (View.ld o r0_1)⟩, ⟨S512x128, k0_pay4 (View.ld o r0_2)⟩, ⟨S512x128, k0_pay5 (View.ld o r0_3)⟩, ⟨S512x128, k0_pay6 (View.ld o r0_4)⟩, ⟨S512x128, k0_pay7 (View.ld o r0_5)⟩, ⟨S512x128, k0_pay8 (View.ld o r0_6)⟩, ⟨S512x128, k0_pay9 (View.ld o r0_7)⟩, ⟨S512x128, k0_pay10 (View.ld o r0_8)⟩, ⟨S512x128, k0_pay11 (View.ld o r0_9)⟩, ⟨S512x128, k0_pay12 (View.ld o r0_10)⟩, ⟨S512x128, shapeCast S512x128 (View.ld o r0_11) shapeCasts_S1x512x128_S512x128⟩, ⟨S512x128, shapeCast S512x128 (View.ld o r0_12) shapeCasts_S1x512x128_S512x128⟩, ⟨S512x128, shapeCast S512x128 (View.ld o r0_13) shapeCasts_S1x512x128_S512x128⟩, ⟨S512x128, shapeCast S512x128 (View.ld o r0_14) shapeCasts_S1x512x128_S512x128⟩, ⟨S512x128, shapeCast S512x128 (View.ld o r0_15) shapeCasts_S1x512x128_S512x128⟩] concatenates_S512x128_S512x128_S512x128_S512x128_S512x128_S512x128_S512x128_S512x128_S512x128_S512x128_S512x128_S512x128_S512x128_S512x128_S512x128_S512x128_S512x2048_d1 = side o := by
  have e0 : k0_pay2 (View.ld o r0_0) = headOf o 0 := head_eq o 0 _
  have e1 : k0_pay3 (View.ld o r0_1) = headOf o 1 := head_eq o 1 _
  have e2 : k0_pay4 (View.ld o r0_2) = headOf o 2 := head_eq o 2 _
  have e3 : k0_pay5 (View.ld o r0_3) = headOf o 3 := head_eq o 3 _
  have e4 : k0_pay6 (View.ld o r0_4) = headOf o 4 := head_eq o 4 _
  have e5 : k0_pay7 (View.ld o r0_5) = headOf o 5 := head_eq o 5 _
  have e6 : k0_pay8 (View.ld o r0_6) = headOf o 6 := head_eq o 6 _
  have e7 : k0_pay9 (View.ld o r0_7) = headOf o 7 := head_eq o 7 _
  have e8 : k0_pay10 (View.ld o r0_8) = headOf o 8 := head_eq o 8 _
  have e9 : k0_pay11 (View.ld o r0_9) = headOf o 9 := head_eq o 9 _
  have e10 : k0_pay12 (View.ld o r0_10) = headOf o 10 := head_eq o 10 _
  have e11 : shapeCast S512x128 (View.ld o r0_11) shapeCasts_S1x512x128_S512x128 = headOf o 11 := head_eq o 11 _
  have e12 : shapeCast S512x128 (View.ld o r0_12) shapeCasts_S1x512x128_S512x128 = headOf o 12 := head_eq o 12 _
  have e13 : shapeCast S512x128 (View.ld o r0_13) shapeCasts_S1x512x128_S512x128 = headOf o 13 := head_eq o 13 _
  have e14 : shapeCast S512x128 (View.ld o r0_14) shapeCasts_S1x512x128_S512x128 = headOf o 14 := head_eq o 14 _
  have e15 : shapeCast S512x128 (View.ld o r0_15) shapeCasts_S1x512x128_S512x128 = headOf o 15 := head_eq o 15 _
  funext j
  rw [e0, e1, e2, e3, e4, e5, e6, e7, e8, e9, e10, e11, e12, e13, e14, e15, cat_eq (headOf o) j]
  rfl

/-- A row's sums over the heads side by side, as one product. -/
def product (a : FVec Ideal S512x2048 .bf16) (x : Vec Ideal S512x2048 .f32) (w : Vec Ideal S2048x2048 .bf16) : FVec Ideal S512x2048 .f32 :=
  addf x (matmul dot_S512x2048_S2048x2048_S512x2048_1_0_0_1_n_n none a (shapeCast S2048x2048 w shapeCasts_S2048x2048_S2048x2048 : FVec Ideal S2048x2048 .bf16) (constant S512x2048 .f32 0x00000000#32))

theorem product_apply (a : FVec Ideal S512x2048 .bf16) (x : Vec Ideal S512x2048 .f32) (w : Vec Ideal S2048x2048 .bf16) (i : Fin 512) (j : Fin 2048) :
    (product a x w (ix2 i j) : EReal) = headRow (fun j => x (ix2 i j)) (fun k => a (ix2 i k)) (fun k j => w (ix2 k j)) j := by
  unfold product
  pointwise
  rfl

theorem sums_eq (b : BitVec 32) (o : Vec Ideal S16x512x128 .bf16) (xa : Vec Ideal S512x2048 .f32) (xb : Vec Ideal S512x2048 .f32) (w : Vec Ideal S2048x2048 .bf16) :
    sums b o xa xb w = product (side o) (picked b xa xb) w := by
  unfold product
  rw [← side_eq]
  rfl

/-- One element of the sums. -/
theorem sum_apply (b : BitVec 32) (o : Vec Ideal S16x512x128 .bf16) (xa : Vec Ideal S512x2048 .f32) (xb : Vec Ideal S512x2048 .f32) (w : Vec Ideal S2048x2048 .bf16) (i : Fin 512) (j : Fin 2048) :
    (sums b o xa xb w (ix2 i j) : EReal) = headRow (fun j => picked b xa xb (ix2 i j)) (fun k => o (ix3 ⟨k.val / 128, by omega⟩ i ⟨k.val % 128, by omega⟩)) (fun k j => w (ix2 k j)) j := by
  rw [sums_eq, product_apply]
  rfl

/-- The normalised rows of an array of rows. -/
def scaled (y : FVec Ideal S512x2048 .f32) (g : Vec Ideal S1x2048 .f32) : FVec Ideal S512x2048 .bf16 :=
  truncf .bf16 (mulf (mulf y (broadcastTo S512x2048 (rsqrt (addf (divf (shapeCast S512x1
    (multiReduction .add [1] S512 (mulf y y) 0x00000000#32 reduces_S512x2048_S512 (.inl rfl) rfl) shapeCasts_S512_S512x1)
    (broadcast S512x1 (Scalar.ofBits .f32 0x45000000#32 : Ideal .f32))) (broadcast S512x1 (Scalar.ofBits .f32 0x358637BD#32 : Ideal .f32))))
    broadcasts_S512x1_S512x2048)) (broadcastTo S512x2048 (shapeCast S1x2048 g shapeCasts_S1x2048_S1x2048 : FVec Ideal S1x2048 .f32) broadcasts_S1x2048_S512x2048))
    bitsLt_bf16_f32

theorem scaled_apply (y : FVec Ideal S512x2048 .f32) (g : Vec Ideal S1x2048 .f32) (i : Fin 512) (j : Fin 2048) :
    (scaled y g (ix2 i j) : EReal) = normAt (fun j => y (ix2 i j)) (fun j => g (ix2 0 j)) j := by
  unfold scaled
  pointwise
  rfl

theorem norms_eq (b : BitVec 32) (o : Vec Ideal S16x512x128 .bf16) (xa : Vec Ideal S512x2048 .f32) (xb : Vec Ideal S512x2048 .f32) (w : Vec Ideal S2048x2048 .bf16) (g : Vec Ideal S1x2048 .f32) :
    norms b o xa xb w g = scaled (sums b o xa xb w) g := rfl

/-- One element of the normalised rows. -/
theorem norm_apply (b : BitVec 32) (o : Vec Ideal S16x512x128 .bf16) (xa : Vec Ideal S512x2048 .f32) (xb : Vec Ideal S512x2048 .f32) (w : Vec Ideal S2048x2048 .bf16) (g : Vec Ideal S1x2048 .f32)
    (i : Fin 512) (j : Fin 2048) :
    (norms b o xa xb w g (ix2 i j) : EReal)
      = normAt (headRow (fun j => picked b xa xb (ix2 i j)) (fun k => o (ix3 ⟨k.val / 128, by omega⟩ i ⟨k.val % 128, by omega⟩)) fun k j => w (ix2 k j))
        (fun j => g (ix2 0 j)) j := by
  rw [norms_eq, scaled_apply]
  simp only [sum_apply]

theorem out5_eq (i : grid0.Coords) (o : Vec Ideal S16x512x128 .bf16) (w : Vec Ideal S2048x2048 .bf16) (xa : Vec Ideal S512x2048 .f32) (xb : Vec Ideal S512x2048 .f32) (g : Vec Ideal S1x2048 .f32) :
    out0_5 i o w xa xb g = sums (BitVec.ofNat 32 (i 0).val) o xa xb w := by
  have exa : View.ld xa r0_16 = xa := View.ld_unit_zero (funext fun a => by match a with | 0 => rfl | 1 => rfl) _ xa
  have exb : View.ld xb r0_16 = xb := View.ld_unit_zero (funext fun a => by match a with | 0 => rfl | 1 => rfl) _ xb
  have ew : View.ld w r0_17 = w := View.ld_unit_zero (funext fun a => by match a with | 0 => rfl | 1 => rfl) _ w
  unfold_out out0_5
  rw [exa, exb, ew]
  unfold sums
  frame_out

theorem out6_eq (i : grid0.Coords) (o : Vec Ideal S16x512x128 .bf16) (w : Vec Ideal S2048x2048 .bf16) (xa : Vec Ideal S512x2048 .f32) (xb : Vec Ideal S512x2048 .f32) (g : Vec Ideal S1x2048 .f32) :
    out0_6 i o w xa xb g = norms (BitVec.ofNat 32 (i 0).val) o xa xb w g := by
  have exa : View.ld xa r0_16 = xa := View.ld_unit_zero (funext fun a => by match a with | 0 => rfl | 1 => rfl) _ xa
  have exb : View.ld xb r0_16 = xb := View.ld_unit_zero (funext fun a => by match a with | 0 => rfl | 1 => rfl) _ xb
  have ew : View.ld w r0_17 = w := View.ld_unit_zero (funext fun a => by match a with | 0 => rfl | 1 => rfl) _ w
  have eg : View.ld g r0_18 = g := View.ld_unit_zero (funext fun a => by match a with | 0 => rfl | 1 => rfl) _ g
  unfold_out out0_6
  rw [exa, exb, ew, eg]
  unfold norms
  frame_out

theorem idx0 : ∀ t : Fin cfg0.N, ∀ a, (cfg0.win 0).index t a = ![0, t.val, 0] a := by decide +kernel
theorem idx1 : ∀ t : Fin cfg0.N, ∀ a, (cfg0.win 1).index t a = ![0, 0] a := by decide +kernel
theorem idx2 : ∀ t : Fin cfg0.N, ∀ a, (cfg0.win 2).index t a = ![min t.val 31, 0] a := by decide +kernel
theorem idx3 : ∀ t : Fin cfg0.N, ∀ a, (cfg0.win 3).index t a = ![t.val - 32, 0] a := by decide +kernel
theorem idx4 : ∀ t : Fin cfg0.N, ∀ a, (cfg0.win 4).index t a = ![0, 0] a := by decide +kernel
theorem idx5 : ∀ t : Fin cfg0.N, ∀ a, (cfg0.win 5).index t a = ![t.val, 0] a := by decide +kernel
theorem idx6 : ∀ t : Fin cfg0.N, ∀ a, (cfg0.win 6).index t a = ![t.val, 0] a := by decide +kernel

/-- The choice between the two arrays, by the grid point. -/
theorem turn : ∀ t : Fin cfg0.N, Scalar.cmpi .slt (BitVec.ofNat 32 (grid0.coords t 0).val) 32#32 = if t.val < 32 then 1#1 else 0#1 := by decide +kernel

theorem point_lt (t : Fin cfg0.N) : t.val < 96 := t.isLt

/-- The row of the whole array that is row `i` of block `t`. -/
def rowOf (t : Fin cfg0.N) (i : Fin 512) : Fin 49152 := ⟨512 * t.val + i.val, by have := point_lt t; omega⟩

theorem blk0 (c : Dev nD) (t : Fin cfg0.N) (h : Fin 16) (i : Fin 512) (e : Fin 128) :
    iblk m c 0 t (ix3 h i e) = m (c, Proc.tc.devRef main_arg0) (ix3 h (rowOf t i) e) := by
  refine Eq.trans (b := V m c main_arg0 ((win0_0.blk t).view.emb (ix3 h i e))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show 0 * 16 + h.val = h.val; omega
  | 1 => show t.val * 512 + i.val = 512 * t.val + i.val; omega
  | 2 => show 0 * 128 + e.val = e.val; omega

theorem blk1 (c : Dev nD) (t : Fin cfg0.N) (k : Fin 2048) (j : Fin 2048) :
    iblk m c 1 t (ix2 k j) = m (c, Proc.tc.devRef main_arg1) (ix2 k j) := by
  refine Eq.trans (b := V m c main_v0 ((win0_1.blk t).view.emb (ix2 k j))) (by rfl) ?_
  rw [← weight_apply m c]
  refine congrArg (V m c main_v0) (funext fun a => Fin.ext ((win0_1.rect_emb_val t _ a).trans ?_))
  rw [show win0_1.index t a = _ from idx1 t a]
  match a with
  | 0 => show 0 * 2048 + k.val = k.val; omega
  | 1 => show 0 * 2048 + j.val = j.val; omega

theorem blk2 (c : Dev nD) (t : Fin cfg0.N) (ht : t.val < 32) (i : Fin 512) (j : Fin 2048) :
    iblk m c 2 t (ix2 i j) = m (c, Proc.tc.devRef main_arg2) (ix2 ⟨512 * t.val + i.val, by omega⟩ j) := by
  refine Eq.trans (b := V m c main_arg2 ((win0_2.blk t).view.emb (ix2 i j))) (by rfl) ?_
  rw [V_main_arg2]
  refine congrArg (m (c, Proc.tc.devRef main_arg2)) (funext fun a => Fin.ext ((win0_2.rect_emb_val t _ a).trans ?_))
  rw [show win0_2.index t a = _ from idx2 t a]
  match a with
  | 0 => show min t.val 31 * 512 + i.val = 512 * t.val + i.val; rw [Nat.min_eq_left (by omega)]; omega
  | 1 => show 0 * 2048 + j.val = j.val; omega

theorem blk3 (c : Dev nD) (t : Fin cfg0.N) (ht : ¬ t.val < 32) (i : Fin 512) (j : Fin 2048) :
    iblk m c 3 t (ix2 i j) = m (c, Proc.tc.devRef main_arg3) (ix2 ⟨512 * t.val + i.val - 16384, by have := point_lt t; omega⟩ j) := by
  refine Eq.trans (b := V m c main_arg3 ((win0_3.blk t).view.emb (ix2 i j))) (by rfl) ?_
  rw [V_main_arg3]
  refine congrArg (m (c, Proc.tc.devRef main_arg3)) (funext fun a => Fin.ext ((win0_3.rect_emb_val t _ a).trans ?_))
  rw [show win0_3.index t a = _ from idx3 t a]
  match a with
  | 0 => show (t.val - 32) * 512 + i.val = 512 * t.val + i.val - 16384; omega
  | 1 => show 0 * 2048 + j.val = j.val; omega

/-- The block added to holds the rows of the stream. -/
theorem picked_apply (c : Dev nD) (t : Fin cfg0.N) (i : Fin 512) (j : Fin 2048) :
    picked (BitVec.ofNat 32 (grid0.coords t 0).val) (iblk m c 2 t) (iblk m c 3 t) (ix2 i j)
      = rowAt (m (c, Proc.tc.devRef main_arg2)) (m (c, Proc.tc.devRef main_arg3)) (rowOf t i) j := by
  unfold picked rowAt
  rw [turn t]
  by_cases ht : t.val < 32
  · rw [if_pos ht, dif_pos (show (rowOf t i).val < 16384 by show 512 * t.val + i.val < 16384; omega)]
    exact blk2 m c t ht i j
  · rw [if_neg ht, dif_neg (show ¬ (rowOf t i).val < 16384 by show ¬ 512 * t.val + i.val < 16384; omega)]
    exact blk3 m c t ht i j

theorem blk4 (c : Dev nD) (t : Fin cfg0.N) (j : Fin 2048) :
    iblk m c 4 t (ix2 0 j) = m (c, Proc.tc.devRef main_arg4) (ix1 j) := by
  refine Eq.trans (b := V m c main_v1 ((win0_4.blk t).view.emb (ix2 0 j))) (by rfl) ?_
  rw [← gain_apply m c]
  refine congrArg (V m c main_v1) (funext fun a => Fin.ext ((win0_4.rect_emb_val t _ a).trans ?_))
  rw [show win0_4.index t a = _ from idx4 t a]
  match a with
  | 0 => rfl
  | 1 => show 0 * 2048 + j.val = j.val; omega

/-- The residual stream that the call leaves. -/
def sumArr (c : Dev nD) : S49152x2048.Idx → EReal := fun y =>
  sumAt (m (c, Proc.tc.devRef main_arg0)) (m (c, Proc.tc.devRef main_arg1)) (m (c, Proc.tc.devRef main_arg2)) (m (c, Proc.tc.devRef main_arg3)) (y 0) (y 1)

/-- Its normalisation. -/
def normArr (c : Dev nD) : S49152x2048.Idx → EReal := fun y =>
  normAt (sumAt (m (c, Proc.tc.devRef main_arg0)) (m (c, Proc.tc.devRef main_arg1)) (m (c, Proc.tc.devRef main_arg2)) (m (c, Proc.tc.devRef main_arg3)) (y 0))
    (fun j => m (c, Proc.tc.devRef main_arg4) (ix1 j)) (y 1)

theorem sum_eq (c : Dev nD) : (dats m 0 c).arrAt 5 cfg0.N = sumArr m c := by
  refine (dats m 0 c).arrAt_eq_of_covers 5 _ (by decide +kernel) fun t hf y => ?_
  blk_simp
  rw [after0_5, out5_eq]
  have e : ∀ a, (((View.whole main_v2_0).slice (win0_5.rect t)).emb y a : ℕ) = ![t.val, 0] a * ![512, 2048] a + (y a : ℕ) := by
    intro a
    refine (win0_5.rect_emb_val t y a).trans ?_
    rw [show win0_5.index t a = _ from idx5 t a]
  obtain ⟨i, j, rfl⟩ : ∃ (i : Fin 512) (j : Fin 2048), y = (ix2 i j : S512x2048.Idx) :=
    ⟨y 0, y 1, funext fun a => by match a with | 0 => rfl | 1 => rfl⟩
  refine (sum_apply _ _ _ _ _ i j).trans ?_
  simp only [blk0, blk1, picked_apply]
  unfold sumArr sumAt sideAt
  have e0 : ((View.whole main_v2_0).slice (win0_5.rect t)).emb (ix2 i j) 0 = rowOf t i :=
    Fin.ext ((e 0).trans (by show t.val * 512 + i.val = 512 * t.val + i.val; omega))
  have e1 : ((View.whole main_v2_0).slice (win0_5.rect t)).emb (ix2 i j) 1 = j :=
    Fin.ext ((e 1).trans (by show 0 * 2048 + j.val = j.val; omega))
  rw [e0, e1]

theorem norm_eq (c : Dev nD) : (dats m 0 c).arrAt 6 cfg0.N = normArr m c := by
  refine (dats m 0 c).arrAt_eq_of_covers 6 _ (by decide +kernel) fun t hf y => ?_
  blk_simp
  rw [after0_6, out6_eq]
  have e : ∀ a, (((View.whole main_v2_1).slice (win0_6.rect t)).emb y a : ℕ) = ![t.val, 0] a * ![512, 2048] a + (y a : ℕ) := by
    intro a
    refine (win0_6.rect_emb_val t y a).trans ?_
    rw [show win0_6.index t a = _ from idx6 t a]
  obtain ⟨i, j, rfl⟩ : ∃ (i : Fin 512) (j : Fin 2048), y = (ix2 i j : S512x2048.Idx) :=
    ⟨y 0, y 1, funext fun a => by match a with | 0 => rfl | 1 => rfl⟩
  refine (norm_apply _ _ _ _ _ _ i j).trans ?_
  simp only [blk0, blk1, picked_apply, blk4]
  unfold normArr sumAt sideAt
  have e0 : ((View.whole main_v2_1).slice (win0_6.rect t)).emb (ix2 i j) 0 = rowOf t i :=
    Fin.ext ((e 0).trans (by show t.val * 512 + i.val = 512 * t.val + i.val; omega))
  have e1 : ((View.whole main_v2_1).slice (win0_6.rect t)).emb (ix2 i j) 1 = j :=
    Fin.ext ((e 1).trans (by show 0 * 2048 + j.val = j.val; omega))
  rw [e0, e1]

end Cert.Ffn.Parts
-- ==== Proof.Ffn.PartsRef.lean ====
module

public import proofs.«01_k».proof.Proof.Ffn.Parts
public import proofs.«01_k».proof.Proof.Gen.PartsReferenceIdeal.Run

/-!
The reference of the projection back onto two arrays, read element by element.
-/

@[expose] public section

set_option maxRecDepth 16384

noncomputable section

namespace Cert.Ffn.Parts.Ref

open Cert.PartsReferenceIdeal Cert.PartsReferenceIdeal.Gen Idealize.ShloMosaic Idealize.ShloMosaic.TcCoe Idealize.SL.Sem Idealize.ShloMosaic.StableHlo

/-- The reference's run, with its two results read element by element. -/
theorem ref_run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
      (∀ i j, r.2.mem ((c.tc : Thread nD τ).loc main_v5) (ix2 i j) = sumAt (m (c, Proc.tc.devRef main_arg0)) (m (c, Proc.tc.devRef main_arg1)) (m (c, Proc.tc.devRef main_arg2)) (m (c, Proc.tc.devRef main_arg3)) i j)
      ∧ (∀ i j, r.2.mem ((c.tc : Thread nD τ).loc main_v19) (ix2 i j) = normAt (sumAt (m (c, Proc.tc.devRef main_arg0)) (m (c, Proc.tc.devRef main_arg1)) (m (c, Proc.tc.devRef main_arg2)) (m (c, Proc.tc.devRef main_arg3)) i) (fun j => m (c, Proc.tc.devRef main_arg4) (ix1 j)) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h3⟩ := h c
  refine ⟨fun i j => ?_, fun i j => ?_, h3⟩
  · rw [h1]
    clear h h1 h2 h3
    pointwise
    rfl
  · rw [h2]
    clear h h1 h2 h3
    pointwise
    rfl

end Cert.Ffn.Parts.Ref
-- ==== Proof.Ffn.KvBlock.lean ====
module

public import proofs.«01_k».proof.Proof.Gen.KvIdeal.Value
public import Idealize.ShloMosaic.Lib.Pipeline.ValueKit
public import Idealize.ShloMosaic.Lib.WholeRead
public import Idealize.ShloMosaic.Lib.StableHlo.ReadAt
public import Idealize.ShloMosaic.Lib.Tactic.CleanTypes
public import Idealize.ShloMosaic.Lib.Pointwise

/-!
The latent attention's keys and values: what a grid point's stores leave in its two blocks, head by head.
-/

@[expose] public section

set_option maxRecDepth 16384

noncomputable section

namespace Cert.Kv

open Cert.KvIdeal Cert.KvIdeal.Gen Cert.KvIdeal.Value Idealize.ShloMosaic Idealize.ShloMosaic.TcCoe Idealize.SL.Sem

/-- A block of keys: head `h` has its columns of the product in the first 128 lanes and the rotated lanes, one for all heads, in the rest. -/
def keyBlk (N : S512x2048.Idx → EReal) (R : S512x128.Idx → EReal) (y : S16x512x256.Idx) : EReal :=
  if h : (y 2).val < 128 then N (ix2 (y 1) ⟨128 * (y 0).val + (y 2).val, by have : (y 0).val < 16 := (y 0).isLt; omega⟩)
  else R (ix2 (y 1) ⟨(y 2).val - 128, by have : (y 2).val < 256 := (y 2).isLt; omega⟩)

/-- A block of transposed values: head `h` has its rows of the product, then a row of ones, then zeros. -/
def valBlk (Z : S2048x512.Idx → EReal) (y : S16x144x512.Idx) : EReal :=
  if h : (y 1).val < 128 then Z (ix2 ⟨128 * (y 0).val + (y 1).val, by have : (y 0).val < 16 := (y 0).isLt; omega⟩ (y 2))
  else if (y 1).val = 128 then Ideal.ofBits .f32 0x3F800000#32 else Ideal.ofBits .f32 0x00000000#32

theorem keyBlk_lo (N : S512x2048.Idx → EReal) (R : S512x128.Idx → EReal) (y : S16x512x256.Idx) (h : Fin 16) (i : Fin 512) (e : Fin 128)
    (h0 : (y 0).val = h.val) (h1 : (y 1).val = i.val) (h2 : (y 2).val = e.val) : keyBlk N R y = N (ix2 i ⟨128 * h.val + e.val, by omega⟩) := by
  unfold keyBlk
  rw [dif_pos (by omega)]
  refine congrArg N (funext fun a => Fin.ext ?_)
  match a with
  | 0 => exact h1
  | 1 => show 128 * (y 0).val + (y 2).val = 128 * h.val + e.val; omega

theorem keyBlk_hi (N : S512x2048.Idx → EReal) (R : S512x128.Idx → EReal) (y : S16x512x256.Idx) (i : Fin 512) (e : Fin 128)
    (h1 : (y 1).val = i.val) (h2 : (y 2).val = 128 + e.val) : keyBlk N R y = R (ix2 i e) := by
  unfold keyBlk
  rw [dif_neg (by omega)]
  refine congrArg R (funext fun a => Fin.ext ?_)
  match a with
  | 0 => exact h1
  | 1 => show (y 2).val - 128 = e.val; omega

theorem valBlk_lo (Z : S2048x512.Idx → EReal) (y : S16x144x512.Idx) (h : Fin 16) (d : Fin 128) (i : Fin 512)
    (h0 : (y 0).val = h.val) (h1 : (y 1).val = d.val) (h2 : (y 2).val = i.val) : valBlk Z y = Z (ix2 ⟨128 * h.val + d.val, by omega⟩ i) := by
  unfold valBlk
  rw [dif_pos (by omega)]
  refine congrArg Z (funext fun a => Fin.ext ?_)
  match a with
  | 0 => show 128 * (y 0).val + (y 1).val = 128 * h.val + d.val; omega
  | 1 => exact h2

/-- The row of ones over the zeros, element by element. -/
theorem ones_apply (d : Fin 16) (i : Fin 512) :
    ((k0_pay4 : FVec Ideal S16x512 .bf16) (ix2 d i) : EReal) = if d.val = 0 then Ideal.ofBits .f32 0x3F800000#32 else Ideal.ofBits .f32 0x00000000#32 := by
  unfold k0_pay4
  fin_cases d <;> rfl

/-- One store of a head's key lanes. -/
theorem key_piece (N : FVec Ideal S512x2048 .f32) (R : Vec Ideal S512x128 .bf16) (h : Fin 16) (n : ℕ) (hn : n = 128 * h.val)
    (hs : S512x2048.Slices ![0, n] S512x128) (inb : ∀ a, (![h.val, 0, 0] : Fin 3 → ℕ) a + S1x512x128.size a ≤ S16x512x256.size a) (x : S1x512x128.Idx) :
    (shapeCast S1x512x128 (truncf .bf16 (extractStridedSlice S512x128 ![0, n] N hs) bitsLt_bf16_f32 : FVec Ideal S512x128 .bf16) shapeCasts_S512x128_S1x512x128 x : EReal)
      = keyBlk N R ((Rect.unit (s := S16x512x256) ![h.val, 0, 0] S1x512x128.size inb).emb x) := by
  have b0 : (x 0).val < 1 := (x 0).isLt
  have b1 : (x 1).val < 512 := (x 1).isLt
  have b2 : (x 2).val < 128 := (x 2).isLt
  rw [keyBlk_lo N R _ h (x 1) (x 2) (by show h.val + 1 * (x 0).val = h.val; omega) (by show 0 + 1 * (x 1).val = (x 1).val; omega)
    (by show 0 + 1 * (x 2).val = (x 2).val; omega)]
  refine (shapeCast_apply _ _ x (ix2 (x 1) (x 2) : S512x128.Idx) ?_).trans ?_
  · rw [Shape.rowMajor_val_two, Shape.rowMajor_val_three]
    show (x 1).val * 128 + (x 2).val = ((x 0).val * 512 + (x 1).val) * 128 + (x 2).val
    omega
  · refine extractStridedSlice_apply _ N hs _ _ fun a => ?_
    match a with
    | 0 => show (x 1).val = 0 + (x 1).val; omega
    | 1 => show 128 * h.val + (x 2).val = n + (x 2).val; omega

/-- One store of the rotated lanes. -/
theorem rope_piece (N : FVec Ideal S512x2048 .f32) (R : Vec Ideal S512x128 .bf16) (h : Fin 16)
    (inb : ∀ a, (![h.val, 0, 128] : Fin 3 → ℕ) a + S1x512x128.size a ≤ S16x512x256.size a) (x : S1x512x128.Idx) :
    (shapeCast S1x512x128 R shapeCasts_S512x128_S1x512x128 x : EReal)
      = keyBlk N R ((Rect.unit (s := S16x512x256) ![h.val, 0, 128] S1x512x128.size inb).emb x) := by
  have b0 : (x 0).val < 1 := (x 0).isLt
  rw [keyBlk_hi N R _ (x 1) (x 2) (by show 0 + 1 * (x 1).val = (x 1).val; omega) (by show 128 + 1 * (x 2).val = 128 + (x 2).val; omega)]
  refine shapeCast_apply _ _ x (ix2 (x 1) (x 2) : S512x128.Idx) ?_
  rw [Shape.rowMajor_val_two, Shape.rowMajor_val_three]
  show (x 1).val * 128 + (x 2).val = ((x 0).val * 512 + (x 1).val) * 128 + (x 2).val
  omega

/-- One store of a head's values. -/
theorem val_piece (Z : FVec Ideal S2048x512 .f32) (h : Fin 16) (n : ℕ) (hn : n = 128 * h.val)
    (hs : S2048x512.Slices ![n, 0] S128x512) (inb : ∀ a, (![h.val, 0, 0] : Fin 3 → ℕ) a + S1x128x512.size a ≤ S16x144x512.size a) (x : S1x128x512.Idx) :
    (shapeCast S1x128x512 (truncf .bf16 (extractStridedSlice S128x512 ![n, 0] Z hs) bitsLt_bf16_f32 : FVec Ideal S128x512 .bf16) shapeCasts_S128x512_S1x128x512 x : EReal)
      = valBlk Z ((Rect.unit (s := S16x144x512) ![h.val, 0, 0] S1x128x512.size inb).emb x) := by
  have b0 : (x 0).val < 1 := (x 0).isLt
  rw [valBlk_lo Z _ h (x 1) (x 2) (by show h.val + 1 * (x 0).val = h.val; omega) (by show 0 + 1 * (x 1).val = (x 1).val; omega)
    (by show 0 + 1 * (x 2).val = (x 2).val; omega)]
  refine (shapeCast_apply _ _ x (ix2 (x 1) (x 2) : S128x512.Idx) ?_).trans ?_
  · rw [Shape.rowMajor_val_two, Shape.rowMajor_val_three]
    show (x 1).val * 512 + (x 2).val = ((x 0).val * 128 + (x 1).val) * 512 + (x 2).val
    omega
  · refine extractStridedSlice_apply _ Z hs _ _ fun a => ?_
    match a with
    | 0 => show 128 * h.val + (x 1).val = n + (x 1).val; omega
    | 1 => show (x 2).val = 0 + (x 2).val; omega

/-- One store of the row of ones over the zeros. -/
theorem ones_piece (Z : FVec Ideal S2048x512 .f32) (h : Fin 16)
    (inb : ∀ a, (![h.val, 128, 0] : Fin 3 → ℕ) a + S1x16x512.size a ≤ S16x144x512.size a) (x : S1x16x512.Idx) :
    (shapeCast S1x16x512 (k0_pay4 : FVec Ideal S16x512 .bf16) shapeCasts_S16x512_S1x16x512 x : EReal)
      = valBlk Z ((Rect.unit (s := S16x144x512) ![h.val, 128, 0] S1x16x512.size inb).emb x) := by
  have b0 : (x 0).val < 1 := (x 0).isLt
  have h1 : (((Rect.unit (s := S16x144x512) ![h.val, 128, 0] S1x16x512.size inb).emb x) 1).val = 128 + (x 1).val := by
    show 128 + 1 * (x 1).val = 128 + (x 1).val; omega
  refine (shapeCast_apply _ _ x (ix2 (x 1) (x 2) : S16x512.Idx) ?_).trans ((ones_apply (x 1) (x 2)).trans ?_)
  · rw [Shape.rowMajor_val_two, Shape.rowMajor_val_three]
    show (x 1).val * 512 + (x 2).val = ((x 0).val * 16 + (x 1).val) * 512 + (x 2).val
    omega
  · unfold valBlk
    rw [dif_neg (by omega)]
    by_cases hx : (x 1).val = 0
    · rw [if_pos hx, if_pos (by omega)]
    · rw [if_neg hx, if_neg (by omega)]

/-- A whole operand's load is the operand. -/
theorem load_eq {a b : ℕ} (arg : Memref sig .tc .vmem ⟨2, ![a, b]⟩ .bf16) (harg : arg.IsWhole) (x : Vec Ideal ⟨2, ![a, b]⟩ .bf16)
    (inb : ∀ d, (![0, 0] : Fin 2 → ℕ) d + (![a, b] : Fin 2 → ℕ) d ≤ (![a, b] : Fin 2 → ℕ) d) :
    View.readAt (Elt Ideal) arg.view (Rect.unit (s := ⟨2, ![a, b]⟩) ![0, 0] ![a, b] inb).toLoadRect (harg.unread x) = x := by
  funext y
  refine (harg.readAt_unread x _ y).trans (congrArg x (funext fun d => Fin.ext ?_))
  match d with
  | 0 => show 0 + 1 * (y 0).val = (y 0).val; omega
  | 1 => show 0 + 1 * (y 1).val = (y 1).val; omega

set_option maxHeartbeats 800000 in
theorem keys_eq (c : Dev nD) (i : grid0.Coords) (arg2 : Memref sig .tc .vmem S512x512 .bf16) (harg2 : arg2.IsWhole) (arg3 : Memref sig .tc .vmem S512x128 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S16x512x256 .bf16) (harg6 : arg6.IsWhole) (arg7 : Memref sig .tc .vmem S16x144x512 .bf16) (harg7 : arg7.IsWhole)
    (x0 : Vec Ideal S512x512 .bf16) (x1 : Vec Ideal S512x128 .bf16) (x2 : Vec Ideal S512x2048 .bf16) (x3 : Vec Ideal S2048x512 .bf16) (y : S16x512x256.Idx) :
    (out0_A_4 c i arg2 harg2 arg3 harg3 arg4 harg4 arg5 harg5 arg6 harg6 arg7 harg7 x0 x1 x2 x3 y : EReal) = keyBlk (k0_pay2 x0 x2) x1 y := by
  have l2 : View.readAt (Elt Ideal) arg2.view (Rect.unit (s := S512x512) ![0, 0] ![512, 512] inb_S512x512_S512x512_0_0).toLoadRect (harg2.unread x0) = x0 := load_eq arg2 harg2 x0 _
  have l3 : View.readAt (Elt Ideal) arg3.view (Rect.unit (s := S512x128) ![0, 0] ![512, 128] inb_S512x128_S512x128_0_0).toLoadRect (harg3.unread x1) = x1 := load_eq arg3 harg3 x1 _
  have l4 : View.readAt (Elt Ideal) arg4.view (Rect.unit (s := S512x2048) ![0, 0] ![512, 2048] inb_S512x2048_S512x2048_0_0).toLoadRect (harg4.unread x2) = x2 := load_eq arg4 harg4 x2 _
  have hL : ∀ p ∈ (kernelRun0_A c i arg2 harg2 arg3 harg3 arg4 harg4 arg5 harg5 arg6 harg6 arg7 harg7 x0 x1 x2 x3).1, ∀ x : p.1.shape.Idx, p.2 x = (keyBlk (k0_pay2 x0 x2) x1 : S16x512x256.Idx → EReal) (p.1.emb x) := by
    unfold kernelRun0_A
    dsimp only
    unfold kernelRun0_A.sl.r_6 kernelRun0_A.sl.r_5 kernelRun0_A.sl.r_2 kernelRun0_A.sl.r
    rw [l2, l3, l4]
    simp only [List.forall_mem_cons, List.not_mem_nil, false_implies, implies_true, and_true]
    refine ⟨fun x => rope_piece (k0_pay2 x0 x2) x1 15 _ x,
      fun x => key_piece (k0_pay2 x0 x2) x1 15 1920 rfl _ _ x,
      fun x => rope_piece (k0_pay2 x0 x2) x1 14 _ x,
      fun x => key_piece (k0_pay2 x0 x2) x1 14 1792 rfl _ _ x,
      fun x => rope_piece (k0_pay2 x0 x2) x1 13 _ x,
      fun x => key_piece (k0_pay2 x0 x2) x1 13 1664 rfl _ _ x,
      fun x => rope_piece (k0_pay2 x0 x2) x1 12 _ x,
      fun x => key_piece (k0_pay2 x0 x2) x1 12 1536 rfl _ _ x,
      fun x => rope_piece (k0_pay2 x0 x2) x1 11 _ x,
      fun x => key_piece (k0_pay2 x0 x2) x1 11 1408 rfl _ _ x,
      fun x => rope_piece (k0_pay2 x0 x2) x1 10 _ x,
      fun x => key_piece (k0_pay2 x0 x2) x1 10 1280 rfl _ _ x,
      fun x => rope_piece (k0_pay2 x0 x2) x1 9 _ x,
      fun x => key_piece (k0_pay2 x0 x2) x1 9 1152 rfl _ _ x,
      fun x => rope_piece (k0_pay2 x0 x2) x1 8 _ x,
      fun x => key_piece (k0_pay2 x0 x2) x1 8 1024 rfl _ _ x,
      fun x => rope_piece (k0_pay2 x0 x2) x1 7 _ x,
      fun x => key_piece (k0_pay2 x0 x2) x1 7 896 rfl _ _ x,
      fun x => rope_piece (k0_pay2 x0 x2) x1 6 _ x,
      fun x => key_piece (k0_pay2 x0 x2) x1 6 768 rfl _ _ x,
      fun x => rope_piece (k0_pay2 x0 x2) x1 5 _ x,
      fun x => key_piece (k0_pay2 x0 x2) x1 5 640 rfl _ _ x,
      fun x => rope_piece (k0_pay2 x0 x2) x1 4 _ x,
      fun x => key_piece (k0_pay2 x0 x2) x1 4 512 rfl _ _ x,
      fun x => rope_piece (k0_pay2 x0 x2) x1 3 _ x,
      fun x => key_piece (k0_pay2 x0 x2) x1 3 384 rfl _ _ x,
      fun x => rope_piece (k0_pay2 x0 x2) x1 2 _ x,
      fun x => key_piece (k0_pay2 x0 x2) x1 2 256 rfl _ _ x,
      fun x => rope_piece (k0_pay2 x0 x2) x1 1 _ x,
      fun x => key_piece (k0_pay2 x0 x2) x1 1 128 rfl _ _ x,
      fun x => rope_piece (k0_pay2 x0 x2) x1 0 _ x,
      fun x => key_piece (k0_pay2 x0 x2) x1 0 0 rfl _ _ x⟩
  unfold out0_A_4
  exact View.read_writes_apply_of_pieces VO0_4 VO0_4.junk (keyBlk (k0_pay2 x0 x2) x1 : S16x512x256.Idx → EReal) _ hL y (cover0_A_4 c i arg2 harg2 arg3 harg3 arg4 harg4 arg5 harg5 arg6 harg6 arg7 harg7 x0 x1 x2 x3 y)

set_option maxHeartbeats 800000 in
theorem vals_eq (c : Dev nD) (i : grid0.Coords) (arg2 : Memref sig .tc .vmem S512x512 .bf16) (harg2 : arg2.IsWhole) (arg3 : Memref sig .tc .vmem S512x128 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S16x512x256 .bf16) (harg6 : arg6.IsWhole) (arg7 : Memref sig .tc .vmem S16x144x512 .bf16) (harg7 : arg7.IsWhole)
    (x0 : Vec Ideal S512x512 .bf16) (x1 : Vec Ideal S512x128 .bf16) (x2 : Vec Ideal S512x2048 .bf16) (x3 : Vec Ideal S2048x512 .bf16) (y : S16x144x512.Idx) :
    (out0_A_5 c i arg2 harg2 arg3 harg3 arg4 harg4 arg5 harg5 arg6 harg6 arg7 harg7 x0 x1 x2 x3 y : EReal) = valBlk (k0_pay3 x0 x3) y := by
  have l2 : View.readAt (Elt Ideal) arg2.view (Rect.unit (s := S512x512) ![0, 0] ![512, 512] inb_S512x512_S512x512_0_0).toLoadRect (harg2.unread x0) = x0 := load_eq arg2 harg2 x0 _
  have l5 : View.readAt (Elt Ideal) arg5.view (Rect.unit (s := S2048x512) ![0, 0] ![2048, 512] inb_S2048x512_S2048x512_0_0).toLoadRect (harg5.unread x3) = x3 := load_eq arg5 harg5 x3 _
  have hL : ∀ p ∈ (kernelRun0_A c i arg2 harg2 arg3 harg3 arg4 harg4 arg5 harg5 arg6 harg6 arg7 harg7 x0 x1 x2 x3).2.1, ∀ x : p.1.shape.Idx, p.2 x = (valBlk (k0_pay3 x0 x3) : S16x144x512.Idx → EReal) (p.1.emb x) := by
    unfold kernelRun0_A
    dsimp only
    unfold kernelRun0_A.sl.r_4 kernelRun0_A.sl.r_3 kernelRun0_A.sl.r_1
    rw [l2, l5]
    simp only [List.forall_mem_cons, List.not_mem_nil, false_implies, implies_true, and_true]
    refine ⟨fun x => ones_piece (k0_pay3 x0 x3) 15 _ x,
      fun x => val_piece (k0_pay3 x0 x3) 15 1920 rfl _ _ x,
      fun x => ones_piece (k0_pay3 x0 x3) 14 _ x,
      fun x => val_piece (k0_pay3 x0 x3) 14 1792 rfl _ _ x,
      fun x => ones_piece (k0_pay3 x0 x3) 13 _ x,
      fun x => val_piece (k0_pay3 x0 x3) 13 1664 rfl _ _ x,
      fun x => ones_piece (k0_pay3 x0 x3) 12 _ x,
      fun x => val_piece (k0_pay3 x0 x3) 12 1536 rfl _ _ x,
      fun x => ones_piece (k0_pay3 x0 x3) 11 _ x,
      fun x => val_piece (k0_pay3 x0 x3) 11 1408 rfl _ _ x,
      fun x => ones_piece (k0_pay3 x0 x3) 10 _ x,
      fun x => val_piece (k0_pay3 x0 x3) 10 1280 rfl _ _ x,
      fun x => ones_piece (k0_pay3 x0 x3) 9 _ x,
      fun x => val_piece (k0_pay3 x0 x3) 9 1152 rfl _ _ x,
      fun x => ones_piece (k0_pay3 x0 x3) 8 _ x,
      fun x => val_piece (k0_pay3 x0 x3) 8 1024 rfl _ _ x,
      fun x => ones_piece (k0_pay3 x0 x3) 7 _ x,
      fun x => val_piece (k0_pay3 x0 x3) 7 896 rfl _ _ x,
      fun x => ones_piece (k0_pay3 x0 x3) 6 _ x,
      fun x => val_piece (k0_pay3 x0 x3) 6 768 rfl _ _ x,
      fun x => ones_piece (k0_pay3 x0 x3) 5 _ x,
      fun x => val_piece (k0_pay3 x0 x3) 5 640 rfl _ _ x,
      fun x => ones_piece (k0_pay3 x0 x3) 4 _ x,
      fun x => val_piece (k0_pay3 x0 x3) 4 512 rfl _ _ x,
      fun x => ones_piece (k0_pay3 x0 x3) 3 _ x,
      fun x => val_piece (k0_pay3 x0 x3) 3 384 rfl _ _ x,
      fun x => ones_piece (k0_pay3 x0 x3) 2 _ x,
      fun x => val_piece (k0_pay3 x0 x3) 2 256 rfl _ _ x,
      fun x => ones_piece (k0_pay3 x0 x3) 1 _ x,
      fun x => val_piece (k0_pay3 x0 x3) 1 128 rfl _ _ x,
      fun x => ones_piece (k0_pay3 x0 x3) 0 _ x,
      fun x => val_piece (k0_pay3 x0 x3) 0 0 rfl _ _ x⟩
  unfold out0_A_5
  exact View.read_writes_apply_of_pieces VO0_5 VO0_5.junk (valBlk (k0_pay3 x0 x3) : S16x144x512.Idx → EReal) _ hL y (cover0_A_5 c i arg2 harg2 arg3 harg3 arg4 harg4 arg5 harg5 arg6 harg6 arg7 harg7 x0 x1 x2 x3 y)

end Cert.Kv
-- ==== Proof.Ffn.Kv.lean ====
module

public import proofs.«01_k».proof.Proof.Ffn.KvBlock

/-!
The latent attention's keys and values, the call's two arrays element by element.
-/

@[expose] public section

set_option maxRecDepth 16384

noncomputable section

namespace Cert.Kv

open Cert.KvIdeal Cert.KvIdeal.Gen Cert.KvIdeal.Value Idealize.ShloMosaic Idealize.ShloMosaic.TcCoe Idealize.SL.Sem

/-- The projection at token `r` and column `n`. -/
def kvAt (C : S49152x512.Idx → EReal) (W : S512x4096.Idx → EReal) (r : Fin 49152) (n : Fin 4096) : EReal :=
  ∑ k : Fin 512, C (ix2 r k) * W (ix2 k n)

/-- The key of head `h` at token `r`: the projection's lanes, then the rotated ones. -/
def keyAt (C : S49152x512.Idx → EReal) (R : S49152x128.Idx → EReal) (W : S512x4096.Idx → EReal) (h : Fin 16) (r : Fin 49152) (l : Fin 256) : EReal :=
  if hl : l.val < 128 then kvAt C W r ⟨256 * h.val + l.val, by omega⟩ else R (ix2 r ⟨l.val - 128, by omega⟩)

/-- The value of head `h` at token `r`, transposed over a row of ones and rows of zeros. -/
def valAt (C : S49152x512.Idx → EReal) (W : S512x4096.Idx → EReal) (h : Fin 16) (d : Fin 144) (r : Fin 49152) : EReal :=
  if hd : d.val < 128 then kvAt C W r ⟨256 * h.val + 128 + d.val, by omega⟩
  else if d.val = 128 then Ideal.ofBits .f32 0x3F800000#32 else Ideal.ofBits .f32 0x00000000#32

variable (m : (ℓ : Loc nD τ sig) → Buf (Elt Ideal) ℓ)

theorem keyWeight_apply (c : Dev nD) (k : Fin 512) (j : Fin 2048) :
    V m c main_v3 (ix2 k j) = m (c, Proc.tc.devRef main_arg2) (ix2 k ⟨256 * (j.val / 128) + j.val % 128, by omega⟩) := by
  unfold V
  after_reads_at
  refine congrArg (m (c, Proc.tc.devRef main_arg2)) (funext fun a => Fin.ext ?_)
  match a with
  | 0 => rfl
  | 1 => show j.val / 128 * 256 + j.val % 128 = 256 * (j.val / 128) + j.val % 128; omega

theorem valWeight_apply (c : Dev nD) (j : Fin 2048) (k : Fin 512) :
    V m c main_v7 (ix2 j k) = m (c, Proc.tc.devRef main_arg2) (ix2 k ⟨256 * (j.val / 128) + 128 + j.val % 128, by omega⟩) := by
  unfold V
  after_reads_at
  refine congrArg (m (c, Proc.tc.devRef main_arg2)) (funext fun a => Fin.ext ?_)
  match a with
  | 0 => rfl
  | 1 => show j.val / 128 * 256 + (128 + j.val % 128) = 256 * (j.val / 128) + 128 + j.val % 128; omega

/-- The products of a grid point's blocks. -/
theorem keyProduct (x0 : Vec Ideal S512x512 .bf16) (x2 : Vec Ideal S512x2048 .bf16) (i : Fin 512) (n : Fin 2048) :
    (k0_pay2 x0 x2 (ix2 i n) : EReal) = ∑ k : Fin 512, (x0 (ix2 i k) : EReal) * x2 (ix2 k n) := by
  unfold k0_pay2
  pointwise

theorem valProduct (x0 : Vec Ideal S512x512 .bf16) (x3 : Vec Ideal S2048x512 .bf16) (n : Fin 2048) (i : Fin 512) :
    (k0_pay3 x0 x3 (ix2 n i) : EReal) = ∑ k : Fin 512, (x0 (ix2 i k) : EReal) * x3 (ix2 n k) := by
  refine Eq.trans (b := ∑ k : Fin 512, (x3 (ix2 n k) : EReal) * x0 (ix2 i k)) ?_ (Finset.sum_congr rfl fun k _ => mul_comm _ _)
  unfold k0_pay3
  pointwise

theorem idx0 : ∀ t : Fin cfg0.N, ∀ a, (cfg0.win 0).index t a = ![t.val, 0] a := by decide +kernel
theorem idx1 : ∀ t : Fin cfg0.N, ∀ a, (cfg0.win 1).index t a = ![t.val, 0] a := by decide +kernel
theorem idx2 : ∀ t : Fin cfg0.N, ∀ a, (cfg0.win 2).index t a = ![0, 0] a := by decide +kernel
theorem idx3 : ∀ t : Fin cfg0.N, ∀ a, (cfg0.win 3).index t a = ![0, 0] a := by decide +kernel
theorem idx4 : ∀ t : Fin cfg0.N, ∀ a, (cfg0.win 4).index t a = ![0, t.val, 0] a := by decide +kernel
theorem idx5 : ∀ t : Fin cfg0.N, ∀ a, (cfg0.win 5).index t a = ![0, 0, t.val] a := by decide +kernel

theorem point_lt (t : Fin cfg0.N) : t.val < 96 := t.isLt

/-- The token that is row `i` of block `t`. -/
def rowOf (t : Fin cfg0.N) (i : Fin 512) : Fin 49152 := ⟨512 * t.val + i.val, by have := point_lt t; omega⟩

theorem blk0 (c : Dev nD) (t : Fin cfg0.N) (i : Fin 512) (k : Fin 512) :
    iblk m c 0 t (ix2 i k) = m (c, Proc.tc.devRef main_arg0) (ix2 (rowOf t i) k) := by
  refine Eq.trans (b := V m c main_arg0 ((win0_0.blk t).view.emb (ix2 i k))) (by rfl) ?_
  rw [V_main_arg0]
  refine congrArg (m (c, Proc.tc.devRef main_arg0)) (funext fun a => Fin.ext ((win0_0.rect_emb_val t _ a).trans ?_))
  rw [show win0_0.index t a = _ from idx0 t a]
  match a with
  | 0 => show t.val * 512 + i.val = 512 * t.val + i.val; omega
  | 1 => show 0 * 512 + k.val = k.val; omega

theorem blk1 (c : Dev nD) (t : Fin cfg0.N) (i : Fin 512) (l : Fin 128) :
    iblk m c 1 t (ix2 i l) = m (c, Proc.tc.devRef main_arg1) (ix2 (rowOf t i) l) := by
  refine Eq.trans (b := V m c main_arg1 ((win0_1.blk t).view.emb (ix2 i l))) (by rfl) ?_
  rw [V_main_arg1]
  refine congrArg (m (c, Proc.tc.devRef main_arg1)) (funext fun a => Fin.ext ((win0_1.rect_emb_val t _ a).trans ?_))
  rw [show win0_1.index t a = _ from idx1 t a]
  match a with
  | 0 => show t.val * 512 + i.val = 512 * t.val + i.val; omega
  | 1 => show 0 * 128 + l.val = l.val; omega

theorem blk2 (c : Dev nD) (t : Fin cfg0.N) (k : Fin 512) (j : Fin 2048) :
    iblk m c 2 t (ix2 k j) = m (c, Proc.tc.devRef main_arg2) (ix2 k ⟨256 * (j.val / 128) + j.val % 128, by omega⟩) := by
  refine Eq.trans (b := V m c main_v3 ((win0_2.blk t).view.emb (ix2 k j))) (by rfl) ?_
  rw [← keyWeight_apply m c]
  refine congrArg (V m c main_v3) (funext fun a => Fin.ext ((win0_2.rect_emb_val t _ a).trans ?_))
  rw [show win0_2.index t a = _ from idx2 t a]
  match a with
  | 0 => show 0 * 512 + k.val = k.val; omega
  | 1 => show 0 * 2048 + j.val = j.val; omega

theorem blk3 (c : Dev nD) (t : Fin cfg0.N) (j : Fin 2048) (k : Fin 512) :
    iblk m c 3 t (ix2 j k) = m (c, Proc.tc.devRef main_arg2) (ix2 k ⟨256 * (j.val / 128) + 128 + j.val % 128, by omega⟩) := by
  refine Eq.trans (b := V m c main_v7 ((win0_3.blk t).view.emb (ix2 j k))) (by rfl) ?_
  rw [← valWeight_apply m c]
  refine congrArg (V m c main_v7) (funext fun a => Fin.ext ((win0_3.rect_emb_val t _ a).trans ?_))
  rw [show win0_3.index t a = _ from idx3 t a]
  match a with
  | 0 => show 0 * 2048 + j.val = j.val; omega
  | 1 => show 0 * 512 + k.val = k.val; omega

/-- The keys that the call leaves. -/
def keyArr (c : Dev nD) : S16x49152x256.Idx → EReal := fun y =>
  keyAt (m (c, Proc.tc.devRef main_arg0)) (m (c, Proc.tc.devRef main_arg1)) (m (c, Proc.tc.devRef main_arg2)) (y 0) (y 1) (y 2)

/-- The values that the call leaves. -/
def valArr (c : Dev nD) : S16x144x49152.Idx → EReal := fun y =>
  valAt (m (c, Proc.tc.devRef main_arg0)) (m (c, Proc.tc.devRef main_arg2)) (y 0) (y 1) (y 2)

/-- A block's keys are the array's at its tokens. -/
theorem keyBlk_apply (c : Dev nD) (t : Fin cfg0.N) (h : Fin 16) (i : Fin 512) (l : Fin 256) :
    keyBlk (k0_pay2 (iblk m c 0 t) (iblk m c 2 t)) (iblk m c 1 t) (ix3 h i l)
      = keyAt (m (c, Proc.tc.devRef main_arg0)) (m (c, Proc.tc.devRef main_arg1)) (m (c, Proc.tc.devRef main_arg2)) h (rowOf t i) l := by
  unfold keyAt
  by_cases hl : l.val < 128
  · rw [dif_pos hl, keyBlk_lo _ _ _ h i ⟨l.val, hl⟩ rfl rfl rfl]
    refine (keyProduct _ _ i _).trans (Finset.sum_congr rfl fun k _ => ?_)
    rw [blk0, blk2]
    refine congrArg (fun n => HMul.hMul (α := EReal) (β := EReal) (γ := EReal) (m (c, Proc.tc.devRef main_arg0) (ix2 (rowOf t i) k)) (m (c, Proc.tc.devRef main_arg2) (ix2 k n))) (Fin.ext ?_)
    show 256 * ((128 * h.val + l.val) / 128) + (128 * h.val + l.val) % 128 = 256 * h.val + l.val
    omega
  · rw [dif_neg hl, keyBlk_hi _ _ _ i ⟨l.val - 128, by omega⟩ rfl (by show l.val = 128 + (l.val - 128); omega)]
    exact blk1 m c t i _

/-- A block's values are the array's at its tokens. -/
theorem valBlk_apply (c : Dev nD) (t : Fin cfg0.N) (h : Fin 16) (d : Fin 144) (i : Fin 512) :
    valBlk (k0_pay3 (iblk m c 0 t) (iblk m c 3 t)) (ix3 h d i)
      = valAt (m (c, Proc.tc.devRef main_arg0)) (m (c, Proc.tc.devRef main_arg2)) h d (rowOf t i) := by
  unfold valAt
  by_cases hd : d.val < 128
  · rw [dif_pos hd, valBlk_lo _ _ h ⟨d.val, hd⟩ i rfl rfl rfl]
    refine (valProduct _ _ _ i).trans (Finset.sum_congr rfl fun k _ => ?_)
    rw [blk0, blk3]
    refine congrArg (fun n => HMul.hMul (α := EReal) (β := EReal) (γ := EReal) (m (c, Proc.tc.devRef main_arg0) (ix2 (rowOf t i) k)) (m (c, Proc.tc.devRef main_arg2) (ix2 k n))) (Fin.ext ?_)
    show 256 * ((128 * h.val + d.val) / 128) + 128 + (128 * h.val + d.val) % 128 = 256 * h.val + 128 + d.val
    omega
  · rw [dif_neg hd]
    exact dif_neg hd

theorem key_outs (c : Dev nD) (t : Fin cfg0.N) (h : Fin 16) (i : Fin 512) (l : Fin 256) :
    ((outsAt0 m c t).1 (ix3 h i l) : EReal) = keyAt (m (c, Proc.tc.devRef main_arg0)) (m (c, Proc.tc.devRef main_arg1)) (m (c, Proc.tc.devRef main_arg2)) h (rowOf t i) l := by
  unfold outsAt0
  have e := keys_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ix3 h i l)
  have e' := keyBlk_apply m c t h i l
  refine Eq.trans ?_ e'
  dsimp only
  rw [e]

theorem keyArr_at (c : Dev nD) (t : Fin cfg0.N) (h : Fin 16) (i : Fin 512) (l : Fin 256) (z : S16x49152x256.Idx) (z0 : z 0 = h) (z1 : z 1 = (rowOf t i)) (z2 : z 2 = l) :
    keyAt (m (c, Proc.tc.devRef main_arg0)) (m (c, Proc.tc.devRef main_arg1)) (m (c, Proc.tc.devRef main_arg2)) h (rowOf t i) l = keyArr m c z := by
  unfold keyArr
  rw [z0, z1, z2]

theorem key_emb (t : Fin cfg0.N) (y : S16x512x256.Idx) (a : Fin 3) : (((View.whole main_v8_0).slice (win0_4.rect t)).emb y a : ℕ) = ![0, t.val, 0] a * ![16, 512, 256] a + (y a : ℕ) := by
  refine (win0_4.rect_emb_val t y a).trans ?_
  rw [show win0_4.index t a = _ from idx4 t a]

theorem key_eq (c : Dev nD) : (dats m 0 c).arrAt 4 cfg0.N = keyArr m c := by
  refine (dats m 0 c).arrAt_eq_of_covers 4 _ (by decide +kernel) fun t hf y => ?_
  blk_simp
  rw [after0_4]
  obtain ⟨h, i, l, rfl⟩ : ∃ (h : Fin 16) (i : Fin 512) (l : Fin 256), y = (ix3 h i l : S16x512x256.Idx) :=
    ⟨y 0, y 1, y 2, funext fun a => by match a with | 0 => rfl | 1 => rfl | 2 => rfl⟩
  refine (key_outs m c t h i l).trans (keyArr_at m c t h i l _ (Fin.ext ((key_emb t _ 0).trans ?_)) (Fin.ext ((key_emb t _ 1).trans ?_)) (Fin.ext ((key_emb t _ 2).trans ?_)))
  · show 0 * 16 + h.val = h.val; omega
  · show t.val * 512 + i.val = 512 * t.val + i.val; omega
  · show 0 * 256 + l.val = l.val; omega

theorem val_outs (c : Dev nD) (t : Fin cfg0.N) (h : Fin 16) (d : Fin 144) (i : Fin 512) :
    ((outsAt0 m c t).2 (ix3 h d i) : EReal) = valAt (m (c, Proc.tc.devRef main_arg0)) (m (c, Proc.tc.devRef main_arg2)) h d (rowOf t i) := by
  unfold outsAt0
  exact (vals_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ix3 h d i)).trans (valBlk_apply m c t h d i)

theorem valArr_at (c : Dev nD) (t : Fin cfg0.N) (h : Fin 16) (d : Fin 144) (i : Fin 512) (z : S16x144x49152.Idx) (z0 : z 0 = h) (z1 : z 1 = d) (z2 : z 2 = (rowOf t i)) :
    valAt (m (c, Proc.tc.devRef main_arg0)) (m (c, Proc.tc.devRef main_arg2)) h d (rowOf t i) = valArr m c z := by
  unfold valArr
  rw [z0, z1, z2]

theorem val_emb (t : Fin cfg0.N) (y : S16x144x512.Idx) (a : Fin 3) : (((View.whole main_v8_1).slice (win0_5.rect t)).emb y a : ℕ) = ![0, 0, t.val] a * ![16, 144, 512] a + (y a : ℕ) := by
  refine (win0_5.rect_emb_val t y a).trans ?_
  rw [show win0_5.index t a = _ from idx5 t a]

theorem val_eq (c : Dev nD) : (dats m 0 c).arrAt 5 cfg0.N = valArr m c := by
  refine (dats m 0 c).arrAt_eq_of_covers 5 _ (by decide +kernel) fun t hf y => ?_
  blk_simp
  rw [after0_5]
  obtain ⟨h, d, i, rfl⟩ : ∃ (h : Fin 16) (d : Fin 144) (i : Fin 512), y = (ix3 h d i : S16x144x512.Idx) :=
    ⟨y 0, y 1, y 2, funext fun a => by match a with | 0 => rfl | 1 => rfl | 2 => rfl⟩
  refine (val_outs m c t h d i).trans (valArr_at m c t h d i _ (Fin.ext ((val_emb t _ 0).trans ?_)) (Fin.ext ((val_emb t _ 1).trans ?_)) (Fin.ext ((val_emb t _ 2).trans ?_)))
  · show 0 * 16 + h.val = h.val; omega
  · show 0 * 144 + d.val = d.val; omega
  · show t.val * 512 + i.val = 512 * t.val + i.val; omega

end Cert.Kv
-- ==== Proof.Ffn.KvRef.lean ====
module

public import proofs.«01_k».proof.Proof.Ffn.Kv
public import proofs.«01_k».proof.Proof.Gen.KvReferenceIdeal.Run

/-!
The reference of the latent attention's keys and values, read element by element.
-/

@[expose] public section

set_option maxRecDepth 16384

noncomputable section

namespace Cert.Kv.Ref

open Cert.KvReferenceIdeal Cert.KvReferenceIdeal.Gen Idealize.ShloMosaic Idealize.ShloMosaic.TcCoe Idealize.SL.Sem Idealize.ShloMosaic.StableHlo

/-- The projection with its columns split into heads. -/
def split (C : FVec Ideal S49152x512 .bf16) (W : FVec Ideal S512x4096 .f32) : FVec Ideal S49152x16x256 .f32 :=
  shapeCast _ (Host.dotGeneral dot_S49152x512_S512x4096_S49152x4096_1_0_0_1_n_n none (extf .f32 C bitsLt_bf16_f32) W) shapeCasts_S49152x4096_S49152x16x256

theorem split_apply (C : FVec Ideal S49152x512 .bf16) (W : FVec Ideal S512x4096 .f32) (r : Fin 49152) (h : Fin 16) (l : Fin 256) :
    (split C W (ix3 r h l) : EReal) = kvAt C W r ⟨256 * h.val + l.val, by omega⟩ := by
  unfold split
  pointwise
  refine Finset.sum_congr rfl fun k _ => congrArg (fun n => C (ix2 r k) * W (ix2 k n)) (Fin.ext ?_)
  show h.val * 256 + l.val = 256 * h.val + l.val
  omega

/-- The keys, from the split projection. -/
def keys (Y : FVec Ideal S49152x16x256 .f32) (R : FVec Ideal S49152x128 .bf16) : FVec Ideal S16x49152x256 .bf16 :=
  truncf .bf16 (transpose S16x49152x256 [1, 0, 2] (concatenate S49152x16x256 2 [⟨S49152x16x128, (extractStridedSlice S49152x16x128 ![0, 0, 0] Y slices_S49152x16x256_S49152x16x128_0_0_0 : FVec Ideal S49152x16x128 .f32)⟩,
    ⟨S49152x16x128, (broadcastInDim S49152x16x128 ![0, 1, 2] bcast_S49152x1x128_S49152x16x128_0_1_2 (broadcastInDim S49152x1x128 ![0, 2] bcast_S49152x128_S49152x1x128_0_2 (extf .f32 R bitsLt_bf16_f32)) : FVec Ideal S49152x16x128 .f32)⟩]
    concatenates_S49152x16x128_S49152x16x128_S49152x16x256_d2) transposes_S49152x16x256_S16x49152x256_1_0_2) bitsLt_bf16_f32

theorem keys_apply (Y : FVec Ideal S49152x16x256 .f32) (R : FVec Ideal S49152x128 .bf16) (h : Fin 16) (r : Fin 49152) (l : Fin 256) :
    (keys Y R (ix3 h r l) : EReal) = if hl : l.val < 128 then Y (ix3 r h l) else R (ix2 r ⟨l.val - 128, by omega⟩) := by
  unfold keys
  pointwise

/-- The transposed values, from the split projection. -/
def vals (Y : FVec Ideal S49152x16x256 .f32) : FVec Ideal S16x144x49152 .bf16 :=
  truncf .bf16 (concatenate S16x144x49152 1 [⟨S16x128x49152, (transpose S16x128x49152 [1, 2, 0] (extractStridedSlice S49152x16x128 ![0, 0, 128] Y slices_S49152x16x256_S49152x16x128_0_0_128) transposes_S49152x16x128_S16x128x49152_1_2_0 : FVec Ideal S16x128x49152 .f32)⟩,
    ⟨S16x1x49152, (broadcastInDim S16x1x49152 ![] bcast_S_S16x1x49152 (constant S_ .f32 0x3F800000#32) : FVec Ideal S16x1x49152 .f32)⟩,
    ⟨S16x15x49152, (broadcastInDim S16x15x49152 ![] bcast_S_S16x15x49152 (constant S_ .f32 0x00000000#32) : FVec Ideal S16x15x49152 .f32)⟩]
    concatenates_S16x128x49152_S16x1x49152_S16x15x49152_S16x144x49152_d1 : FVec Ideal S16x144x49152 .f32) bitsLt_bf16_f32

theorem vals_apply (Y : FVec Ideal S49152x16x256 .f32) (h : Fin 16) (d : Fin 144) (r : Fin 49152) :
    (vals Y (ix3 h d r) : EReal) = if hd : d.val < 128 then Y (ix3 r h ⟨128 + d.val, by omega⟩)
      else if d.val = 128 then Ideal.ofBits .f32 0x3F800000#32 else Ideal.ofBits .f32 0x00000000#32 := by
  unfold vals
  pointwise
  by_cases hd : d.val < 128
  · rw [dif_pos hd, dif_pos hd]
  · rw [dif_neg hd, dif_neg hd]
    by_cases h1 : d.val = 128
    · rw [dif_pos (by omega), if_pos h1]
    · rw [dif_neg (by omega), if_neg h1]

theorem key_result (C : FVec Ideal S49152x512 .bf16) (R : FVec Ideal S49152x128 .bf16) (W : FVec Ideal S512x4096 .f32) (h : Fin 16) (r : Fin 49152) (l : Fin 256) :
    (keys (split C W) R (ix3 h r l) : EReal) = keyAt C R W h r l := by
  rw [keys_apply, split_apply]
  rfl

theorem val_result (C : FVec Ideal S49152x512 .bf16) (W : FVec Ideal S512x4096 .f32) (h : Fin 16) (d : Fin 144) (r : Fin 49152) :
    (vals (split C W) (ix3 h d r) : EReal) = valAt C W h d r := by
  rw [vals_apply]
  unfold valAt
  by_cases hd : d.val < 128
  · rw [dif_pos hd, dif_pos hd, split_apply]
    refine congrArg (kvAt C W r) (Fin.ext ?_)
    show 256 * h.val + (128 + d.val) = 256 * h.val + 128 + d.val
    omega
  · rw [dif_neg hd, dif_neg hd]

/-- The reference's run, with its two results read element by element. -/
theorem ref_run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
      (∀ h i l, r.2.mem ((c.tc : Thread nD τ).loc main_v13) (ix3 h i l) = keyAt (m (c, Proc.tc.devRef main_arg0)) (m (c, Proc.tc.devRef main_arg1)) (m (c, Proc.tc.devRef main_arg2)) h i l)
      ∧ (∀ h d i, r.2.mem ((c.tc : Thread nD τ).loc main_v15) (ix3 h d i) = valAt (m (c, Proc.tc.devRef main_arg0)) (m (c, Proc.tc.devRef main_arg2)) h d i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2, h3⟩ := h c
  refine ⟨fun h i l => (congrFun h1 (ix3 h i l)).trans ?_, fun h d i => (congrFun h2 (ix3 h d i)).trans ?_, h3⟩
  · refine Eq.trans (b := keys (split (m (c, Proc.tc.devRef main_arg0)) (m (c, Proc.tc.devRef main_arg2))) (m (c, Proc.tc.devRef main_arg1)) (ix3 h i l)) (by rfl) ?_
    exact key_result _ _ _ h i l
  · refine Eq.trans (b := vals (split (m (c, Proc.tc.devRef main_arg0)) (m (c, Proc.tc.devRef main_arg2))) (ix3 h d i)) (by rfl) ?_
    exact val_result _ _ h d i

end Cert.Kv.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Na.Value
public import proofs.«01_k».proof.Proof.Na.Finite
public import proofs.«01_k».proof.Proof.Ffn.Up
public import proofs.«01_k».proof.Proof.Ffn.Prompt
public import proofs.«01_k».proof.Proof.Ffn.Sample
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptReferenceIdeal
public import proofs.«01_k».proof.Proof.Gen.PromptReferenceIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleReferenceIdeal
public import proofs.«01_k».proof.Proof.Gen.SampleReferenceIdeal.Run
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaReferenceIdeal
public import proofs.«01_k».proof.Proof.Gen.MlaReferenceIdeal.Run
public import proofs.«01_k».proof.Proof.Gen.Pre_mla_finite
public import proofs.«01_k».proof.Proof.Mla.Value
public import proofs.«01_k».proof.Proof.Mla.Same
public import proofs.«01_k».proof.Proof.Mla.Finite
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.Ffn.Down
public import proofs.«01_k».proof.Proof.Ffn.Out
public import proofs.«01_k».proof.Proof.Ffn.OutRef
public import proofs.«01_k».proof.Proof.Ffn.Qkv
public import proofs.«01_k».proof.Proof.Ffn.QkvRef
public import proofs.«01_k».proof.Proof.Gen.Parts
public import proofs.«01_k».proof.Proof.Gen.Parts.Skeleton
public import proofs.«01_k».proof.Proof.Gen.Parts.Launch
public import proofs.«01_k».proof.Proof.Gen.Parts.Points
public import proofs.«01_k».proof.Proof.Gen.Parts.Frame
public import proofs.«01_k».proof.Proof.Gen.PartsIdeal
public import proofs.«01_k».proof.Proof.Gen.PartsIdeal.Skeleton
public import proofs.«01_k».proof.Proof.Gen.PartsIdeal.Launch
public import proofs.«01_k».proof.Proof.Gen.PartsIdeal.Points
public import proofs.«01_k».proof.Proof.Gen.PartsIdeal.Frame
public import proofs.«01_k».proof.Proof.Gen.PartsIdeal.Value
public import proofs.«01_k».proof.Proof.Gen.PartsReferenceIdeal
public import proofs.«01_k».proof.Proof.Gen.PartsReferenceIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvReferenceIdeal
public import proofs.«01_k».proof.Proof.Gen.KvReferenceIdeal.Run
public import proofs.«01_k».proof.Proof.Ffn.Parts
public import proofs.«01_k».proof.Proof.Ffn.PartsRef
public import proofs.«01_k».proof.Proof.Ffn.Kv
public import proofs.«01_k».proof.Proof.Ffn.KvRef
public import Idealize.ShloMosaic.Adequacy
public import Idealize.ShloMosaic.Init

@[expose] public section

noncomputable section

namespace Cert.Proof

open Idealize.ShloMosaic Idealize.SL.Sem Cert.Kernel

/-- The reference's result is the array the kernel leaves, when the memories agree on real queries, keys and bias table. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (X : Cert.KernelIdeal.S3x16384x6144.Idx → EReal) (B : Cert.KernelIdeal.S1x16x15x31.Idx → EReal)
    (hX : m (c, Proc.tc.devRef Cert.KernelIdeal.main_arg0) = X) (hB : m (c, Proc.tc.devRef Cert.KernelIdeal.main_arg1) = B)
    (hX' : m' (c, Proc.tc.devRef Cert.ReferenceIdeal.main_arg0) = X) (hB' : m' (c, Proc.tc.devRef Cert.ReferenceIdeal.main_arg1) = B)
    (fX : ∀ (s : Fin 3) (t : Fin 16384) (g : Fin 6144), g.val < 4096 → ∃ r : ℝ, X (ix3 s t g) = (r : EReal))
    (fB : ∀ (h : Fin 16) (i : Fin 15) (j : Fin 31), ∃ r : ℝ, B (ix4 0 h i j) = (r : EReal)) :
    Cert.ReferenceIdeal.Value.res_main_v107 m' c = Cert.Na.outArr m c := by
  obtain ⟨S, vg, hS, hv, hr⟩ := Cert.Na.Ref.parts m' c
  funext y
  obtain ⟨h, R, d, rfl⟩ : ∃ (h : Fin 16) (R : Fin 49152) (d : Fin 128), y = ix3 h R d :=
    ⟨y 0, y 1, y 2, by funext a; match a with | 0 => rfl | 1 => rfl | 2 => rfl⟩
  rw [hr]
  show _ = Cert.Na.attnAt (m (c, Proc.tc.devRef Cert.KernelIdeal.main_arg0)) (m (c, Proc.tc.devRef Cert.KernelIdeal.main_arg1)) h R d
  rw [hX, hB]
  rw [hX', hB'] at hS
  rw [hX'] at hv
  unfold Cert.Na.attnAt
  rw [Cert.Na.attention_eq X B fX fB h R d
    (fun n => S (ix5 (Cert.Na.seqOf R) h (Cert.Na.gridRow R) (Cert.Na.gridCol R) n)) (fun a k => hS _ _ _ _ a k)]
  refine Finset.sum_congr rfl fun k _ => Finset.sum_congr rfl fun a _ => ?_
  rw [Cert.Na.Ref.weights_apply, hv]
  rfl

/-- The reference runs, leaves its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run m ρ)

theorem value : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre heq
  refine ⟨fun c => Cert.Na.outArr m c, ?_, ?_⟩
  · refine (θ_run Cert.KernelIdeal.defs _ _).mono (fun r h c => ?_) (Cert.KernelIdeal.Value.run_blocks m g)
    obtain ⟨h1, h2, h3⟩ := h c
    exact ⟨h1.trans (Cert.Na.arr_eq m c), h2, h3⟩
  · refine (θ_run Cert.ReferenceIdeal.defs _ _).mono (fun r h c => ?_) (Cert.ReferenceIdeal.Value.run m' g')
    obtain ⟨h1, h2, h3⟩ := h c
    obtain ⟨fX, fB⟩ := Cert.Na.finite_iff _ _ (hpre c)
    exact ⟨h1.trans (result_eq m m' c _ _ rfl rfl (heq c).1 (heq c).2 fX fB), h2, h3⟩

theorem up_reference_frame (m : (ℓ : Loc Cert.UpReferenceIdeal.nD Cert.UpReferenceIdeal.τ Cert.UpReferenceIdeal.sig) → Buf (Elt Ideal) ℓ) (ρ : Dev Cert.UpReferenceIdeal.nD → PrngReg) :
    θ_run (Cert.UpReferenceIdeal.defs (F := Ideal)) (onTc (τ := Cert.UpReferenceIdeal.τ) (Cert.UpReferenceIdeal.main (F := Ideal))) ⟨m, fun _ => 0, ρ⟩
      (fun r => (∀ c : Dev Cert.UpReferenceIdeal.nD,
        r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
        ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
        ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
        ∧ r.2.sem = fun _ => 0) :=
  (θ_run Cert.UpReferenceIdeal.defs _ _).mono (fun r h => ⟨fun c => (h c).2, sem_eq_zero_of_no_sems (by decide) r.2⟩)
    (Cert.UpReferenceIdeal.Value.run m ρ)

theorem up_value : algebraic_UpIdeal_UpReferenceIdeal (hUpIdeal := Cert.UpIdeal.Gen.facts)
    (hUpReferenceIdeal := Cert.UpReferenceIdeal.Gen.facts) := by
  intro m g m' g' _ heq
  refine ⟨fun c => Cert.Ffn.Up.outArr m c, ?_, ?_⟩
  · refine (θ_run Cert.UpIdeal.defs _ _).mono (fun r h c => ?_) (Cert.UpIdeal.Value.run_blocks m g)
    obtain ⟨h1, h2⟩ := h c
    exact ⟨h1.trans (Cert.Ffn.Up.arr_eq m c), h2⟩
  · refine (θ_run Cert.UpReferenceIdeal.defs _ _).mono (fun r h c => ?_) (Cert.Ffn.Up.ref_run m' g')
    obtain ⟨h1, h2⟩ := h c
    obtain ⟨e0, e1, e2⟩ := heq c
    refine ⟨funext fun y => ?_, h2⟩
    obtain ⟨i, j, rfl⟩ : ∃ i j, y = ix2 i j := ⟨y 0, y 1, funext fun a => by match a with | 0 => rfl | 1 => rfl⟩
    refine (h1 i j).trans ?_
    unfold Cert.Ffn.Up.outArr
    rw [show m' (c, Proc.tc.devRef Cert.UpReferenceIdeal.main_arg0) = _ from e0,
      show m' (c, Proc.tc.devRef Cert.UpReferenceIdeal.main_arg1) = _ from e1,
      show m' (c, Proc.tc.devRef Cert.UpReferenceIdeal.main_arg2) = _ from e2]
    rfl

theorem prompt_reference_frame (m : (ℓ : Loc Cert.PromptReferenceIdeal.nD Cert.PromptReferenceIdeal.τ Cert.PromptReferenceIdeal.sig) → Buf (Elt Ideal) ℓ) (ρ : Dev Cert.PromptReferenceIdeal.nD → PrngReg) :
    θ_run (Cert.PromptReferenceIdeal.defs (F := Ideal)) (onTc (τ := Cert.PromptReferenceIdeal.τ) (Cert.PromptReferenceIdeal.main (F := Ideal))) ⟨m, fun _ => 0, ρ⟩
      (fun r => (∀ c : Dev Cert.PromptReferenceIdeal.nD,
        r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
        ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
        ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
        ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3))
        ∧ r.2.sem = fun _ => 0) :=
  (θ_run Cert.PromptReferenceIdeal.defs _ _).mono (fun r h => ⟨fun c => (h c).2, sem_eq_zero_of_no_sems (by decide) r.2⟩)
    (Cert.PromptReferenceIdeal.Value.run m ρ)

theorem prompt_value : algebraic_PromptIdeal_PromptReferenceIdeal (hPromptIdeal := Cert.PromptIdeal.Gen.facts)
    (hPromptReferenceIdeal := Cert.PromptReferenceIdeal.Gen.facts) := by
  intro m g m' g' _ heq
  refine ⟨fun c => Cert.Ffn.Prompt.outArr m c, ?_, ?_⟩
  · refine (θ_run Cert.PromptIdeal.defs _ _).mono (fun r h c => ?_) (Cert.PromptIdeal.Value.run_blocks m g)
    obtain ⟨h1, h2⟩ := h c
    exact ⟨h1.trans (Cert.Ffn.Prompt.arr_eq m c), h2⟩
  · refine (θ_run Cert.PromptReferenceIdeal.defs _ _).mono (fun r h c => ?_) (Cert.Ffn.Prompt.ref_run m' g')
    obtain ⟨h1, h2⟩ := h c
    obtain ⟨e0, e1, e2, e3⟩ := heq c
    refine ⟨funext fun y => ?_, h2⟩
    obtain ⟨i, j, rfl⟩ : ∃ i j, y = ix2 i j := ⟨y 0, y 1, funext fun a => by match a with | 0 => rfl | 1 => rfl⟩
    refine (h1 i j).trans ?_
    unfold Cert.Ffn.Prompt.outArr
    rw [show m' (c, Proc.tc.devRef Cert.PromptReferenceIdeal.main_arg0) = _ from e0, show m' (c, Proc.tc.devRef Cert.PromptReferenceIdeal.main_arg1) = _ from e1,
      show m' (c, Proc.tc.devRef Cert.PromptReferenceIdeal.main_arg2) = _ from e2, show m' (c, Proc.tc.devRef Cert.PromptReferenceIdeal.main_arg3) = _ from e3]
    rfl

theorem sample_reference_frame (m : (ℓ : Loc Cert.SampleReferenceIdeal.nD Cert.SampleReferenceIdeal.τ Cert.SampleReferenceIdeal.sig) → Buf (Elt Ideal) ℓ) (ρ : Dev Cert.SampleReferenceIdeal.nD → PrngReg) :
    θ_run (Cert.SampleReferenceIdeal.defs (F := Ideal)) (onTc (τ := Cert.SampleReferenceIdeal.τ) (Cert.SampleReferenceIdeal.main (F := Ideal))) ⟨m, fun _ => 0, ρ⟩
      (fun r => (∀ c : Dev Cert.SampleReferenceIdeal.nD,
        r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
        ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
        ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
        ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
        ∧ r.2.sem = fun _ => 0) :=
  (θ_run Cert.SampleReferenceIdeal.defs _ _).mono (fun r h => ⟨fun c => (h c).2, sem_eq_zero_of_no_sems (by decide) r.2⟩)
    (Cert.SampleReferenceIdeal.Value.run m ρ)

theorem sample_value : algebraic_SampleIdeal_SampleReferenceIdeal (hSampleIdeal := Cert.SampleIdeal.Gen.facts)
    (hSampleReferenceIdeal := Cert.SampleReferenceIdeal.Gen.facts) := by
  intro m g m' g' _ heq
  refine ⟨fun c => Cert.Ffn.Sample.outArr m c, ?_, ?_⟩
  · refine (θ_run Cert.SampleIdeal.defs _ _).mono (fun r h c => ?_) (Cert.SampleIdeal.Value.run_blocks m g)
    obtain ⟨h1, h2⟩ := h c
    exact ⟨h1.trans (Cert.Ffn.Sample.arr_eq m c), h2⟩
  · refine (θ_run Cert.SampleReferenceIdeal.defs _ _).mono (fun r h c => ?_) (Cert.Ffn.Sample.ref_run m' g')
    obtain ⟨h1, h2⟩ := h c
    obtain ⟨e0, e1, e2, e3⟩ := heq c
    refine ⟨funext fun y => ?_, h2⟩
    obtain ⟨i, j, rfl⟩ : ∃ i j, y = ix2 i j := ⟨y 0, y 1, funext fun a => by match a with | 0 => rfl | 1 => rfl⟩
    refine (h1 i j).trans ?_
    unfold Cert.Ffn.Sample.outArr
    rw [show m' (c, Proc.tc.devRef Cert.SampleReferenceIdeal.main_arg0) = _ from e0, show m' (c, Proc.tc.devRef Cert.SampleReferenceIdeal.main_arg1) = _ from e1,
      show m' (c, Proc.tc.devRef Cert.SampleReferenceIdeal.main_arg2) = _ from e2, show m' (c, Proc.tc.devRef Cert.SampleReferenceIdeal.main_arg3) = _ from e3]
    rfl

theorem mla_reference_frame (m : (ℓ : Loc Cert.MlaReferenceIdeal.nD Cert.MlaReferenceIdeal.τ Cert.MlaReferenceIdeal.sig) → Buf (Elt Ideal) ℓ) (ρ : Dev Cert.MlaReferenceIdeal.nD → PrngReg) :
    θ_run (Cert.MlaReferenceIdeal.defs (F := Ideal)) (onTc (τ := Cert.MlaReferenceIdeal.τ) (Cert.MlaReferenceIdeal.main (F := Ideal))) ⟨m, fun _ => 0, ρ⟩
      (fun r => (∀ c : Dev Cert.MlaReferenceIdeal.nD,
        r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
        ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
        ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
        ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
        ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
        ∧ r.2.sem = fun _ => 0) :=
  (θ_run Cert.MlaReferenceIdeal.defs _ _).mono (fun r h => ⟨fun c => (h c).2, sem_eq_zero_of_no_sems (by decide) r.2⟩)
    (Cert.MlaReferenceIdeal.Value.run m ρ)

theorem mla_value : algebraic_MlaIdeal_MlaReferenceIdeal_pre_mla_finite (hMlaIdeal := Cert.MlaIdeal.Gen.facts)
    (hMlaReferenceIdeal := Cert.MlaReferenceIdeal.Gen.facts) (hPre_mla_finite := Cert.Pre_mla_finite.Gen.facts) := by
  intro m g m' g' hpre heq
  refine ⟨fun c => Cert.Mla.outArr m c, ?_, ?_⟩
  · refine (θ_run Cert.MlaIdeal.defs _ _).mono (fun r h c => ?_) (θ_run_and (Cert.Mla.unchanged m g) (Cert.Mla.run_main m g))
    obtain ⟨fQ, fQr, fK, fKr⟩ := Cert.Mla.finite_iff _ _ _ _ _ (hpre c)
    exact ⟨((h.2 c).1 3).trans (Cert.Mla.arr_eq m c fQ fQr fK fKr), h.1 c⟩
  · refine (θ_run Cert.MlaReferenceIdeal.defs _ _).mono (fun r h c => ?_) (Cert.MlaReferenceIdeal.Value.run m' g')
    obtain ⟨h1, h2⟩ := h c
    obtain ⟨e0, e1, e2, e3, e4⟩ := heq c
    refine ⟨h1.trans (funext fun y => ?_), h2⟩
    obtain ⟨i, j, k, rfl⟩ : ∃ (i : Fin 16) (j : Fin 49152) (k : Fin 128), y = ix3 i j k :=
      ⟨y 0, y 1, y 2, funext fun a => by match a with | 0 => rfl | 1 => rfl | 2 => rfl⟩
    refine (Cert.Mla.ref_eq m' c i j k).trans ?_
    unfold Cert.Mla.outArr
    rw [show m' (c, Proc.tc.devRef Cert.MlaReferenceIdeal.main_arg0) = _ from e0, show m' (c, Proc.tc.devRef Cert.MlaReferenceIdeal.main_arg1) = _ from e1, show m' (c, Proc.tc.devRef Cert.MlaReferenceIdeal.main_arg2) = _ from e2, show m' (c, Proc.tc.devRef Cert.MlaReferenceIdeal.main_arg3) = _ from e3, show m' (c, Proc.tc.devRef Cert.MlaReferenceIdeal.main_arg4) = _ from e4]
    rfl

theorem down_reference_frame (m : (ℓ : Loc Cert.DownReferenceIdeal.nD Cert.DownReferenceIdeal.τ Cert.DownReferenceIdeal.sig) → Buf (Elt Ideal) ℓ) (ρ : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, ρ⟩
      (fun r => (∀ c : Dev Cert.DownReferenceIdeal.nD,
        r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
        ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
        ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
        ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
        ∧ r.2.sem = fun _ => 0) :=
  (θ_run Cert.DownReferenceIdeal.defs _ _).mono (fun r h => ⟨fun c => (h c).2.2, sem_eq_zero_of_no_sems (by decide) r.2⟩)
    (Cert.DownReferenceIdeal.Value.run m ρ)

theorem down_value : algebraic_DownIdeal_DownReferenceIdeal (hDownIdeal := Cert.DownIdeal.Gen.facts)
    (hDownReferenceIdeal := Cert.DownReferenceIdeal.Gen.facts) := by
  intro m g m' g' _ heq
  refine ⟨fun c => Cert.Ffn.Down.sumArr m c, fun c => Cert.Ffn.Down.normArr m c, ?_, ?_⟩
  · refine (θ_run Cert.DownIdeal.defs _ _).mono (fun r h c => ?_) (Cert.DownIdeal.Value.run_blocks m g)
    obtain ⟨h0, h1, h2⟩ := h c
    exact ⟨h0.trans (Cert.Ffn.Down.sum_eq m c), h1.trans (Cert.Ffn.Down.norm_eq m c), h2⟩
  · refine (θ_run Cert.DownReferenceIdeal.defs _ _).mono (fun r h c => ?_) (Cert.Ffn.Down.ref_run m' g')
    obtain ⟨h0, h1, h2⟩ := h c
    obtain ⟨e0, e1, e2, e3⟩ := heq c
    refine ⟨funext fun y => ?_, funext fun y => ?_, h2⟩
    · obtain ⟨i, j, rfl⟩ : ∃ i j, y = ix2 i j := ⟨y 0, y 1, funext fun a => by match a with | 0 => rfl | 1 => rfl⟩
      refine (h0 i j).trans ?_
      unfold Cert.Ffn.Down.sumArr
      rw [show m' (c, Proc.tc.devRef Cert.DownReferenceIdeal.main_arg0) = _ from e0,
        show m' (c, Proc.tc.devRef Cert.DownReferenceIdeal.main_arg1) = _ from e1,
        show m' (c, Proc.tc.devRef Cert.DownReferenceIdeal.main_arg2) = _ from e2]
      rfl
    · obtain ⟨i, j, rfl⟩ : ∃ i j, y = ix2 i j := ⟨y 0, y 1, funext fun a => by match a with | 0 => rfl | 1 => rfl⟩
      refine (h1 i j).trans ?_
      unfold Cert.Ffn.Down.normArr
      rw [show m' (c, Proc.tc.devRef Cert.DownReferenceIdeal.main_arg0) = _ from e0,
        show m' (c, Proc.tc.devRef Cert.DownReferenceIdeal.main_arg1) = _ from e1,
        show m' (c, Proc.tc.devRef Cert.DownReferenceIdeal.main_arg2) = _ from e2,
        show m' (c, Proc.tc.devRef Cert.DownReferenceIdeal.main_arg3) = _ from e3]
      rfl

theorem out_reference_frame (m : (ℓ : Loc Cert.OutReferenceIdeal.nD Cert.OutReferenceIdeal.τ Cert.OutReferenceIdeal.sig) → Buf (Elt Ideal) ℓ) (ρ : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, ρ⟩
      (fun r => (∀ c : Dev Cert.OutReferenceIdeal.nD,
        r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
        ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
        ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
        ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
        ∧ r.2.sem = fun _ => 0) :=
  (θ_run Cert.OutReferenceIdeal.defs _ _).mono (fun r h => ⟨fun c => (h c).2.2, sem_eq_zero_of_no_sems (by decide) r.2⟩)
    (Cert.OutReferenceIdeal.Value.run m ρ)

theorem out_value : algebraic_OutIdeal_OutReferenceIdeal (hOutIdeal := Cert.OutIdeal.Gen.facts)
    (hOutReferenceIdeal := Cert.OutReferenceIdeal.Gen.facts) := by
  intro m g m' g' _ heq
  refine ⟨fun c => Cert.Ffn.Out.sumArr m c, fun c => Cert.Ffn.Out.normArr m c, ?_, ?_⟩
  · refine (θ_run Cert.OutIdeal.defs _ _).mono (fun r h c => ?_) (Cert.OutIdeal.Value.run_blocks m g)
    obtain ⟨h0, h1, h2⟩ := h c
    exact ⟨h0.trans (Cert.Ffn.Out.sum_eq m c), h1.trans (Cert.Ffn.Out.norm_eq m c), h2⟩
  · refine (θ_run Cert.OutReferenceIdeal.defs _ _).mono (fun r h c => ?_) (Cert.Ffn.Out.Ref.ref_run m' g')
    obtain ⟨h0, h1, h2⟩ := h c
    obtain ⟨e0, e1, e2, e3⟩ := heq c
    refine ⟨funext fun y => ?_, funext fun y => ?_, h2⟩
    · obtain ⟨i, j, rfl⟩ : ∃ i j, y = ix2 i j := ⟨y 0, y 1, funext fun a => by match a with | 0 => rfl | 1 => rfl⟩
      refine (h0 i j).trans ?_
      unfold Cert.Ffn.Out.sumArr
      rw [show m' (c, Proc.tc.devRef Cert.OutReferenceIdeal.main_arg0) = _ from e0,
        show m' (c, Proc.tc.devRef Cert.OutReferenceIdeal.main_arg1) = _ from e1,
        show m' (c, Proc.tc.devRef Cert.OutReferenceIdeal.main_arg2) = _ from e2]
      rfl
    · obtain ⟨i, j, rfl⟩ : ∃ i j, y = ix2 i j := ⟨y 0, y 1, funext fun a => by match a with | 0 => rfl | 1 => rfl⟩
      refine (h1 i j).trans ?_
      unfold Cert.Ffn.Out.normArr
      rw [show m' (c, Proc.tc.devRef Cert.OutReferenceIdeal.main_arg0) = _ from e0,
        show m' (c, Proc.tc.devRef Cert.OutReferenceIdeal.main_arg1) = _ from e1,
        show m' (c, Proc.tc.devRef Cert.OutReferenceIdeal.main_arg2) = _ from e2,
        show m' (c, Proc.tc.devRef Cert.OutReferenceIdeal.main_arg3) = _ from e3]
      rfl

theorem qkv_reference_frame (m : (ℓ : Loc Cert.QkvReferenceIdeal.nD Cert.QkvReferenceIdeal.τ Cert.QkvReferenceIdeal.sig) → Buf (Elt Ideal) ℓ) (ρ : Dev Cert.QkvReferenceIdeal.nD → PrngReg) :
    θ_run (Cert.QkvReferenceIdeal.defs (F := Ideal)) (onTc (τ := Cert.QkvReferenceIdeal.τ) (Cert.QkvReferenceIdeal.main (F := Ideal))) ⟨m, fun _ => 0, ρ⟩
      (fun r => (∀ c : Dev Cert.QkvReferenceIdeal.nD,
        r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
        ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
        ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
        ∧ r.2.sem = fun _ => 0) :=
  (θ_run Cert.QkvReferenceIdeal.defs _ _).mono (fun r h => ⟨fun c => (h c).2, sem_eq_zero_of_no_sems (by decide) r.2⟩)
    (Cert.QkvReferenceIdeal.Value.run m ρ)

theorem qkv_value : algebraic_QkvIdeal_QkvReferenceIdeal (hQkvIdeal := Cert.QkvIdeal.Gen.facts)
    (hQkvReferenceIdeal := Cert.QkvReferenceIdeal.Gen.facts) := by
  intro m g m' g' _ heq
  refine ⟨fun c => Cert.Qkv.outArr m c, ?_, ?_⟩
  · refine (θ_run Cert.QkvIdeal.defs _ _).mono (fun r h c => ?_) (Cert.QkvIdeal.Value.run_blocks m g)
    obtain ⟨h0, h1⟩ := h c
    exact ⟨h0.trans (Cert.Qkv.arr_eq m c), h1⟩
  · refine (θ_run Cert.QkvReferenceIdeal.defs _ _).mono (fun r h c => ?_) (Cert.Qkv.Ref.ref_run m' g')
    obtain ⟨h0, h1⟩ := h c
    obtain ⟨e0, e1, e2⟩ := heq c
    refine ⟨funext fun y => ?_, h1⟩
    obtain ⟨i, j, l, rfl⟩ : ∃ i j l, y = ix3 i j l := ⟨y 0, y 1, y 2, funext fun a => by match a with | 0 => rfl | 1 => rfl | 2 => rfl⟩
    refine (h0 i j l).trans ?_
    unfold Cert.Qkv.outArr
    rw [show m' (c, Proc.tc.devRef Cert.QkvReferenceIdeal.main_arg0) = _ from e0,
      show m' (c, Proc.tc.devRef Cert.QkvReferenceIdeal.main_arg1) = _ from e1,
      show m' (c, Proc.tc.devRef Cert.QkvReferenceIdeal.main_arg2) = _ from e2]
    exact Cert.Qkv.refAt_eq _ _ _ _ _

theorem parts_reference_frame (m : (ℓ : Loc Cert.PartsReferenceIdeal.nD Cert.PartsReferenceIdeal.τ Cert.PartsReferenceIdeal.sig) → Buf (Elt Ideal) ℓ) (ρ : Dev Cert.PartsReferenceIdeal.nD → PrngReg) :
    θ_run (Cert.PartsReferenceIdeal.defs (F := Ideal)) (onTc (τ := Cert.PartsReferenceIdeal.τ) (Cert.PartsReferenceIdeal.main (F := Ideal))) ⟨m, fun _ => 0, ρ⟩
      (fun r => (∀ c : Dev Cert.PartsReferenceIdeal.nD,
        r.2.mem ((c.tc : Thread Cert.PartsReferenceIdeal.nD Cert.PartsReferenceIdeal.τ).loc Cert.PartsReferenceIdeal.main_arg0) = m ((c.tc : Thread Cert.PartsReferenceIdeal.nD Cert.PartsReferenceIdeal.τ).loc Cert.PartsReferenceIdeal.main_arg0)
        ∧ r.2.mem ((c.tc : Thread Cert.PartsReferenceIdeal.nD Cert.PartsReferenceIdeal.τ).loc Cert.PartsReferenceIdeal.main_arg1) = m ((c.tc : Thread Cert.PartsReferenceIdeal.nD Cert.PartsReferenceIdeal.τ).loc Cert.PartsReferenceIdeal.main_arg1)
        ∧ r.2.mem ((c.tc : Thread Cert.PartsReferenceIdeal.nD Cert.PartsReferenceIdeal.τ).loc Cert.PartsReferenceIdeal.main_arg2) = m ((c.tc : Thread Cert.PartsReferenceIdeal.nD Cert.PartsReferenceIdeal.τ).loc Cert.PartsReferenceIdeal.main_arg2)
        ∧ r.2.mem ((c.tc : Thread Cert.PartsReferenceIdeal.nD Cert.PartsReferenceIdeal.τ).loc Cert.PartsReferenceIdeal.main_arg3) = m ((c.tc : Thread Cert.PartsReferenceIdeal.nD Cert.PartsReferenceIdeal.τ).loc Cert.PartsReferenceIdeal.main_arg3)
        ∧ r.2.mem ((c.tc : Thread Cert.PartsReferenceIdeal.nD Cert.PartsReferenceIdeal.τ).loc Cert.PartsReferenceIdeal.main_arg4) = m ((c.tc : Thread Cert.PartsReferenceIdeal.nD Cert.PartsReferenceIdeal.τ).loc Cert.PartsReferenceIdeal.main_arg4))
        ∧ r.2.sem = fun _ => 0) :=
  (θ_run Cert.PartsReferenceIdeal.defs _ _).mono (fun r h => ⟨fun c => (h c).2.2, sem_eq_zero_of_no_sems (by decide) r.2⟩)
    (Cert.PartsReferenceIdeal.Value.run m ρ)

theorem parts_value : algebraic_PartsIdeal_PartsReferenceIdeal (hPartsIdeal := Cert.PartsIdeal.Gen.facts)
    (hPartsReferenceIdeal := Cert.PartsReferenceIdeal.Gen.facts) := by
  intro m g m' g' _ heq
  refine ⟨fun c => Cert.Ffn.Parts.sumArr m c, fun c => Cert.Ffn.Parts.normArr m c, ?_, ?_⟩
  · refine (θ_run Cert.PartsIdeal.defs _ _).mono (fun r h c => ?_) (Cert.PartsIdeal.Value.run_blocks m g)
    obtain ⟨h0, h1, h2⟩ := h c
    exact ⟨h0.trans (Cert.Ffn.Parts.sum_eq m c), h1.trans (Cert.Ffn.Parts.norm_eq m c), h2⟩
  · refine (θ_run Cert.PartsReferenceIdeal.defs _ _).mono (fun r h c => ?_) (Cert.Ffn.Parts.Ref.ref_run m' g')
    obtain ⟨h0, h1, h2⟩ := h c
    obtain ⟨e0, e1, e2, e3, e4⟩ := heq c
    refine ⟨funext fun y => ?_, funext fun y => ?_, h2⟩
    · obtain ⟨i, j, rfl⟩ : ∃ i j, y = ix2 i j := ⟨y 0, y 1, funext fun a => by match a with | 0 => rfl | 1 => rfl⟩
      refine (h0 i j).trans ?_
      unfold Cert.Ffn.Parts.sumArr
      rw [show m' (c, Proc.tc.devRef Cert.PartsReferenceIdeal.main_arg0) = _ from e0,
        show m' (c, Proc.tc.devRef Cert.PartsReferenceIdeal.main_arg1) = _ from e1,
        show m' (c, Proc.tc.devRef Cert.PartsReferenceIdeal.main_arg2) = _ from e2,
        show m' (c, Proc.tc.devRef Cert.PartsReferenceIdeal.main_arg3) = _ from e3]
      rfl
    · obtain ⟨i, j, rfl⟩ : ∃ i j, y = ix2 i j := ⟨y 0, y 1, funext fun a => by match a with | 0 => rfl | 1 => rfl⟩
      refine (h1 i j).trans ?_
      unfold Cert.Ffn.Parts.normArr
      rw [show m' (c, Proc.tc.devRef Cert.PartsReferenceIdeal.main_arg0) = _ from e0,
        show m' (c, Proc.tc.devRef Cert.PartsReferenceIdeal.main_arg1) = _ from e1,
        show m' (c, Proc.tc.devRef Cert.PartsReferenceIdeal.main_arg2) = _ from e2,
        show m' (c, Proc.tc.devRef Cert.PartsReferenceIdeal.main_arg3) = _ from e3,
        show m' (c, Proc.tc.devRef Cert.PartsReferenceIdeal.main_arg4) = _ from e4]
      rfl

theorem kv_reference_frame (m : (ℓ : Loc Cert.KvReferenceIdeal.nD Cert.KvReferenceIdeal.τ Cert.KvReferenceIdeal.sig) → Buf (Elt Ideal) ℓ) (ρ : Dev Cert.KvReferenceIdeal.nD → PrngReg) :
    θ_run (Cert.KvReferenceIdeal.defs (F := Ideal)) (onTc (τ := Cert.KvReferenceIdeal.τ) (Cert.KvReferenceIdeal.main (F := Ideal))) ⟨m, fun _ => 0, ρ⟩
      (fun r => (∀ c : Dev Cert.KvReferenceIdeal.nD,
        r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
        ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
        ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
        ∧ r.2.sem = fun _ => 0) :=
  (θ_run Cert.KvReferenceIdeal.defs _ _).mono (fun r h => ⟨fun c => (h c).2.2, sem_eq_zero_of_no_sems (by decide) r.2⟩)
    (Cert.KvReferenceIdeal.Value.run m ρ)

theorem kv_value : algebraic_KvIdeal_KvReferenceIdeal (hKvIdeal := Cert.KvIdeal.Gen.facts)
    (hKvReferenceIdeal := Cert.KvReferenceIdeal.Gen.facts) := by
  intro m g m' g' _ heq
  refine ⟨fun c => Cert.Kv.keyArr m c, fun c => Cert.Kv.valArr m c, ?_, ?_⟩
  · refine (θ_run Cert.KvIdeal.defs _ _).mono (fun r h c => ?_) (Cert.KvIdeal.Value.run_blocks m g)
    obtain ⟨h0, h1, h2⟩ := h c
    exact ⟨h0.trans (Cert.Kv.key_eq m c), h1.trans (Cert.Kv.val_eq m c), h2⟩
  · refine (θ_run Cert.KvReferenceIdeal.defs _ _).mono (fun r h c => ?_) (Cert.Kv.Ref.ref_run m' g')
    obtain ⟨h0, h1, h2⟩ := h c
    obtain ⟨e0, e1, e2⟩ := heq c
    refine ⟨funext fun y => ?_, funext fun y => ?_, h2⟩
    · obtain ⟨i, j, l, rfl⟩ : ∃ i j l, y = ix3 i j l := ⟨y 0, y 1, y 2, funext fun a => by match a with | 0 => rfl | 1 => rfl | 2 => rfl⟩
      refine (h0 i j l).trans ?_
      unfold Cert.Kv.keyArr
      rw [show m' (c, Proc.tc.devRef Cert.KvReferenceIdeal.main_arg0) = _ from e0,
        show m' (c, Proc.tc.devRef Cert.KvReferenceIdeal.main_arg1) = _ from e1,
        show m' (c, Proc.tc.devRef Cert.KvReferenceIdeal.main_arg2) = _ from e2]
      rfl
    · obtain ⟨i, j, l, rfl⟩ : ∃ i j l, y = ix3 i j l := ⟨y 0, y 1, y 2, funext fun a => by match a with | 0 => rfl | 1 => rfl | 2 => rfl⟩
      refine (h1 i j l).trans ?_
      unfold Cert.Kv.valArr
      rw [show m' (c, Proc.tc.devRef Cert.KvReferenceIdeal.main_arg0) = _ from e0,
        show m' (c, Proc.tc.devRef Cert.KvReferenceIdeal.main_arg2) = _ from e2]
      rfl

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Prompt.Gen.facts, Cert.PromptIdeal.Gen.facts, Cert.PromptReferenceIdeal.Gen.facts,
  Cert.Sample.Gen.facts, Cert.SampleIdeal.Gen.facts, Cert.SampleReferenceIdeal.Gen.facts,
  Cert.Mla.Gen.facts, Cert.MlaIdeal.Gen.facts, Cert.MlaReferenceIdeal.Gen.facts,
  Cert.Down.Gen.facts, Cert.DownIdeal.Gen.facts, Cert.DownReferenceIdeal.Gen.facts,
  Cert.Out.Gen.facts, Cert.OutIdeal.Gen.facts, Cert.OutReferenceIdeal.Gen.facts,
  Cert.Qkv.Gen.facts, Cert.QkvIdeal.Gen.facts, Cert.QkvReferenceIdeal.Gen.facts,
  Cert.Parts.Gen.facts, Cert.PartsIdeal.Gen.facts, Cert.PartsReferenceIdeal.Gen.facts,
  Cert.Kv.Gen.facts, Cert.KvIdeal.Gen.facts, Cert.KvReferenceIdeal.Gen.facts, Cert.Pre_finite.Gen.facts, Cert.Pre_mla_finite.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Up.Gen.frame m ρ,
  fun m ρ _ => Cert.UpIdeal.Gen.frame m ρ,
  fun m ρ _ => up_reference_frame m ρ,
  fun m ρ _ => Cert.Prompt.Gen.frame m ρ,
  fun m ρ _ => Cert.PromptIdeal.Gen.frame m ρ,
  fun m ρ _ => prompt_reference_frame m ρ,
  fun m ρ _ => Cert.Sample.Gen.frame m ρ,
  fun m ρ _ => Cert.SampleIdeal.Gen.frame m ρ,
  fun m ρ _ => sample_reference_frame m ρ,
  fun m ρ _ => Cert.Mla.Same.frame m ρ,
  fun m ρ _ => Cert.Mla.frame m ρ,
  fun m ρ _ => Cert.Mla.frame m ρ,
  fun m ρ _ => mla_reference_frame m ρ,
  fun m ρ _ => mla_reference_frame m ρ,
  fun m ρ _ => Cert.Down.Gen.frame m ρ,
  fun m ρ _ => Cert.DownIdeal.Gen.frame m ρ,
  fun m ρ _ => down_reference_frame m ρ,
  fun m ρ _ => Cert.Out.Gen.frame m ρ,
  fun m ρ _ => Cert.OutIdeal.Gen.frame m ρ,
  fun m ρ _ => out_reference_frame m ρ,
  fun m ρ _ => Cert.Qkv.Gen.frame m ρ,
  fun m ρ _ => Cert.QkvIdeal.Gen.frame m ρ,
  fun m ρ _ => qkv_reference_frame m ρ,
  fun m ρ _ => Cert.Parts.Gen.frame m ρ,
  fun m ρ _ => Cert.PartsIdeal.Gen.frame m ρ,
  fun m ρ _ => parts_reference_frame m ρ,
  fun m ρ _ => Cert.Kv.Gen.frame m ρ,
  fun m ρ _ => Cert.KvIdeal.Gen.frame m ρ,
  fun m ρ _ => kv_reference_frame m ρ,
  trivial, value, trivial, up_value, trivial, prompt_value, trivial, sample_value, trivial, mla_value, trivial, down_value, trivial, out_value, trivial, qkv_value, trivial, parts_value, trivial, kv_value⟩

end Cert.Proof

end
